-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Searches (m : (ℓ : Loc Cert.Searches.nD Cert.Searches.τ Cert.Searches.sig) → Buf (Elt Bits) ℓ) : Prop :=
  True

def Pre_SearchesIdeal (m : (ℓ : Loc Cert.SearchesIdeal.nD Cert.SearchesIdeal.τ Cert.SearchesIdeal.sig) → Buf (Elt Ideal) ℓ) : Prop :=
  True

def Pre_SearchesIdeal_untied [hPre_untied : Cert.Pre_untied.Facts] (m : (ℓ : Loc Cert.SearchesIdeal.nD Cert.SearchesIdeal.τ Cert.SearchesIdeal.sig) → Buf (Elt Ideal) ℓ) : Prop :=
  ∀ c : Dev Cert.SearchesIdeal.nD,
    (Cert.Pre_untied.fn (F := Ideal) (m ((c.tc : Thread Cert.SearchesIdeal.nD Cert.SearchesIdeal.τ).loc Cert.SearchesIdeal.main_arg0)) (m ((c.tc : Thread Cert.SearchesIdeal.nD Cert.SearchesIdeal.τ).loc Cert.SearchesIdeal.main_arg1)) (m ((c.tc : Thread Cert.SearchesIdeal.nD Cert.SearchesIdeal.τ).loc Cert.SearchesIdeal.main_arg2)) (m ((c.tc : Thread Cert.SearchesIdeal.nD Cert.SearchesIdeal.τ).loc Cert.SearchesIdeal.main_arg3)) (m ((c.tc : Thread Cert.SearchesIdeal.nD Cert.SearchesIdeal.τ).loc Cert.SearchesIdeal.main_arg4)) (m ((c.tc : Thread Cert.SearchesIdeal.nD Cert.SearchesIdeal.τ).loc Cert.SearchesIdeal.main_arg5)) (m ((c.tc : Thread Cert.SearchesIdeal.nD Cert.SearchesIdeal.τ).loc Cert.SearchesIdeal.main_arg6)) (m ((c.tc : Thread Cert.SearchesIdeal.nD Cert.SearchesIdeal.τ).loc Cert.SearchesIdeal.main_arg7)) (m ((c.tc : Thread Cert.SearchesIdeal.nD Cert.SearchesIdeal.τ).loc Cert.SearchesIdeal.main_arg8)) (m ((c.tc : Thread Cert.SearchesIdeal.nD Cert.SearchesIdeal.τ).loc Cert.SearchesIdeal.main_arg9)) (m ((c.tc : Thread Cert.SearchesIdeal.nD Cert.SearchesIdeal.τ).loc Cert.SearchesIdeal.main_arg10)) (m ((c.tc : Thread Cert.SearchesIdeal.nD Cert.SearchesIdeal.τ).loc Cert.SearchesIdeal.main_arg11))) = (fun _ => 1#1)

def Pre_SearchesReferenceIdeal (m : (ℓ : Loc Cert.SearchesReferenceIdeal.nD Cert.SearchesReferenceIdeal.τ Cert.SearchesReferenceIdeal.sig) → Buf (Elt Ideal) ℓ) : Prop :=
  True

def Pre_SearchesReferenceIdeal_untied [hPre_untied : Cert.Pre_untied.Facts] (m : (ℓ : Loc Cert.SearchesReferenceIdeal.nD Cert.SearchesReferenceIdeal.τ Cert.SearchesReferenceIdeal.sig) → Buf (Elt Ideal) ℓ) : Prop :=
  ∀ c : Dev Cert.SearchesReferenceIdeal.nD,
    (Cert.Pre_untied.fn (F := Ideal) (m ((c.tc : Thread Cert.SearchesReferenceIdeal.nD Cert.SearchesReferenceIdeal.τ).loc Cert.SearchesReferenceIdeal.main_arg0)) (m ((c.tc : Thread Cert.SearchesReferenceIdeal.nD Cert.SearchesReferenceIdeal.τ).loc Cert.SearchesReferenceIdeal.main_arg1)) (m ((c.tc : Thread Cert.SearchesReferenceIdeal.nD Cert.SearchesReferenceIdeal.τ).loc Cert.SearchesReferenceIdeal.main_arg2)) (m ((c.tc : Thread Cert.SearchesReferenceIdeal.nD Cert.SearchesReferenceIdeal.τ).loc Cert.SearchesReferenceIdeal.main_arg3)) (m ((c.tc : Thread Cert.SearchesReferenceIdeal.nD Cert.SearchesReferenceIdeal.τ).loc Cert.SearchesReferenceIdeal.main_arg4)) (m ((c.tc : Thread Cert.SearchesReferenceIdeal.nD Cert.SearchesReferenceIdeal.τ).loc Cert.SearchesReferenceIdeal.main_arg5)) (m ((c.tc : Thread Cert.SearchesReferenceIdeal.nD Cert.SearchesReferenceIdeal.τ).loc Cert.SearchesReferenceIdeal.main_arg6)) (m ((c.tc : Thread Cert.SearchesReferenceIdeal.nD Cert.SearchesReferenceIdeal.τ).loc Cert.SearchesReferenceIdeal.main_arg7)) (m ((c.tc : Thread Cert.SearchesReferenceIdeal.nD Cert.SearchesReferenceIdeal.τ).loc Cert.SearchesReferenceIdeal.main_arg8)) (m ((c.tc : Thread Cert.SearchesReferenceIdeal.nD Cert.SearchesReferenceIdeal.τ).loc Cert.SearchesReferenceIdeal.main_arg9)) (m ((c.tc : Thread Cert.SearchesReferenceIdeal.nD Cert.SearchesReferenceIdeal.τ).loc Cert.SearchesReferenceIdeal.main_arg10)) (m ((c.tc : Thread Cert.SearchesReferenceIdeal.nD Cert.SearchesReferenceIdeal.τ).loc Cert.SearchesReferenceIdeal.main_arg11))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Searches [hSearches : Cert.Searches.Facts] : Prop :=
  ∀ (m : (ℓ : Loc Cert.Searches.nD Cert.Searches.τ Cert.Searches.sig) → Buf (Elt Bits) ℓ) (g : Dev Cert.Searches.nD → PrngReg), Pre_Searches m →
    θ_run (Cert.Searches.defs (F := Bits)) (onTc (τ := Cert.Searches.τ) (Cert.Searches.main (F := Bits))) ⟨m, fun _ => 0, g⟩ (fun r => (∀ c : Dev Cert.Searches.nD,
      r.2.mem ((c.tc : Thread Cert.Searches.nD Cert.Searches.τ).loc Cert.Searches.main_arg0) = m ((c.tc : Thread Cert.Searches.nD Cert.Searches.τ).loc Cert.Searches.main_arg0)
      ∧ r.2.mem ((c.tc : Thread Cert.Searches.nD Cert.Searches.τ).loc Cert.Searches.main_arg1) = m ((c.tc : Thread Cert.Searches.nD Cert.Searches.τ).loc Cert.Searches.main_arg1)
      ∧ r.2.mem ((c.tc : Thread Cert.Searches.nD Cert.Searches.τ).loc Cert.Searches.main_arg2) = m ((c.tc : Thread Cert.Searches.nD Cert.Searches.τ).loc Cert.Searches.main_arg2)
      ∧ r.2.mem ((c.tc : Thread Cert.Searches.nD Cert.Searches.τ).loc Cert.Searches.main_arg3) = m ((c.tc : Thread Cert.Searches.nD Cert.Searches.τ).loc Cert.Searches.main_arg3)
      ∧ r.2.mem ((c.tc : Thread Cert.Searches.nD Cert.Searches.τ).loc Cert.Searches.main_arg4) = m ((c.tc : Thread Cert.Searches.nD Cert.Searches.τ).loc Cert.Searches.main_arg4)
      ∧ r.2.mem ((c.tc : Thread Cert.Searches.nD Cert.Searches.τ).loc Cert.Searches.main_arg5) = m ((c.tc : Thread Cert.Searches.nD Cert.Searches.τ).loc Cert.Searches.main_arg5)
      ∧ r.2.mem ((c.tc : Thread Cert.Searches.nD Cert.Searches.τ).loc Cert.Searches.main_arg6) = m ((c.tc : Thread Cert.Searches.nD Cert.Searches.τ).loc Cert.Searches.main_arg6)
      ∧ r.2.mem ((c.tc : Thread Cert.Searches.nD Cert.Searches.τ).loc Cert.Searches.main_arg7) = m ((c.tc : Thread Cert.Searches.nD Cert.Searches.τ).loc Cert.Searches.main_arg7)
      ∧ r.2.mem ((c.tc : Thread Cert.Searches.nD Cert.Searches.τ).loc Cert.Searches.main_arg8) = m ((c.tc : Thread Cert.Searches.nD Cert.Searches.τ).loc Cert.Searches.main_arg8)
      ∧ r.2.mem ((c.tc : Thread Cert.Searches.nD Cert.Searches.τ).loc Cert.Searches.main_arg9) = m ((c.tc : Thread Cert.Searches.nD Cert.Searches.τ).loc Cert.Searches.main_arg9)
      ∧ r.2.mem ((c.tc : Thread Cert.Searches.nD Cert.Searches.τ).loc Cert.Searches.main_arg10) = m ((c.tc : Thread Cert.Searches.nD Cert.Searches.τ).loc Cert.Searches.main_arg10)
      ∧ r.2.mem ((c.tc : Thread Cert.Searches.nD Cert.Searches.τ).loc Cert.Searches.main_arg11) = m ((c.tc : Thread Cert.Searches.nD Cert.Searches.τ).loc Cert.Searches.main_arg11))
      ∧ r.2.sem = fun _ => 0)

def quiescent_SearchesIdeal [hSearchesIdeal : Cert.SearchesIdeal.Facts] : Prop :=
  ∀ (m : (ℓ : Loc Cert.SearchesIdeal.nD Cert.SearchesIdeal.τ Cert.SearchesIdeal.sig) → Buf (Elt Ideal) ℓ) (g : Dev Cert.SearchesIdeal.nD → PrngReg), Pre_SearchesIdeal m →
    θ_run (Cert.SearchesIdeal.defs (F := Ideal)) (onTc (τ := Cert.SearchesIdeal.τ) (Cert.SearchesIdeal.main (F := Ideal))) ⟨m, fun _ => 0, g⟩ (fun r => (∀ c : Dev Cert.SearchesIdeal.nD,
      r.2.mem ((c.tc : Thread Cert.SearchesIdeal.nD Cert.SearchesIdeal.τ).loc Cert.SearchesIdeal.main_arg0) = m ((c.tc : Thread Cert.SearchesIdeal.nD Cert.SearchesIdeal.τ).loc Cert.SearchesIdeal.main_arg0)
      ∧ r.2.mem ((c.tc : Thread Cert.SearchesIdeal.nD Cert.SearchesIdeal.τ).loc Cert.SearchesIdeal.main_arg1) = m ((c.tc : Thread Cert.SearchesIdeal.nD Cert.SearchesIdeal.τ).loc Cert.SearchesIdeal.main_arg1)
      ∧ r.2.mem ((c.tc : Thread Cert.SearchesIdeal.nD Cert.SearchesIdeal.τ).loc Cert.SearchesIdeal.main_arg2) = m ((c.tc : Thread Cert.SearchesIdeal.nD Cert.SearchesIdeal.τ).loc Cert.SearchesIdeal.main_arg2)
      ∧ r.2.mem ((c.tc : Thread Cert.SearchesIdeal.nD Cert.SearchesIdeal.τ).loc Cert.SearchesIdeal.main_arg3) = m ((c.tc : Thread Cert.SearchesIdeal.nD Cert.SearchesIdeal.τ).loc Cert.SearchesIdeal.main_arg3)
      ∧ r.2.mem ((c.tc : Thread Cert.SearchesIdeal.nD Cert.SearchesIdeal.τ).loc Cert.SearchesIdeal.main_arg4) = m ((c.tc : Thread Cert.SearchesIdeal.nD Cert.SearchesIdeal.τ).loc Cert.SearchesIdeal.main_arg4)
      ∧ r.2.mem ((c.tc : Thread Cert.SearchesIdeal.nD Cert.SearchesIdeal.τ).loc Cert.SearchesIdeal.main_arg5) = m ((c.tc : Thread Cert.SearchesIdeal.nD Cert.SearchesIdeal.τ).loc Cert.SearchesIdeal.main_arg5)
      ∧ r.2.mem ((c.tc : Thread Cert.SearchesIdeal.nD Cert.SearchesIdeal.τ).loc Cert.SearchesIdeal.main_arg6) = m ((c.tc : Thread Cert.SearchesIdeal.nD Cert.SearchesIdeal.τ).loc Cert.SearchesIdeal.main_arg6)
      ∧ r.2.mem ((c.tc : Thread Cert.SearchesIdeal.nD Cert.SearchesIdeal.τ).loc Cert.SearchesIdeal.main_arg7) = m ((c.tc : Thread Cert.SearchesIdeal.nD Cert.SearchesIdeal.τ).loc Cert.SearchesIdeal.main_arg7)
      ∧ r.2.mem ((c.tc : Thread Cert.SearchesIdeal.nD Cert.SearchesIdeal.τ).loc Cert.SearchesIdeal.main_arg8) = m ((c.tc : Thread Cert.SearchesIdeal.nD Cert.SearchesIdeal.τ).loc Cert.SearchesIdeal.main_arg8)
      ∧ r.2.mem ((c.tc : Thread Cert.SearchesIdeal.nD Cert.SearchesIdeal.τ).loc Cert.SearchesIdeal.main_arg9) = m ((c.tc : Thread Cert.SearchesIdeal.nD Cert.SearchesIdeal.τ).loc Cert.SearchesIdeal.main_arg9)
      ∧ r.2.mem ((c.tc : Thread Cert.SearchesIdeal.nD Cert.SearchesIdeal.τ).loc Cert.SearchesIdeal.main_arg10) = m ((c.tc : Thread Cert.SearchesIdeal.nD Cert.SearchesIdeal.τ).loc Cert.SearchesIdeal.main_arg10)
      ∧ r.2.mem ((c.tc : Thread Cert.SearchesIdeal.nD Cert.SearchesIdeal.τ).loc Cert.SearchesIdeal.main_arg11) = m ((c.tc : Thread Cert.SearchesIdeal.nD Cert.SearchesIdeal.τ).loc Cert.SearchesIdeal.main_arg11))
      ∧ r.2.sem = fun _ => 0)

def quiescent_SearchesIdeal_pre_untied [hSearchesIdeal : Cert.SearchesIdeal.Facts] [hPre_untied : Cert.Pre_untied.Facts] : Prop :=
  ∀ (m : (ℓ : Loc Cert.SearchesIdeal.nD Cert.SearchesIdeal.τ Cert.SearchesIdeal.sig) → Buf (Elt Ideal) ℓ) (g : Dev Cert.SearchesIdeal.nD → PrngReg), Pre_SearchesIdeal_untied m →
    θ_run (Cert.SearchesIdeal.defs (F := Ideal)) (onTc (τ := Cert.SearchesIdeal.τ) (Cert.SearchesIdeal.main (F := Ideal))) ⟨m, fun _ => 0, g⟩ (fun r => (∀ c : Dev Cert.SearchesIdeal.nD,
      r.2.mem ((c.tc : Thread Cert.SearchesIdeal.nD Cert.SearchesIdeal.τ).loc Cert.SearchesIdeal.main_arg0) = m ((c.tc : Thread Cert.SearchesIdeal.nD Cert.SearchesIdeal.τ).loc Cert.SearchesIdeal.main_arg0)
      ∧ r.2.mem ((c.tc : Thread Cert.SearchesIdeal.nD Cert.SearchesIdeal.τ).loc Cert.SearchesIdeal.main_arg1) = m ((c.tc : Thread Cert.SearchesIdeal.nD Cert.SearchesIdeal.τ).loc Cert.SearchesIdeal.main_arg1)
      ∧ r.2.mem ((c.tc : Thread Cert.SearchesIdeal.nD Cert.SearchesIdeal.τ).loc Cert.SearchesIdeal.main_arg2) = m ((c.tc : Thread Cert.SearchesIdeal.nD Cert.SearchesIdeal.τ).loc Cert.SearchesIdeal.main_arg2)
      ∧ r.2.mem ((c.tc : Thread Cert.SearchesIdeal.nD Cert.SearchesIdeal.τ).loc Cert.SearchesIdeal.main_arg3) = m ((c.tc : Thread Cert.SearchesIdeal.nD Cert.SearchesIdeal.τ).loc Cert.SearchesIdeal.main_arg3)
      ∧ r.2.mem ((c.tc : Thread Cert.SearchesIdeal.nD Cert.SearchesIdeal.τ).loc Cert.SearchesIdeal.main_arg4) = m ((c.tc : Thread Cert.SearchesIdeal.nD Cert.SearchesIdeal.τ).loc Cert.SearchesIdeal.main_arg4)
      ∧ r.2.mem ((c.tc : Thread Cert.SearchesIdeal.nD Cert.SearchesIdeal.τ).loc Cert.SearchesIdeal.main_arg5) = m ((c.tc : Thread Cert.SearchesIdeal.nD Cert.SearchesIdeal.τ).loc Cert.SearchesIdeal.main_arg5)
      ∧ r.2.mem ((c.tc : Thread Cert.SearchesIdeal.nD Cert.SearchesIdeal.τ).loc Cert.SearchesIdeal.main_arg6) = m ((c.tc : Thread Cert.SearchesIdeal.nD Cert.SearchesIdeal.τ).loc Cert.SearchesIdeal.main_arg6)
      ∧ r.2.mem ((c.tc : Thread Cert.SearchesIdeal.nD Cert.SearchesIdeal.τ).loc Cert.SearchesIdeal.main_arg7) = m ((c.tc : Thread Cert.SearchesIdeal.nD Cert.SearchesIdeal.τ).loc Cert.SearchesIdeal.main_arg7)
      ∧ r.2.mem ((c.tc : Thread Cert.SearchesIdeal.nD Cert.SearchesIdeal.τ).loc Cert.SearchesIdeal.main_arg8) = m ((c.tc : Thread Cert.SearchesIdeal.nD Cert.SearchesIdeal.τ).loc Cert.SearchesIdeal.main_arg8)
      ∧ r.2.mem ((c.tc : Thread Cert.SearchesIdeal.nD Cert.SearchesIdeal.τ).loc Cert.SearchesIdeal.main_arg9) = m ((c.tc : Thread Cert.SearchesIdeal.nD Cert.SearchesIdeal.τ).loc Cert.SearchesIdeal.main_arg9)
      ∧ r.2.mem ((c.tc : Thread Cert.SearchesIdeal.nD Cert.SearchesIdeal.τ).loc Cert.SearchesIdeal.main_arg10) = m ((c.tc : Thread Cert.SearchesIdeal.nD Cert.SearchesIdeal.τ).loc Cert.SearchesIdeal.main_arg10)
      ∧ r.2.mem ((c.tc : Thread Cert.SearchesIdeal.nD Cert.SearchesIdeal.τ).loc Cert.SearchesIdeal.main_arg11) = m ((c.tc : Thread Cert.SearchesIdeal.nD Cert.SearchesIdeal.τ).loc Cert.SearchesIdeal.main_arg11))
      ∧ r.2.sem = fun _ => 0)

def quiescent_SearchesReferenceIdeal [hSearchesReferenceIdeal : Cert.SearchesReferenceIdeal.Facts] : Prop :=
  ∀ (m : (ℓ : Loc Cert.SearchesReferenceIdeal.nD Cert.SearchesReferenceIdeal.τ Cert.SearchesReferenceIdeal.sig) → Buf (Elt Ideal) ℓ) (g : Dev Cert.SearchesReferenceIdeal.nD → PrngReg), Pre_SearchesReferenceIdeal m →
    θ_run (Cert.SearchesReferenceIdeal.defs (F := Ideal)) (onTc (τ := Cert.SearchesReferenceIdeal.τ) (Cert.SearchesReferenceIdeal.main (F := Ideal))) ⟨m, fun _ => 0, g⟩ (fun r => (∀ c : Dev Cert.SearchesReferenceIdeal.nD,
      r.2.mem ((c.tc : Thread Cert.SearchesReferenceIdeal.nD Cert.SearchesReferenceIdeal.τ).loc Cert.SearchesReferenceIdeal.main_arg0) = m ((c.tc : Thread Cert.SearchesReferenceIdeal.nD Cert.SearchesReferenceIdeal.τ).loc Cert.SearchesReferenceIdeal.main_arg0)
      ∧ r.2.mem ((c.tc : Thread Cert.SearchesReferenceIdeal.nD Cert.SearchesReferenceIdeal.τ).loc Cert.SearchesReferenceIdeal.main_arg1) = m ((c.tc : Thread Cert.SearchesReferenceIdeal.nD Cert.SearchesReferenceIdeal.τ).loc Cert.SearchesReferenceIdeal.main_arg1)
      ∧ r.2.mem ((c.tc : Thread Cert.SearchesReferenceIdeal.nD Cert.SearchesReferenceIdeal.τ).loc Cert.SearchesReferenceIdeal.main_arg2) = m ((c.tc : Thread Cert.SearchesReferenceIdeal.nD Cert.SearchesReferenceIdeal.τ).loc Cert.SearchesReferenceIdeal.main_arg2)
      ∧ r.2.mem ((c.tc : Thread Cert.SearchesReferenceIdeal.nD Cert.SearchesReferenceIdeal.τ).loc Cert.SearchesReferenceIdeal.main_arg3) = m ((c.tc : Thread Cert.SearchesReferenceIdeal.nD Cert.SearchesReferenceIdeal.τ).loc Cert.SearchesReferenceIdeal.main_arg3)
      ∧ r.2.mem ((c.tc : Thread Cert.SearchesReferenceIdeal.nD Cert.SearchesReferenceIdeal.τ).loc Cert.SearchesReferenceIdeal.main_arg4) = m ((c.tc : Thread Cert.SearchesReferenceIdeal.nD Cert.SearchesReferenceIdeal.τ).loc Cert.SearchesReferenceIdeal.main_arg4)
      ∧ r.2.mem ((c.tc : Thread Cert.SearchesReferenceIdeal.nD Cert.SearchesReferenceIdeal.τ).loc Cert.SearchesReferenceIdeal.main_arg5) = m ((c.tc : Thread Cert.SearchesReferenceIdeal.nD Cert.SearchesReferenceIdeal.τ).loc Cert.SearchesReferenceIdeal.main_arg5)
      ∧ r.2.mem ((c.tc : Thread Cert.SearchesReferenceIdeal.nD Cert.SearchesReferenceIdeal.τ).loc Cert.SearchesReferenceIdeal.main_arg6) = m ((c.tc : Thread Cert.SearchesReferenceIdeal.nD Cert.SearchesReferenceIdeal.τ).loc Cert.SearchesReferenceIdeal.main_arg6)
      ∧ r.2.mem ((c.tc : Thread Cert.SearchesReferenceIdeal.nD Cert.SearchesReferenceIdeal.τ).loc Cert.SearchesReferenceIdeal.main_arg7) = m ((c.tc : Thread Cert.SearchesReferenceIdeal.nD Cert.SearchesReferenceIdeal.τ).loc Cert.SearchesReferenceIdeal.main_arg7)
      ∧ r.2.mem ((c.tc : Thread Cert.SearchesReferenceIdeal.nD Cert.SearchesReferenceIdeal.τ).loc Cert.SearchesReferenceIdeal.main_arg8) = m ((c.tc : Thread Cert.SearchesReferenceIdeal.nD Cert.SearchesReferenceIdeal.τ).loc Cert.SearchesReferenceIdeal.main_arg8)
      ∧ r.2.mem ((c.tc : Thread Cert.SearchesReferenceIdeal.nD Cert.SearchesReferenceIdeal.τ).loc Cert.SearchesReferenceIdeal.main_arg9) = m ((c.tc : Thread Cert.SearchesReferenceIdeal.nD Cert.SearchesReferenceIdeal.τ).loc Cert.SearchesReferenceIdeal.main_arg9)
      ∧ r.2.mem ((c.tc : Thread Cert.SearchesReferenceIdeal.nD Cert.SearchesReferenceIdeal.τ).loc Cert.SearchesReferenceIdeal.main_arg10) = m ((c.tc : Thread Cert.SearchesReferenceIdeal.nD Cert.SearchesReferenceIdeal.τ).loc Cert.SearchesReferenceIdeal.main_arg10)
      ∧ r.2.mem ((c.tc : Thread Cert.SearchesReferenceIdeal.nD Cert.SearchesReferenceIdeal.τ).loc Cert.SearchesReferenceIdeal.main_arg11) = m ((c.tc : Thread Cert.SearchesReferenceIdeal.nD Cert.SearchesReferenceIdeal.τ).loc Cert.SearchesReferenceIdeal.main_arg11))
      ∧ r.2.sem = fun _ => 0)

def quiescent_SearchesReferenceIdeal_pre_untied [hSearchesReferenceIdeal : Cert.SearchesReferenceIdeal.Facts] [hPre_untied : Cert.Pre_untied.Facts] : Prop :=
  ∀ (m : (ℓ : Loc Cert.SearchesReferenceIdeal.nD Cert.SearchesReferenceIdeal.τ Cert.SearchesReferenceIdeal.sig) → Buf (Elt Ideal) ℓ) (g : Dev Cert.SearchesReferenceIdeal.nD → PrngReg), Pre_SearchesReferenceIdeal_untied m →
    θ_run (Cert.SearchesReferenceIdeal.defs (F := Ideal)) (onTc (τ := Cert.SearchesReferenceIdeal.τ) (Cert.SearchesReferenceIdeal.main (F := Ideal))) ⟨m, fun _ => 0, g⟩ (fun r => (∀ c : Dev Cert.SearchesReferenceIdeal.nD,
      r.2.mem ((c.tc : Thread Cert.SearchesReferenceIdeal.nD Cert.SearchesReferenceIdeal.τ).loc Cert.SearchesReferenceIdeal.main_arg0) = m ((c.tc : Thread Cert.SearchesReferenceIdeal.nD Cert.SearchesReferenceIdeal.τ).loc Cert.SearchesReferenceIdeal.main_arg0)
      ∧ r.2.mem ((c.tc : Thread Cert.SearchesReferenceIdeal.nD Cert.SearchesReferenceIdeal.τ).loc Cert.SearchesReferenceIdeal.main_arg1) = m ((c.tc : Thread Cert.SearchesReferenceIdeal.nD Cert.SearchesReferenceIdeal.τ).loc Cert.SearchesReferenceIdeal.main_arg1)
      ∧ r.2.mem ((c.tc : Thread Cert.SearchesReferenceIdeal.nD Cert.SearchesReferenceIdeal.τ).loc Cert.SearchesReferenceIdeal.main_arg2) = m ((c.tc : Thread Cert.SearchesReferenceIdeal.nD Cert.SearchesReferenceIdeal.τ).loc Cert.SearchesReferenceIdeal.main_arg2)
      ∧ r.2.mem ((c.tc : Thread Cert.SearchesReferenceIdeal.nD Cert.SearchesReferenceIdeal.τ).loc Cert.SearchesReferenceIdeal.main_arg3) = m ((c.tc : Thread Cert.SearchesReferenceIdeal.nD Cert.SearchesReferenceIdeal.τ).loc Cert.SearchesReferenceIdeal.main_arg3)
      ∧ r.2.mem ((c.tc : Thread Cert.SearchesReferenceIdeal.nD Cert.SearchesReferenceIdeal.τ).loc Cert.SearchesReferenceIdeal.main_arg4) = m ((c.tc : Thread Cert.SearchesReferenceIdeal.nD Cert.SearchesReferenceIdeal.τ).loc Cert.SearchesReferenceIdeal.main_arg4)
      ∧ r.2.mem ((c.tc : Thread Cert.SearchesReferenceIdeal.nD Cert.SearchesReferenceIdeal.τ).loc Cert.SearchesReferenceIdeal.main_arg5) = m ((c.tc : Thread Cert.SearchesReferenceIdeal.nD Cert.SearchesReferenceIdeal.τ).loc Cert.SearchesReferenceIdeal.main_arg5)
      ∧ r.2.mem ((c.tc : Thread Cert.SearchesReferenceIdeal.nD Cert.SearchesReferenceIdeal.τ).loc Cert.SearchesReferenceIdeal.main_arg6) = m ((c.tc : Thread Cert.SearchesReferenceIdeal.nD Cert.SearchesReferenceIdeal.τ).loc Cert.SearchesReferenceIdeal.main_arg6)
      ∧ r.2.mem ((c.tc : Thread Cert.SearchesReferenceIdeal.nD Cert.SearchesReferenceIdeal.τ).loc Cert.SearchesReferenceIdeal.main_arg7) = m ((c.tc : Thread Cert.SearchesReferenceIdeal.nD Cert.SearchesReferenceIdeal.τ).loc Cert.SearchesReferenceIdeal.main_arg7)
      ∧ r.2.mem ((c.tc : Thread Cert.SearchesReferenceIdeal.nD Cert.SearchesReferenceIdeal.τ).loc Cert.SearchesReferenceIdeal.main_arg8) = m ((c.tc : Thread Cert.SearchesReferenceIdeal.nD Cert.SearchesReferenceIdeal.τ).loc Cert.SearchesReferenceIdeal.main_arg8)
      ∧ r.2.mem ((c.tc : Thread Cert.SearchesReferenceIdeal.nD Cert.SearchesReferenceIdeal.τ).loc Cert.SearchesReferenceIdeal.main_arg9) = m ((c.tc : Thread Cert.SearchesReferenceIdeal.nD Cert.SearchesReferenceIdeal.τ).loc Cert.SearchesReferenceIdeal.main_arg9)
      ∧ r.2.mem ((c.tc : Thread Cert.SearchesReferenceIdeal.nD Cert.SearchesReferenceIdeal.τ).loc Cert.SearchesReferenceIdeal.main_arg10) = m ((c.tc : Thread Cert.SearchesReferenceIdeal.nD Cert.SearchesReferenceIdeal.τ).loc Cert.SearchesReferenceIdeal.main_arg10)
      ∧ r.2.mem ((c.tc : Thread Cert.SearchesReferenceIdeal.nD Cert.SearchesReferenceIdeal.τ).loc Cert.SearchesReferenceIdeal.main_arg11) = m ((c.tc : Thread Cert.SearchesReferenceIdeal.nD Cert.SearchesReferenceIdeal.τ).loc Cert.SearchesReferenceIdeal.main_arg11))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v555)) (v1 : (c : Dev Cert.KernelIdeal.nD) → Buf (Elt Ideal) ((c.tc : Thread Cert.KernelIdeal.nD Cert.KernelIdeal.τ).loc Cert.KernelIdeal.main_v557)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v555) = v0 c
          ∧ r.2.mem ((c.tc : Thread Cert.KernelIdeal.nD Cert.KernelIdeal.τ).loc Cert.KernelIdeal.main_v557) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_v25) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Searches_SearchesIdeal : Prop :=
  True

def algebraic_SearchesIdeal_SearchesReferenceIdeal_pre_untied [hSearchesIdeal : Cert.SearchesIdeal.Facts] [hSearchesReferenceIdeal : Cert.SearchesReferenceIdeal.Facts] [hPre_untied : Cert.Pre_untied.Facts] : Prop :=
  ∀ (m : (ℓ : Loc Cert.SearchesIdeal.nD Cert.SearchesIdeal.τ Cert.SearchesIdeal.sig) → Buf (Elt Ideal) ℓ) (g : Dev Cert.SearchesIdeal.nD → PrngReg)
    (m' : (ℓ : Loc Cert.SearchesReferenceIdeal.nD Cert.SearchesReferenceIdeal.τ Cert.SearchesReferenceIdeal.sig) → Buf (Elt Ideal) ℓ) (g' : Dev Cert.SearchesReferenceIdeal.nD → PrngReg), Pre_SearchesIdeal_untied m →
    (∀ c : Dev Cert.SearchesIdeal.nD,
      m' ((c.tc : Thread Cert.SearchesReferenceIdeal.nD Cert.SearchesReferenceIdeal.τ).loc Cert.SearchesReferenceIdeal.main_arg0) = m ((c.tc : Thread Cert.SearchesIdeal.nD Cert.SearchesIdeal.τ).loc Cert.SearchesIdeal.main_arg0)
      ∧ m' ((c.tc : Thread Cert.SearchesReferenceIdeal.nD Cert.SearchesReferenceIdeal.τ).loc Cert.SearchesReferenceIdeal.main_arg1) = m ((c.tc : Thread Cert.SearchesIdeal.nD Cert.SearchesIdeal.τ).loc Cert.SearchesIdeal.main_arg1)
      ∧ m' ((c.tc : Thread Cert.SearchesReferenceIdeal.nD Cert.SearchesReferenceIdeal.τ).loc Cert.SearchesReferenceIdeal.main_arg2) = m ((c.tc : Thread Cert.SearchesIdeal.nD Cert.SearchesIdeal.τ).loc Cert.SearchesIdeal.main_arg2)
      ∧ m' ((c.tc : Thread Cert.SearchesReferenceIdeal.nD Cert.SearchesReferenceIdeal.τ).loc Cert.SearchesReferenceIdeal.main_arg3) = m ((c.tc : Thread Cert.SearchesIdeal.nD Cert.SearchesIdeal.τ).loc Cert.SearchesIdeal.main_arg3)
      ∧ m' ((c.tc : Thread Cert.SearchesReferenceIdeal.nD Cert.SearchesReferenceIdeal.τ).loc Cert.SearchesReferenceIdeal.main_arg4) = m ((c.tc : Thread Cert.SearchesIdeal.nD Cert.SearchesIdeal.τ).loc Cert.SearchesIdeal.main_arg4)
      ∧ m' ((c.tc : Thread Cert.SearchesReferenceIdeal.nD Cert.SearchesReferenceIdeal.τ).loc Cert.SearchesReferenceIdeal.main_arg5) = m ((c.tc : Thread Cert.SearchesIdeal.nD Cert.SearchesIdeal.τ).loc Cert.SearchesIdeal.main_arg5)
      ∧ m' ((c.tc : Thread Cert.SearchesReferenceIdeal.nD Cert.SearchesReferenceIdeal.τ).loc Cert.SearchesReferenceIdeal.main_arg6) = m ((c.tc : Thread Cert.SearchesIdeal.nD Cert.SearchesIdeal.τ).loc Cert.SearchesIdeal.main_arg6)
      ∧ m' ((c.tc : Thread Cert.SearchesReferenceIdeal.nD Cert.SearchesReferenceIdeal.τ).loc Cert.SearchesReferenceIdeal.main_arg7) = m ((c.tc : Thread Cert.SearchesIdeal.nD Cert.SearchesIdeal.τ).loc Cert.SearchesIdeal.main_arg7)
      ∧ m' ((c.tc : Thread Cert.SearchesReferenceIdeal.nD Cert.SearchesReferenceIdeal.τ).loc Cert.SearchesReferenceIdeal.main_arg8) = m ((c.tc : Thread Cert.SearchesIdeal.nD Cert.SearchesIdeal.τ).loc Cert.SearchesIdeal.main_arg8)
      ∧ m' ((c.tc : Thread Cert.SearchesReferenceIdeal.nD Cert.SearchesReferenceIdeal.τ).loc Cert.SearchesReferenceIdeal.main_arg9) = m ((c.tc : Thread Cert.SearchesIdeal.nD Cert.SearchesIdeal.τ).loc Cert.SearchesIdeal.main_arg9)
      ∧ m' ((c.tc : Thread Cert.SearchesReferenceIdeal.nD Cert.SearchesReferenceIdeal.τ).loc Cert.SearchesReferenceIdeal.main_arg10) = m ((c.tc : Thread Cert.SearchesIdeal.nD Cert.SearchesIdeal.τ).loc Cert.SearchesIdeal.main_arg10)
      ∧ m' ((c.tc : Thread Cert.SearchesReferenceIdeal.nD Cert.SearchesReferenceIdeal.τ).loc Cert.SearchesReferenceIdeal.main_arg11) = m ((c.tc : Thread Cert.SearchesIdeal.nD Cert.SearchesIdeal.τ).loc Cert.SearchesIdeal.main_arg11)) →
    ∃ (v0 : (c : Dev Cert.SearchesIdeal.nD) → Buf (Elt Ideal) ((c.tc : Thread Cert.SearchesIdeal.nD Cert.SearchesIdeal.τ).loc Cert.SearchesIdeal.main_v138)),
      θ_run (Cert.SearchesIdeal.defs (F := Ideal)) (onTc (τ := Cert.SearchesIdeal.τ) (Cert.SearchesIdeal.main (F := Ideal))) ⟨m, fun _ => 0, g⟩ (fun r => ∀ c : Dev Cert.SearchesIdeal.nD,
          r.2.mem ((c.tc : Thread Cert.SearchesIdeal.nD Cert.SearchesIdeal.τ).loc Cert.SearchesIdeal.main_v138) = v0 c
          ∧ r.2.mem ((c.tc : Thread Cert.SearchesIdeal.nD Cert.SearchesIdeal.τ).loc Cert.SearchesIdeal.main_arg0) = m ((c.tc : Thread Cert.SearchesIdeal.nD Cert.SearchesIdeal.τ).loc Cert.SearchesIdeal.main_arg0)
          ∧ r.2.mem ((c.tc : Thread Cert.SearchesIdeal.nD Cert.SearchesIdeal.τ).loc Cert.SearchesIdeal.main_arg1) = m ((c.tc : Thread Cert.SearchesIdeal.nD Cert.SearchesIdeal.τ).loc Cert.SearchesIdeal.main_arg1)
          ∧ r.2.mem ((c.tc : Thread Cert.SearchesIdeal.nD Cert.SearchesIdeal.τ).loc Cert.SearchesIdeal.main_arg2) = m ((c.tc : Thread Cert.SearchesIdeal.nD Cert.SearchesIdeal.τ).loc Cert.SearchesIdeal.main_arg2)
          ∧ r.2.mem ((c.tc : Thread Cert.SearchesIdeal.nD Cert.SearchesIdeal.τ).loc Cert.SearchesIdeal.main_arg3) = m ((c.tc : Thread Cert.SearchesIdeal.nD Cert.SearchesIdeal.τ).loc Cert.SearchesIdeal.main_arg3)
          ∧ r.2.mem ((c.tc : Thread Cert.SearchesIdeal.nD Cert.SearchesIdeal.τ).loc Cert.SearchesIdeal.main_arg4) = m ((c.tc : Thread Cert.SearchesIdeal.nD Cert.SearchesIdeal.τ).loc Cert.SearchesIdeal.main_arg4)
          ∧ r.2.mem ((c.tc : Thread Cert.SearchesIdeal.nD Cert.SearchesIdeal.τ).loc Cert.SearchesIdeal.main_arg5) = m ((c.tc : Thread Cert.SearchesIdeal.nD Cert.SearchesIdeal.τ).loc Cert.SearchesIdeal.main_arg5)
          ∧ r.2.mem ((c.tc : Thread Cert.SearchesIdeal.nD Cert.SearchesIdeal.τ).loc Cert.SearchesIdeal.main_arg6) = m ((c.tc : Thread Cert.SearchesIdeal.nD Cert.SearchesIdeal.τ).loc Cert.SearchesIdeal.main_arg6)
          ∧ r.2.mem ((c.tc : Thread Cert.SearchesIdeal.nD Cert.SearchesIdeal.τ).loc Cert.SearchesIdeal.main_arg7) = m ((c.tc : Thread Cert.SearchesIdeal.nD Cert.SearchesIdeal.τ).loc Cert.SearchesIdeal.main_arg7)
          ∧ r.2.mem ((c.tc : Thread Cert.SearchesIdeal.nD Cert.SearchesIdeal.τ).loc Cert.SearchesIdeal.main_arg8) = m ((c.tc : Thread Cert.SearchesIdeal.nD Cert.SearchesIdeal.τ).loc Cert.SearchesIdeal.main_arg8)
          ∧ r.2.mem ((c.tc : Thread Cert.SearchesIdeal.nD Cert.SearchesIdeal.τ).loc Cert.SearchesIdeal.main_arg9) = m ((c.tc : Thread Cert.SearchesIdeal.nD Cert.SearchesIdeal.τ).loc Cert.SearchesIdeal.main_arg9)
          ∧ r.2.mem ((c.tc : Thread Cert.SearchesIdeal.nD Cert.SearchesIdeal.τ).loc Cert.SearchesIdeal.main_arg10) = m ((c.tc : Thread Cert.SearchesIdeal.nD Cert.SearchesIdeal.τ).loc Cert.SearchesIdeal.main_arg10)
          ∧ r.2.mem ((c.tc : Thread Cert.SearchesIdeal.nD Cert.SearchesIdeal.τ).loc Cert.SearchesIdeal.main_arg11) = m ((c.tc : Thread Cert.SearchesIdeal.nD Cert.SearchesIdeal.τ).loc Cert.SearchesIdeal.main_arg11))
      ∧ θ_run (Cert.SearchesReferenceIdeal.defs (F := Ideal)) (onTc (τ := Cert.SearchesReferenceIdeal.τ) (Cert.SearchesReferenceIdeal.main (F := Ideal))) ⟨m', fun _ => 0, g'⟩ (fun r => ∀ c : Dev Cert.SearchesReferenceIdeal.nD,
          r.2.mem ((c.tc : Thread Cert.SearchesReferenceIdeal.nD Cert.SearchesReferenceIdeal.τ).loc Cert.SearchesReferenceIdeal.main_v77) = v0 c
          ∧ r.2.mem ((c.tc : Thread Cert.SearchesReferenceIdeal.nD Cert.SearchesReferenceIdeal.τ).loc Cert.SearchesReferenceIdeal.main_arg0) = m' ((c.tc : Thread Cert.SearchesReferenceIdeal.nD Cert.SearchesReferenceIdeal.τ).loc Cert.SearchesReferenceIdeal.main_arg0)
          ∧ r.2.mem ((c.tc : Thread Cert.SearchesReferenceIdeal.nD Cert.SearchesReferenceIdeal.τ).loc Cert.SearchesReferenceIdeal.main_arg1) = m' ((c.tc : Thread Cert.SearchesReferenceIdeal.nD Cert.SearchesReferenceIdeal.τ).loc Cert.SearchesReferenceIdeal.main_arg1)
          ∧ r.2.mem ((c.tc : Thread Cert.SearchesReferenceIdeal.nD Cert.SearchesReferenceIdeal.τ).loc Cert.SearchesReferenceIdeal.main_arg2) = m' ((c.tc : Thread Cert.SearchesReferenceIdeal.nD Cert.SearchesReferenceIdeal.τ).loc Cert.SearchesReferenceIdeal.main_arg2)
          ∧ r.2.mem ((c.tc : Thread Cert.SearchesReferenceIdeal.nD Cert.SearchesReferenceIdeal.τ).loc Cert.SearchesReferenceIdeal.main_arg3) = m' ((c.tc : Thread Cert.SearchesReferenceIdeal.nD Cert.SearchesReferenceIdeal.τ).loc Cert.SearchesReferenceIdeal.main_arg3)
          ∧ r.2.mem ((c.tc : Thread Cert.SearchesReferenceIdeal.nD Cert.SearchesReferenceIdeal.τ).loc Cert.SearchesReferenceIdeal.main_arg4) = m' ((c.tc : Thread Cert.SearchesReferenceIdeal.nD Cert.SearchesReferenceIdeal.τ).loc Cert.SearchesReferenceIdeal.main_arg4)
          ∧ r.2.mem ((c.tc : Thread Cert.SearchesReferenceIdeal.nD Cert.SearchesReferenceIdeal.τ).loc Cert.SearchesReferenceIdeal.main_arg5) = m' ((c.tc : Thread Cert.SearchesReferenceIdeal.nD Cert.SearchesReferenceIdeal.τ).loc Cert.SearchesReferenceIdeal.main_arg5)
          ∧ r.2.mem ((c.tc : Thread Cert.SearchesReferenceIdeal.nD Cert.SearchesReferenceIdeal.τ).loc Cert.SearchesReferenceIdeal.main_arg6) = m' ((c.tc : Thread Cert.SearchesReferenceIdeal.nD Cert.SearchesReferenceIdeal.τ).loc Cert.SearchesReferenceIdeal.main_arg6)
          ∧ r.2.mem ((c.tc : Thread Cert.SearchesReferenceIdeal.nD Cert.SearchesReferenceIdeal.τ).loc Cert.SearchesReferenceIdeal.main_arg7) = m' ((c.tc : Thread Cert.SearchesReferenceIdeal.nD Cert.SearchesReferenceIdeal.τ).loc Cert.SearchesReferenceIdeal.main_arg7)
          ∧ r.2.mem ((c.tc : Thread Cert.SearchesReferenceIdeal.nD Cert.SearchesReferenceIdeal.τ).loc Cert.SearchesReferenceIdeal.main_arg8) = m' ((c.tc : Thread Cert.SearchesReferenceIdeal.nD Cert.SearchesReferenceIdeal.τ).loc Cert.SearchesReferenceIdeal.main_arg8)
          ∧ r.2.mem ((c.tc : Thread Cert.SearchesReferenceIdeal.nD Cert.SearchesReferenceIdeal.τ).loc Cert.SearchesReferenceIdeal.main_arg9) = m' ((c.tc : Thread Cert.SearchesReferenceIdeal.nD Cert.SearchesReferenceIdeal.τ).loc Cert.SearchesReferenceIdeal.main_arg9)
          ∧ r.2.mem ((c.tc : Thread Cert.SearchesReferenceIdeal.nD Cert.SearchesReferenceIdeal.τ).loc Cert.SearchesReferenceIdeal.main_arg10) = m' ((c.tc : Thread Cert.SearchesReferenceIdeal.nD Cert.SearchesReferenceIdeal.τ).loc Cert.SearchesReferenceIdeal.main_arg10)
          ∧ r.2.mem ((c.tc : Thread Cert.SearchesReferenceIdeal.nD Cert.SearchesReferenceIdeal.τ).loc Cert.SearchesReferenceIdeal.main_arg11) = m' ((c.tc : Thread Cert.SearchesReferenceIdeal.nD Cert.SearchesReferenceIdeal.τ).loc Cert.SearchesReferenceIdeal.main_arg11))

def Claim : Prop :=
  ∃ (hKernel : Cert.Kernel.Facts) (hKernelIdeal : Cert.KernelIdeal.Facts) (hReferenceIdeal : Cert.ReferenceIdeal.Facts) (hSearches : Cert.Searches.Facts) (hSearchesIdeal : Cert.SearchesIdeal.Facts) (hSearchesReferenceIdeal : Cert.SearchesReferenceIdeal.Facts) (hPre_untied : Cert.Pre_untied.Facts),
    quiescent_Kernel (hKernel := hKernel)
    ∧ quiescent_KernelIdeal (hKernelIdeal := hKernelIdeal)
    ∧ quiescent_ReferenceIdeal (hReferenceIdeal := hReferenceIdeal)
    ∧ quiescent_Searches (hSearches := hSearches)
    ∧ quiescent_SearchesIdeal (hSearchesIdeal := hSearchesIdeal)
    ∧ quiescent_SearchesIdeal_pre_untied (hSearchesIdeal := hSearchesIdeal) (hPre_untied := hPre_untied)
    ∧ quiescent_SearchesReferenceIdeal (hSearchesReferenceIdeal := hSearchesReferenceIdeal)
    ∧ quiescent_SearchesReferenceIdeal_pre_untied (hSearchesReferenceIdeal := hSearchesReferenceIdeal) (hPre_untied := hPre_untied)
    ∧ preserves_Kernel_KernelIdeal
    ∧ algebraic_KernelIdeal_ReferenceIdeal (hKernelIdeal := hKernelIdeal) (hReferenceIdeal := hReferenceIdeal)
    ∧ preserves_Searches_SearchesIdeal
    ∧ algebraic_SearchesIdeal_SearchesReferenceIdeal_pre_untied (hSearchesIdeal := hSearchesIdeal) (hSearchesReferenceIdeal := hSearchesReferenceIdeal) (hPre_untied := hPre_untied)
-- ==== Pre_untied.lean ====
abbrev S64x32 : Shape := ⟨2, ![64, 32]⟩
abbrev S256x32 : Shape := ⟨2, ![256, 32]⟩
abbrev S1024x32 : Shape := ⟨2, ![1024, 32]⟩
abbrev S4096x32 : Shape := ⟨2, ![4096, 32]⟩
abbrev S64x32x16x16 : Shape := ⟨4, ![64, 32, 16, 16]⟩
abbrev S4x32x32x3x3 : Shape := ⟨5, ![4, 32, 32, 3, 3]⟩
abbrev S4x32 : Shape := ⟨2, ![4, 32]⟩
abbrev S_ : Shape := ⟨0, ![]⟩
abbrev S1x32x32x3x3 : Shape := ⟨5, ![1, 32, 32, 3, 3]⟩
abbrev S32x32x3x3 : Shape := ⟨4, ![32, 32, 3, 3]⟩
abbrev S1x32 : Shape := ⟨2, ![1, 32]⟩
abbrev S32 : Shape := ⟨1, ![32]⟩
abbrev S64x32x18x18 : Shape := ⟨4, ![64, 32, 18, 18]⟩
abbrev S64x32x16x18 : Shape := ⟨4, ![64, 32, 16, 18]⟩
abbrev S32x32x1x3 : Shape := ⟨4, ![32, 32, 1, 3]⟩
abbrev S32x32x3 : Shape := ⟨3, ![32, 32, 3]⟩
abbrev S32x32x1 : Shape := ⟨3, ![32, 32, 1]⟩
abbrev S32x32 : Shape := ⟨2, ![32, 32]⟩
abbrev S32x64x16x16 : Shape := ⟨4, ![32, 64, 16, 16]⟩
abbrev S1x32x1x1 : Shape := ⟨4, ![1, 32, 1, 1]⟩
abbrev S64 : Shape := ⟨1, ![64]⟩
abbrev S64x1 : Shape := ⟨2, ![64, 1]⟩
abbrev S4096 : Shape := ⟨1, ![4096]⟩
abbrev S4096x1 : Shape := ⟨2, ![4096, 1]⟩
abbrev S32x4096 : Shape := ⟨2, ![32, 4096]⟩
abbrev S64x4096 : Shape := ⟨2, ![64, 4096]⟩
abbrev S256 : Shape := ⟨1, ![256]⟩
abbrev S256x1 : Shape := ⟨2, ![256, 1]⟩
abbrev S256x4096 : Shape := ⟨2, ![256, 4096]⟩
abbrev S1024 : Shape := ⟨1, ![1024]⟩
abbrev S1024x1 : Shape := ⟨2, ![1024, 1]⟩
abbrev S1024x4096 : Shape := ⟨2, ![1024, 4096]⟩
abbrev S4096x4096 : Shape := ⟨2, ![4096, 4096]⟩
abbrev S64x16x16x32 : Shape := ⟨4, ![64, 16, 16, 32]⟩
abbrev S16384x32 : Shape := ⟨2, ![16384, 32]⟩
abbrev S16384 : Shape := ⟨1, ![16384]⟩
abbrev S16384x1 : Shape := ⟨2, ![16384, 1]⟩
abbrev S16384x4096 : Shape := ⟨2, ![16384, 4096]⟩

class Facts : Prop where
  bcast_S_S4096x32 : S_.BroadcastsInDim S4096x32 (![] : Fin 0 → Fin S4096x32.rank)
  reducesTo_S4096x32_S_d0_1 : S4096x32.ReducesTo [0, 1] S_
  h_S_ : 0 < S_.numel
  bcast_S_S64x32x16x16 : S_.BroadcastsInDim S64x32x16x16 (![] : Fin 0 → Fin S64x32x16x16.rank)
  reducesTo_S64x32x16x16_S_d0_1_2_3 : S64x32x16x16.ReducesTo [0, 1, 2, 3] S_
  bcast_S_S4x32x32x3x3 : S_.BroadcastsInDim S4x32x32x3x3 (![] : Fin 0 → Fin S4x32x32x3x3.rank)
  reducesTo_S4x32x32x3x3_S_d0_1_2_3_4 : S4x32x32x3x3.ReducesTo [0, 1, 2, 3, 4] S_
  bcast_S_S4x32 : S_.BroadcastsInDim S4x32 (![] : Fin 0 → Fin S4x32.rank)
  reducesTo_S4x32_S_d0_1 : S4x32.ReducesTo [0, 1] S_
  slices_S4x32x32x3x3_S1x32x32x3x3_0_0_0_0_0 : S4x32x32x3x3.Slices ![0, 0, 0, 0, 0] S1x32x32x3x3
  shapeCasts_S1x32x32x3x3_S32x32x3x3 : S1x32x32x3x3.ShapeCasts S32x32x3x3
  slices_S4x32_S1x32_0_0 : S4x32.Slices ![0, 0] S1x32
  shapeCasts_S1x32_S32 : S1x32.ShapeCasts S32
  pads_S64x32x16x16_S64x32x18x18_000_000_110_110 : S64x32x16x16.Pads (![0, 0, 1, 1] : Fin 4 → Nat) ![0, 0, 1, 1] ![0, 0, 0, 0] S64x32x18x18
  slices_S64x32x18x18_S64x32x16x18_0_0_0_0 : S64x32x18x18.Slices ![0, 0, 0, 0] S64x32x16x18
  slices_S32x32x3x3_S32x32x1x3_0_0_0_0 : S32x32x3x3.Slices ![0, 0, 0, 0] S32x32x1x3
  shapeCasts_S32x32x1x3_S32x32x3 : S32x32x1x3.ShapeCasts S32x32x3
  slices_S64x32x16x18_S64x32x16x16_0_0_0_0 : S64x32x16x18.Slices ![0, 0, 0, 0] S64x32x16x16
  slices_S32x32x3_S32x32x1_0_0_0 : S32x32x3.Slices ![0, 0, 0] S32x32x1
  shapeCasts_S32x32x1_S32x32 : S32x32x1.ShapeCasts S32x32
  transposes_S32x64x16x16_S64x32x16x16_1_0_2_3 : S32x64x16x16.Transposes [1, 0, 2, 3] S64x32x16x16
  slices_S64x32x16x18_S64x32x16x16_0_0_0_1 : S64x32x16x18.Slices ![0, 0, 0, 1] S64x32x16x16
  slices_S32x32x3_S32x32x1_0_0_1 : S32x32x3.Slices ![0, 0, 1] S32x32x1
  slices_S64x32x16x18_S64x32x16x16_0_0_0_2 : S64x32x16x18.Slices ![0, 0, 0, 2] S64x32x16x16
  slices_S32x32x3_S32x32x1_0_0_2 : S32x32x3.Slices ![0, 0, 2] S32x32x1
  slices_S64x32x18x18_S64x32x16x18_0_0_1_0 : S64x32x18x18.Slices ![0, 0, 1, 0] S64x32x16x18
  slices_S32x32x3x3_S32x32x1x3_0_0_1_0 : S32x32x3x3.Slices ![0, 0, 1, 0] S32x32x1x3
  slices_S64x32x18x18_S64x32x16x18_0_0_2_0 : S64x32x18x18.Slices ![0, 0, 2, 0] S64x32x16x18
  slices_S32x32x3x3_S32x32x1x3_0_0_2_0 : S32x32x3x3.Slices ![0, 0, 2, 0] S32x32x1x3
  bcast_S32_S1x32x1x1_1 : S32.BroadcastsInDim S1x32x1x1 (![1] : Fin 1 → Fin S1x32x1x1.rank)
  bcast_S1x32x1x1_S64x32x16x16_0_1_2_3 : S1x32x1x1.BroadcastsInDim S64x32x16x16 (![0, 1, 2, 3] : Fin 4 → Fin S64x32x16x16.rank)
  slices_S4x32x32x3x3_S1x32x32x3x3_1_0_0_0_0 : S4x32x32x3x3.Slices ![1, 0, 0, 0, 0] S1x32x32x3x3
  slices_S4x32_S1x32_1_0 : S4x32.Slices ![1, 0] S1x32
  slices_S4x32x32x3x3_S1x32x32x3x3_2_0_0_0_0 : S4x32x32x3x3.Slices ![2, 0, 0, 0, 0] S1x32x32x3x3
  slices_S4x32_S1x32_2_0 : S4x32.Slices ![2, 0] S1x32
  slices_S4x32x32x3x3_S1x32x32x3x3_3_0_0_0_0 : S4x32x32x3x3.Slices ![3, 0, 0, 0, 0] S1x32x32x3x3
  slices_S4x32_S1x32_3_0 : S4x32.Slices ![3, 0] S1x32
  reducesTo_S64x32_S64_d1 : S64x32.ReducesTo [1] S64
  bcast_S64_S64x1_0 : S64.BroadcastsInDim S64x1 (![0] : Fin 1 → Fin S64x1.rank)
  bcast_S_S64x1 : S_.BroadcastsInDim S64x1 (![] : Fin 0 → Fin S64x1.rank)
  bcast_S64x1_S64x32_0_1 : S64x1.BroadcastsInDim S64x32 (![0, 1] : Fin 2 → Fin S64x32.rank)
  reducesTo_S4096x32_S4096_d1 : S4096x32.ReducesTo [1] S4096
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x32_0_1 : S4096x1.BroadcastsInDim S4096x32 (![0, 1] : Fin 2 → Fin S4096x32.rank)
  transposes_S4096x32_S32x4096_1_0 : S4096x32.Transposes [1, 0] S32x4096
  bcast_S_S64x32 : S_.BroadcastsInDim S64x32 (![] : Fin 0 → Fin S64x32.rank)
  reducesTo_S64x32_S_d0_1 : S64x32.ReducesTo [0, 1] S_
  reducesTo_S64x4096_S64_d1 : S64x4096.ReducesTo [1] S64
  bcast_S64x1_S64x4096_0_1 : S64x1.BroadcastsInDim S64x4096 (![0, 1] : Fin 2 → Fin S64x4096.rank)
  bcast_S_S64x4096 : S_.BroadcastsInDim S64x4096 (![] : Fin 0 → Fin S64x4096.rank)
  reducesTo_S64x4096_S_d0_1 : S64x4096.ReducesTo [0, 1] S_
  reducesTo_S256x32_S256_d1 : S256x32.ReducesTo [1] S256
  bcast_S256_S256x1_0 : S256.BroadcastsInDim S256x1 (![0] : Fin 1 → Fin S256x1.rank)
  bcast_S_S256x1 : S_.BroadcastsInDim S256x1 (![] : Fin 0 → Fin S256x1.rank)
  bcast_S256x1_S256x32_0_1 : S256x1.BroadcastsInDim S256x32 (![0, 1] : Fin 2 → Fin S256x32.rank)
  bcast_S_S256x32 : S_.BroadcastsInDim S256x32 (![] : Fin 0 → Fin S256x32.rank)
  reducesTo_S256x32_S_d0_1 : S256x32.ReducesTo [0, 1] S_
  reducesTo_S256x4096_S256_d1 : S256x4096.ReducesTo [1] S256
  bcast_S256x1_S256x4096_0_1 : S256x1.BroadcastsInDim S256x4096 (![0, 1] : Fin 2 → Fin S256x4096.rank)
  bcast_S_S256x4096 : S_.BroadcastsInDim S256x4096 (![] : Fin 0 → Fin S256x4096.rank)
  reducesTo_S256x4096_S_d0_1 : S256x4096.ReducesTo [0, 1] S_
  reducesTo_S1024x32_S1024_d1 : S1024x32.ReducesTo [1] S1024
  bcast_S1024_S1024x1_0 : S1024.BroadcastsInDim S1024x1 (![0] : Fin 1 → Fin S1024x1.rank)
  bcast_S_S1024x1 : S_.BroadcastsInDim S1024x1 (![] : Fin 0 → Fin S1024x1.rank)
  bcast_S1024x1_S1024x32_0_1 : S1024x1.BroadcastsInDim S1024x32 (![0, 1] : Fin 2 → Fin S1024x32.rank)
  bcast_S_S1024x32 : S_.BroadcastsInDim S1024x32 (![] : Fin 0 → Fin S1024x32.rank)
  reducesTo_S1024x32_S_d0_1 : S1024x32.ReducesTo [0, 1] S_
  reducesTo_S1024x4096_S1024_d1 : S1024x4096.ReducesTo [1] S1024
  bcast_S1024x1_S1024x4096_0_1 : S1024x1.BroadcastsInDim S1024x4096 (![0, 1] : Fin 2 → Fin S1024x4096.rank)
  bcast_S_S1024x4096 : S_.BroadcastsInDim S1024x4096 (![] : Fin 0 → Fin S1024x4096.rank)
  reducesTo_S1024x4096_S_d0_1 : S1024x4096.ReducesTo [0, 1] S_
  reducesTo_S4096x4096_S4096_d1 : S4096x4096.ReducesTo [1] S4096
  bcast_S4096x1_S4096x4096_0_1 : S4096x1.BroadcastsInDim S4096x4096 (![0, 1] : Fin 2 → Fin S4096x4096.rank)
  bcast_S_S4096x4096 : S_.BroadcastsInDim S4096x4096 (![] : Fin 0 → Fin S4096x4096.rank)
  reducesTo_S4096x4096_S_d0_1 : S4096x4096.ReducesTo [0, 1] S_
  transposes_S64x32x16x16_S64x16x16x32_0_2_3_1 : S64x32x16x16.Transposes [0, 2, 3, 1] S64x16x16x32
  shapeCasts_S64x16x16x32_S16384x32 : S64x16x16x32.ShapeCasts S16384x32
  reducesTo_S16384x32_S16384_d1 : S16384x32.ReducesTo [1] S16384
  bcast_S16384_S16384x1_0 : S16384.BroadcastsInDim S16384x1 (![0] : Fin 1 → Fin S16384x1.rank)
  bcast_S_S16384x1 : S_.BroadcastsInDim S16384x1 (![] : Fin 0 → Fin S16384x1.rank)
  bcast_S16384x1_S16384x32_0_1 : S16384x1.BroadcastsInDim S16384x32 (![0, 1] : Fin 2 → Fin S16384x32.rank)
  reducesTo_S16384x4096_S16384_d1 : S16384x4096.ReducesTo [1] S16384
  bcast_S16384x1_S16384x4096_0_1 : S16384x1.BroadcastsInDim S16384x4096 (![0, 1] : Fin 2 → Fin S16384x4096.rank)
  bcast_S_S16384x4096 : S_.BroadcastsInDim S16384x4096 (![] : Fin 0 → Fin S16384x4096.rank)
  reducesTo_S16384x4096_S_d0_1 : S16384x4096.ReducesTo [0, 1] S_
  dot_S32x32_S64x32x16x16_S32x64x16x16_1_1_0_023_n_n_wf : DotDims.WF S32x32 S64x32x16x16 S32x64x16x16 [1] [1] [0] [0, 2, 3] [] []
  dot_S64x32_S32x4096_S64x4096_1_0_0_1_n_n_wf : DotDims.WF S64x32 S32x4096 S64x4096 [1] [0] [0] [1] [] []
  dot_S256x32_S32x4096_S256x4096_1_0_0_1_n_n_wf : DotDims.WF S256x32 S32x4096 S256x4096 [1] [0] [0] [1] [] []
  dot_S1024x32_S32x4096_S1024x4096_1_0_0_1_n_n_wf : DotDims.WF S1024x32 S32x4096 S1024x4096 [1] [0] [0] [1] [] []
  dot_S4096x32_S32x4096_S4096x4096_1_0_0_1_n_n_wf : DotDims.WF S4096x32 S32x4096 S4096x4096 [1] [0] [0] [1] [] []
  dot_S16384x32_S32x4096_S16384x4096_1_0_0_1_n_n_wf : DotDims.WF S16384x32 S32x4096 S16384x4096 [1] [0] [0] [1] [] []

variable [Facts]

def dot_S32x32_S64x32x16x16_S32x64x16x16_1_1_0_023_n_n : DotDims S32x32 S64x32x16x16 S32x64x16x16 where
  lhsContracting := [1]
  rhsContracting := [1]
  lhsNonContracting := [0]
  rhsNonContracting := [0, 2, 3]
  lhsBatch := []
  rhsBatch := []
  wf := dot_S32x32_S64x32x16x16_S32x64x16x16_1_1_0_023_n_n_wf
def dot_S64x32_S32x4096_S64x4096_1_0_0_1_n_n : DotDims S64x32 S32x4096 S64x4096 where
  lhsContracting := [1]
  rhsContracting := [0]
  lhsNonContracting := [0]
  rhsNonContracting := [1]
  lhsBatch := []
  rhsBatch := []
  wf := dot_S64x32_S32x4096_S64x4096_1_0_0_1_n_n_wf
def dot_S256x32_S32x4096_S256x4096_1_0_0_1_n_n : DotDims S256x32 S32x4096 S256x4096 where
  lhsContracting := [1]
  rhsContracting := [0]
  lhsNonContracting := [0]
  rhsNonContracting := [1]
  lhsBatch := []
  rhsBatch := []
  wf := dot_S256x32_S32x4096_S256x4096_1_0_0_1_n_n_wf
def dot_S1024x32_S32x4096_S1024x4096_1_0_0_1_n_n : DotDims S1024x32 S32x4096 S1024x4096 where
  lhsContracting := [1]
  rhsContracting := [0]
  lhsNonContracting := [0]
  rhsNonContracting := [1]
  lhsBatch := []
  rhsBatch := []
  wf := dot_S1024x32_S32x4096_S1024x4096_1_0_0_1_n_n_wf
def dot_S4096x32_S32x4096_S4096x4096_1_0_0_1_n_n : DotDims S4096x32 S32x4096 S4096x4096 where
  lhsContracting := [1]
  rhsContracting := [0]
  lhsNonContracting := [0]
  rhsNonContracting := [1]
  lhsBatch := []
  rhsBatch := []
  wf := dot_S4096x32_S32x4096_S4096x4096_1_0_0_1_n_n_wf
def dot_S16384x32_S32x4096_S16384x4096_1_0_0_1_n_n : DotDims S16384x32 S32x4096 S16384x4096 where
  lhsContracting := [1]
  rhsContracting := [0]
  lhsNonContracting := [0]
  rhsNonContracting := [1]
  lhsBatch := []
  rhsBatch := []
  wf := dot_S16384x32_S32x4096_S16384x4096_1_0_0_1_n_n_wf
def fn_finite {F : FTy → Type} [FloatOps F] (arg0 : FVec F S4096x32 .f32) : IVec S_ 1 :=
  let v0 : FVec F S4096x32 .f32 := Host.absf arg0
  let cst : FVec F S_ .f32 := constant S_ .f32 0x7F800000#32
  let v1 : FVec F S4096x32 .f32 := broadcastInDim S4096x32 ![] bcast_S_S4096x32 cst
  let v2 : IVec S4096x32 1 := cmpf .olt v0 v1
  let c : IVec S_ 1 := constantI S_ 1 1#1
  let v3 : IVec S_ 1 := (fun x v => Host.reduce IntOp.andi x v reducesTo_S4096x32_S_d0_1 h_S_) v2 c
  v3

def fn_finite_0 {F : FTy → Type} [FloatOps F] (arg0 : FVec F S64x32x16x16 .f32) : IVec S_ 1 :=
  let v0 : FVec F S64x32x16x16 .f32 := Host.absf arg0
  let cst : FVec F S_ .f32 := constant S_ .f32 0x7F800000#32
  let v1 : FVec F S64x32x16x16 .f32 := broadcastInDim S64x32x16x16 ![] bcast_S_S64x32x16x16 cst
  let v2 : IVec S64x32x16x16 1 := cmpf .olt v0 v1
  let c : IVec S_ 1 := constantI S_ 1 1#1
  let v3 : IVec S_ 1 := (fun x v => Host.reduce IntOp.andi x v reducesTo_S64x32x16x16_S_d0_1_2_3 h_S_) v2 c
  v3

def fn_finite_1 {F : FTy → Type} [FloatOps F] (arg0 : FVec F S4x32x32x3x3 .f32) : IVec S_ 1 :=
  let v0 : FVec F S4x32x32x3x3 .f32 := Host.absf arg0
  let cst : FVec F S_ .f32 := constant S_ .f32 0x7F800000#32
  let v1 : FVec F S4x32x32x3x3 .f32 := broadcastInDim S4x32x32x3x3 ![] bcast_S_S4x32x32x3x3 cst
  let v2 : IVec S4x32x32x3x3 1 := cmpf .olt v0 v1
  let c : IVec S_ 1 := constantI S_ 1 1#1
  let v3 : IVec S_ 1 := (fun x v => Host.reduce IntOp.andi x v reducesTo_S4x32x32x3x3_S_d0_1_2_3_4 h_S_) v2 c
  v3

def fn_finite_2 {F : FTy → Type} [FloatOps F] (arg0 : FVec F S4x32 .f32) : IVec S_ 1 :=
  let v0 : FVec F S4x32 .f32 := Host.absf arg0
  let cst : FVec F S_ .f32 := constant S_ .f32 0x7F800000#32
  let v1 : FVec F S4x32 .f32 := broadcastInDim S4x32 ![] bcast_S_S4x32 cst
  let v2 : IVec S4x32 1 := cmpf .olt v0 v1
  let c : IVec S_ 1 := constantI S_ 1 1#1
  let v3 : IVec S_ 1 := (fun x v => Host.reduce IntOp.andi x v reducesTo_S4x32_S_d0_1 h_S_) v2 c
  v3

def fn_pad {F : FTy → Type} [FloatOps F] (arg0 : FVec F S64x32x16x16 .f32) (arg1 : IVec S_ 32) : FVec F S64x32x18x18 .f32 :=
  let v0 : FVec F S_ .f32 := sitofp .f32 arg1
  let v1 : FVec F S64x32x18x18 .f32 := (fun x v => pad S64x32x18x18 ![0, 0, 1, 1] ![0, 0, 1, 1] ![0, 0, 0, 0] x v pads_S64x32x16x16_S64x32x18x18_000_000_110_110 h_S_) arg0 v0
  v1

def fn_conv_row {F : FTy → Type} [FloatOps F] (arg0 : FVec F S64x32x16x18 .f32) (arg1 : FVec F S32x32x3 .f32) : FVec F S64x32x16x16 .f32 :=
  let v0 : FVec F S64x32x16x16 .f32 := (extractStridedSlice S64x32x16x16 ![0, 0, 0, 0] · slices_S64x32x16x18_S64x32x16x16_0_0_0_0) arg0
  let v1 : FVec F S32x32x1 .f32 := (extractStridedSlice S32x32x1 ![0, 0, 0] · slices_S32x32x3_S32x32x1_0_0_0) arg1
  let v2 : FVec F S32x32 .f32 := shapeCast S32x32 v1 shapeCasts_S32x32x1_S32x32
  let v3 : FVec F S32x64x16x16 .f32 := (fun l r => Host.dotGeneral dot_S32x32_S64x32x16x16_S32x64x16x16_1_1_0_023_n_n none l r) v2 v0
  let v4 : FVec F S64x32x16x16 .f32 := (transpose S64x32x16x16 [1, 0, 2, 3] · transposes_S32x64x16x16_S64x32x16x16_1_0_2_3) v3
  let v5 : FVec F S64x32x16x16 .f32 := (extractStridedSlice S64x32x16x16 ![0, 0, 0, 1] · slices_S64x32x16x18_S64x32x16x16_0_0_0_1) arg0
  let v6 : FVec F S32x32x1 .f32 := (extractStridedSlice S32x32x1 ![0, 0, 1] · slices_S32x32x3_S32x32x1_0_0_1) arg1
  let v7 : FVec F S32x32 .f32 := shapeCast S32x32 v6 shapeCasts_S32x32x1_S32x32
  let v8 : FVec F S32x64x16x16 .f32 := (fun l r => Host.dotGeneral dot_S32x32_S64x32x16x16_S32x64x16x16_1_1_0_023_n_n none l r) v7 v5
  let v9 : FVec F S64x32x16x16 .f32 := (transpose S64x32x16x16 [1, 0, 2, 3] · transposes_S32x64x16x16_S64x32x16x16_1_0_2_3) v8
  let v10 : FVec F S64x32x16x16 .f32 := (extractStridedSlice S64x32x16x16 ![0, 0, 0, 2] · slices_S64x32x16x18_S64x32x16x16_0_0_0_2) arg0
  let v11 : FVec F S32x32x1 .f32 := (extractStridedSlice S32x32x1 ![0, 0, 2] · slices_S32x32x3_S32x32x1_0_0_2) arg1
  let v12 : FVec F S32x32 .f32 := shapeCast S32x32 v11 shapeCasts_S32x32x1_S32x32
  let v13 : FVec F S32x64x16x16 .f32 := (fun l r => Host.dotGeneral dot_S32x32_S64x32x16x16_S32x64x16x16_1_1_0_023_n_n none l r) v12 v10
  let v14 : FVec F S64x32x16x16 .f32 := (transpose S64x32x16x16 [1, 0, 2, 3] · transposes_S32x64x16x16_S64x32x16x16_1_0_2_3) v13
  let v15 : FVec F S64x32x16x16 .f32 := addf v4 v9
  let v16 : FVec F S64x32x16x16 .f32 := addf v15 v14
  v16

def fn_conv2d_same {F : FTy → Type} [FloatOps F] (arg0 : FVec F S64x32x16x16 .f32) (arg1 : FVec F S32x32x3x3 .f32) (arg2 : FVec F S32 .f32) : FVec F S64x32x16x16 .f32 :=
  let c : IVec S_ 32 := constantI S_ 32 0#32
  let v0 : FVec F S64x32x18x18 .f32 := fn_pad (F := F) arg0 c
  let v1 : FVec F S64x32x16x18 .f32 := (extractStridedSlice S64x32x16x18 ![0, 0, 0, 0] · slices_S64x32x18x18_S64x32x16x18_0_0_0_0) v0
  let v2 : FVec F S32x32x1x3 .f32 := (extractStridedSlice S32x32x1x3 ![0, 0, 0, 0] · slices_S32x32x3x3_S32x32x1x3_0_0_0_0) arg1
  let v3 : FVec F S32x32x3 .f32 := shapeCast S32x32x3 v2 shapeCasts_S32x32x1x3_S32x32x3
  let v4 : FVec F S64x32x16x16 .f32 := fn_conv_row (F := F) v1 v3
  let v5 : FVec F S64x32x16x18 .f32 := (extractStridedSlice S64x32x16x18 ![0, 0, 1, 0] · slices_S64x32x18x18_S64x32x16x18_0_0_1_0) v0
  let v6 : FVec F S32x32x1x3 .f32 := (extractStridedSlice S32x32x1x3 ![0, 0, 1, 0] · slices_S32x32x3x3_S32x32x1x3_0_0_1_0) arg1
  let v7 : FVec F S32x32x3 .f32 := shapeCast S32x32x3 v6 shapeCasts_S32x32x1x3_S32x32x3
  let v8 : FVec F S64x32x16x16 .f32 := fn_conv_row (F := F) v5 v7
  let v9 : FVec F S64x32x16x18 .f32 := (extractStridedSlice S64x32x16x18 ![0, 0, 2, 0] · slices_S64x32x18x18_S64x32x16x18_0_0_2_0) v0
  let v10 : FVec F S32x32x1x3 .f32 := (extractStridedSlice S32x32x1x3 ![0, 0, 2, 0] · slices_S32x32x3x3_S32x32x1x3_0_0_2_0) arg1
  let v11 : FVec F S32x32x3 .f32 := shapeCast S32x32x3 v10 shapeCasts_S32x32x1x3_S32x32x3
  let v12 : FVec F S64x32x16x16 .f32 := fn_conv_row (F := F) v9 v11
  let v13 : FVec F S64x32x16x16 .f32 := addf v4 v8
  let v14 : FVec F S64x32x16x16 .f32 := addf v13 v12
  let v15 : FVec F S1x32x1x1 .f32 := broadcastInDim S1x32x1x1 ![1] bcast_S32_S1x32x1x1_1 arg2
  let v16 : FVec F S64x32x16x16 .f32 := broadcastInDim S64x32x16x16 ![0, 1, 2, 3] bcast_S1x32x1x1_S64x32x16x16_0_1_2_3 v15
  let v17 : FVec F S64x32x16x16 .f32 := addf v14 v16
  v17

def fn_normalized {F : FTy → Type} [FloatOps F] (arg0 : FVec F S64x32 .f32) : FVec F S64x32 .f32 :=
  let v0 : FVec F S64x32 .f32 := mulf arg0 arg0
  let cst : FVec F S_ .f32 := constant S_ .f32 0x00000000#32
  let v1 : FVec F S64 .f32 := (fun x v => Host.reduceAdd x v reducesTo_S64x32_S64_d1 h_S_) v0 cst
  let v2 : FVec F S64x1 .f32 := broadcastInDim S64x1 ![0] bcast_S64_S64x1_0 v1
  let v3 : FVec F S64x1 .f32 := Host.sqrt v2
  let cst_0 : FVec F S_ .f32 := constant S_ .f32 0x2B8CBCCC#32
  let v4 : FVec F S64x1 .f32 := broadcastInDim S64x1 ![] bcast_S_S64x1 cst_0
  let v5 : FVec F S64x1 .f32 := maximumf v3 v4
  let v6 : FVec F S64x32 .f32 := broadcastInDim S64x32 ![0, 1] bcast_S64x1_S64x32_0_1 v5
  let v7 : FVec F S64x32 .f32 := Host.divf arg0 v6
  v7

def fn_normalized_3 {F : FTy → Type} [FloatOps F] (arg0 : FVec F S4096x32 .f32) : FVec F S4096x32 .f32 :=
  let v0 : FVec F S4096x32 .f32 := mulf arg0 arg0
  let cst : FVec F S_ .f32 := constant S_ .f32 0x00000000#32
  let v1 : FVec F S4096 .f32 := (fun x v => Host.reduceAdd x v reducesTo_S4096x32_S4096_d1 h_S_) v0 cst
  let v2 : FVec F S4096x1 .f32 := broadcastInDim S4096x1 ![0] bcast_S4096_S4096x1_0 v1
  let v3 : FVec F S4096x1 .f32 := Host.sqrt v2
  let cst_0 : FVec F S_ .f32 := constant S_ .f32 0x2B8CBCCC#32
  let v4 : FVec F S4096x1 .f32 := broadcastInDim S4096x1 ![] bcast_S_S4096x1 cst_0
  let v5 : FVec F S4096x1 .f32 := maximumf v3 v4
  let v6 : FVec F S4096x32 .f32 := broadcastInDim S4096x32 ![0, 1] bcast_S4096x1_S4096x32_0_1 v5
  let v7 : FVec F S4096x32 .f32 := Host.divf arg0 v6
  v7

def fn_similarities {F : FTy → Type} [FloatOps F] (arg0 : FVec F S64x32 .f32) (arg1 : FVec F S4096x32 .f32) : FVec F S64x4096 .f32 :=
  let v0 : FVec F S64x32 .f32 := fn_normalized (F := F) arg0
  let v1 : FVec F S4096x32 .f32 := fn_normalized_3 (F := F) arg1
  let v2 : FVec F S32x4096 .f32 := (transpose S32x4096 [1, 0] · transposes_S4096x32_S32x4096_1_0) v1
  let v3 : FVec F S64x4096 .f32 := (fun l r => Host.dotGeneral dot_S64x32_S32x4096_S64x4096_1_0_0_1_n_n none l r) v0 v2
  v3

def fn_finite_4 {F : FTy → Type} [FloatOps F] (arg0 : FVec F S64x32 .f32) : IVec S_ 1 :=
  let v0 : FVec F S64x32 .f32 := Host.absf arg0
  let cst : FVec F S_ .f32 := constant S_ .f32 0x7F800000#32
  let v1 : FVec F S64x32 .f32 := broadcastInDim S64x32 ![] bcast_S_S64x32 cst
  let v2 : IVec S64x32 1 := cmpf .olt v0 v1
  let c : IVec S_ 1 := constantI S_ 1 1#1
  let v3 : IVec S_ 1 := (fun x v => Host.reduce IntOp.andi x v reducesTo_S64x32_S_d0_1 h_S_) v2 c
  v3

def fn_where {F : FTy → Type} [FloatOps F] (arg0 : IVec S64x4096 1) (arg1 : IVec S64x4096 32) (arg2 : IVec S_ 32) : IVec S64x4096 32 :=
  let v0 : IVec S_ 32 := id arg2
  let v1 : IVec S64x4096 32 := broadcastInDim S64x4096 ![] bcast_S_S64x4096 v0
  let v2 : IVec S64x4096 32 := select arg0 arg1 v1
  v2

def fn_argmax {F : FTy → Type} [FloatOps F] (arg0 : FVec F S64x4096 .f32) : IVec S64 32 :=
  let v0 : IVec S64x4096 32 := iotaInDim S64x4096 32 1
  let cst : FVec F S_ .f32 := constant S_ .f32 0xFF800000#32
  let v1 : FVec F S64 .f32 := (fun x v => Host.reduce FloatOps.maximumf x v reducesTo_S64x4096_S64_d1 h_S_) arg0 cst
  let v2 : FVec F S64x1 .f32 := broadcastInDim S64x1 ![0] bcast_S64_S64x1_0 v1
  let v3 : FVec F S64x4096 .f32 := broadcastInDim S64x4096 ![0, 1] bcast_S64x1_S64x4096_0_1 v2
  let v4 : IVec S64x4096 1 := cmpf .oeq arg0 v3
  let c : IVec S_ 32 := constantI S_ 32 4096#32
  let v5 : IVec S64x4096 32 := fn_where (F := F) v4 v0 c
  let c_0 : IVec S_ 32 := constantI S_ 32 2147483647#32
  let v6 : IVec S64 32 := (fun x v => Host.reduce IntOp.minsi x v reducesTo_S64x4096_S64_d1 h_S_) v5 c_0
  v6

def fn_chosen_alone {F : FTy → Type} [FloatOps F] (arg0 : FVec F S64x4096 .f32) (arg1 : IVec S64 32) : IVec S_ 1 :=
  let v0 : IVec S64x4096 32 := iotaInDim S64x4096 32 1
  let cst : FVec F S_ .f32 := constant S_ .f32 0xFF800000#32
  let v1 : FVec F S64 .f32 := (fun x v => Host.reduce FloatOps.maximumf x v reducesTo_S64x4096_S64_d1 h_S_) arg0 cst
  let v2 : FVec F S64x1 .f32 := broadcastInDim S64x1 ![0] bcast_S64_S64x1_0 v1
  let v3 : IVec S64x1 32 := broadcastInDim S64x1 ![0] bcast_S64_S64x1_0 arg1
  let v4 : IVec S64x4096 32 := broadcastInDim S64x4096 ![0, 1] bcast_S64x1_S64x4096_0_1 v3
  let v5 : IVec S64x4096 1 := cmpi .eq v4 v0
  let v6 : FVec F S64x4096 .f32 := broadcastInDim S64x4096 ![0, 1] bcast_S64x1_S64x4096_0_1 v2
  let v7 : IVec S64x4096 1 := cmpf .olt arg0 v6
  let v8 : IVec S64x4096 1 := ori v5 v7
  let c : IVec S_ 1 := constantI S_ 1 1#1
  let v9 : IVec S_ 1 := (fun x v => Host.reduce IntOp.andi x v reducesTo_S64x4096_S_d0_1 h_S_) v8 c
  v9

def fn_normalized_6 {F : FTy → Type} [FloatOps F] (arg0 : FVec F S256x32 .f32) : FVec F S256x32 .f32 :=
  let v0 : FVec F S256x32 .f32 := mulf arg0 arg0
  let cst : FVec F S_ .f32 := constant S_ .f32 0x00000000#32
  let v1 : FVec F S256 .f32 := (fun x v => Host.reduceAdd x v reducesTo_S256x32_S256_d1 h_S_) v0 cst
  let v2 : FVec F S256x1 .f32 := broadcastInDim S256x1 ![0] bcast_S256_S256x1_0 v1
  let v3 : FVec F S256x1 .f32 := Host.sqrt v2
  let cst_0 : FVec F S_ .f32 := constant S_ .f32 0x2B8CBCCC#32
  let v4 : FVec F S256x1 .f32 := broadcastInDim S256x1 ![] bcast_S_S256x1 cst_0
  let v5 : FVec F S256x1 .f32 := maximumf v3 v4
  let v6 : FVec F S256x32 .f32 := broadcastInDim S256x32 ![0, 1] bcast_S256x1_S256x32_0_1 v5
  let v7 : FVec F S256x32 .f32 := Host.divf arg0 v6
  v7

def fn_similarities_5 {F : FTy → Type} [FloatOps F] (arg0 : FVec F S256x32 .f32) (arg1 : FVec F S4096x32 .f32) : FVec F S256x4096 .f32 :=
  let v0 : FVec F S256x32 .f32 := fn_normalized_6 (F := F) arg0
  let v1 : FVec F S4096x32 .f32 := fn_normalized_3 (F := F) arg1
  let v2 : FVec F S32x4096 .f32 := (transpose S32x4096 [1, 0] · transposes_S4096x32_S32x4096_1_0) v1
  let v3 : FVec F S256x4096 .f32 := (fun l r => Host.dotGeneral dot_S256x32_S32x4096_S256x4096_1_0_0_1_n_n none l r) v0 v2
  v3

def fn_finite_7 {F : FTy → Type} [FloatOps F] (arg0 : FVec F S256x32 .f32) : IVec S_ 1 :=
  let v0 : FVec F S256x32 .f32 := Host.absf arg0
  let cst : FVec F S_ .f32 := constant S_ .f32 0x7F800000#32
  let v1 : FVec F S256x32 .f32 := broadcastInDim S256x32 ![] bcast_S_S256x32 cst
  let v2 : IVec S256x32 1 := cmpf .olt v0 v1
  let c : IVec S_ 1 := constantI S_ 1 1#1
  let v3 : IVec S_ 1 := (fun x v => Host.reduce IntOp.andi x v reducesTo_S256x32_S_d0_1 h_S_) v2 c
  v3

def fn_where_9 {F : FTy → Type} [FloatOps F] (arg0 : IVec S256x4096 1) (arg1 : IVec S256x4096 32) (arg2 : IVec S_ 32) : IVec S256x4096 32 :=
  let v0 : IVec S_ 32 := id arg2
  let v1 : IVec S256x4096 32 := broadcastInDim S256x4096 ![] bcast_S_S256x4096 v0
  let v2 : IVec S256x4096 32 := select arg0 arg1 v1
  v2

def fn_argmax_8 {F : FTy → Type} [FloatOps F] (arg0 : FVec F S256x4096 .f32) : IVec S256 32 :=
  let v0 : IVec S256x4096 32 := iotaInDim S256x4096 32 1
  let cst : FVec F S_ .f32 := constant S_ .f32 0xFF800000#32
  let v1 : FVec F S256 .f32 := (fun x v => Host.reduce FloatOps.maximumf x v reducesTo_S256x4096_S256_d1 h_S_) arg0 cst
  let v2 : FVec F S256x1 .f32 := broadcastInDim S256x1 ![0] bcast_S256_S256x1_0 v1
  let v3 : FVec F S256x4096 .f32 := broadcastInDim S256x4096 ![0, 1] bcast_S256x1_S256x4096_0_1 v2
  let v4 : IVec S256x4096 1 := cmpf .oeq arg0 v3
  let c : IVec S_ 32 := constantI S_ 32 4096#32
  let v5 : IVec S256x4096 32 := fn_where_9 (F := F) v4 v0 c
  let c_0 : IVec S_ 32 := constantI S_ 32 2147483647#32
  let v6 : IVec S256 32 := (fun x v => Host.reduce IntOp.minsi x v reducesTo_S256x4096_S256_d1 h_S_) v5 c_0
  v6

def fn_chosen_alone_10 {F : FTy → Type} [FloatOps F] (arg0 : FVec F S256x4096 .f32) (arg1 : IVec S256 32) : IVec S_ 1 :=
  let v0 : IVec S256x4096 32 := iotaInDim S256x4096 32 1
  let cst : FVec F S_ .f32 := constant S_ .f32 0xFF800000#32
  let v1 : FVec F S256 .f32 := (fun x v => Host.reduce FloatOps.maximumf x v reducesTo_S256x4096_S256_d1 h_S_) arg0 cst
  let v2 : FVec F S256x1 .f32 := broadcastInDim S256x1 ![0] bcast_S256_S256x1_0 v1
  let v3 : IVec S256x1 32 := broadcastInDim S256x1 ![0] bcast_S256_S256x1_0 arg1
  let v4 : IVec S256x4096 32 := broadcastInDim S256x4096 ![0, 1] bcast_S256x1_S256x4096_0_1 v3
  let v5 : IVec S256x4096 1 := cmpi .eq v4 v0
  let v6 : FVec F S256x4096 .f32 := broadcastInDim S256x4096 ![0, 1] bcast_S256x1_S256x4096_0_1 v2
  let v7 : IVec S256x4096 1 := cmpf .olt arg0 v6
  let v8 : IVec S256x4096 1 := ori v5 v7
  let c : IVec S_ 1 := constantI S_ 1 1#1
  let v9 : IVec S_ 1 := (fun x v => Host.reduce IntOp.andi x v reducesTo_S256x4096_S_d0_1 h_S_) v8 c
  v9

def fn_normalized_12 {F : FTy → Type} [FloatOps F] (arg0 : FVec F S1024x32 .f32) : FVec F S1024x32 .f32 :=
  let v0 : FVec F S1024x32 .f32 := mulf arg0 arg0
  let cst : FVec F S_ .f32 := constant S_ .f32 0x00000000#32
  let v1 : FVec F S1024 .f32 := (fun x v => Host.reduceAdd x v reducesTo_S1024x32_S1024_d1 h_S_) v0 cst
  let v2 : FVec F S1024x1 .f32 := broadcastInDim S1024x1 ![0] bcast_S1024_S1024x1_0 v1
  let v3 : FVec F S1024x1 .f32 := Host.sqrt v2
  let cst_0 : FVec F S_ .f32 := constant S_ .f32 0x2B8CBCCC#32
  let v4 : FVec F S1024x1 .f32 := broadcastInDim S1024x1 ![] bcast_S_S1024x1 cst_0
  let v5 : FVec F S1024x1 .f32 := maximumf v3 v4
  let v6 : FVec F S1024x32 .f32 := broadcastInDim S1024x32 ![0, 1] bcast_S1024x1_S1024x32_0_1 v5
  let v7 : FVec F S1024x32 .f32 := Host.divf arg0 v6
  v7

def fn_similarities_11 {F : FTy → Type} [FloatOps F] (arg0 : FVec F S1024x32 .f32) (arg1 : FVec F S4096x32 .f32) : FVec F S1024x4096 .f32 :=
  let v0 : FVec F S1024x32 .f32 := fn_normalized_12 (F := F) arg0
  let v1 : FVec F S4096x32 .f32 := fn_normalized_3 (F := F) arg1
  let v2 : FVec F S32x4096 .f32 := (transpose S32x4096 [1, 0] · transposes_S4096x32_S32x4096_1_0) v1
  let v3 : FVec F S1024x4096 .f32 := (fun l r => Host.dotGeneral dot_S1024x32_S32x4096_S1024x4096_1_0_0_1_n_n none l r) v0 v2
  v3

def fn_finite_13 {F : FTy → Type} [FloatOps F] (arg0 : FVec F S1024x32 .f32) : IVec S_ 1 :=
  let v0 : FVec F S1024x32 .f32 := Host.absf arg0
  let cst : FVec F S_ .f32 := constant S_ .f32 0x7F800000#32
  let v1 : FVec F S1024x32 .f32 := broadcastInDim S1024x32 ![] bcast_S_S1024x32 cst
  let v2 : IVec S1024x32 1 := cmpf .olt v0 v1
  let c : IVec S_ 1 := constantI S_ 1 1#1
  let v3 : IVec S_ 1 := (fun x v => Host.reduce IntOp.andi x v reducesTo_S1024x32_S_d0_1 h_S_) v2 c
  v3

def fn_where_15 {F : FTy → Type} [FloatOps F] (arg0 : IVec S1024x4096 1) (arg1 : IVec S1024x4096 32) (arg2 : IVec S_ 32) : IVec S1024x4096 32 :=
  let v0 : IVec S_ 32 := id arg2
  let v1 : IVec S1024x4096 32 := broadcastInDim S1024x4096 ![] bcast_S_S1024x4096 v0
  let v2 : IVec S1024x4096 32 := select arg0 arg1 v1
  v2

def fn_argmax_14 {F : FTy → Type} [FloatOps F] (arg0 : FVec F S1024x4096 .f32) : IVec S1024 32 :=
  let v0 : IVec S1024x4096 32 := iotaInDim S1024x4096 32 1
  let cst : FVec F S_ .f32 := constant S_ .f32 0xFF800000#32
  let v1 : FVec F S1024 .f32 := (fun x v => Host.reduce FloatOps.maximumf x v reducesTo_S1024x4096_S1024_d1 h_S_) arg0 cst
  let v2 : FVec F S1024x1 .f32 := broadcastInDim S1024x1 ![0] bcast_S1024_S1024x1_0 v1
  let v3 : FVec F S1024x4096 .f32 := broadcastInDim S1024x4096 ![0, 1] bcast_S1024x1_S1024x4096_0_1 v2
  let v4 : IVec S1024x4096 1 := cmpf .oeq arg0 v3
  let c : IVec S_ 32 := constantI S_ 32 4096#32
  let v5 : IVec S1024x4096 32 := fn_where_15 (F := F) v4 v0 c
  let c_0 : IVec S_ 32 := constantI S_ 32 2147483647#32
  let v6 : IVec S1024 32 := (fun x v => Host.reduce IntOp.minsi x v reducesTo_S1024x4096_S1024_d1 h_S_) v5 c_0
  v6

def fn_chosen_alone_16 {F : FTy → Type} [FloatOps F] (arg0 : FVec F S1024x4096 .f32) (arg1 : IVec S1024 32) : IVec S_ 1 :=
  let v0 : IVec S1024x4096 32 := iotaInDim S1024x4096 32 1
  let cst : FVec F S_ .f32 := constant S_ .f32 0xFF800000#32
  let v1 : FVec F S1024 .f32 := (fun x v => Host.reduce FloatOps.maximumf x v reducesTo_S1024x4096_S1024_d1 h_S_) arg0 cst
  let v2 : FVec F S1024x1 .f32 := broadcastInDim S1024x1 ![0] bcast_S1024_S1024x1_0 v1
  let v3 : IVec S1024x1 32 := broadcastInDim S1024x1 ![0] bcast_S1024_S1024x1_0 arg1
  let v4 : IVec S1024x4096 32 := broadcastInDim S1024x4096 ![0, 1] bcast_S1024x1_S1024x4096_0_1 v3
  let v5 : IVec S1024x4096 1 := cmpi .eq v4 v0
  let v6 : FVec F S1024x4096 .f32 := broadcastInDim S1024x4096 ![0, 1] bcast_S1024x1_S1024x4096_0_1 v2
  let v7 : IVec S1024x4096 1 := cmpf .olt arg0 v6
  let v8 : IVec S1024x4096 1 := ori v5 v7
  let c : IVec S_ 1 := constantI S_ 1 1#1
  let v9 : IVec S_ 1 := (fun x v => Host.reduce IntOp.andi x v reducesTo_S1024x4096_S_d0_1 h_S_) v8 c
  v9

def fn_similarities_17 {F : FTy → Type} [FloatOps F] (arg0 : FVec F S4096x32 .f32) (arg1 : FVec F S4096x32 .f32) : FVec F S4096x4096 .f32 :=
  let v0 : FVec F S4096x32 .f32 := fn_normalized_3 (F := F) arg0
  let v1 : FVec F S4096x32 .f32 := fn_normalized_3 (F := F) arg1
  let v2 : FVec F S32x4096 .f32 := (transpose S32x4096 [1, 0] · transposes_S4096x32_S32x4096_1_0) v1
  let v3 : FVec F S4096x4096 .f32 := (fun l r => Host.dotGeneral dot_S4096x32_S32x4096_S4096x4096_1_0_0_1_n_n none l r) v0 v2
  v3

def fn_where_19 {F : FTy → Type} [FloatOps F] (arg0 : IVec S4096x4096 1) (arg1 : IVec S4096x4096 32) (arg2 : IVec S_ 32) : IVec S4096x4096 32 :=
  let v0 : IVec S_ 32 := id arg2
  let v1 : IVec S4096x4096 32 := broadcastInDim S4096x4096 ![] bcast_S_S4096x4096 v0
  let v2 : IVec S4096x4096 32 := select arg0 arg1 v1
  v2

def fn_argmax_18 {F : FTy → Type} [FloatOps F] (arg0 : FVec F S4096x4096 .f32) : IVec S4096 32 :=
  let v0 : IVec S4096x4096 32 := iotaInDim S4096x4096 32 1
  let cst : FVec F S_ .f32 := constant S_ .f32 0xFF800000#32
  let v1 : FVec F S4096 .f32 := (fun x v => Host.reduce FloatOps.maximumf x v reducesTo_S4096x4096_S4096_d1 h_S_) arg0 cst
  let v2 : FVec F S4096x1 .f32 := broadcastInDim S4096x1 ![0] bcast_S4096_S4096x1_0 v1
  let v3 : FVec F S4096x4096 .f32 := broadcastInDim S4096x4096 ![0, 1] bcast_S4096x1_S4096x4096_0_1 v2
  let v4 : IVec S4096x4096 1 := cmpf .oeq arg0 v3
  let c : IVec S_ 32 := constantI S_ 32 4096#32
  let v5 : IVec S4096x4096 32 := fn_where_19 (F := F) v4 v0 c
  let c_0 : IVec S_ 32 := constantI S_ 32 2147483647#32
  let v6 : IVec S4096 32 := (fun x v => Host.reduce IntOp.minsi x v reducesTo_S4096x4096_S4096_d1 h_S_) v5 c_0
  v6

def fn_chosen_alone_20 {F : FTy → Type} [FloatOps F] (arg0 : FVec F S4096x4096 .f32) (arg1 : IVec S4096 32) : IVec S_ 1 :=
  let v0 : IVec S4096x4096 32 := iotaInDim S4096x4096 32 1
  let cst : FVec F S_ .f32 := constant S_ .f32 0xFF800000#32
  let v1 : FVec F S4096 .f32 := (fun x v => Host.reduce FloatOps.maximumf x v reducesTo_S4096x4096_S4096_d1 h_S_) arg0 cst
  let v2 : FVec F S4096x1 .f32 := broadcastInDim S4096x1 ![0] bcast_S4096_S4096x1_0 v1
  let v3 : IVec S4096x1 32 := broadcastInDim S4096x1 ![0] bcast_S4096_S4096x1_0 arg1
  let v4 : IVec S4096x4096 32 := broadcastInDim S4096x4096 ![0, 1] bcast_S4096x1_S4096x4096_0_1 v3
  let v5 : IVec S4096x4096 1 := cmpi .eq v4 v0
  let v6 : FVec F S4096x4096 .f32 := broadcastInDim S4096x4096 ![0, 1] bcast_S4096x1_S4096x4096_0_1 v2
  let v7 : IVec S4096x4096 1 := cmpf .olt arg0 v6
  let v8 : IVec S4096x4096 1 := ori v5 v7
  let c : IVec S_ 1 := constantI S_ 1 1#1
  let v9 : IVec S_ 1 := (fun x v => Host.reduce IntOp.andi x v reducesTo_S4096x4096_S_d0_1 h_S_) v8 c
  v9

def fn_normalized_22 {F : FTy → Type} [FloatOps F] (arg0 : FVec F S16384x32 .f32) : FVec F S16384x32 .f32 :=
  let v0 : FVec F S16384x32 .f32 := mulf arg0 arg0
  let cst : FVec F S_ .f32 := constant S_ .f32 0x00000000#32
  let v1 : FVec F S16384 .f32 := (fun x v => Host.reduceAdd x v reducesTo_S16384x32_S16384_d1 h_S_) v0 cst
  let v2 : FVec F S16384x1 .f32 := broadcastInDim S16384x1 ![0] bcast_S16384_S16384x1_0 v1
  let v3 : FVec F S16384x1 .f32 := Host.sqrt v2
  let cst_0 : FVec F S_ .f32 := constant S_ .f32 0x2B8CBCCC#32
  let v4 : FVec F S16384x1 .f32 := broadcastInDim S16384x1 ![] bcast_S_S16384x1 cst_0
  let v5 : FVec F S16384x1 .f32 := maximumf v3 v4
  let v6 : FVec F S16384x32 .f32 := broadcastInDim S16384x32 ![0, 1] bcast_S16384x1_S16384x32_0_1 v5
  let v7 : FVec F S16384x32 .f32 := Host.divf arg0 v6
  v7

def fn_similarities_21 {F : FTy → Type} [FloatOps F] (arg0 : FVec F S16384x32 .f32) (arg1 : FVec F S4096x32 .f32) : FVec F S16384x4096 .f32 :=
  let v0 : FVec F S16384x32 .f32 := fn_normalized_22 (F := F) arg0
  let v1 : FVec F S4096x32 .f32 := fn_normalized_3 (F := F) arg1
  let v2 : FVec F S32x4096 .f32 := (transpose S32x4096 [1, 0] · transposes_S4096x32_S32x4096_1_0) v1
  let v3 : FVec F S16384x4096 .f32 := (fun l r => Host.dotGeneral dot_S16384x32_S32x4096_S16384x4096_1_0_0_1_n_n none l r) v0 v2
  v3

def fn_where_24 {F : FTy → Type} [FloatOps F] (arg0 : IVec S16384x4096 1) (arg1 : IVec S16384x4096 32) (arg2 : IVec S_ 32) : IVec S16384x4096 32 :=
  let v0 : IVec S_ 32 := id arg2
  let v1 : IVec S16384x4096 32 := broadcastInDim S16384x4096 ![] bcast_S_S16384x4096 v0
  let v2 : IVec S16384x4096 32 := select arg0 arg1 v1
  v2

def fn_argmax_23 {F : FTy → Type} [FloatOps F] (arg0 : FVec F S16384x4096 .f32) : IVec S16384 32 :=
  let v0 : IVec S16384x4096 32 := iotaInDim S16384x4096 32 1
  let cst : FVec F S_ .f32 := constant S_ .f32 0xFF800000#32
  let v1 : FVec F S16384 .f32 := (fun x v => Host.reduce FloatOps.maximumf x v reducesTo_S16384x4096_S16384_d1 h_S_) arg0 cst
  let v2 : FVec F S16384x1 .f32 := broadcastInDim S16384x1 ![0] bcast_S16384_S16384x1_0 v1
  let v3 : FVec F S16384x4096 .f32 := broadcastInDim S16384x4096 ![0, 1] bcast_S16384x1_S16384x4096_0_1 v2
  let v4 : IVec S16384x4096 1 := cmpf .oeq arg0 v3
  let c : IVec S_ 32 := constantI S_ 32 4096#32
  let v5 : IVec S16384x4096 32 := fn_where_24 (F := F) v4 v0 c
  let c_0 : IVec S_ 32 := constantI S_ 32 2147483647#32
  let v6 : IVec S16384 32 := (fun x v => Host.reduce IntOp.minsi x v reducesTo_S16384x4096_S16384_d1 h_S_) v5 c_0
  v6

def fn_chosen_alone_25 {F : FTy → Type} [FloatOps F] (arg0 : FVec F S16384x4096 .f32) (arg1 : IVec S16384 32) : IVec S_ 1 :=
  let v0 : IVec S16384x4096 32 := iotaInDim S16384x4096 32 1
  let cst : FVec F S_ .f32 := constant S_ .f32 0xFF800000#32
  let v1 : FVec F S16384 .f32 := (fun x v => Host.reduce FloatOps.maximumf x v reducesTo_S16384x4096_S16384_d1 h_S_) arg0 cst
  let v2 : FVec F S16384x1 .f32 := broadcastInDim S16384x1 ![0] bcast_S16384_S16384x1_0 v1
  let v3 : IVec S16384x1 32 := broadcastInDim S16384x1 ![0] bcast_S16384_S16384x1_0 arg1
  let v4 : IVec S16384x4096 32 := broadcastInDim S16384x4096 ![0, 1] bcast_S16384x1_S16384x4096_0_1 v3
  let v5 : IVec S16384x4096 1 := cmpi .eq v4 v0
  let v6 : FVec F S16384x4096 .f32 := broadcastInDim S16384x4096 ![0, 1] bcast_S16384x1_S16384x4096_0_1 v2
  let v7 : IVec S16384x4096 1 := cmpf .olt arg0 v6
  let v8 : IVec S16384x4096 1 := ori v5 v7
  let c : IVec S_ 1 := constantI S_ 1 1#1
  let v9 : IVec S_ 1 := (fun x v => Host.reduce IntOp.andi x v reducesTo_S16384x4096_S_d0_1 h_S_) v8 c
  v9

def fn_part4 {F : FTy → Type} [FloatOps F] (main_v82 : IVec S_ 1) (main_v87 : IVec S_ 1) : IVec S_ 1 :=
  let main_v88 : IVec S_ 1 := andi main_v82 main_v87
  main_v88

def fn_part3 {F : FTy → Type} [FloatOps F] (main_arg1 : FVec F S256x32 .f32) (main_arg2 : FVec F S1024x32 .f32) (main_arg3 : FVec F S4096x32 .f32) (main_arg9 : FVec F S4096x32 .f32) (main_v47 : IVec S_ 1) (main_v58 : FVec F S64x32x16x16 .f32) (main_v63 : IVec S_ 1) : IVec S_ 1 :=
  let main_v64 : IVec S_ 1 := andi main_v47 main_v63
  let main_v65 : FVec F S256x4096 .f32 := fn_similarities_5 (F := F) main_arg1 main_arg9
  let main_v66 : IVec S_ 1 := fn_finite_7 (F := F) main_arg1
  let main_v67 : IVec S256 32 := fn_argmax_8 (F := F) main_v65
  let main_v68 : IVec S_ 1 := fn_chosen_alone_10 (F := F) main_v65 main_v67
  let main_v69 : IVec S_ 1 := andi main_v66 main_v68
  let main_v70 : IVec S_ 1 := andi main_v64 main_v69
  let main_v71 : FVec F S1024x4096 .f32 := fn_similarities_11 (F := F) main_arg2 main_arg9
  let main_v72 : IVec S_ 1 := fn_finite_13 (F := F) main_arg2
  let main_v73 : IVec S1024 32 := fn_argmax_14 (F := F) main_v71
  let main_v74 : IVec S_ 1 := fn_chosen_alone_16 (F := F) main_v71 main_v73
  let main_v75 : IVec S_ 1 := andi main_v72 main_v74
  let main_v76 : IVec S_ 1 := andi main_v70 main_v75
  let main_v77 : FVec F S4096x4096 .f32 := fn_similarities_17 (F := F) main_arg3 main_arg9
  let main_v78 : IVec S_ 1 := fn_finite (F := F) main_arg3
  let main_v79 : IVec S4096 32 := fn_argmax_18 (F := F) main_v77
  let main_v80 : IVec S_ 1 := fn_chosen_alone_20 (F := F) main_v77 main_v79
  let main_v81 : IVec S_ 1 := andi main_v78 main_v80
  let main_v82 : IVec S_ 1 := andi main_v76 main_v81
  let main_v83 : FVec F S64x16x16x32 .f32 := (transpose S64x16x16x32 [0, 2, 3, 1] · transposes_S64x32x16x16_S64x16x16x32_0_2_3_1) main_v58
  let main_v84 : FVec F S16384x32 .f32 := shapeCast S16384x32 main_v83 shapeCasts_S64x16x16x32_S16384x32
  let main_v85 : FVec F S16384x4096 .f32 := fn_similarities_21 (F := F) main_v84 main_arg9
  let main_v86 : IVec S16384 32 := fn_argmax_23 (F := F) main_v85
  let main_v87 : IVec S_ 1 := fn_chosen_alone_25 (F := F) main_v85 main_v86
  fn_part4 (F := F) main_v82 main_v87

def fn_part2 {F : FTy → Type} [FloatOps F] (main_arg0 : FVec F S64x32 .f32) (main_arg1 : FVec F S256x32 .f32) (main_arg2 : FVec F S1024x32 .f32) (main_arg3 : FVec F S4096x32 .f32) (main_arg7 : FVec F S64x32x16x16 .f32) (main_arg9 : FVec F S4096x32 .f32) (main_arg10 : FVec F S4x32x32x3x3 .f32) (main_arg11 : FVec F S4x32 .f32) (main_v32 : FVec F S64x32x16x16 .f32) (main_v34 : IVec S_ 1) (main_v40 : FVec F S64x32x16x16 .f32) (main_v41 : FVec F S64x32x16x16 .f32) (main_cst_4 : FVec F S_ .f32) : IVec S_ 1 :=
  let main_v42 : FVec F S64x32x16x16 .f32 := broadcastInDim S64x32x16x16 ![] bcast_S_S64x32x16x16 main_cst_4
  let main_v43 : FVec F S64x32x16x16 .f32 := mulf main_v41 main_v42
  let main_v44 : FVec F S64x32x16x16 .f32 := addf main_v40 main_v43
  let main_v45 : FVec F S64x32x16x16 .f32 := subf main_v32 main_v44
  let main_v46 : IVec S_ 1 := fn_finite_0 (F := F) main_arg7
  let main_v47 : IVec S_ 1 := andi main_v34 main_v46
  let main_v48 : FVec F S1x32x32x3x3 .f32 := (extractStridedSlice S1x32x32x3x3 ![3, 0, 0, 0, 0] · slices_S4x32x32x3x3_S1x32x32x3x3_3_0_0_0_0) main_arg10
  let main_v49 : FVec F S32x32x3x3 .f32 := shapeCast S32x32x3x3 main_v48 shapeCasts_S1x32x32x3x3_S32x32x3x3
  let main_v50 : FVec F S1x32 .f32 := (extractStridedSlice S1x32 ![3, 0] · slices_S4x32_S1x32_3_0) main_arg11
  let main_v51 : FVec F S32 .f32 := shapeCast S32 main_v50 shapeCasts_S1x32_S32
  let main_cst_5 : FVec F S_ .f32 := constant S_ .f32 0x3F000000#32
  let main_v52 : FVec F S64x32x16x16 .f32 := broadcastInDim S64x32x16x16 ![] bcast_S_S64x32x16x16 main_cst_5
  let main_v53 : FVec F S64x32x16x16 .f32 := mulf main_arg7 main_v52
  let main_v54 : FVec F S64x32x16x16 .f32 := fn_conv2d_same (F := F) main_arg7 main_v49 main_v51
  let main_cst_6 : FVec F S_ .f32 := constant S_ .f32 0x3F000000#32
  let main_v55 : FVec F S64x32x16x16 .f32 := broadcastInDim S64x32x16x16 ![] bcast_S_S64x32x16x16 main_cst_6
  let main_v56 : FVec F S64x32x16x16 .f32 := mulf main_v54 main_v55
  let main_v57 : FVec F S64x32x16x16 .f32 := addf main_v53 main_v56
  let main_v58 : FVec F S64x32x16x16 .f32 := subf main_v45 main_v57
  let main_v59 : FVec F S64x4096 .f32 := fn_similarities (F := F) main_arg0 main_arg9
  let main_v60 : IVec S_ 1 := fn_finite_4 (F := F) main_arg0
  let main_v61 : IVec S64 32 := fn_argmax (F := F) main_v59
  let main_v62 : IVec S_ 1 := fn_chosen_alone (F := F) main_v59 main_v61
  let main_v63 : IVec S_ 1 := andi main_v60 main_v62
  fn_part3 (F := F) main_arg1 main_arg2 main_arg3 main_arg9 main_v47 main_v58 main_v63

def fn_part1 {F : FTy → Type} [FloatOps F] (main_arg0 : FVec F S64x32 .f32) (main_arg1 : FVec F S256x32 .f32) (main_arg2 : FVec F S1024x32 .f32) (main_arg3 : FVec F S4096x32 .f32) (main_arg5 : FVec F S64x32x16x16 .f32) (main_arg6 : FVec F S64x32x16x16 .f32) (main_arg7 : FVec F S64x32x16x16 .f32) (main_arg9 : FVec F S4096x32 .f32) (main_arg10 : FVec F S4x32x32x3x3 .f32) (main_arg11 : FVec F S4x32 .f32) (main_v19 : FVec F S64x32x16x16 .f32) (main_v21 : IVec S_ 1) : IVec S_ 1 :=
  let main_v22 : FVec F S1x32x32x3x3 .f32 := (extractStridedSlice S1x32x32x3x3 ![1, 0, 0, 0, 0] · slices_S4x32x32x3x3_S1x32x32x3x3_1_0_0_0_0) main_arg10
  let main_v23 : FVec F S32x32x3x3 .f32 := shapeCast S32x32x3x3 main_v22 shapeCasts_S1x32x32x3x3_S32x32x3x3
  let main_v24 : FVec F S1x32 .f32 := (extractStridedSlice S1x32 ![1, 0] · slices_S4x32_S1x32_1_0) main_arg11
  let main_v25 : FVec F S32 .f32 := shapeCast S32 main_v24 shapeCasts_S1x32_S32
  let main_cst_1 : FVec F S_ .f32 := constant S_ .f32 0x3F000000#32
  let main_v26 : FVec F S64x32x16x16 .f32 := broadcastInDim S64x32x16x16 ![] bcast_S_S64x32x16x16 main_cst_1
  let main_v27 : FVec F S64x32x16x16 .f32 := mulf main_arg5 main_v26
  let main_v28 : FVec F S64x32x16x16 .f32 := fn_conv2d_same (F := F) main_arg5 main_v23 main_v25
  let main_cst_2 : FVec F S_ .f32 := constant S_ .f32 0x3F000000#32
  let main_v29 : FVec F S64x32x16x16 .f32 := broadcastInDim S64x32x16x16 ![] bcast_S_S64x32x16x16 main_cst_2
  let main_v30 : FVec F S64x32x16x16 .f32 := mulf main_v28 main_v29
  let main_v31 : FVec F S64x32x16x16 .f32 := addf main_v27 main_v30
  let main_v32 : FVec F S64x32x16x16 .f32 := subf main_v19 main_v31
  let main_v33 : IVec S_ 1 := fn_finite_0 (F := F) main_arg6
  let main_v34 : IVec S_ 1 := andi main_v21 main_v33
  let main_v35 : FVec F S1x32x32x3x3 .f32 := (extractStridedSlice S1x32x32x3x3 ![2, 0, 0, 0, 0] · slices_S4x32x32x3x3_S1x32x32x3x3_2_0_0_0_0) main_arg10
  let main_v36 : FVec F S32x32x3x3 .f32 := shapeCast S32x32x3x3 main_v35 shapeCasts_S1x32x32x3x3_S32x32x3x3
  let main_v37 : FVec F S1x32 .f32 := (extractStridedSlice S1x32 ![2, 0] · slices_S4x32_S1x32_2_0) main_arg11
  let main_v38 : FVec F S32 .f32 := shapeCast S32 main_v37 shapeCasts_S1x32_S32
  let main_cst_3 : FVec F S_ .f32 := constant S_ .f32 0x3F000000#32
  let main_v39 : FVec F S64x32x16x16 .f32 := broadcastInDim S64x32x16x16 ![] bcast_S_S64x32x16x16 main_cst_3
  let main_v40 : FVec F S64x32x16x16 .f32 := mulf main_arg6 main_v39
  let main_v41 : FVec F S64x32x16x16 .f32 := fn_conv2d_same (F := F) main_arg6 main_v36 main_v38
  let main_cst_4 : FVec F S_ .f32 := constant S_ .f32 0x3F000000#32
  fn_part2 (F := F) main_arg0 main_arg1 main_arg2 main_arg3 main_arg7 main_arg9 main_arg10 main_arg11 main_v32 main_v34 main_v40 main_v41 main_cst_4

def fn {F : FTy → Type} [FloatOps F] (main_arg0 : FVec F S64x32 .f32) (main_arg1 : FVec F S256x32 .f32) (main_arg2 : FVec F S1024x32 .f32) (main_arg3 : FVec F S4096x32 .f32) (main_arg4 : FVec F S64x32x16x16 .f32) (main_arg5 : FVec F S64x32x16x16 .f32) (main_arg6 : FVec F S64x32x16x16 .f32) (main_arg7 : FVec F S64x32x16x16 .f32) (main_arg8 : FVec F S64x32x16x16 .f32) (main_arg9 : FVec F S4096x32 .f32) (main_arg10 : FVec F S4x32x32x3x3 .f32) (main_arg11 : FVec F S4x32 .f32) : IVec S_ 1 :=
  let main_v0 : IVec S_ 1 := fn_finite (F := F) main_arg9
  let main_v1 : IVec S_ 1 := fn_finite_0 (F := F) main_arg8
  let main_v2 : IVec S_ 1 := andi main_v0 main_v1
  let main_v3 : IVec S_ 1 := fn_finite_1 (F := F) main_arg10
  let main_v4 : IVec S_ 1 := andi main_v2 main_v3
  let main_v5 : IVec S_ 1 := fn_finite_2 (F := F) main_arg11
  let main_v6 : IVec S_ 1 := andi main_v4 main_v5
  let main_v7 : IVec S_ 1 := fn_finite_0 (F := F) main_arg4
  let main_v8 : IVec S_ 1 := andi main_v6 main_v7
  let main_v9 : FVec F S1x32x32x3x3 .f32 := (extractStridedSlice S1x32x32x3x3 ![0, 0, 0, 0, 0] · slices_S4x32x32x3x3_S1x32x32x3x3_0_0_0_0_0) main_arg10
  let main_v10 : FVec F S32x32x3x3 .f32 := shapeCast S32x32x3x3 main_v9 shapeCasts_S1x32x32x3x3_S32x32x3x3
  let main_v11 : FVec F S1x32 .f32 := (extractStridedSlice S1x32 ![0, 0] · slices_S4x32_S1x32_0_0) main_arg11
  let main_v12 : FVec F S32 .f32 := shapeCast S32 main_v11 shapeCasts_S1x32_S32
  let main_cst : FVec F S_ .f32 := constant S_ .f32 0x3F000000#32
  let main_v13 : FVec F S64x32x16x16 .f32 := broadcastInDim S64x32x16x16 ![] bcast_S_S64x32x16x16 main_cst
  let main_v14 : FVec F S64x32x16x16 .f32 := mulf main_arg4 main_v13
  let main_v15 : FVec F S64x32x16x16 .f32 := fn_conv2d_same (F := F) main_arg4 main_v10 main_v12
  let main_cst_0 : FVec F S_ .f32 := constant S_ .f32 0x3F000000#32
  let main_v16 : FVec F S64x32x16x16 .f32 := broadcastInDim S64x32x16x16 ![] bcast_S_S64x32x16x16 main_cst_0
  let main_v17 : FVec F S64x32x16x16 .f32 := mulf main_v15 main_v16
  let main_v18 : FVec F S64x32x16x16 .f32 := addf main_v14 main_v17
  let main_v19 : FVec F S64x32x16x16 .f32 := subf main_arg8 main_v18
  let main_v20 : IVec S_ 1 := fn_finite_0 (F := F) main_arg5
  let main_v21 : IVec S_ 1 := andi main_v8 main_v20
  fn_part1 (F := F) main_arg0 main_arg1 main_arg2 main_arg3 main_arg5 main_arg6 main_arg7 main_arg9 main_arg10 main_arg11 main_v19 main_v21
-- ==== Kernel.lean ====
abbrev S64x32x16x16 : Shape := ⟨4, ![64, 32, 16, 16]⟩
abbrev S4096x32 : Shape := ⟨2, ![4096, 32]⟩
abbrev S4x32x32x3x3 : Shape := ⟨5, ![4, 32, 32, 3, 3]⟩
abbrev S4x32 : Shape := ⟨2, ![4, 32]⟩
abbrev S2048x256 : Shape := ⟨2, ![2048, 256]⟩
abbrev S64x16x16x32 : Shape := ⟨4, ![64, 16, 16, 32]⟩
abbrev S16384x32 : Shape := ⟨2, ![16384, 32]⟩
abbrev S256x64 : Shape := ⟨2, ![256, 64]⟩
abbrev S_ : Shape := ⟨0, ![]⟩
abbrev S512x64 : Shape := ⟨2, ![512, 64]⟩
abbrev S2048x64 : Shape := ⟨2, ![2048, 64]⟩
abbrev S16 : Shape := ⟨1, ![16]⟩
abbrev S1 : Shape := ⟨1, ![1]⟩
abbrev S1x16 : Shape := ⟨2, ![1, 16]⟩
abbrev S1x1 : Shape := ⟨2, ![1, 1]⟩
abbrev S16x1 : Shape := ⟨2, ![16, 1]⟩
abbrev S16x1x1x1 : Shape := ⟨4, ![16, 1, 1, 1]⟩
abbrev S1x16x1x1 : Shape := ⟨4, ![1, 16, 1, 1]⟩
abbrev S16x16x1x1 : Shape := ⟨4, ![16, 16, 1, 1]⟩
abbrev S256x1 : Shape := ⟨2, ![256, 1]⟩
abbrev S1x256 : Shape := ⟨2, ![1, 256]⟩
abbrev S192x256 : Shape := ⟨2, ![192, 256]⟩
abbrev S2 : Shape := ⟨1, ![2]⟩
abbrev S2x1 : Shape := ⟨2, ![2, 1]⟩
abbrev S2x16 : Shape := ⟨2, ![2, 16]⟩
abbrev S16x2 : Shape := ⟨2, ![16, 2]⟩
abbrev S16x1x2x1 : Shape := ⟨4, ![16, 1, 2, 1]⟩
abbrev S1x16x1x2 : Shape := ⟨4, ![1, 16, 1, 2]⟩
abbrev S16x16x2x2 : Shape := ⟨4, ![16, 16, 2, 2]⟩
abbrev S256x4 : Shape := ⟨2, ![256, 4]⟩
abbrev S4x256 : Shape := ⟨2, ![4, 256]⟩
abbrev S4 : Shape := ⟨1, ![4]⟩
abbrev S4x1 : Shape := ⟨2, ![4, 1]⟩
abbrev S4x16 : Shape := ⟨2, ![4, 16]⟩
abbrev S16x4 : Shape := ⟨2, ![16, 4]⟩
abbrev S16x1x4x1 : Shape := ⟨4, ![16, 1, 4, 1]⟩
abbrev S1x16x1x4 : Shape := ⟨4, ![1, 16, 1, 4]⟩
abbrev S16x16x4x4 : Shape := ⟨4, ![16, 16, 4, 4]⟩
abbrev S256x16 : Shape := ⟨2, ![256, 16]⟩
abbrev S16x256 : Shape := ⟨2, ![16, 256]⟩
abbrev S8 : Shape := ⟨1, ![8]⟩
abbrev S8x1 : Shape := ⟨2, ![8, 1]⟩
abbrev S8x16 : Shape := ⟨2, ![8, 16]⟩
abbrev S16x8 : Shape := ⟨2, ![16, 8]⟩
abbrev S16x1x8x1 : Shape := ⟨4, ![16, 1, 8, 1]⟩
abbrev S1x16x1x8 : Shape := ⟨4, ![1, 16, 1, 8]⟩
abbrev S16x16x8x8 : Shape := ⟨4, ![16, 16, 8, 8]⟩
abbrev S64x256 : Shape := ⟨2, ![64, 256]⟩
abbrev S768x256 : Shape := ⟨2, ![768, 256]⟩
abbrev S1x32x32x1x1 : Shape := ⟨5, ![1, 32, 32, 1, 1]⟩
abbrev S32x32 : Shape := ⟨2, ![32, 32]⟩
abbrev S288x32 : Shape := ⟨2, ![288, 32]⟩
abbrev S1152x32 : Shape := ⟨2, ![1152, 32]⟩
abbrev S1x32 : Shape := ⟨2, ![1, 32]⟩
abbrev S32 : Shape := ⟨1, ![32]⟩
abbrev S8x32 : Shape := ⟨2, ![8, 32]⟩
abbrev S8x128 : Shape := ⟨2, ![8, 128]⟩
abbrev S8x4096 : Shape := ⟨2, ![8, 4096]⟩
abbrev S4096 : Shape := ⟨1, ![4096]⟩
abbrev S4096x1 : Shape := ⟨2, ![4096, 1]⟩
abbrev S4096x96 : Shape := ⟨2, ![4096, 96]⟩
abbrev S4096x64 : Shape := ⟨2, ![4096, 64]⟩
abbrev S512x4 : Shape := ⟨2, ![512, 4]⟩
abbrev S2048x512 : Shape := ⟨2, ![2048, 512]⟩
abbrev S2048x4 : Shape := ⟨2, ![2048, 4]⟩
abbrev S64x32x4 : Shape := ⟨3, ![64, 32, 4]⟩
abbrev S64x4x32 : Shape := ⟨3, ![64, 4, 32]⟩
abbrev S256x32 : Shape := ⟨2, ![256, 32]⟩
abbrev S64x32 : Shape := ⟨2, ![64, 32]⟩
abbrev S64x96 : Shape := ⟨2, ![64, 96]⟩
abbrev S64x4096 : Shape := ⟨2, ![64, 4096]⟩
abbrev S64 : Shape := ⟨1, ![64]⟩
abbrev S64x1 : Shape := ⟨2, ![64, 1]⟩
abbrev S64x64 : Shape := ⟨2, ![64, 64]⟩
abbrev S1x4096 : Shape := ⟨2, ![1, 4096]⟩
abbrev S64x1x32 : Shape := ⟨3, ![64, 1, 32]⟩
abbrev S64x256x32 : Shape := ⟨3, ![64, 256, 32]⟩
abbrev S2048x32 : Shape := ⟨2, ![2048, 32]⟩
abbrev S2048x1 : Shape := ⟨2, ![2048, 1]⟩
abbrev S17x32 : Shape := ⟨2, ![17, 32]⟩
abbrev S2031x32 : Shape := ⟨2, ![2031, 32]⟩
abbrev S16x32 : Shape := ⟨2, ![16, 32]⟩
abbrev S2032x32 : Shape := ⟨2, ![2032, 32]⟩
abbrev S15x32 : Shape := ⟨2, ![15, 32]⟩
abbrev S2033x32 : Shape := ⟨2, ![2033, 32]⟩
abbrev S2047x32 : Shape := ⟨2, ![2047, 32]⟩
abbrev S2048x192 : Shape := ⟨2, ![2048, 192]⟩
abbrev S192x32 : Shape := ⟨2, ![192, 32]⟩
abbrev S2048x96 : Shape := ⟨2, ![2048, 96]⟩
abbrev S96x32 : Shape := ⟨2, ![96, 32]⟩
abbrev S64x32x256 : Shape := ⟨3, ![64, 32, 256]⟩
abbrev S256x96 : Shape := ⟨2, ![256, 96]⟩
abbrev S256x4096 : Shape := ⟨2, ![256, 4096]⟩
abbrev S256 : Shape := ⟨1, ![256]⟩
abbrev S12x256 : Shape := ⟨2, ![12, 256]⟩
abbrev S2048x12 : Shape := ⟨2, ![2048, 12]⟩
abbrev S512x16 : Shape := ⟨2, ![512, 16]⟩
abbrev S2048x16 : Shape := ⟨2, ![2048, 16]⟩
abbrev S64x32x16 : Shape := ⟨3, ![64, 32, 16]⟩
abbrev S64x16x32 : Shape := ⟨3, ![64, 16, 32]⟩
abbrev S1024x32 : Shape := ⟨2, ![1024, 32]⟩
abbrev S48x256 : Shape := ⟨2, ![48, 256]⟩
abbrev S2048x48 : Shape := ⟨2, ![2048, 48]⟩
abbrev S64x32x64 : Shape := ⟨3, ![64, 32, 64]⟩
abbrev S64x64x32 : Shape := ⟨3, ![64, 64, 32]⟩
abbrev S512x32 : Shape := ⟨2, ![512, 32]⟩
abbrev S512x96 : Shape := ⟨2, ![512, 96]⟩
abbrev S512x4096 : Shape := ⟨2, ![512, 4096]⟩
abbrev S512 : Shape := ⟨1, ![512]⟩
abbrev S512x1 : Shape := ⟨2, ![512, 1]⟩
abbrev S1x1x4096 : Shape := ⟨3, ![1, 1, 4096]⟩
abbrev S1x1x1 : Shape := ⟨3, ![1, 1, 1]⟩
abbrev S1x2048x256 : Shape := ⟨3, ![1, 2048, 256]⟩

abbrev nBuf : Space → Nat
  | .hbm => 798
  | .vmem => 13
  | .smem => 0
  | _ => 0

abbrev hbmTy0_0 (i : Nat) : BufTy := match i % 128 with
  | 0 => ⟨S64x32x16x16, .f32⟩
  | 1 => ⟨S4096x32, .f32⟩
  | 2 => ⟨S4x32x32x3x3, .f32⟩
  | 3 => ⟨S4x32, .f32⟩
  | 4 => ⟨S2048x256, .f32⟩
  | 5 => ⟨S64x16x16x32, .f32⟩
  | 6 => ⟨S16384x32, .f32⟩
  | 7 => ⟨S256x64, .i32⟩
  | 8 => ⟨S256x64, .i32⟩
  | 9 => ⟨S_, .i32⟩
  | 10 => ⟨S256x64, .i32⟩
  | 11 => ⟨S256x64, .i32⟩
  | 12 => ⟨S_, .i32⟩
  | 13 => ⟨S256x64, .i32⟩
  | 14 => ⟨S256x64, .i32⟩
  | 15 => ⟨S_, .i32⟩
  | 16 => ⟨S256x64, .i32⟩
  | 17 => ⟨S256x64, .i32⟩
  | 18 => ⟨S_, .i32⟩
  | 19 => ⟨S256x64, .i32⟩
  | 20 => ⟨S256x64, .i32⟩
  | 21 => ⟨S256x64, .i32⟩
  | 22 => ⟨S256x64, .i1⟩
  | 23 => ⟨S_, .f32⟩
  | 24 => ⟨S_, .f32⟩
  | 25 => ⟨S256x64, .f32⟩
  | 26 => ⟨S256x64, .f32⟩
  | 27 => ⟨S256x64, .f32⟩
  | 28 => ⟨S256x64, .f32⟩
  | 29 => ⟨S256x64, .i32⟩
  | 30 => ⟨S256x64, .i32⟩
  | 31 => ⟨S_, .i32⟩
  | 32 => ⟨S256x64, .i32⟩
  | 33 => ⟨S256x64, .i32⟩
  | 34 => ⟨S_, .i32⟩
  | 35 => ⟨S256x64, .i32⟩
  | 36 => ⟨S256x64, .i32⟩
  | 37 => ⟨S_, .i32⟩
  | 38 => ⟨S256x64, .i32⟩
  | 39 => ⟨S256x64, .i32⟩
  | 40 => ⟨S_, .i32⟩
  | 41 => ⟨S256x64, .i32⟩
  | 42 => ⟨S256x64, .i32⟩
  | 43 => ⟨S256x64, .i32⟩
  | 44 => ⟨S256x64, .i1⟩
  | 45 => ⟨S_, .f32⟩
  | 46 => ⟨S_, .f32⟩
  | 47 => ⟨S256x64, .f32⟩
  | 48 => ⟨S256x64, .f32⟩
  | 49 => ⟨S256x64, .f32⟩
  | 50 => ⟨S256x64, .f32⟩
  | 51 => ⟨S512x64, .f32⟩
  | 52 => ⟨S256x64, .i32⟩
  | 53 => ⟨S256x64, .i32⟩
  | 54 => ⟨S_, .i32⟩
  | 55 => ⟨S256x64, .i32⟩
  | 56 => ⟨S256x64, .i32⟩
  | 57 => ⟨S_, .i32⟩
  | 58 => ⟨S256x64, .i32⟩
  | 59 => ⟨S256x64, .i32⟩
  | 60 => ⟨S_, .i32⟩
  | 61 => ⟨S256x64, .i32⟩
  | 62 => ⟨S256x64, .i32⟩
  | 63 => ⟨S_, .i32⟩
  | 64 => ⟨S256x64, .i32⟩
  | 65 => ⟨S256x64, .i32⟩
  | 66 => ⟨S256x64, .i32⟩
  | 67 => ⟨S256x64, .i1⟩
  | 68 => ⟨S_, .f32⟩
  | 69 => ⟨S_, .f32⟩
  | 70 => ⟨S256x64, .f32⟩
  | 71 => ⟨S256x64, .f32⟩
  | 72 => ⟨S256x64, .f32⟩
  | 73 => ⟨S256x64, .f32⟩
  | 74 => ⟨S256x64, .i32⟩
  | 75 => ⟨S256x64, .i32⟩
  | 76 => ⟨S_, .i32⟩
  | 77 => ⟨S256x64, .i32⟩
  | 78 => ⟨S256x64, .i32⟩
  | 79 => ⟨S_, .i32⟩
  | 80 => ⟨S256x64, .i32⟩
  | 81 => ⟨S256x64, .i32⟩
  | 82 => ⟨S_, .i32⟩
  | 83 => ⟨S256x64, .i32⟩
  | 84 => ⟨S256x64, .i32⟩
  | 85 => ⟨S_, .i32⟩
  | 86 => ⟨S256x64, .i32⟩
  | 87 => ⟨S256x64, .i32⟩
  | 88 => ⟨S256x64, .i32⟩
  | 89 => ⟨S256x64, .i1⟩
  | 90 => ⟨S_, .f32⟩
  | 91 => ⟨S_, .f32⟩
  | 92 => ⟨S256x64, .f32⟩
  | 93 => ⟨S256x64, .f32⟩
  | 94 => ⟨S256x64, .f32⟩
  | 95 => ⟨S256x64, .f32⟩
  | 96 => ⟨S512x64, .f32⟩
  | 97 => ⟨S256x64, .i32⟩
  | 98 => ⟨S256x64, .i32⟩
  | 99 => ⟨S_, .i32⟩
  | 100 => ⟨S256x64, .i32⟩
  | 101 => ⟨S256x64, .i32⟩
  | 102 => ⟨S_, .i32⟩
  | 103 => ⟨S256x64, .i32⟩
  | 104 => ⟨S256x64, .i32⟩
  | 105 => ⟨S_, .i32⟩
  | 106 => ⟨S256x64, .i32⟩
  | 107 => ⟨S256x64, .i32⟩
  | 108 => ⟨S_, .i32⟩
  | 109 => ⟨S256x64, .i32⟩
  | 110 => ⟨S256x64, .i32⟩
  | 111 => ⟨S256x64, .i32⟩
  | 112 => ⟨S256x64, .i1⟩
  | 113 => ⟨S_, .f32⟩
  | 114 => ⟨S_, .f32⟩
  | 115 => ⟨S256x64, .f32⟩
  | 116 => ⟨S256x64, .f32⟩
  | 117 => ⟨S256x64, .f32⟩
  | 118 => ⟨S256x64, .f32⟩
  | 119 => ⟨S256x64, .i32⟩
  | 120 => ⟨S256x64, .i32⟩
  | 121 => ⟨S_, .i32⟩
  | 122 => ⟨S256x64, .i32⟩
  | 123 => ⟨S256x64, .i32⟩
  | 124 => ⟨S_, .i32⟩
  | 125 => ⟨S256x64, .i32⟩
  | 126 => ⟨S256x64, .i32⟩
  | 127 => ⟨S_, .i32⟩
  | _ => ⟨S64x32x16x16, .f32⟩

abbrev hbmTy0_1 (i : Nat) : BufTy := match i % 128 with
  | 0 => ⟨S256x64, .i32⟩
  | 1 => ⟨S256x64, .i32⟩
  | 2 => ⟨S_, .i32⟩
  | 3 => ⟨S256x64, .i32⟩
  | 4 => ⟨S256x64, .i32⟩
  | 5 => ⟨S256x64, .i32⟩
  | 6 => ⟨S256x64, .i1⟩
  | 7 => ⟨S_, .f32⟩
  | 8 => ⟨S_, .f32⟩
  | 9 => ⟨S256x64, .f32⟩
  | 10 => ⟨S256x64, .f32⟩
  | 11 => ⟨S256x64, .f32⟩
  | 12 => ⟨S256x64, .f32⟩
  | 13 => ⟨S512x64, .f32⟩
  | 14 => ⟨S256x64, .i32⟩
  | 15 => ⟨S256x64, .i32⟩
  | 16 => ⟨S_, .i32⟩
  | 17 => ⟨S256x64, .i32⟩
  | 18 => ⟨S256x64, .i32⟩
  | 19 => ⟨S_, .i32⟩
  | 20 => ⟨S256x64, .i32⟩
  | 21 => ⟨S256x64, .i32⟩
  | 22 => ⟨S_, .i32⟩
  | 23 => ⟨S256x64, .i32⟩
  | 24 => ⟨S256x64, .i32⟩
  | 25 => ⟨S_, .i32⟩
  | 26 => ⟨S256x64, .i32⟩
  | 27 => ⟨S256x64, .i32⟩
  | 28 => ⟨S256x64, .i32⟩
  | 29 => ⟨S256x64, .i1⟩
  | 30 => ⟨S_, .f32⟩
  | 31 => ⟨S_, .f32⟩
  | 32 => ⟨S256x64, .f32⟩
  | 33 => ⟨S256x64, .f32⟩
  | 34 => ⟨S256x64, .f32⟩
  | 35 => ⟨S256x64, .f32⟩
  | 36 => ⟨S256x64, .i32⟩
  | 37 => ⟨S256x64, .i32⟩
  | 38 => ⟨S_, .i32⟩
  | 39 => ⟨S256x64, .i32⟩
  | 40 => ⟨S256x64, .i32⟩
  | 41 => ⟨S_, .i32⟩
  | 42 => ⟨S256x64, .i32⟩
  | 43 => ⟨S256x64, .i32⟩
  | 44 => ⟨S_, .i32⟩
  | 45 => ⟨S256x64, .i32⟩
  | 46 => ⟨S256x64, .i32⟩
  | 47 => ⟨S_, .i32⟩
  | 48 => ⟨S256x64, .i32⟩
  | 49 => ⟨S256x64, .i32⟩
  | 50 => ⟨S256x64, .i32⟩
  | 51 => ⟨S256x64, .i1⟩
  | 52 => ⟨S_, .f32⟩
  | 53 => ⟨S_, .f32⟩
  | 54 => ⟨S256x64, .f32⟩
  | 55 => ⟨S256x64, .f32⟩
  | 56 => ⟨S256x64, .f32⟩
  | 57 => ⟨S256x64, .f32⟩
  | 58 => ⟨S512x64, .f32⟩
  | 59 => ⟨S2048x64, .f32⟩
  | 60 => ⟨S2048x64, .bf16⟩
  | 61 => ⟨S_, .f32⟩
  | 62 => ⟨S_, .f32⟩
  | 63 => ⟨S_, .f32⟩
  | 64 => ⟨S16, .f32⟩
  | 65 => ⟨S_, .f32⟩
  | 66 => ⟨S16, .f32⟩
  | 67 => ⟨S16, .f32⟩
  | 68 => ⟨S_, .f32⟩
  | 69 => ⟨S16, .f32⟩
  | 70 => ⟨S16, .f32⟩
  | 71 => ⟨S_, .f32⟩
  | 72 => ⟨S16, .f32⟩
  | 73 => ⟨S16, .f32⟩
  | 74 => ⟨S_, .f32⟩
  | 75 => ⟨S16, .f32⟩
  | 76 => ⟨S16, .f32⟩
  | 77 => ⟨S1, .f32⟩
  | 78 => ⟨S1x16, .f32⟩
  | 79 => ⟨S1x1, .f32⟩
  | 80 => ⟨S1x16, .f32⟩
  | 81 => ⟨S1x16, .f32⟩
  | 82 => ⟨S1x16, .f32⟩
  | 83 => ⟨S_, .f32⟩
  | 84 => ⟨S1x16, .f32⟩
  | 85 => ⟨S1x16, .f32⟩
  | 86 => ⟨S_, .f32⟩
  | 87 => ⟨S1x16, .f32⟩
  | 88 => ⟨S1x16, .f32⟩
  | 89 => ⟨S_, .f32⟩
  | 90 => ⟨S1x16, .f32⟩
  | 91 => ⟨S1x16, .f32⟩
  | 92 => ⟨S1x16, .f32⟩
  | 93 => ⟨S1x16, .f32⟩
  | 94 => ⟨S_, .f32⟩
  | 95 => ⟨S1x16, .f32⟩
  | 96 => ⟨S1x16, .f32⟩
  | 97 => ⟨S_, .f32⟩
  | 98 => ⟨S1x16, .f32⟩
  | 99 => ⟨S1x16, .i1⟩
  | 100 => ⟨S_, .f32⟩
  | 101 => ⟨S1x16, .f32⟩
  | 102 => ⟨S1x16, .f32⟩
  | 103 => ⟨S_, .f32⟩
  | 104 => ⟨S1x16, .f32⟩
  | 105 => ⟨S1x16, .f32⟩
  | 106 => ⟨S1x16, .f32⟩
  | 107 => ⟨S_, .f32⟩
  | 108 => ⟨S1x16, .f32⟩
  | 109 => ⟨S1x16, .f32⟩
  | 110 => ⟨S1x16, .f32⟩
  | 111 => ⟨S_, .f32⟩
  | 112 => ⟨S1x16, .f32⟩
  | 113 => ⟨S1x16, .f32⟩
  | 114 => ⟨S1x16, .f32⟩
  | 115 => ⟨S_, .f32⟩
  | 116 => ⟨S1x16, .f32⟩
  | 117 => ⟨S1x16, .i1⟩
  | 118 => ⟨S_, .f32⟩
  | 119 => ⟨S_, .f32⟩
  | 120 => ⟨S1x16, .f32⟩
  | 121 => ⟨S1x16, .f32⟩
  | 122 => ⟨S_, .f32⟩
  | 123 => ⟨S16, .f32⟩
  | 124 => ⟨S1x16, .f32⟩
  | 125 => ⟨S1x16, .f32⟩
  | 126 => ⟨S_, .f32⟩
  | 127 => ⟨S1x16, .f32⟩
  | _ => ⟨S64x32x16x16, .f32⟩

abbrev hbmTy0_2 (i : Nat) : BufTy := match i % 128 with
  | 0 => ⟨S1x16, .i1⟩
  | 1 => ⟨S_, .f32⟩
  | 2 => ⟨S1x16, .f32⟩
  | 3 => ⟨S1x16, .i1⟩
  | 4 => ⟨S_, .i32⟩
  | 5 => ⟨S_, .f32⟩
  | 6 => ⟨S1x16, .f32⟩
  | 7 => ⟨S1x16, .f32⟩
  | 8 => ⟨S1x16, .f32⟩
  | 9 => ⟨S_, .i32⟩
  | 10 => ⟨S_, .f32⟩
  | 11 => ⟨S1x16, .f32⟩
  | 12 => ⟨S1x16, .f32⟩
  | 13 => ⟨S_, .f32⟩
  | 14 => ⟨S16, .f32⟩
  | 15 => ⟨S16, .i1⟩
  | 16 => ⟨S_, .f32⟩
  | 17 => ⟨S16, .f32⟩
  | 18 => ⟨S16, .i1⟩
  | 19 => ⟨S16, .i1⟩
  | 20 => ⟨S1x16, .i1⟩
  | 21 => ⟨S_, .i32⟩
  | 22 => ⟨S_, .f32⟩
  | 23 => ⟨S1x16, .f32⟩
  | 24 => ⟨S1x16, .f32⟩
  | 25 => ⟨S16x1, .f32⟩
  | 26 => ⟨S16x1x1x1, .f32⟩
  | 27 => ⟨S1x16x1x1, .f32⟩
  | 28 => ⟨S16x16x1x1, .f32⟩
  | 29 => ⟨S16x16x1x1, .f32⟩
  | 30 => ⟨S16x16x1x1, .f32⟩
  | 31 => ⟨S256x1, .f32⟩
  | 32 => ⟨S1x256, .f32⟩
  | 33 => ⟨S1x256, .bf16⟩
  | 34 => ⟨S1x256, .f32⟩
  | 35 => ⟨S1x256, .f32⟩
  | 36 => ⟨S1x256, .bf16⟩
  | 37 => ⟨S_, .bf16⟩
  | 38 => ⟨S192x256, .bf16⟩
  | 39 => ⟨S_, .i32⟩
  | 40 => ⟨S1, .i32⟩
  | 41 => ⟨S192x256, .bf16⟩
  | 42 => ⟨S_, .i32⟩
  | 43 => ⟨S1, .i32⟩
  | 44 => ⟨S192x256, .bf16⟩
  | 45 => ⟨S_, .i32⟩
  | 46 => ⟨S1, .i32⟩
  | 47 => ⟨S192x256, .bf16⟩
  | 48 => ⟨S_, .f32⟩
  | 49 => ⟨S_, .f32⟩
  | 50 => ⟨S_, .f32⟩
  | 51 => ⟨S16, .f32⟩
  | 52 => ⟨S_, .f32⟩
  | 53 => ⟨S16, .f32⟩
  | 54 => ⟨S16, .f32⟩
  | 55 => ⟨S_, .f32⟩
  | 56 => ⟨S16, .f32⟩
  | 57 => ⟨S16, .f32⟩
  | 58 => ⟨S_, .f32⟩
  | 59 => ⟨S16, .f32⟩
  | 60 => ⟨S16, .f32⟩
  | 61 => ⟨S_, .f32⟩
  | 62 => ⟨S16, .f32⟩
  | 63 => ⟨S16, .f32⟩
  | 64 => ⟨S2, .f32⟩
  | 65 => ⟨S1x16, .f32⟩
  | 66 => ⟨S2x1, .f32⟩
  | 67 => ⟨S2x16, .f32⟩
  | 68 => ⟨S2x16, .f32⟩
  | 69 => ⟨S2x16, .f32⟩
  | 70 => ⟨S2x16, .f32⟩
  | 71 => ⟨S_, .f32⟩
  | 72 => ⟨S2x16, .f32⟩
  | 73 => ⟨S2x16, .f32⟩
  | 74 => ⟨S_, .f32⟩
  | 75 => ⟨S2x16, .f32⟩
  | 76 => ⟨S2x16, .f32⟩
  | 77 => ⟨S_, .f32⟩
  | 78 => ⟨S2x16, .f32⟩
  | 79 => ⟨S2x16, .f32⟩
  | 80 => ⟨S2x16, .f32⟩
  | 81 => ⟨S2x16, .f32⟩
  | 82 => ⟨S_, .f32⟩
  | 83 => ⟨S2x16, .f32⟩
  | 84 => ⟨S2x16, .f32⟩
  | 85 => ⟨S_, .f32⟩
  | 86 => ⟨S2x16, .f32⟩
  | 87 => ⟨S2x16, .i1⟩
  | 88 => ⟨S_, .f32⟩
  | 89 => ⟨S2x16, .f32⟩
  | 90 => ⟨S2x16, .f32⟩
  | 91 => ⟨S_, .f32⟩
  | 92 => ⟨S2x16, .f32⟩
  | 93 => ⟨S2x16, .f32⟩
  | 94 => ⟨S2x16, .f32⟩
  | 95 => ⟨S_, .f32⟩
  | 96 => ⟨S2x16, .f32⟩
  | 97 => ⟨S2x16, .f32⟩
  | 98 => ⟨S2x16, .f32⟩
  | 99 => ⟨S_, .f32⟩
  | 100 => ⟨S2x16, .f32⟩
  | 101 => ⟨S2x16, .f32⟩
  | 102 => ⟨S2x16, .f32⟩
  | 103 => ⟨S_, .f32⟩
  | 104 => ⟨S2x16, .f32⟩
  | 105 => ⟨S2x16, .i1⟩
  | 106 => ⟨S_, .f32⟩
  | 107 => ⟨S_, .f32⟩
  | 108 => ⟨S2x16, .f32⟩
  | 109 => ⟨S2x16, .f32⟩
  | 110 => ⟨S_, .f32⟩
  | 111 => ⟨S16, .f32⟩
  | 112 => ⟨S1x16, .f32⟩
  | 113 => ⟨S1x16, .f32⟩
  | 114 => ⟨S_, .f32⟩
  | 115 => ⟨S1x16, .f32⟩
  | 116 => ⟨S1x16, .i1⟩
  | 117 => ⟨S_, .f32⟩
  | 118 => ⟨S1x16, .f32⟩
  | 119 => ⟨S1x16, .i1⟩
  | 120 => ⟨S_, .i32⟩
  | 121 => ⟨S_, .f32⟩
  | 122 => ⟨S1x16, .f32⟩
  | 123 => ⟨S1x16, .f32⟩
  | 124 => ⟨S2x16, .f32⟩
  | 125 => ⟨S2x16, .f32⟩
  | 126 => ⟨S_, .i32⟩
  | 127 => ⟨S_, .f32⟩
  | _ => ⟨S64x32x16x16, .f32⟩

abbrev hbmTy0_3 (i : Nat) : BufTy := match i % 128 with
  | 0 => ⟨S2x16, .i1⟩
  | 1 => ⟨S2x16, .f32⟩
  | 2 => ⟨S2x16, .f32⟩
  | 3 => ⟨S_, .f32⟩
  | 4 => ⟨S16, .f32⟩
  | 5 => ⟨S16, .i1⟩
  | 6 => ⟨S_, .f32⟩
  | 7 => ⟨S16, .f32⟩
  | 8 => ⟨S16, .i1⟩
  | 9 => ⟨S16, .i1⟩
  | 10 => ⟨S1x16, .i1⟩
  | 11 => ⟨S_, .i32⟩
  | 12 => ⟨S_, .f32⟩
  | 13 => ⟨S2x16, .i1⟩
  | 14 => ⟨S2x16, .f32⟩
  | 15 => ⟨S2x16, .f32⟩
  | 16 => ⟨S16x2, .f32⟩
  | 17 => ⟨S16x1x2x1, .f32⟩
  | 18 => ⟨S1x16x1x2, .f32⟩
  | 19 => ⟨S16x16x2x2, .f32⟩
  | 20 => ⟨S16x16x2x2, .f32⟩
  | 21 => ⟨S16x16x2x2, .f32⟩
  | 22 => ⟨S256x4, .f32⟩
  | 23 => ⟨S4x256, .f32⟩
  | 24 => ⟨S4x256, .bf16⟩
  | 25 => ⟨S4x256, .f32⟩
  | 26 => ⟨S4x256, .f32⟩
  | 27 => ⟨S4x256, .bf16⟩
  | 28 => ⟨S_, .bf16⟩
  | 29 => ⟨S192x256, .bf16⟩
  | 30 => ⟨S_, .i32⟩
  | 31 => ⟨S1, .i32⟩
  | 32 => ⟨S192x256, .bf16⟩
  | 33 => ⟨S_, .i32⟩
  | 34 => ⟨S1, .i32⟩
  | 35 => ⟨S192x256, .bf16⟩
  | 36 => ⟨S_, .i32⟩
  | 37 => ⟨S1, .i32⟩
  | 38 => ⟨S192x256, .bf16⟩
  | 39 => ⟨S_, .f32⟩
  | 40 => ⟨S_, .f32⟩
  | 41 => ⟨S_, .f32⟩
  | 42 => ⟨S16, .f32⟩
  | 43 => ⟨S_, .f32⟩
  | 44 => ⟨S16, .f32⟩
  | 45 => ⟨S16, .f32⟩
  | 46 => ⟨S_, .f32⟩
  | 47 => ⟨S16, .f32⟩
  | 48 => ⟨S16, .f32⟩
  | 49 => ⟨S_, .f32⟩
  | 50 => ⟨S16, .f32⟩
  | 51 => ⟨S16, .f32⟩
  | 52 => ⟨S_, .f32⟩
  | 53 => ⟨S16, .f32⟩
  | 54 => ⟨S16, .f32⟩
  | 55 => ⟨S4, .f32⟩
  | 56 => ⟨S1x16, .f32⟩
  | 57 => ⟨S4x1, .f32⟩
  | 58 => ⟨S4x16, .f32⟩
  | 59 => ⟨S4x16, .f32⟩
  | 60 => ⟨S4x16, .f32⟩
  | 61 => ⟨S4x16, .f32⟩
  | 62 => ⟨S_, .f32⟩
  | 63 => ⟨S4x16, .f32⟩
  | 64 => ⟨S4x16, .f32⟩
  | 65 => ⟨S_, .f32⟩
  | 66 => ⟨S4x16, .f32⟩
  | 67 => ⟨S4x16, .f32⟩
  | 68 => ⟨S_, .f32⟩
  | 69 => ⟨S4x16, .f32⟩
  | 70 => ⟨S4x16, .f32⟩
  | 71 => ⟨S4x16, .f32⟩
  | 72 => ⟨S4x16, .f32⟩
  | 73 => ⟨S_, .f32⟩
  | 74 => ⟨S4x16, .f32⟩
  | 75 => ⟨S4x16, .f32⟩
  | 76 => ⟨S_, .f32⟩
  | 77 => ⟨S4x16, .f32⟩
  | 78 => ⟨S4x16, .i1⟩
  | 79 => ⟨S_, .f32⟩
  | 80 => ⟨S4x16, .f32⟩
  | 81 => ⟨S4x16, .f32⟩
  | 82 => ⟨S_, .f32⟩
  | 83 => ⟨S4x16, .f32⟩
  | 84 => ⟨S4x16, .f32⟩
  | 85 => ⟨S4x16, .f32⟩
  | 86 => ⟨S_, .f32⟩
  | 87 => ⟨S4x16, .f32⟩
  | 88 => ⟨S4x16, .f32⟩
  | 89 => ⟨S4x16, .f32⟩
  | 90 => ⟨S_, .f32⟩
  | 91 => ⟨S4x16, .f32⟩
  | 92 => ⟨S4x16, .f32⟩
  | 93 => ⟨S4x16, .f32⟩
  | 94 => ⟨S_, .f32⟩
  | 95 => ⟨S4x16, .f32⟩
  | 96 => ⟨S4x16, .i1⟩
  | 97 => ⟨S_, .f32⟩
  | 98 => ⟨S_, .f32⟩
  | 99 => ⟨S4x16, .f32⟩
  | 100 => ⟨S4x16, .f32⟩
  | 101 => ⟨S_, .f32⟩
  | 102 => ⟨S16, .f32⟩
  | 103 => ⟨S1x16, .f32⟩
  | 104 => ⟨S1x16, .f32⟩
  | 105 => ⟨S_, .f32⟩
  | 106 => ⟨S1x16, .f32⟩
  | 107 => ⟨S1x16, .i1⟩
  | 108 => ⟨S_, .f32⟩
  | 109 => ⟨S1x16, .f32⟩
  | 110 => ⟨S1x16, .i1⟩
  | 111 => ⟨S_, .i32⟩
  | 112 => ⟨S_, .f32⟩
  | 113 => ⟨S1x16, .f32⟩
  | 114 => ⟨S1x16, .f32⟩
  | 115 => ⟨S4x16, .f32⟩
  | 116 => ⟨S4x16, .f32⟩
  | 117 => ⟨S_, .i32⟩
  | 118 => ⟨S_, .f32⟩
  | 119 => ⟨S4x16, .i1⟩
  | 120 => ⟨S4x16, .f32⟩
  | 121 => ⟨S4x16, .f32⟩
  | 122 => ⟨S_, .f32⟩
  | 123 => ⟨S16, .f32⟩
  | 124 => ⟨S16, .i1⟩
  | 125 => ⟨S_, .f32⟩
  | 126 => ⟨S16, .f32⟩
  | 127 => ⟨S16, .i1⟩
  | _ => ⟨S64x32x16x16, .f32⟩

abbrev hbmTy0_4 (i : Nat) : BufTy := match i % 128 with
  | 0 => ⟨S16, .i1⟩
  | 1 => ⟨S1x16, .i1⟩
  | 2 => ⟨S_, .i32⟩
  | 3 => ⟨S_, .f32⟩
  | 4 => ⟨S4x16, .i1⟩
  | 5 => ⟨S4x16, .f32⟩
  | 6 => ⟨S4x16, .f32⟩
  | 7 => ⟨S16x4, .f32⟩
  | 8 => ⟨S16x1x4x1, .f32⟩
  | 9 => ⟨S1x16x1x4, .f32⟩
  | 10 => ⟨S16x16x4x4, .f32⟩
  | 11 => ⟨S16x16x4x4, .f32⟩
  | 12 => ⟨S16x16x4x4, .f32⟩
  | 13 => ⟨S256x16, .f32⟩
  | 14 => ⟨S16x256, .f32⟩
  | 15 => ⟨S16x256, .bf16⟩
  | 16 => ⟨S16x256, .f32⟩
  | 17 => ⟨S16x256, .f32⟩
  | 18 => ⟨S16x256, .bf16⟩
  | 19 => ⟨S_, .bf16⟩
  | 20 => ⟨S192x256, .bf16⟩
  | 21 => ⟨S_, .i32⟩
  | 22 => ⟨S1, .i32⟩
  | 23 => ⟨S192x256, .bf16⟩
  | 24 => ⟨S_, .i32⟩
  | 25 => ⟨S1, .i32⟩
  | 26 => ⟨S192x256, .bf16⟩
  | 27 => ⟨S_, .i32⟩
  | 28 => ⟨S1, .i32⟩
  | 29 => ⟨S192x256, .bf16⟩
  | 30 => ⟨S_, .f32⟩
  | 31 => ⟨S_, .f32⟩
  | 32 => ⟨S_, .f32⟩
  | 33 => ⟨S16, .f32⟩
  | 34 => ⟨S_, .f32⟩
  | 35 => ⟨S16, .f32⟩
  | 36 => ⟨S16, .f32⟩
  | 37 => ⟨S_, .f32⟩
  | 38 => ⟨S16, .f32⟩
  | 39 => ⟨S16, .f32⟩
  | 40 => ⟨S_, .f32⟩
  | 41 => ⟨S16, .f32⟩
  | 42 => ⟨S16, .f32⟩
  | 43 => ⟨S_, .f32⟩
  | 44 => ⟨S16, .f32⟩
  | 45 => ⟨S16, .f32⟩
  | 46 => ⟨S8, .f32⟩
  | 47 => ⟨S1x16, .f32⟩
  | 48 => ⟨S8x1, .f32⟩
  | 49 => ⟨S8x16, .f32⟩
  | 50 => ⟨S8x16, .f32⟩
  | 51 => ⟨S8x16, .f32⟩
  | 52 => ⟨S8x16, .f32⟩
  | 53 => ⟨S_, .f32⟩
  | 54 => ⟨S8x16, .f32⟩
  | 55 => ⟨S8x16, .f32⟩
  | 56 => ⟨S_, .f32⟩
  | 57 => ⟨S8x16, .f32⟩
  | 58 => ⟨S8x16, .f32⟩
  | 59 => ⟨S_, .f32⟩
  | 60 => ⟨S8x16, .f32⟩
  | 61 => ⟨S8x16, .f32⟩
  | 62 => ⟨S8x16, .f32⟩
  | 63 => ⟨S8x16, .f32⟩
  | 64 => ⟨S_, .f32⟩
  | 65 => ⟨S8x16, .f32⟩
  | 66 => ⟨S8x16, .f32⟩
  | 67 => ⟨S_, .f32⟩
  | 68 => ⟨S8x16, .f32⟩
  | 69 => ⟨S8x16, .i1⟩
  | 70 => ⟨S_, .f32⟩
  | 71 => ⟨S8x16, .f32⟩
  | 72 => ⟨S8x16, .f32⟩
  | 73 => ⟨S_, .f32⟩
  | 74 => ⟨S8x16, .f32⟩
  | 75 => ⟨S8x16, .f32⟩
  | 76 => ⟨S8x16, .f32⟩
  | 77 => ⟨S_, .f32⟩
  | 78 => ⟨S8x16, .f32⟩
  | 79 => ⟨S8x16, .f32⟩
  | 80 => ⟨S8x16, .f32⟩
  | 81 => ⟨S_, .f32⟩
  | 82 => ⟨S8x16, .f32⟩
  | 83 => ⟨S8x16, .f32⟩
  | 84 => ⟨S8x16, .f32⟩
  | 85 => ⟨S_, .f32⟩
  | 86 => ⟨S8x16, .f32⟩
  | 87 => ⟨S8x16, .i1⟩
  | 88 => ⟨S_, .f32⟩
  | 89 => ⟨S_, .f32⟩
  | 90 => ⟨S8x16, .f32⟩
  | 91 => ⟨S8x16, .f32⟩
  | 92 => ⟨S_, .f32⟩
  | 93 => ⟨S16, .f32⟩
  | 94 => ⟨S1x16, .f32⟩
  | 95 => ⟨S1x16, .f32⟩
  | 96 => ⟨S_, .f32⟩
  | 97 => ⟨S1x16, .f32⟩
  | 98 => ⟨S1x16, .i1⟩
  | 99 => ⟨S_, .f32⟩
  | 100 => ⟨S1x16, .f32⟩
  | 101 => ⟨S1x16, .i1⟩
  | 102 => ⟨S_, .i32⟩
  | 103 => ⟨S_, .f32⟩
  | 104 => ⟨S1x16, .f32⟩
  | 105 => ⟨S1x16, .f32⟩
  | 106 => ⟨S8x16, .f32⟩
  | 107 => ⟨S8x16, .f32⟩
  | 108 => ⟨S_, .i32⟩
  | 109 => ⟨S_, .f32⟩
  | 110 => ⟨S8x16, .i1⟩
  | 111 => ⟨S8x16, .f32⟩
  | 112 => ⟨S8x16, .f32⟩
  | 113 => ⟨S_, .f32⟩
  | 114 => ⟨S16, .f32⟩
  | 115 => ⟨S16, .i1⟩
  | 116 => ⟨S_, .f32⟩
  | 117 => ⟨S16, .f32⟩
  | 118 => ⟨S16, .i1⟩
  | 119 => ⟨S16, .i1⟩
  | 120 => ⟨S1x16, .i1⟩
  | 121 => ⟨S_, .i32⟩
  | 122 => ⟨S_, .f32⟩
  | 123 => ⟨S8x16, .i1⟩
  | 124 => ⟨S8x16, .f32⟩
  | 125 => ⟨S8x16, .f32⟩
  | 126 => ⟨S16x8, .f32⟩
  | 127 => ⟨S16x1x8x1, .f32⟩
  | _ => ⟨S64x32x16x16, .f32⟩

abbrev hbmTy0_5 (i : Nat) : BufTy := match i % 128 with
  | 0 => ⟨S1x16x1x8, .f32⟩
  | 1 => ⟨S16x16x8x8, .f32⟩
  | 2 => ⟨S16x16x8x8, .f32⟩
  | 3 => ⟨S16x16x8x8, .f32⟩
  | 4 => ⟨S256x64, .f32⟩
  | 5 => ⟨S64x256, .f32⟩
  | 6 => ⟨S64x256, .bf16⟩
  | 7 => ⟨S64x256, .f32⟩
  | 8 => ⟨S64x256, .f32⟩
  | 9 => ⟨S64x256, .bf16⟩
  | 10 => ⟨S_, .bf16⟩
  | 11 => ⟨S192x256, .bf16⟩
  | 12 => ⟨S_, .i32⟩
  | 13 => ⟨S1, .i32⟩
  | 14 => ⟨S192x256, .bf16⟩
  | 15 => ⟨S_, .i32⟩
  | 16 => ⟨S1, .i32⟩
  | 17 => ⟨S192x256, .bf16⟩
  | 18 => ⟨S_, .i32⟩
  | 19 => ⟨S1, .i32⟩
  | 20 => ⟨S192x256, .bf16⟩
  | 21 => ⟨S768x256, .bf16⟩
  | 22 => ⟨S1x32x32x1x1, .f32⟩
  | 23 => ⟨S32x32, .f32⟩
  | 24 => ⟨S32x32, .f32⟩
  | 25 => ⟨S1x32x32x1x1, .f32⟩
  | 26 => ⟨S32x32, .f32⟩
  | 27 => ⟨S32x32, .f32⟩
  | 28 => ⟨S1x32x32x1x1, .f32⟩
  | 29 => ⟨S32x32, .f32⟩
  | 30 => ⟨S32x32, .f32⟩
  | 31 => ⟨S1x32x32x1x1, .f32⟩
  | 32 => ⟨S32x32, .f32⟩
  | 33 => ⟨S32x32, .f32⟩
  | 34 => ⟨S1x32x32x1x1, .f32⟩
  | 35 => ⟨S32x32, .f32⟩
  | 36 => ⟨S32x32, .f32⟩
  | 37 => ⟨S1x32x32x1x1, .f32⟩
  | 38 => ⟨S32x32, .f32⟩
  | 39 => ⟨S32x32, .f32⟩
  | 40 => ⟨S1x32x32x1x1, .f32⟩
  | 41 => ⟨S32x32, .f32⟩
  | 42 => ⟨S32x32, .f32⟩
  | 43 => ⟨S1x32x32x1x1, .f32⟩
  | 44 => ⟨S32x32, .f32⟩
  | 45 => ⟨S32x32, .f32⟩
  | 46 => ⟨S1x32x32x1x1, .f32⟩
  | 47 => ⟨S32x32, .f32⟩
  | 48 => ⟨S32x32, .f32⟩
  | 49 => ⟨S288x32, .f32⟩
  | 50 => ⟨S1x32x32x1x1, .f32⟩
  | 51 => ⟨S32x32, .f32⟩
  | 52 => ⟨S32x32, .f32⟩
  | 53 => ⟨S1x32x32x1x1, .f32⟩
  | 54 => ⟨S32x32, .f32⟩
  | 55 => ⟨S32x32, .f32⟩
  | 56 => ⟨S1x32x32x1x1, .f32⟩
  | 57 => ⟨S32x32, .f32⟩
  | 58 => ⟨S32x32, .f32⟩
  | 59 => ⟨S1x32x32x1x1, .f32⟩
  | 60 => ⟨S32x32, .f32⟩
  | 61 => ⟨S32x32, .f32⟩
  | 62 => ⟨S1x32x32x1x1, .f32⟩
  | 63 => ⟨S32x32, .f32⟩
  | 64 => ⟨S32x32, .f32⟩
  | 65 => ⟨S1x32x32x1x1, .f32⟩
  | 66 => ⟨S32x32, .f32⟩
  | 67 => ⟨S32x32, .f32⟩
  | 68 => ⟨S1x32x32x1x1, .f32⟩
  | 69 => ⟨S32x32, .f32⟩
  | 70 => ⟨S32x32, .f32⟩
  | 71 => ⟨S1x32x32x1x1, .f32⟩
  | 72 => ⟨S32x32, .f32⟩
  | 73 => ⟨S32x32, .f32⟩
  | 74 => ⟨S1x32x32x1x1, .f32⟩
  | 75 => ⟨S32x32, .f32⟩
  | 76 => ⟨S32x32, .f32⟩
  | 77 => ⟨S288x32, .f32⟩
  | 78 => ⟨S1x32x32x1x1, .f32⟩
  | 79 => ⟨S32x32, .f32⟩
  | 80 => ⟨S32x32, .f32⟩
  | 81 => ⟨S1x32x32x1x1, .f32⟩
  | 82 => ⟨S32x32, .f32⟩
  | 83 => ⟨S32x32, .f32⟩
  | 84 => ⟨S1x32x32x1x1, .f32⟩
  | 85 => ⟨S32x32, .f32⟩
  | 86 => ⟨S32x32, .f32⟩
  | 87 => ⟨S1x32x32x1x1, .f32⟩
  | 88 => ⟨S32x32, .f32⟩
  | 89 => ⟨S32x32, .f32⟩
  | 90 => ⟨S1x32x32x1x1, .f32⟩
  | 91 => ⟨S32x32, .f32⟩
  | 92 => ⟨S32x32, .f32⟩
  | 93 => ⟨S1x32x32x1x1, .f32⟩
  | 94 => ⟨S32x32, .f32⟩
  | 95 => ⟨S32x32, .f32⟩
  | 96 => ⟨S1x32x32x1x1, .f32⟩
  | 97 => ⟨S32x32, .f32⟩
  | 98 => ⟨S32x32, .f32⟩
  | 99 => ⟨S1x32x32x1x1, .f32⟩
  | 100 => ⟨S32x32, .f32⟩
  | 101 => ⟨S32x32, .f32⟩
  | 102 => ⟨S1x32x32x1x1, .f32⟩
  | 103 => ⟨S32x32, .f32⟩
  | 104 => ⟨S32x32, .f32⟩
  | 105 => ⟨S288x32, .f32⟩
  | 106 => ⟨S1x32x32x1x1, .f32⟩
  | 107 => ⟨S32x32, .f32⟩
  | 108 => ⟨S32x32, .f32⟩
  | 109 => ⟨S1x32x32x1x1, .f32⟩
  | 110 => ⟨S32x32, .f32⟩
  | 111 => ⟨S32x32, .f32⟩
  | 112 => ⟨S1x32x32x1x1, .f32⟩
  | 113 => ⟨S32x32, .f32⟩
  | 114 => ⟨S32x32, .f32⟩
  | 115 => ⟨S1x32x32x1x1, .f32⟩
  | 116 => ⟨S32x32, .f32⟩
  | 117 => ⟨S32x32, .f32⟩
  | 118 => ⟨S1x32x32x1x1, .f32⟩
  | 119 => ⟨S32x32, .f32⟩
  | 120 => ⟨S32x32, .f32⟩
  | 121 => ⟨S1x32x32x1x1, .f32⟩
  | 122 => ⟨S32x32, .f32⟩
  | 123 => ⟨S32x32, .f32⟩
  | 124 => ⟨S1x32x32x1x1, .f32⟩
  | 125 => ⟨S32x32, .f32⟩
  | 126 => ⟨S32x32, .f32⟩
  | 127 => ⟨S1x32x32x1x1, .f32⟩
  | _ => ⟨S64x32x16x16, .f32⟩

abbrev hbmTy0_6 (i : Nat) : BufTy := match i % 128 with
  | 0 => ⟨S32x32, .f32⟩
  | 1 => ⟨S32x32, .f32⟩
  | 2 => ⟨S1x32x32x1x1, .f32⟩
  | 3 => ⟨S32x32, .f32⟩
  | 4 => ⟨S32x32, .f32⟩
  | 5 => ⟨S288x32, .f32⟩
  | 6 => ⟨S1152x32, .f32⟩
  | 7 => ⟨S1x32, .f32⟩
  | 8 => ⟨S32, .f32⟩
  | 9 => ⟨S1x32, .f32⟩
  | 10 => ⟨S8x32, .f32⟩
  | 11 => ⟨S1x32, .f32⟩
  | 12 => ⟨S32, .f32⟩
  | 13 => ⟨S1x32, .f32⟩
  | 14 => ⟨S8x32, .f32⟩
  | 15 => ⟨S1x32, .f32⟩
  | 16 => ⟨S32, .f32⟩
  | 17 => ⟨S1x32, .f32⟩
  | 18 => ⟨S8x32, .f32⟩
  | 19 => ⟨S1x32, .f32⟩
  | 20 => ⟨S32, .f32⟩
  | 21 => ⟨S1x32, .f32⟩
  | 22 => ⟨S8x32, .f32⟩
  | 23 => ⟨S32x32, .f32⟩
  | 24 => ⟨S2048x256, .f32⟩
  | 25 => ⟨S8x128, .f32⟩
  | 26 => ⟨S8x128, .f32⟩
  | 27 => ⟨S64x32x16x16, .f32⟩
  | 28 => ⟨S1x1, .f32⟩
  | 29 => ⟨S_, .f32⟩
  | _ => ⟨S64x32x16x16, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | _ => ⟨S64x32x16x16, .f32⟩

abbrev bufTy : (tb : Table) → Fin (tcTables nBuf tb) → BufTy
  | .hbm, ⟨i, _⟩ => hbmTy i
  | .local _ .vmem, ⟨0, _⟩ => ⟨S2048x256, .f32⟩
  | .local _ .vmem, ⟨1, _⟩ => ⟨S16384x32, .f32⟩
  | .local _ .vmem, ⟨2, _⟩ => ⟨S4096x32, .f32⟩
  | .local _ .vmem, ⟨3, _⟩ => ⟨S1152x32, .f32⟩
  | .local _ .vmem, ⟨4, _⟩ => ⟨S32x32, .f32⟩
  | .local _ .vmem, ⟨5, _⟩ => ⟨S2048x64, .bf16⟩
  | .local _ .vmem, ⟨6, _⟩ => ⟨S768x256, .bf16⟩
  | .local _ .vmem, ⟨7, _⟩ => ⟨S2048x256, .f32⟩
  | .local _ .vmem, ⟨8, _⟩ => ⟨S8x128, .f32⟩
  | .local _ .vmem, ⟨9, _⟩ => ⟨S8x128, .f32⟩
  | .local _ .vmem, ⟨10, _⟩ => ⟨S16384x32, .f32⟩
  | .local _ .vmem, ⟨11, _⟩ => ⟨S16384x32, .f32⟩
  | .local _ .vmem, ⟨12, _⟩ => ⟨S8x4096, .f32⟩
  | _, _ => ⟨S64x32x16x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_c : Ref sig .tc := ⟨.hbm, 9, rfl⟩
abbrev main_v5 : Ref sig .tc := ⟨.hbm, 10, rfl⟩
abbrev main_v6 : Ref sig .tc := ⟨.hbm, 11, rfl⟩
abbrev main_c_0 : Ref sig .tc := ⟨.hbm, 12, rfl⟩
abbrev main_v7 : Ref sig .tc := ⟨.hbm, 13, rfl⟩
abbrev main_v8 : Ref sig .tc := ⟨.hbm, 14, rfl⟩
abbrev main_c_1 : Ref sig .tc := ⟨.hbm, 15, rfl⟩
abbrev main_v9 : Ref sig .tc := ⟨.hbm, 16, rfl⟩
abbrev main_v10 : Ref sig .tc := ⟨.hbm, 17, rfl⟩
abbrev main_c_2 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst : Ref sig .tc := ⟨.hbm, 23, rfl⟩
abbrev main_cst_3 : Ref sig .tc := ⟨.hbm, 24, rfl⟩
abbrev main_call0_v0 : Ref sig .tc := ⟨.hbm, 25, rfl⟩
abbrev main_call0_v1 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_c_4 : Ref sig .tc := ⟨.hbm, 31, rfl⟩
abbrev main_v19 : Ref sig .tc := ⟨.hbm, 32, rfl⟩
abbrev main_v20 : Ref sig .tc := ⟨.hbm, 33, rfl⟩
abbrev main_c_5 : Ref sig .tc := ⟨.hbm, 34, rfl⟩
abbrev main_v21 : Ref sig .tc := ⟨.hbm, 35, rfl⟩
abbrev main_v22 : Ref sig .tc := ⟨.hbm, 36, rfl⟩
abbrev main_c_6 : Ref sig .tc := ⟨.hbm, 37, rfl⟩
abbrev main_v23 : Ref sig .tc := ⟨.hbm, 38, rfl⟩
abbrev main_v24 : Ref sig .tc := ⟨.hbm, 39, rfl⟩
abbrev main_c_7 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_8 : Ref sig .tc := ⟨.hbm, 45, rfl⟩
abbrev main_cst_9 : Ref sig .tc := ⟨.hbm, 46, rfl⟩
abbrev main_call1_v0 : Ref sig .tc := ⟨.hbm, 47, rfl⟩
abbrev main_call1_v1 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_c_10 : Ref sig .tc := ⟨.hbm, 54, rfl⟩
abbrev main_v34 : Ref sig .tc := ⟨.hbm, 55, rfl⟩
abbrev main_v35 : Ref sig .tc := ⟨.hbm, 56, rfl⟩
abbrev main_c_11 : Ref sig .tc := ⟨.hbm, 57, rfl⟩
abbrev main_v36 : Ref sig .tc := ⟨.hbm, 58, rfl⟩
abbrev main_v37 : Ref sig .tc := ⟨.hbm, 59, rfl⟩
abbrev main_c_12 : Ref sig .tc := ⟨.hbm, 60, rfl⟩
abbrev main_v38 : Ref sig .tc := ⟨.hbm, 61, rfl⟩
abbrev main_v39 : Ref sig .tc := ⟨.hbm, 62, rfl⟩
abbrev main_c_13 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_cst_14 : Ref sig .tc := ⟨.hbm, 68, rfl⟩
abbrev main_cst_15 : Ref sig .tc := ⟨.hbm, 69, rfl⟩
abbrev main_call2_v0 : Ref sig .tc := ⟨.hbm, 70, rfl⟩
abbrev main_call2_v1 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_c_16 : Ref sig .tc := ⟨.hbm, 76, rfl⟩
abbrev main_v48 : Ref sig .tc := ⟨.hbm, 77, rfl⟩
abbrev main_v49 : Ref sig .tc := ⟨.hbm, 78, rfl⟩
abbrev main_c_17 : Ref sig .tc := ⟨.hbm, 79, rfl⟩
abbrev main_v50 : Ref sig .tc := ⟨.hbm, 80, rfl⟩
abbrev main_v51 : Ref sig .tc := ⟨.hbm, 81, rfl⟩
abbrev main_c_18 : Ref sig .tc := ⟨.hbm, 82, rfl⟩
abbrev main_v52 : Ref sig .tc := ⟨.hbm, 83, rfl⟩
abbrev main_v53 : Ref sig .tc := ⟨.hbm, 84, rfl⟩
abbrev main_c_19 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_cst_20 : Ref sig .tc := ⟨.hbm, 90, rfl⟩
abbrev main_cst_21 : Ref sig .tc := ⟨.hbm, 91, rfl⟩
abbrev main_call3_v0 : Ref sig .tc := ⟨.hbm, 92, rfl⟩
abbrev main_call3_v1 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_c_22 : Ref sig .tc := ⟨.hbm, 99, rfl⟩
abbrev main_v63 : Ref sig .tc := ⟨.hbm, 100, rfl⟩
abbrev main_v64 : Ref sig .tc := ⟨.hbm, 101, rfl⟩
abbrev main_c_23 : Ref sig .tc := ⟨.hbm, 102, rfl⟩
abbrev main_v65 : Ref sig .tc := ⟨.hbm, 103, rfl⟩
abbrev main_v66 : Ref sig .tc := ⟨.hbm, 104, rfl⟩
abbrev main_c_24 : Ref sig .tc := ⟨.hbm, 105, rfl⟩
abbrev main_v67 : Ref sig .tc := ⟨.hbm, 106, rfl⟩
abbrev main_v68 : Ref sig .tc := ⟨.hbm, 107, rfl⟩
abbrev main_c_25 : Ref sig .tc := ⟨.hbm, 108, rfl⟩
abbrev main_v69 : Ref sig .tc := ⟨.hbm, 109, rfl⟩
abbrev main_v70 : Ref sig .tc := ⟨.hbm, 110, rfl⟩
abbrev main_v71 : Ref sig .tc := ⟨.hbm, 111, rfl⟩
abbrev main_v72 : Ref sig .tc := ⟨.hbm, 112, rfl⟩
abbrev main_cst_26 : Ref sig .tc := ⟨.hbm, 113, rfl⟩
abbrev main_cst_27 : Ref sig .tc := ⟨.hbm, 114, rfl⟩
abbrev main_call4_v0 : Ref sig .tc := ⟨.hbm, 115, rfl⟩
abbrev main_call4_v1 : Ref sig .tc := ⟨.hbm, 116, rfl⟩
abbrev main_v73 : Ref sig .tc := ⟨.hbm, 117, rfl⟩
abbrev main_v74 : Ref sig .tc := ⟨.hbm, 118, rfl⟩
abbrev main_v75 : Ref sig .tc := ⟨.hbm, 119, rfl⟩
abbrev main_v76 : Ref sig .tc := ⟨.hbm, 120, rfl⟩
abbrev main_c_28 : Ref sig .tc := ⟨.hbm, 121, rfl⟩
abbrev main_v77 : Ref sig .tc := ⟨.hbm, 122, rfl⟩
abbrev main_v78 : Ref sig .tc := ⟨.hbm, 123, rfl⟩
abbrev main_c_29 : Ref sig .tc := ⟨.hbm, 124, rfl⟩
abbrev main_v79 : Ref sig .tc := ⟨.hbm, 125, rfl⟩
abbrev main_v80 : Ref sig .tc := ⟨.hbm, 126, rfl⟩
abbrev main_c_30 : Ref sig .tc := ⟨.hbm, 127, rfl⟩
abbrev main_v81 : Ref sig .tc := ⟨.hbm, 128, rfl⟩
abbrev main_v82 : Ref sig .tc := ⟨.hbm, 129, rfl⟩
abbrev main_c_31 : Ref sig .tc := ⟨.hbm, 130, rfl⟩
abbrev main_v83 : Ref sig .tc := ⟨.hbm, 131, rfl⟩
abbrev main_v84 : Ref sig .tc := ⟨.hbm, 132, rfl⟩
abbrev main_v85 : Ref sig .tc := ⟨.hbm, 133, rfl⟩
abbrev main_v86 : Ref sig .tc := ⟨.hbm, 134, rfl⟩
abbrev main_cst_32 : Ref sig .tc := ⟨.hbm, 135, rfl⟩
abbrev main_cst_33 : Ref sig .tc := ⟨.hbm, 136, rfl⟩
abbrev main_call5_v0 : Ref sig .tc := ⟨.hbm, 137, rfl⟩
abbrev main_call5_v1 : Ref sig .tc := ⟨.hbm, 138, rfl⟩
abbrev main_v87 : Ref sig .tc := ⟨.hbm, 139, rfl⟩
abbrev main_v88 : Ref sig .tc := ⟨.hbm, 140, rfl⟩
abbrev main_v89 : Ref sig .tc := ⟨.hbm, 141, rfl⟩
abbrev main_v90 : Ref sig .tc := ⟨.hbm, 142, rfl⟩
abbrev main_v91 : Ref sig .tc := ⟨.hbm, 143, rfl⟩
abbrev main_c_34 : Ref sig .tc := ⟨.hbm, 144, rfl⟩
abbrev main_v92 : Ref sig .tc := ⟨.hbm, 145, rfl⟩
abbrev main_v93 : Ref sig .tc := ⟨.hbm, 146, rfl⟩
abbrev main_c_35 : Ref sig .tc := ⟨.hbm, 147, rfl⟩
abbrev main_v94 : Ref sig .tc := ⟨.hbm, 148, rfl⟩
abbrev main_v95 : Ref sig .tc := ⟨.hbm, 149, rfl⟩
abbrev main_c_36 : Ref sig .tc := ⟨.hbm, 150, rfl⟩
abbrev main_v96 : Ref sig .tc := ⟨.hbm, 151, rfl⟩
abbrev main_v97 : Ref sig .tc := ⟨.hbm, 152, rfl⟩
abbrev main_c_37 : Ref sig .tc := ⟨.hbm, 153, rfl⟩
abbrev main_v98 : Ref sig .tc := ⟨.hbm, 154, rfl⟩
abbrev main_v99 : Ref sig .tc := ⟨.hbm, 155, rfl⟩
abbrev main_v100 : Ref sig .tc := ⟨.hbm, 156, rfl⟩
abbrev main_v101 : Ref sig .tc := ⟨.hbm, 157, rfl⟩
abbrev main_cst_38 : Ref sig .tc := ⟨.hbm, 158, rfl⟩
abbrev main_cst_39 : Ref sig .tc := ⟨.hbm, 159, rfl⟩
abbrev main_call6_v0 : Ref sig .tc := ⟨.hbm, 160, rfl⟩
abbrev main_call6_v1 : Ref sig .tc := ⟨.hbm, 161, rfl⟩
abbrev main_v102 : Ref sig .tc := ⟨.hbm, 162, rfl⟩
abbrev main_v103 : Ref sig .tc := ⟨.hbm, 163, rfl⟩
abbrev main_v104 : Ref sig .tc := ⟨.hbm, 164, rfl⟩
abbrev main_v105 : Ref sig .tc := ⟨.hbm, 165, rfl⟩
abbrev main_c_40 : Ref sig .tc := ⟨.hbm, 166, rfl⟩
abbrev main_v106 : Ref sig .tc := ⟨.hbm, 167, rfl⟩
abbrev main_v107 : Ref sig .tc := ⟨.hbm, 168, rfl⟩
abbrev main_c_41 : Ref sig .tc := ⟨.hbm, 169, rfl⟩
abbrev main_v108 : Ref sig .tc := ⟨.hbm, 170, rfl⟩
abbrev main_v109 : Ref sig .tc := ⟨.hbm, 171, rfl⟩
abbrev main_c_42 : Ref sig .tc := ⟨.hbm, 172, rfl⟩
abbrev main_v110 : Ref sig .tc := ⟨.hbm, 173, rfl⟩
abbrev main_v111 : Ref sig .tc := ⟨.hbm, 174, rfl⟩
abbrev main_c_43 : Ref sig .tc := ⟨.hbm, 175, rfl⟩
abbrev main_v112 : Ref sig .tc := ⟨.hbm, 176, rfl⟩
abbrev main_v113 : Ref sig .tc := ⟨.hbm, 177, rfl⟩
abbrev main_v114 : Ref sig .tc := ⟨.hbm, 178, rfl⟩
abbrev main_v115 : Ref sig .tc := ⟨.hbm, 179, rfl⟩
abbrev main_cst_44 : Ref sig .tc := ⟨.hbm, 180, rfl⟩
abbrev main_cst_45 : Ref sig .tc := ⟨.hbm, 181, rfl⟩
abbrev main_call7_v0 : Ref sig .tc := ⟨.hbm, 182, rfl⟩
abbrev main_call7_v1 : Ref sig .tc := ⟨.hbm, 183, rfl⟩
abbrev main_v116 : Ref sig .tc := ⟨.hbm, 184, rfl⟩
abbrev main_v117 : Ref sig .tc := ⟨.hbm, 185, rfl⟩
abbrev main_v118 : Ref sig .tc := ⟨.hbm, 186, rfl⟩
abbrev main_v119 : Ref sig .tc := ⟨.hbm, 187, rfl⟩
abbrev main_v120 : Ref sig .tc := ⟨.hbm, 188, rfl⟩
abbrev main_cst_46 : Ref sig .tc := ⟨.hbm, 189, rfl⟩
abbrev main_cst_47 : Ref sig .tc := ⟨.hbm, 190, rfl⟩
abbrev main_v121 : Ref sig .tc := ⟨.hbm, 191, rfl⟩
abbrev main_v122 : Ref sig .tc := ⟨.hbm, 192, rfl⟩
abbrev main_cst_48 : Ref sig .tc := ⟨.hbm, 193, rfl⟩
abbrev main_v123 : Ref sig .tc := ⟨.hbm, 194, rfl⟩
abbrev main_v124 : Ref sig .tc := ⟨.hbm, 195, rfl⟩
abbrev main_cst_49 : Ref sig .tc := ⟨.hbm, 196, rfl⟩
abbrev main_v125 : Ref sig .tc := ⟨.hbm, 197, rfl⟩
abbrev main_v126 : Ref sig .tc := ⟨.hbm, 198, rfl⟩
abbrev main_cst_50 : Ref sig .tc := ⟨.hbm, 199, rfl⟩
abbrev main_v127 : Ref sig .tc := ⟨.hbm, 200, rfl⟩
abbrev main_v128 : Ref sig .tc := ⟨.hbm, 201, rfl⟩
abbrev main_cst_51 : Ref sig .tc := ⟨.hbm, 202, rfl⟩
abbrev main_v129 : Ref sig .tc := ⟨.hbm, 203, rfl⟩
abbrev main_v130 : Ref sig .tc := ⟨.hbm, 204, rfl⟩
abbrev main_v131 : Ref sig .tc := ⟨.hbm, 205, rfl⟩
abbrev main_v132 : Ref sig .tc := ⟨.hbm, 206, rfl⟩
abbrev main_v133 : Ref sig .tc := ⟨.hbm, 207, rfl⟩
abbrev main_v134 : Ref sig .tc := ⟨.hbm, 208, rfl⟩
abbrev main_v135 : Ref sig .tc := ⟨.hbm, 209, rfl⟩
abbrev main_v136 : Ref sig .tc := ⟨.hbm, 210, rfl⟩
abbrev main_v137 : Ref sig .tc := ⟨.hbm, 211, rfl⟩
abbrev main_v138 : Ref sig .tc := ⟨.hbm, 212, rfl⟩
abbrev main_v139 : Ref sig .tc := ⟨.hbm, 213, rfl⟩
abbrev main_cst_52 : Ref sig .tc := ⟨.hbm, 214, rfl⟩
abbrev main_v140 : Ref sig .tc := ⟨.hbm, 215, rfl⟩
abbrev main_v141 : Ref sig .tc := ⟨.hbm, 216, rfl⟩
abbrev main_cst_53 : Ref sig .tc := ⟨.hbm, 217, rfl⟩
abbrev main_v142 : Ref sig .tc := ⟨.hbm, 218, rfl⟩
abbrev main_v143 : Ref sig .tc := ⟨.hbm, 219, rfl⟩
abbrev main_v144 : Ref sig .tc := ⟨.hbm, 220, rfl⟩
abbrev main_v145 : Ref sig .tc := ⟨.hbm, 221, rfl⟩
abbrev main_cst_54 : Ref sig .tc := ⟨.hbm, 222, rfl⟩
abbrev main_v146 : Ref sig .tc := ⟨.hbm, 223, rfl⟩
abbrev main_v147 : Ref sig .tc := ⟨.hbm, 224, rfl⟩
abbrev main_cst_55 : Ref sig .tc := ⟨.hbm, 225, rfl⟩
abbrev main_v148 : Ref sig .tc := ⟨.hbm, 226, rfl⟩
abbrev main_v149 : Ref sig .tc := ⟨.hbm, 227, rfl⟩
abbrev main_cst_56 : Ref sig .tc := ⟨.hbm, 228, rfl⟩
abbrev main_v150 : Ref sig .tc := ⟨.hbm, 229, rfl⟩
abbrev main_v151 : Ref sig .tc := ⟨.hbm, 230, rfl⟩
abbrev main_cst_57 : Ref sig .tc := ⟨.hbm, 231, rfl⟩
abbrev main_v152 : Ref sig .tc := ⟨.hbm, 232, rfl⟩
abbrev main_v153 : Ref sig .tc := ⟨.hbm, 233, rfl⟩
abbrev main_v154 : Ref sig .tc := ⟨.hbm, 234, rfl⟩
abbrev main_cst_58 : Ref sig .tc := ⟨.hbm, 235, rfl⟩
abbrev main_v155 : Ref sig .tc := ⟨.hbm, 236, rfl⟩
abbrev main_v156 : Ref sig .tc := ⟨.hbm, 237, rfl⟩
abbrev main_v157 : Ref sig .tc := ⟨.hbm, 238, rfl⟩
abbrev main_cst_59 : Ref sig .tc := ⟨.hbm, 239, rfl⟩
abbrev main_v158 : Ref sig .tc := ⟨.hbm, 240, rfl⟩
abbrev main_v159 : Ref sig .tc := ⟨.hbm, 241, rfl⟩
abbrev main_v160 : Ref sig .tc := ⟨.hbm, 242, rfl⟩
abbrev main_cst_60 : Ref sig .tc := ⟨.hbm, 243, rfl⟩
abbrev main_v161 : Ref sig .tc := ⟨.hbm, 244, rfl⟩
abbrev main_v162 : Ref sig .tc := ⟨.hbm, 245, rfl⟩
abbrev main_cst_61 : Ref sig .tc := ⟨.hbm, 246, rfl⟩
abbrev main_call9_v0 : Ref sig .tc := ⟨.hbm, 247, rfl⟩
abbrev main_call9_v1 : Ref sig .tc := ⟨.hbm, 248, rfl⟩
abbrev main_v163 : Ref sig .tc := ⟨.hbm, 249, rfl⟩
abbrev main_cst_62 : Ref sig .tc := ⟨.hbm, 250, rfl⟩
abbrev main_v164 : Ref sig .tc := ⟨.hbm, 251, rfl⟩
abbrev main_v165 : Ref sig .tc := ⟨.hbm, 252, rfl⟩
abbrev main_v166 : Ref sig .tc := ⟨.hbm, 253, rfl⟩
abbrev main_cst_63 : Ref sig .tc := ⟨.hbm, 254, rfl⟩
abbrev main_v167 : Ref sig .tc := ⟨.hbm, 255, rfl⟩
abbrev main_v168 : Ref sig .tc := ⟨.hbm, 256, rfl⟩
abbrev main_cst_64 : Ref sig .tc := ⟨.hbm, 257, rfl⟩
abbrev main_v169 : Ref sig .tc := ⟨.hbm, 258, rfl⟩
abbrev main_v170 : Ref sig .tc := ⟨.hbm, 259, rfl⟩
abbrev main_c_65 : Ref sig .tc := ⟨.hbm, 260, rfl⟩
abbrev main_call10_v0 : Ref sig .tc := ⟨.hbm, 261, rfl⟩
abbrev main_call10_v1 : Ref sig .tc := ⟨.hbm, 262, rfl⟩
abbrev main_v171 : Ref sig .tc := ⟨.hbm, 263, rfl⟩
abbrev main_v172 : Ref sig .tc := ⟨.hbm, 264, rfl⟩
abbrev main_c_66 : Ref sig .tc := ⟨.hbm, 265, rfl⟩
abbrev main_call11_v0 : Ref sig .tc := ⟨.hbm, 266, rfl⟩
abbrev main_call11_v1 : Ref sig .tc := ⟨.hbm, 267, rfl⟩
abbrev main_v173 : Ref sig .tc := ⟨.hbm, 268, rfl⟩
abbrev main_cst_67 : Ref sig .tc := ⟨.hbm, 269, rfl⟩
abbrev main_v174 : Ref sig .tc := ⟨.hbm, 270, rfl⟩
abbrev main_v175 : Ref sig .tc := ⟨.hbm, 271, rfl⟩
abbrev main_cst_68 : Ref sig .tc := ⟨.hbm, 272, rfl⟩
abbrev main_v176 : Ref sig .tc := ⟨.hbm, 273, rfl⟩
abbrev main_v177 : Ref sig .tc := ⟨.hbm, 274, rfl⟩
abbrev main_v178 : Ref sig .tc := ⟨.hbm, 275, rfl⟩
abbrev main_v179 : Ref sig .tc := ⟨.hbm, 276, rfl⟩
abbrev main_c_69 : Ref sig .tc := ⟨.hbm, 277, rfl⟩
abbrev main_call12_v0 : Ref sig .tc := ⟨.hbm, 278, rfl⟩
abbrev main_call12_v1 : Ref sig .tc := ⟨.hbm, 279, rfl⟩
abbrev main_v180 : Ref sig .tc := ⟨.hbm, 280, rfl⟩
abbrev main_v181 : Ref sig .tc := ⟨.hbm, 281, rfl⟩
abbrev main_call13_v0 : Ref sig .tc := ⟨.hbm, 282, rfl⟩
abbrev main_call13_v1 : Ref sig .tc := ⟨.hbm, 283, rfl⟩
abbrev main_call13_v2 : Ref sig .tc := ⟨.hbm, 284, rfl⟩
abbrev main_call13_v3 : Ref sig .tc := ⟨.hbm, 285, rfl⟩
abbrev main_call13_v4 : Ref sig .tc := ⟨.hbm, 286, rfl⟩
abbrev main_v182 : Ref sig .tc := ⟨.hbm, 287, rfl⟩
abbrev main_v183 : Ref sig .tc := ⟨.hbm, 288, rfl⟩
abbrev main_v184 : Ref sig .tc := ⟨.hbm, 289, rfl⟩
abbrev main_v185 : Ref sig .tc := ⟨.hbm, 290, rfl⟩
abbrev main_v186 : Ref sig .tc := ⟨.hbm, 291, rfl⟩
abbrev main_v187 : Ref sig .tc := ⟨.hbm, 292, rfl⟩
abbrev main_cst_70 : Ref sig .tc := ⟨.hbm, 293, rfl⟩
abbrev main_v188 : Ref sig .tc := ⟨.hbm, 294, rfl⟩
abbrev main_c_71 : Ref sig .tc := ⟨.hbm, 295, rfl⟩
abbrev main_v189 : Ref sig .tc := ⟨.hbm, 296, rfl⟩
abbrev main_v190 : Ref sig .tc := ⟨.hbm, 297, rfl⟩
abbrev main_c_72 : Ref sig .tc := ⟨.hbm, 298, rfl⟩
abbrev main_v191 : Ref sig .tc := ⟨.hbm, 299, rfl⟩
abbrev main_v192 : Ref sig .tc := ⟨.hbm, 300, rfl⟩
abbrev main_c_73 : Ref sig .tc := ⟨.hbm, 301, rfl⟩
abbrev main_v193 : Ref sig .tc := ⟨.hbm, 302, rfl⟩
abbrev main_v194 : Ref sig .tc := ⟨.hbm, 303, rfl⟩
abbrev main_cst_74 : Ref sig .tc := ⟨.hbm, 304, rfl⟩
abbrev main_cst_75 : Ref sig .tc := ⟨.hbm, 305, rfl⟩
abbrev main_v195 : Ref sig .tc := ⟨.hbm, 306, rfl⟩
abbrev main_v196 : Ref sig .tc := ⟨.hbm, 307, rfl⟩
abbrev main_cst_76 : Ref sig .tc := ⟨.hbm, 308, rfl⟩
abbrev main_v197 : Ref sig .tc := ⟨.hbm, 309, rfl⟩
abbrev main_v198 : Ref sig .tc := ⟨.hbm, 310, rfl⟩
abbrev main_cst_77 : Ref sig .tc := ⟨.hbm, 311, rfl⟩
abbrev main_v199 : Ref sig .tc := ⟨.hbm, 312, rfl⟩
abbrev main_v200 : Ref sig .tc := ⟨.hbm, 313, rfl⟩
abbrev main_cst_78 : Ref sig .tc := ⟨.hbm, 314, rfl⟩
abbrev main_v201 : Ref sig .tc := ⟨.hbm, 315, rfl⟩
abbrev main_v202 : Ref sig .tc := ⟨.hbm, 316, rfl⟩
abbrev main_cst_79 : Ref sig .tc := ⟨.hbm, 317, rfl⟩
abbrev main_v203 : Ref sig .tc := ⟨.hbm, 318, rfl⟩
abbrev main_v204 : Ref sig .tc := ⟨.hbm, 319, rfl⟩
abbrev main_v205 : Ref sig .tc := ⟨.hbm, 320, rfl⟩
abbrev main_v206 : Ref sig .tc := ⟨.hbm, 321, rfl⟩
abbrev main_v207 : Ref sig .tc := ⟨.hbm, 322, rfl⟩
abbrev main_v208 : Ref sig .tc := ⟨.hbm, 323, rfl⟩
abbrev main_v209 : Ref sig .tc := ⟨.hbm, 324, rfl⟩
abbrev main_v210 : Ref sig .tc := ⟨.hbm, 325, rfl⟩
abbrev main_v211 : Ref sig .tc := ⟨.hbm, 326, rfl⟩
abbrev main_v212 : Ref sig .tc := ⟨.hbm, 327, rfl⟩
abbrev main_v213 : Ref sig .tc := ⟨.hbm, 328, rfl⟩
abbrev main_v214 : Ref sig .tc := ⟨.hbm, 329, rfl⟩
abbrev main_cst_80 : Ref sig .tc := ⟨.hbm, 330, rfl⟩
abbrev main_v215 : Ref sig .tc := ⟨.hbm, 331, rfl⟩
abbrev main_v216 : Ref sig .tc := ⟨.hbm, 332, rfl⟩
abbrev main_cst_81 : Ref sig .tc := ⟨.hbm, 333, rfl⟩
abbrev main_v217 : Ref sig .tc := ⟨.hbm, 334, rfl⟩
abbrev main_v218 : Ref sig .tc := ⟨.hbm, 335, rfl⟩
abbrev main_v219 : Ref sig .tc := ⟨.hbm, 336, rfl⟩
abbrev main_v220 : Ref sig .tc := ⟨.hbm, 337, rfl⟩
abbrev main_cst_82 : Ref sig .tc := ⟨.hbm, 338, rfl⟩
abbrev main_v221 : Ref sig .tc := ⟨.hbm, 339, rfl⟩
abbrev main_v222 : Ref sig .tc := ⟨.hbm, 340, rfl⟩
abbrev main_cst_83 : Ref sig .tc := ⟨.hbm, 341, rfl⟩
abbrev main_v223 : Ref sig .tc := ⟨.hbm, 342, rfl⟩
abbrev main_v224 : Ref sig .tc := ⟨.hbm, 343, rfl⟩
abbrev main_cst_84 : Ref sig .tc := ⟨.hbm, 344, rfl⟩
abbrev main_v225 : Ref sig .tc := ⟨.hbm, 345, rfl⟩
abbrev main_v226 : Ref sig .tc := ⟨.hbm, 346, rfl⟩
abbrev main_cst_85 : Ref sig .tc := ⟨.hbm, 347, rfl⟩
abbrev main_v227 : Ref sig .tc := ⟨.hbm, 348, rfl⟩
abbrev main_v228 : Ref sig .tc := ⟨.hbm, 349, rfl⟩
abbrev main_v229 : Ref sig .tc := ⟨.hbm, 350, rfl⟩
abbrev main_cst_86 : Ref sig .tc := ⟨.hbm, 351, rfl⟩
abbrev main_v230 : Ref sig .tc := ⟨.hbm, 352, rfl⟩
abbrev main_v231 : Ref sig .tc := ⟨.hbm, 353, rfl⟩
abbrev main_v232 : Ref sig .tc := ⟨.hbm, 354, rfl⟩
abbrev main_cst_87 : Ref sig .tc := ⟨.hbm, 355, rfl⟩
abbrev main_v233 : Ref sig .tc := ⟨.hbm, 356, rfl⟩
abbrev main_v234 : Ref sig .tc := ⟨.hbm, 357, rfl⟩
abbrev main_v235 : Ref sig .tc := ⟨.hbm, 358, rfl⟩
abbrev main_cst_88 : Ref sig .tc := ⟨.hbm, 359, rfl⟩
abbrev main_v236 : Ref sig .tc := ⟨.hbm, 360, rfl⟩
abbrev main_v237 : Ref sig .tc := ⟨.hbm, 361, rfl⟩
abbrev main_cst_89 : Ref sig .tc := ⟨.hbm, 362, rfl⟩
abbrev main_call15_v0 : Ref sig .tc := ⟨.hbm, 363, rfl⟩
abbrev main_call15_v1 : Ref sig .tc := ⟨.hbm, 364, rfl⟩
abbrev main_v238 : Ref sig .tc := ⟨.hbm, 365, rfl⟩
abbrev main_cst_90 : Ref sig .tc := ⟨.hbm, 366, rfl⟩
abbrev main_v239 : Ref sig .tc := ⟨.hbm, 367, rfl⟩
abbrev main_v240 : Ref sig .tc := ⟨.hbm, 368, rfl⟩
abbrev main_v241 : Ref sig .tc := ⟨.hbm, 369, rfl⟩
abbrev main_cst_91 : Ref sig .tc := ⟨.hbm, 370, rfl⟩
abbrev main_v242 : Ref sig .tc := ⟨.hbm, 371, rfl⟩
abbrev main_v243 : Ref sig .tc := ⟨.hbm, 372, rfl⟩
abbrev main_cst_92 : Ref sig .tc := ⟨.hbm, 373, rfl⟩
abbrev main_v244 : Ref sig .tc := ⟨.hbm, 374, rfl⟩
abbrev main_v245 : Ref sig .tc := ⟨.hbm, 375, rfl⟩
abbrev main_c_93 : Ref sig .tc := ⟨.hbm, 376, rfl⟩
abbrev main_call16_v0 : Ref sig .tc := ⟨.hbm, 377, rfl⟩
abbrev main_call16_v1 : Ref sig .tc := ⟨.hbm, 378, rfl⟩
abbrev main_v246 : Ref sig .tc := ⟨.hbm, 379, rfl⟩
abbrev main_v247 : Ref sig .tc := ⟨.hbm, 380, rfl⟩
abbrev main_v248 : Ref sig .tc := ⟨.hbm, 381, rfl⟩
abbrev main_c_94 : Ref sig .tc := ⟨.hbm, 382, rfl⟩
abbrev main_call17_v0 : Ref sig .tc := ⟨.hbm, 383, rfl⟩
abbrev main_call17_v1 : Ref sig .tc := ⟨.hbm, 384, rfl⟩
abbrev main_call17_v2 : Ref sig .tc := ⟨.hbm, 385, rfl⟩
abbrev main_v249 : Ref sig .tc := ⟨.hbm, 386, rfl⟩
abbrev main_cst_95 : Ref sig .tc := ⟨.hbm, 387, rfl⟩
abbrev main_v250 : Ref sig .tc := ⟨.hbm, 388, rfl⟩
abbrev main_v251 : Ref sig .tc := ⟨.hbm, 389, rfl⟩
abbrev main_cst_96 : Ref sig .tc := ⟨.hbm, 390, rfl⟩
abbrev main_v252 : Ref sig .tc := ⟨.hbm, 391, rfl⟩
abbrev main_v253 : Ref sig .tc := ⟨.hbm, 392, rfl⟩
abbrev main_v254 : Ref sig .tc := ⟨.hbm, 393, rfl⟩
abbrev main_v255 : Ref sig .tc := ⟨.hbm, 394, rfl⟩
abbrev main_c_97 : Ref sig .tc := ⟨.hbm, 395, rfl⟩
abbrev main_call18_v0 : Ref sig .tc := ⟨.hbm, 396, rfl⟩
abbrev main_call18_v1 : Ref sig .tc := ⟨.hbm, 397, rfl⟩
abbrev main_call18_v2 : Ref sig .tc := ⟨.hbm, 398, rfl⟩
abbrev main_v256 : Ref sig .tc := ⟨.hbm, 399, rfl⟩
abbrev main_v257 : Ref sig .tc := ⟨.hbm, 400, rfl⟩
abbrev main_call19_v0 : Ref sig .tc := ⟨.hbm, 401, rfl⟩
abbrev main_call19_v1 : Ref sig .tc := ⟨.hbm, 402, rfl⟩
abbrev main_call19_v2 : Ref sig .tc := ⟨.hbm, 403, rfl⟩
abbrev main_call19_v3 : Ref sig .tc := ⟨.hbm, 404, rfl⟩
abbrev main_call19_v4 : Ref sig .tc := ⟨.hbm, 405, rfl⟩
abbrev main_v258 : Ref sig .tc := ⟨.hbm, 406, rfl⟩
abbrev main_v259 : Ref sig .tc := ⟨.hbm, 407, rfl⟩
abbrev main_v260 : Ref sig .tc := ⟨.hbm, 408, rfl⟩
abbrev main_v261 : Ref sig .tc := ⟨.hbm, 409, rfl⟩
abbrev main_v262 : Ref sig .tc := ⟨.hbm, 410, rfl⟩
abbrev main_v263 : Ref sig .tc := ⟨.hbm, 411, rfl⟩
abbrev main_cst_98 : Ref sig .tc := ⟨.hbm, 412, rfl⟩
abbrev main_v264 : Ref sig .tc := ⟨.hbm, 413, rfl⟩
abbrev main_c_99 : Ref sig .tc := ⟨.hbm, 414, rfl⟩
abbrev main_v265 : Ref sig .tc := ⟨.hbm, 415, rfl⟩
abbrev main_v266 : Ref sig .tc := ⟨.hbm, 416, rfl⟩
abbrev main_c_100 : Ref sig .tc := ⟨.hbm, 417, rfl⟩
abbrev main_v267 : Ref sig .tc := ⟨.hbm, 418, rfl⟩
abbrev main_v268 : Ref sig .tc := ⟨.hbm, 419, rfl⟩
abbrev main_c_101 : Ref sig .tc := ⟨.hbm, 420, rfl⟩
abbrev main_v269 : Ref sig .tc := ⟨.hbm, 421, rfl⟩
abbrev main_v270 : Ref sig .tc := ⟨.hbm, 422, rfl⟩
abbrev main_cst_102 : Ref sig .tc := ⟨.hbm, 423, rfl⟩
abbrev main_cst_103 : Ref sig .tc := ⟨.hbm, 424, rfl⟩
abbrev main_v271 : Ref sig .tc := ⟨.hbm, 425, rfl⟩
abbrev main_v272 : Ref sig .tc := ⟨.hbm, 426, rfl⟩
abbrev main_cst_104 : Ref sig .tc := ⟨.hbm, 427, rfl⟩
abbrev main_v273 : Ref sig .tc := ⟨.hbm, 428, rfl⟩
abbrev main_v274 : Ref sig .tc := ⟨.hbm, 429, rfl⟩
abbrev main_cst_105 : Ref sig .tc := ⟨.hbm, 430, rfl⟩
abbrev main_v275 : Ref sig .tc := ⟨.hbm, 431, rfl⟩
abbrev main_v276 : Ref sig .tc := ⟨.hbm, 432, rfl⟩
abbrev main_cst_106 : Ref sig .tc := ⟨.hbm, 433, rfl⟩
abbrev main_v277 : Ref sig .tc := ⟨.hbm, 434, rfl⟩
abbrev main_v278 : Ref sig .tc := ⟨.hbm, 435, rfl⟩
abbrev main_cst_107 : Ref sig .tc := ⟨.hbm, 436, rfl⟩
abbrev main_v279 : Ref sig .tc := ⟨.hbm, 437, rfl⟩
abbrev main_v280 : Ref sig .tc := ⟨.hbm, 438, rfl⟩
abbrev main_v281 : Ref sig .tc := ⟨.hbm, 439, rfl⟩
abbrev main_v282 : Ref sig .tc := ⟨.hbm, 440, rfl⟩
abbrev main_v283 : Ref sig .tc := ⟨.hbm, 441, rfl⟩
abbrev main_v284 : Ref sig .tc := ⟨.hbm, 442, rfl⟩
abbrev main_v285 : Ref sig .tc := ⟨.hbm, 443, rfl⟩
abbrev main_v286 : Ref sig .tc := ⟨.hbm, 444, rfl⟩
abbrev main_v287 : Ref sig .tc := ⟨.hbm, 445, rfl⟩
abbrev main_v288 : Ref sig .tc := ⟨.hbm, 446, rfl⟩
abbrev main_v289 : Ref sig .tc := ⟨.hbm, 447, rfl⟩
abbrev main_v290 : Ref sig .tc := ⟨.hbm, 448, rfl⟩
abbrev main_cst_108 : Ref sig .tc := ⟨.hbm, 449, rfl⟩
abbrev main_v291 : Ref sig .tc := ⟨.hbm, 450, rfl⟩
abbrev main_v292 : Ref sig .tc := ⟨.hbm, 451, rfl⟩
abbrev main_cst_109 : Ref sig .tc := ⟨.hbm, 452, rfl⟩
abbrev main_v293 : Ref sig .tc := ⟨.hbm, 453, rfl⟩
abbrev main_v294 : Ref sig .tc := ⟨.hbm, 454, rfl⟩
abbrev main_v295 : Ref sig .tc := ⟨.hbm, 455, rfl⟩
abbrev main_v296 : Ref sig .tc := ⟨.hbm, 456, rfl⟩
abbrev main_cst_110 : Ref sig .tc := ⟨.hbm, 457, rfl⟩
abbrev main_v297 : Ref sig .tc := ⟨.hbm, 458, rfl⟩
abbrev main_v298 : Ref sig .tc := ⟨.hbm, 459, rfl⟩
abbrev main_cst_111 : Ref sig .tc := ⟨.hbm, 460, rfl⟩
abbrev main_v299 : Ref sig .tc := ⟨.hbm, 461, rfl⟩
abbrev main_v300 : Ref sig .tc := ⟨.hbm, 462, rfl⟩
abbrev main_cst_112 : Ref sig .tc := ⟨.hbm, 463, rfl⟩
abbrev main_v301 : Ref sig .tc := ⟨.hbm, 464, rfl⟩
abbrev main_v302 : Ref sig .tc := ⟨.hbm, 465, rfl⟩
abbrev main_cst_113 : Ref sig .tc := ⟨.hbm, 466, rfl⟩
abbrev main_v303 : Ref sig .tc := ⟨.hbm, 467, rfl⟩
abbrev main_v304 : Ref sig .tc := ⟨.hbm, 468, rfl⟩
abbrev main_v305 : Ref sig .tc := ⟨.hbm, 469, rfl⟩
abbrev main_cst_114 : Ref sig .tc := ⟨.hbm, 470, rfl⟩
abbrev main_v306 : Ref sig .tc := ⟨.hbm, 471, rfl⟩
abbrev main_v307 : Ref sig .tc := ⟨.hbm, 472, rfl⟩
abbrev main_v308 : Ref sig .tc := ⟨.hbm, 473, rfl⟩
abbrev main_cst_115 : Ref sig .tc := ⟨.hbm, 474, rfl⟩
abbrev main_v309 : Ref sig .tc := ⟨.hbm, 475, rfl⟩
abbrev main_v310 : Ref sig .tc := ⟨.hbm, 476, rfl⟩
abbrev main_v311 : Ref sig .tc := ⟨.hbm, 477, rfl⟩
abbrev main_cst_116 : Ref sig .tc := ⟨.hbm, 478, rfl⟩
abbrev main_v312 : Ref sig .tc := ⟨.hbm, 479, rfl⟩
abbrev main_v313 : Ref sig .tc := ⟨.hbm, 480, rfl⟩
abbrev main_cst_117 : Ref sig .tc := ⟨.hbm, 481, rfl⟩
abbrev main_call21_v0 : Ref sig .tc := ⟨.hbm, 482, rfl⟩
abbrev main_call21_v1 : Ref sig .tc := ⟨.hbm, 483, rfl⟩
abbrev main_v314 : Ref sig .tc := ⟨.hbm, 484, rfl⟩
abbrev main_cst_118 : Ref sig .tc := ⟨.hbm, 485, rfl⟩
abbrev main_v315 : Ref sig .tc := ⟨.hbm, 486, rfl⟩
abbrev main_v316 : Ref sig .tc := ⟨.hbm, 487, rfl⟩
abbrev main_v317 : Ref sig .tc := ⟨.hbm, 488, rfl⟩
abbrev main_cst_119 : Ref sig .tc := ⟨.hbm, 489, rfl⟩
abbrev main_v318 : Ref sig .tc := ⟨.hbm, 490, rfl⟩
abbrev main_v319 : Ref sig .tc := ⟨.hbm, 491, rfl⟩
abbrev main_cst_120 : Ref sig .tc := ⟨.hbm, 492, rfl⟩
abbrev main_v320 : Ref sig .tc := ⟨.hbm, 493, rfl⟩
abbrev main_v321 : Ref sig .tc := ⟨.hbm, 494, rfl⟩
abbrev main_c_121 : Ref sig .tc := ⟨.hbm, 495, rfl⟩
abbrev main_call22_v0 : Ref sig .tc := ⟨.hbm, 496, rfl⟩
abbrev main_call22_v1 : Ref sig .tc := ⟨.hbm, 497, rfl⟩
abbrev main_v322 : Ref sig .tc := ⟨.hbm, 498, rfl⟩
abbrev main_v323 : Ref sig .tc := ⟨.hbm, 499, rfl⟩
abbrev main_v324 : Ref sig .tc := ⟨.hbm, 500, rfl⟩
abbrev main_c_122 : Ref sig .tc := ⟨.hbm, 501, rfl⟩
abbrev main_call23_v0 : Ref sig .tc := ⟨.hbm, 502, rfl⟩
abbrev main_call23_v1 : Ref sig .tc := ⟨.hbm, 503, rfl⟩
abbrev main_call23_v2 : Ref sig .tc := ⟨.hbm, 504, rfl⟩
abbrev main_v325 : Ref sig .tc := ⟨.hbm, 505, rfl⟩
abbrev main_cst_123 : Ref sig .tc := ⟨.hbm, 506, rfl⟩
abbrev main_v326 : Ref sig .tc := ⟨.hbm, 507, rfl⟩
abbrev main_v327 : Ref sig .tc := ⟨.hbm, 508, rfl⟩
abbrev main_cst_124 : Ref sig .tc := ⟨.hbm, 509, rfl⟩
abbrev main_v328 : Ref sig .tc := ⟨.hbm, 510, rfl⟩
abbrev main_v329 : Ref sig .tc := ⟨.hbm, 511, rfl⟩
abbrev main_v330 : Ref sig .tc := ⟨.hbm, 512, rfl⟩
abbrev main_v331 : Ref sig .tc := ⟨.hbm, 513, rfl⟩
abbrev main_c_125 : Ref sig .tc := ⟨.hbm, 514, rfl⟩
abbrev main_call24_v0 : Ref sig .tc := ⟨.hbm, 515, rfl⟩
abbrev main_call24_v1 : Ref sig .tc := ⟨.hbm, 516, rfl⟩
abbrev main_call24_v2 : Ref sig .tc := ⟨.hbm, 517, rfl⟩
abbrev main_v332 : Ref sig .tc := ⟨.hbm, 518, rfl⟩
abbrev main_v333 : Ref sig .tc := ⟨.hbm, 519, rfl⟩
abbrev main_call25_v0 : Ref sig .tc := ⟨.hbm, 520, rfl⟩
abbrev main_call25_v1 : Ref sig .tc := ⟨.hbm, 521, rfl⟩
abbrev main_call25_v2 : Ref sig .tc := ⟨.hbm, 522, rfl⟩
abbrev main_call25_v3 : Ref sig .tc := ⟨.hbm, 523, rfl⟩
abbrev main_call25_v4 : Ref sig .tc := ⟨.hbm, 524, rfl⟩
abbrev main_v334 : Ref sig .tc := ⟨.hbm, 525, rfl⟩
abbrev main_v335 : Ref sig .tc := ⟨.hbm, 526, rfl⟩
abbrev main_v336 : Ref sig .tc := ⟨.hbm, 527, rfl⟩
abbrev main_v337 : Ref sig .tc := ⟨.hbm, 528, rfl⟩
abbrev main_v338 : Ref sig .tc := ⟨.hbm, 529, rfl⟩
abbrev main_v339 : Ref sig .tc := ⟨.hbm, 530, rfl⟩
abbrev main_cst_126 : Ref sig .tc := ⟨.hbm, 531, rfl⟩
abbrev main_v340 : Ref sig .tc := ⟨.hbm, 532, rfl⟩
abbrev main_c_127 : Ref sig .tc := ⟨.hbm, 533, rfl⟩
abbrev main_v341 : Ref sig .tc := ⟨.hbm, 534, rfl⟩
abbrev main_v342 : Ref sig .tc := ⟨.hbm, 535, rfl⟩
abbrev main_c_128 : Ref sig .tc := ⟨.hbm, 536, rfl⟩
abbrev main_v343 : Ref sig .tc := ⟨.hbm, 537, rfl⟩
abbrev main_v344 : Ref sig .tc := ⟨.hbm, 538, rfl⟩
abbrev main_c_129 : Ref sig .tc := ⟨.hbm, 539, rfl⟩
abbrev main_v345 : Ref sig .tc := ⟨.hbm, 540, rfl⟩
abbrev main_v346 : Ref sig .tc := ⟨.hbm, 541, rfl⟩
abbrev main_cst_130 : Ref sig .tc := ⟨.hbm, 542, rfl⟩
abbrev main_cst_131 : Ref sig .tc := ⟨.hbm, 543, rfl⟩
abbrev main_v347 : Ref sig .tc := ⟨.hbm, 544, rfl⟩
abbrev main_v348 : Ref sig .tc := ⟨.hbm, 545, rfl⟩
abbrev main_cst_132 : Ref sig .tc := ⟨.hbm, 546, rfl⟩
abbrev main_v349 : Ref sig .tc := ⟨.hbm, 547, rfl⟩
abbrev main_v350 : Ref sig .tc := ⟨.hbm, 548, rfl⟩
abbrev main_cst_133 : Ref sig .tc := ⟨.hbm, 549, rfl⟩
abbrev main_v351 : Ref sig .tc := ⟨.hbm, 550, rfl⟩
abbrev main_v352 : Ref sig .tc := ⟨.hbm, 551, rfl⟩
abbrev main_cst_134 : Ref sig .tc := ⟨.hbm, 552, rfl⟩
abbrev main_v353 : Ref sig .tc := ⟨.hbm, 553, rfl⟩
abbrev main_v354 : Ref sig .tc := ⟨.hbm, 554, rfl⟩
abbrev main_cst_135 : Ref sig .tc := ⟨.hbm, 555, rfl⟩
abbrev main_v355 : Ref sig .tc := ⟨.hbm, 556, rfl⟩
abbrev main_v356 : Ref sig .tc := ⟨.hbm, 557, rfl⟩
abbrev main_v357 : Ref sig .tc := ⟨.hbm, 558, rfl⟩
abbrev main_v358 : Ref sig .tc := ⟨.hbm, 559, rfl⟩
abbrev main_v359 : Ref sig .tc := ⟨.hbm, 560, rfl⟩
abbrev main_v360 : Ref sig .tc := ⟨.hbm, 561, rfl⟩
abbrev main_v361 : Ref sig .tc := ⟨.hbm, 562, rfl⟩
abbrev main_v362 : Ref sig .tc := ⟨.hbm, 563, rfl⟩
abbrev main_v363 : Ref sig .tc := ⟨.hbm, 564, rfl⟩
abbrev main_v364 : Ref sig .tc := ⟨.hbm, 565, rfl⟩
abbrev main_v365 : Ref sig .tc := ⟨.hbm, 566, rfl⟩
abbrev main_v366 : Ref sig .tc := ⟨.hbm, 567, rfl⟩
abbrev main_cst_136 : Ref sig .tc := ⟨.hbm, 568, rfl⟩
abbrev main_v367 : Ref sig .tc := ⟨.hbm, 569, rfl⟩
abbrev main_v368 : Ref sig .tc := ⟨.hbm, 570, rfl⟩
abbrev main_cst_137 : Ref sig .tc := ⟨.hbm, 571, rfl⟩
abbrev main_v369 : Ref sig .tc := ⟨.hbm, 572, rfl⟩
abbrev main_v370 : Ref sig .tc := ⟨.hbm, 573, rfl⟩
abbrev main_v371 : Ref sig .tc := ⟨.hbm, 574, rfl⟩
abbrev main_v372 : Ref sig .tc := ⟨.hbm, 575, rfl⟩
abbrev main_cst_138 : Ref sig .tc := ⟨.hbm, 576, rfl⟩
abbrev main_v373 : Ref sig .tc := ⟨.hbm, 577, rfl⟩
abbrev main_v374 : Ref sig .tc := ⟨.hbm, 578, rfl⟩
abbrev main_cst_139 : Ref sig .tc := ⟨.hbm, 579, rfl⟩
abbrev main_v375 : Ref sig .tc := ⟨.hbm, 580, rfl⟩
abbrev main_v376 : Ref sig .tc := ⟨.hbm, 581, rfl⟩
abbrev main_cst_140 : Ref sig .tc := ⟨.hbm, 582, rfl⟩
abbrev main_v377 : Ref sig .tc := ⟨.hbm, 583, rfl⟩
abbrev main_v378 : Ref sig .tc := ⟨.hbm, 584, rfl⟩
abbrev main_cst_141 : Ref sig .tc := ⟨.hbm, 585, rfl⟩
abbrev main_v379 : Ref sig .tc := ⟨.hbm, 586, rfl⟩
abbrev main_v380 : Ref sig .tc := ⟨.hbm, 587, rfl⟩
abbrev main_v381 : Ref sig .tc := ⟨.hbm, 588, rfl⟩
abbrev main_cst_142 : Ref sig .tc := ⟨.hbm, 589, rfl⟩
abbrev main_v382 : Ref sig .tc := ⟨.hbm, 590, rfl⟩
abbrev main_v383 : Ref sig .tc := ⟨.hbm, 591, rfl⟩
abbrev main_v384 : Ref sig .tc := ⟨.hbm, 592, rfl⟩
abbrev main_cst_143 : Ref sig .tc := ⟨.hbm, 593, rfl⟩
abbrev main_v385 : Ref sig .tc := ⟨.hbm, 594, rfl⟩
abbrev main_v386 : Ref sig .tc := ⟨.hbm, 595, rfl⟩
abbrev main_v387 : Ref sig .tc := ⟨.hbm, 596, rfl⟩
abbrev main_cst_144 : Ref sig .tc := ⟨.hbm, 597, rfl⟩
abbrev main_v388 : Ref sig .tc := ⟨.hbm, 598, rfl⟩
abbrev main_v389 : Ref sig .tc := ⟨.hbm, 599, rfl⟩
abbrev main_cst_145 : Ref sig .tc := ⟨.hbm, 600, rfl⟩
abbrev main_call27_v0 : Ref sig .tc := ⟨.hbm, 601, rfl⟩
abbrev main_call27_v1 : Ref sig .tc := ⟨.hbm, 602, rfl⟩
abbrev main_v390 : Ref sig .tc := ⟨.hbm, 603, rfl⟩
abbrev main_cst_146 : Ref sig .tc := ⟨.hbm, 604, rfl⟩
abbrev main_v391 : Ref sig .tc := ⟨.hbm, 605, rfl⟩
abbrev main_v392 : Ref sig .tc := ⟨.hbm, 606, rfl⟩
abbrev main_v393 : Ref sig .tc := ⟨.hbm, 607, rfl⟩
abbrev main_cst_147 : Ref sig .tc := ⟨.hbm, 608, rfl⟩
abbrev main_v394 : Ref sig .tc := ⟨.hbm, 609, rfl⟩
abbrev main_v395 : Ref sig .tc := ⟨.hbm, 610, rfl⟩
abbrev main_cst_148 : Ref sig .tc := ⟨.hbm, 611, rfl⟩
abbrev main_v396 : Ref sig .tc := ⟨.hbm, 612, rfl⟩
abbrev main_v397 : Ref sig .tc := ⟨.hbm, 613, rfl⟩
abbrev main_c_149 : Ref sig .tc := ⟨.hbm, 614, rfl⟩
abbrev main_call28_v0 : Ref sig .tc := ⟨.hbm, 615, rfl⟩
abbrev main_call28_v1 : Ref sig .tc := ⟨.hbm, 616, rfl⟩
abbrev main_v398 : Ref sig .tc := ⟨.hbm, 617, rfl⟩
abbrev main_v399 : Ref sig .tc := ⟨.hbm, 618, rfl⟩
abbrev main_v400 : Ref sig .tc := ⟨.hbm, 619, rfl⟩
abbrev main_c_150 : Ref sig .tc := ⟨.hbm, 620, rfl⟩
abbrev main_call29_v0 : Ref sig .tc := ⟨.hbm, 621, rfl⟩
abbrev main_call29_v1 : Ref sig .tc := ⟨.hbm, 622, rfl⟩
abbrev main_call29_v2 : Ref sig .tc := ⟨.hbm, 623, rfl⟩
abbrev main_v401 : Ref sig .tc := ⟨.hbm, 624, rfl⟩
abbrev main_cst_151 : Ref sig .tc := ⟨.hbm, 625, rfl⟩
abbrev main_v402 : Ref sig .tc := ⟨.hbm, 626, rfl⟩
abbrev main_v403 : Ref sig .tc := ⟨.hbm, 627, rfl⟩
abbrev main_cst_152 : Ref sig .tc := ⟨.hbm, 628, rfl⟩
abbrev main_v404 : Ref sig .tc := ⟨.hbm, 629, rfl⟩
abbrev main_v405 : Ref sig .tc := ⟨.hbm, 630, rfl⟩
abbrev main_v406 : Ref sig .tc := ⟨.hbm, 631, rfl⟩
abbrev main_v407 : Ref sig .tc := ⟨.hbm, 632, rfl⟩
abbrev main_c_153 : Ref sig .tc := ⟨.hbm, 633, rfl⟩
abbrev main_call30_v0 : Ref sig .tc := ⟨.hbm, 634, rfl⟩
abbrev main_call30_v1 : Ref sig .tc := ⟨.hbm, 635, rfl⟩
abbrev main_call30_v2 : Ref sig .tc := ⟨.hbm, 636, rfl⟩
abbrev main_v408 : Ref sig .tc := ⟨.hbm, 637, rfl⟩
abbrev main_v409 : Ref sig .tc := ⟨.hbm, 638, rfl⟩
abbrev main_call31_v0 : Ref sig .tc := ⟨.hbm, 639, rfl⟩
abbrev main_call31_v1 : Ref sig .tc := ⟨.hbm, 640, rfl⟩
abbrev main_call31_v2 : Ref sig .tc := ⟨.hbm, 641, rfl⟩
abbrev main_call31_v3 : Ref sig .tc := ⟨.hbm, 642, rfl⟩
abbrev main_call31_v4 : Ref sig .tc := ⟨.hbm, 643, rfl⟩
abbrev main_v410 : Ref sig .tc := ⟨.hbm, 644, rfl⟩
abbrev main_v411 : Ref sig .tc := ⟨.hbm, 645, rfl⟩
abbrev main_v412 : Ref sig .tc := ⟨.hbm, 646, rfl⟩
abbrev main_v413 : Ref sig .tc := ⟨.hbm, 647, rfl⟩
abbrev main_v414 : Ref sig .tc := ⟨.hbm, 648, rfl⟩
abbrev main_v415 : Ref sig .tc := ⟨.hbm, 649, rfl⟩
abbrev main_cst_154 : Ref sig .tc := ⟨.hbm, 650, rfl⟩
abbrev main_v416 : Ref sig .tc := ⟨.hbm, 651, rfl⟩
abbrev main_c_155 : Ref sig .tc := ⟨.hbm, 652, rfl⟩
abbrev main_v417 : Ref sig .tc := ⟨.hbm, 653, rfl⟩
abbrev main_v418 : Ref sig .tc := ⟨.hbm, 654, rfl⟩
abbrev main_c_156 : Ref sig .tc := ⟨.hbm, 655, rfl⟩
abbrev main_v419 : Ref sig .tc := ⟨.hbm, 656, rfl⟩
abbrev main_v420 : Ref sig .tc := ⟨.hbm, 657, rfl⟩
abbrev main_c_157 : Ref sig .tc := ⟨.hbm, 658, rfl⟩
abbrev main_v421 : Ref sig .tc := ⟨.hbm, 659, rfl⟩
abbrev main_v422 : Ref sig .tc := ⟨.hbm, 660, rfl⟩
abbrev main_v423 : Ref sig .tc := ⟨.hbm, 661, rfl⟩
abbrev main_v424 : Ref sig .tc := ⟨.hbm, 662, rfl⟩
abbrev main_v425 : Ref sig .tc := ⟨.hbm, 663, rfl⟩
abbrev main_v426 : Ref sig .tc := ⟨.hbm, 664, rfl⟩
abbrev main_v427 : Ref sig .tc := ⟨.hbm, 665, rfl⟩
abbrev main_v428 : Ref sig .tc := ⟨.hbm, 666, rfl⟩
abbrev main_v429 : Ref sig .tc := ⟨.hbm, 667, rfl⟩
abbrev main_v430 : Ref sig .tc := ⟨.hbm, 668, rfl⟩
abbrev main_v431 : Ref sig .tc := ⟨.hbm, 669, rfl⟩
abbrev main_v432 : Ref sig .tc := ⟨.hbm, 670, rfl⟩
abbrev main_v433 : Ref sig .tc := ⟨.hbm, 671, rfl⟩
abbrev main_v434 : Ref sig .tc := ⟨.hbm, 672, rfl⟩
abbrev main_v435 : Ref sig .tc := ⟨.hbm, 673, rfl⟩
abbrev main_v436 : Ref sig .tc := ⟨.hbm, 674, rfl⟩
abbrev main_v437 : Ref sig .tc := ⟨.hbm, 675, rfl⟩
abbrev main_v438 : Ref sig .tc := ⟨.hbm, 676, rfl⟩
abbrev main_v439 : Ref sig .tc := ⟨.hbm, 677, rfl⟩
abbrev main_v440 : Ref sig .tc := ⟨.hbm, 678, rfl⟩
abbrev main_v441 : Ref sig .tc := ⟨.hbm, 679, rfl⟩
abbrev main_v442 : Ref sig .tc := ⟨.hbm, 680, rfl⟩
abbrev main_v443 : Ref sig .tc := ⟨.hbm, 681, rfl⟩
abbrev main_v444 : Ref sig .tc := ⟨.hbm, 682, rfl⟩
abbrev main_v445 : Ref sig .tc := ⟨.hbm, 683, rfl⟩
abbrev main_v446 : Ref sig .tc := ⟨.hbm, 684, rfl⟩
abbrev main_v447 : Ref sig .tc := ⟨.hbm, 685, rfl⟩
abbrev main_v448 : Ref sig .tc := ⟨.hbm, 686, rfl⟩
abbrev main_v449 : Ref sig .tc := ⟨.hbm, 687, rfl⟩
abbrev main_v450 : Ref sig .tc := ⟨.hbm, 688, rfl⟩
abbrev main_v451 : Ref sig .tc := ⟨.hbm, 689, rfl⟩
abbrev main_v452 : Ref sig .tc := ⟨.hbm, 690, rfl⟩
abbrev main_v453 : Ref sig .tc := ⟨.hbm, 691, rfl⟩
abbrev main_v454 : Ref sig .tc := ⟨.hbm, 692, rfl⟩
abbrev main_v455 : Ref sig .tc := ⟨.hbm, 693, rfl⟩
abbrev main_v456 : Ref sig .tc := ⟨.hbm, 694, rfl⟩
abbrev main_v457 : Ref sig .tc := ⟨.hbm, 695, rfl⟩
abbrev main_v458 : Ref sig .tc := ⟨.hbm, 696, rfl⟩
abbrev main_v459 : Ref sig .tc := ⟨.hbm, 697, rfl⟩
abbrev main_v460 : Ref sig .tc := ⟨.hbm, 698, rfl⟩
abbrev main_v461 : Ref sig .tc := ⟨.hbm, 699, rfl⟩
abbrev main_v462 : Ref sig .tc := ⟨.hbm, 700, rfl⟩
abbrev main_v463 : Ref sig .tc := ⟨.hbm, 701, rfl⟩
abbrev main_v464 : Ref sig .tc := ⟨.hbm, 702, rfl⟩
abbrev main_v465 : Ref sig .tc := ⟨.hbm, 703, rfl⟩
abbrev main_v466 : Ref sig .tc := ⟨.hbm, 704, rfl⟩
abbrev main_v467 : Ref sig .tc := ⟨.hbm, 705, rfl⟩
abbrev main_v468 : Ref sig .tc := ⟨.hbm, 706, rfl⟩
abbrev main_v469 : Ref sig .tc := ⟨.hbm, 707, rfl⟩
abbrev main_v470 : Ref sig .tc := ⟨.hbm, 708, rfl⟩
abbrev main_v471 : Ref sig .tc := ⟨.hbm, 709, rfl⟩
abbrev main_v472 : Ref sig .tc := ⟨.hbm, 710, rfl⟩
abbrev main_v473 : Ref sig .tc := ⟨.hbm, 711, rfl⟩
abbrev main_v474 : Ref sig .tc := ⟨.hbm, 712, rfl⟩
abbrev main_v475 : Ref sig .tc := ⟨.hbm, 713, rfl⟩
abbrev main_v476 : Ref sig .tc := ⟨.hbm, 714, rfl⟩
abbrev main_v477 : Ref sig .tc := ⟨.hbm, 715, rfl⟩
abbrev main_v478 : Ref sig .tc := ⟨.hbm, 716, rfl⟩
abbrev main_v479 : Ref sig .tc := ⟨.hbm, 717, rfl⟩
abbrev main_v480 : Ref sig .tc := ⟨.hbm, 718, rfl⟩
abbrev main_v481 : Ref sig .tc := ⟨.hbm, 719, rfl⟩
abbrev main_v482 : Ref sig .tc := ⟨.hbm, 720, rfl⟩
abbrev main_v483 : Ref sig .tc := ⟨.hbm, 721, rfl⟩
abbrev main_v484 : Ref sig .tc := ⟨.hbm, 722, rfl⟩
abbrev main_v485 : Ref sig .tc := ⟨.hbm, 723, rfl⟩
abbrev main_v486 : Ref sig .tc := ⟨.hbm, 724, rfl⟩
abbrev main_v487 : Ref sig .tc := ⟨.hbm, 725, rfl⟩
abbrev main_v488 : Ref sig .tc := ⟨.hbm, 726, rfl⟩
abbrev main_v489 : Ref sig .tc := ⟨.hbm, 727, rfl⟩
abbrev main_v490 : Ref sig .tc := ⟨.hbm, 728, rfl⟩
abbrev main_v491 : Ref sig .tc := ⟨.hbm, 729, rfl⟩
abbrev main_v492 : Ref sig .tc := ⟨.hbm, 730, rfl⟩
abbrev main_v493 : Ref sig .tc := ⟨.hbm, 731, rfl⟩
abbrev main_v494 : Ref sig .tc := ⟨.hbm, 732, rfl⟩
abbrev main_v495 : Ref sig .tc := ⟨.hbm, 733, rfl⟩
abbrev main_v496 : Ref sig .tc := ⟨.hbm, 734, rfl⟩
abbrev main_v497 : Ref sig .tc := ⟨.hbm, 735, rfl⟩
abbrev main_v498 : Ref sig .tc := ⟨.hbm, 736, rfl⟩
abbrev main_v499 : Ref sig .tc := ⟨.hbm, 737, rfl⟩
abbrev main_v500 : Ref sig .tc := ⟨.hbm, 738, rfl⟩
abbrev main_v501 : Ref sig .tc := ⟨.hbm, 739, rfl⟩
abbrev main_v502 : Ref sig .tc := ⟨.hbm, 740, rfl⟩
abbrev main_v503 : Ref sig .tc := ⟨.hbm, 741, rfl⟩
abbrev main_v504 : Ref sig .tc := ⟨.hbm, 742, rfl⟩
abbrev main_v505 : Ref sig .tc := ⟨.hbm, 743, rfl⟩
abbrev main_v506 : Ref sig .tc := ⟨.hbm, 744, rfl⟩
abbrev main_v507 : Ref sig .tc := ⟨.hbm, 745, rfl⟩
abbrev main_v508 : Ref sig .tc := ⟨.hbm, 746, rfl⟩
abbrev main_v509 : Ref sig .tc := ⟨.hbm, 747, rfl⟩
abbrev main_v510 : Ref sig .tc := ⟨.hbm, 748, rfl⟩
abbrev main_v511 : Ref sig .tc := ⟨.hbm, 749, rfl⟩
abbrev main_v512 : Ref sig .tc := ⟨.hbm, 750, rfl⟩
abbrev main_v513 : Ref sig .tc := ⟨.hbm, 751, rfl⟩
abbrev main_v514 : Ref sig .tc := ⟨.hbm, 752, rfl⟩
abbrev main_v515 : Ref sig .tc := ⟨.hbm, 753, rfl⟩
abbrev main_v516 : Ref sig .tc := ⟨.hbm, 754, rfl⟩
abbrev main_v517 : Ref sig .tc := ⟨.hbm, 755, rfl⟩
abbrev main_v518 : Ref sig .tc := ⟨.hbm, 756, rfl⟩
abbrev main_v519 : Ref sig .tc := ⟨.hbm, 757, rfl⟩
abbrev main_v520 : Ref sig .tc := ⟨.hbm, 758, rfl⟩
abbrev main_v521 : Ref sig .tc := ⟨.hbm, 759, rfl⟩
abbrev main_v522 : Ref sig .tc := ⟨.hbm, 760, rfl⟩
abbrev main_v523 : Ref sig .tc := ⟨.hbm, 761, rfl⟩
abbrev main_v524 : Ref sig .tc := ⟨.hbm, 762, rfl⟩
abbrev main_v525 : Ref sig .tc := ⟨.hbm, 763, rfl⟩
abbrev main_v526 : Ref sig .tc := ⟨.hbm, 764, rfl⟩
abbrev main_v527 : Ref sig .tc := ⟨.hbm, 765, rfl⟩
abbrev main_v528 : Ref sig .tc := ⟨.hbm, 766, rfl⟩
abbrev main_v529 : Ref sig .tc := ⟨.hbm, 767, rfl⟩
abbrev main_v530 : Ref sig .tc := ⟨.hbm, 768, rfl⟩
abbrev main_v531 : Ref sig .tc := ⟨.hbm, 769, rfl⟩
abbrev main_v532 : Ref sig .tc := ⟨.hbm, 770, rfl⟩
abbrev main_v533 : Ref sig .tc := ⟨.hbm, 771, rfl⟩
abbrev main_v534 : Ref sig .tc := ⟨.hbm, 772, rfl⟩
abbrev main_v535 : Ref sig .tc := ⟨.hbm, 773, rfl⟩
abbrev main_v536 : Ref sig .tc := ⟨.hbm, 774, rfl⟩
abbrev main_v537 : Ref sig .tc := ⟨.hbm, 775, rfl⟩
abbrev main_v538 : Ref sig .tc := ⟨.hbm, 776, rfl⟩
abbrev main_v539 : Ref sig .tc := ⟨.hbm, 777, rfl⟩
abbrev main_v540 : Ref sig .tc := ⟨.hbm, 778, rfl⟩
abbrev main_v541 : Ref sig .tc := ⟨.hbm, 779, rfl⟩
abbrev main_v542 : Ref sig .tc := ⟨.hbm, 780, rfl⟩
abbrev main_v543 : Ref sig .tc := ⟨.hbm, 781, rfl⟩
abbrev main_v544 : Ref sig .tc := ⟨.hbm, 782, rfl⟩
abbrev main_v545 : Ref sig .tc := ⟨.hbm, 783, rfl⟩
abbrev main_v546 : Ref sig .tc := ⟨.hbm, 784, rfl⟩
abbrev main_v547 : Ref sig .tc := ⟨.hbm, 785, rfl⟩
abbrev main_v548 : Ref sig .tc := ⟨.hbm, 786, rfl⟩
abbrev main_v549 : Ref sig .tc := ⟨.hbm, 787, rfl⟩
abbrev main_v550 : Ref sig .tc := ⟨.hbm, 788, rfl⟩
abbrev main_v551 : Ref sig .tc := ⟨.hbm, 789, rfl⟩
abbrev main_v552 : Ref sig .tc := ⟨.hbm, 790, rfl⟩
abbrev main_v553 : Ref sig .tc := ⟨.hbm, 791, rfl⟩
abbrev main_v554_0 : Ref sig .tc := ⟨.hbm, 792, rfl⟩
abbrev main_v554_1 : Ref sig .tc := ⟨.hbm, 793, rfl⟩
abbrev main_v554_2 : Ref sig .tc := ⟨.hbm, 794, rfl⟩
abbrev main_v555 : Ref sig .tc := ⟨.hbm, 795, rfl⟩
abbrev main_v556 : Ref sig .tc := ⟨.hbm, 796, rfl⟩
abbrev main_v557 : Ref sig .tc := ⟨.hbm, 797, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := .none

@[reducible] def k0_t1_loop : Scf.Loop 32 :=
  let c0_i32_35 : BitVec 32 := 0#32
  let c8_i32 : BitVec 32 := 8#32
  let v109 : BitVec 32 := Scalar.addi c0_i32_35 c8_i32
  let c1_i32_36 : BitVec 32 := 1#32
  ⟨c0_i32_35, v109, c1_i32_36⟩
def k0_off1 (k0_t1 : Fin k0_t1_loop.trips) : Fin 2 → Nat :=
  let c0_i32_35 : BitVec 32 := 0#32
  let c1_i32_36 : BitVec 32 := 1#32
  let arg13 : BitVec 32 := Scf.iv c0_i32_35 c1_i32_36 k0_t1
  let c2048_i32 : BitVec 32 := 2048#32
  let v293 : BitVec 32 := Scalar.muli arg13 c2048_i32
  let v294 : Index := Scalar.indexCast v293
  let c0_127 : Index := 0#32
  ![v294.toNat, 0]
@[reducible] def k0_t2_loop : Scf.Loop 32 :=
  let c0_i32_56 : BitVec 32 := 0#32
  let c8_i32_57 : BitVec 32 := 8#32
  let v172 : BitVec 32 := Scalar.addi c0_i32_56 c8_i32_57
  let c1_i32_58 : BitVec 32 := 1#32
  ⟨c0_i32_56, v172, c1_i32_58⟩
def k0_off2 (k0_t2 : Fin k0_t2_loop.trips) : Fin 2 → Nat :=
  let c0_i32_56 : BitVec 32 := 0#32
  let c1_i32_58 : BitVec 32 := 1#32
  let arg13 : BitVec 32 := Scf.iv c0_i32_56 c1_i32_58 k0_t2
  let c2048_i32 : BitVec 32 := 2048#32
  let v293 : BitVec 32 := Scalar.muli arg13 c2048_i32
  let v294 : Index := Scalar.indexCast v293
  let c0_127 : Index := 0#32
  ![v294.toNat, 0]
@[reducible] def k0_t3_loop : Scf.Loop 32 :=
  let c0_i32_66 : BitVec 32 := 0#32
  let c2_i32 : BitVec 32 := 2#32
  let v191 : BitVec 32 := Scalar.addi c0_i32_66 c2_i32
  let c1_i32_67 : BitVec 32 := 1#32
  ⟨c0_i32_66, v191, c1_i32_67⟩
def k0_off3 (k0_t3 : Fin k0_t3_loop.trips) : Fin 2 → Nat :=
  let c2_i32_127 : BitVec 32 := 2#32
  let c0_i32_66 : BitVec 32 := 0#32
  let c1_i32_67 : BitVec 32 := 1#32
  let arg13 : BitVec 32 := Scf.iv c0_i32_66 c1_i32_67 k0_t3
  let v293 : BitVec 32 := Scalar.muli c2_i32_127 arg13
  let c256_i32 : BitVec 32 := 256#32
  let v294 : BitVec 32 := Scalar.muli v293 c256_i32
  let v295 : Index := Scalar.indexCast v294
  let c0_128 : Index := 0#32
  ![v295.toNat, 0]
def k0_off4 (k0_t3 : Fin k0_t3_loop.trips) : Fin 2 → Nat :=
  let c2_i32_129 : BitVec 32 := 2#32
  let c0_i32_66 : BitVec 32 := 0#32
  let c1_i32_67 : BitVec 32 := 1#32
  let arg13 : BitVec 32 := Scf.iv c0_i32_66 c1_i32_67 k0_t3
  let v297 : BitVec 32 := Scalar.muli c2_i32_129 arg13
  let c1_i32_130 : BitVec 32 := 1#32
  let v298 : BitVec 32 := Scalar.addi v297 c1_i32_130
  let c256_i32_131 : BitVec 32 := 256#32
  let v299 : BitVec 32 := Scalar.muli v298 c256_i32_131
  let v300 : Index := Scalar.indexCast v299
  let c0_132 : Index := 0#32
  ![v300.toNat, 0]
@[reducible] def k0_t4_loop : Scf.Loop 32 :=
  let c0_i32_77 : BitVec 32 := 0#32
  let c8_i32_78 : BitVec 32 := 8#32
  let v215 : BitVec 32 := Scalar.addi c0_i32_77 c8_i32_78
  let c1_i32_79 : BitVec 32 := 1#32
  ⟨c0_i32_77, v215, c1_i32_79⟩
def k0_off5 (k0_t4 : Fin k0_t4_loop.trips) : Fin 2 → Nat :=
  let c0_i32_77 : BitVec 32 := 0#32
  let c1_i32_79 : BitVec 32 := 1#32
  let arg13 : BitVec 32 := Scf.iv c0_i32_77 c1_i32_79 k0_t4
  let c2048_i32 : BitVec 32 := 2048#32
  let v293 : BitVec 32 := Scalar.muli arg13 c2048_i32
  let v294 : Index := Scalar.indexCast v293
  let c0_127 : Index := 0#32
  ![v294.toNat, 0]
@[reducible] def k0_t5_loop : Scf.Loop 32 :=
  let c0_i32_87 : BitVec 32 := 0#32
  let c8_i32_88 : BitVec 32 := 8#32
  let v234 : BitVec 32 := Scalar.addi c0_i32_87 c8_i32_88
  let c1_i32_89 : BitVec 32 := 1#32
  ⟨c0_i32_87, v234, c1_i32_89⟩
def k0_off6 (k0_t5 : Fin k0_t5_loop.trips) : Fin 2 → Nat :=
  let c2_i32_127 : BitVec 32 := 2#32
  let c0_i32_87 : BitVec 32 := 0#32
  let c1_i32_89 : BitVec 32 := 1#32
  let arg13 : BitVec 32 := Scf.iv c0_i32_87 c1_i32_89 k0_t5
  let v293 : BitVec 32 := Scalar.muli c2_i32_127 arg13
  let c256_i32 : BitVec 32 := 256#32
  let v294 : BitVec 32 := Scalar.muli v293 c256_i32
  let v295 : Index := Scalar.indexCast v294
  let c0_128 : Index := 0#32
  ![v295.toNat, 0]
def k0_off7 (k0_t5 : Fin k0_t5_loop.trips) : Fin 2 → Nat :=
  let c2_i32_129 : BitVec 32 := 2#32
  let c0_i32_87 : BitVec 32 := 0#32
  let c1_i32_89 : BitVec 32 := 1#32
  let arg13 : BitVec 32 := Scf.iv c0_i32_87 c1_i32_89 k0_t5
  let v297 : BitVec 32 := Scalar.muli c2_i32_129 arg13
  let c1_i32_130 : BitVec 32 := 1#32
  let v298 : BitVec 32 := Scalar.addi v297 c1_i32_130
  let c256_i32_131 : BitVec 32 := 256#32
  let v299 : BitVec 32 := Scalar.muli v298 c256_i32_131
  let v300 : Index := Scalar.indexCast v299
  let c0_132 : Index := 0#32
  ![v300.toNat, 0]
@[reducible] def k0_t6_loop : Scf.Loop 32 :=
  let c0_i32_100 : BitVec 32 := 0#32
  let c8_i32_101 : BitVec 32 := 8#32
  let v258 : BitVec 32 := Scalar.addi c0_i32_100 c8_i32_101
  let c1_i32_102 : BitVec 32 := 1#32
  ⟨c0_i32_100, v258, c1_i32_102⟩
def k0_off8 (k0_t6 : Fin k0_t6_loop.trips) : Fin 2 → Nat :=
  let c0_i32_100 : BitVec 32 := 0#32
  let c1_i32_102 : BitVec 32 := 1#32
  let arg13 : BitVec 32 := Scf.iv c0_i32_100 c1_i32_102 k0_t6
  let c2048_i32 : BitVec 32 := 2048#32
  let v293 : BitVec 32 := Scalar.muli arg13 c2048_i32
  let v294 : Index := Scalar.indexCast v293
  let c0_127 : Index := 0#32
  ![v294.toNat, 0]
@[reducible] def k0_t7_loop : Scf.Loop 32 :=
  let c0_i32_104 : BitVec 32 := 0#32
  let c8_i32_105 : BitVec 32 := 8#32
  let v259 : BitVec 32 := Scalar.addi c0_i32_104 c8_i32_105
  let c1_i32_106 : BitVec 32 := 1#32
  ⟨c0_i32_104, v259, c1_i32_106⟩
def k0_off9 (k0_t7 : Fin k0_t7_loop.trips) : Fin 2 → Nat :=
  let c4_i32_127 : BitVec 32 := 4#32
  let c0_i32_104 : BitVec 32 := 0#32
  let c1_i32_106 : BitVec 32 := 1#32
  let arg13 : BitVec 32 := Scf.iv c0_i32_104 c1_i32_106 k0_t7
  let v293 : BitVec 32 := Scalar.muli c4_i32_127 arg13
  let c512_i32 : BitVec 32 := 512#32
  let v294 : BitVec 32 := Scalar.muli v293 c512_i32
  let v295 : Index := Scalar.indexCast v294
  let c0_128 : Index := 0#32
  ![v295.toNat, 0]
def k0_off10 (k0_t7 : Fin k0_t7_loop.trips) (c1_i32_130 : BitVec 32) : Fin 2 → Nat :=
  let c4_i32_129 : BitVec 32 := 4#32
  let c0_i32_104 : BitVec 32 := 0#32
  let c1_i32_106 : BitVec 32 := 1#32
  let arg13 : BitVec 32 := Scf.iv c0_i32_104 c1_i32_106 k0_t7
  let v297 : BitVec 32 := Scalar.muli c4_i32_129 arg13
  let v298 : BitVec 32 := Scalar.addi v297 c1_i32_130
  let c512_i32_131 : BitVec 32 := 512#32
  let v299 : BitVec 32 := Scalar.muli v298 c512_i32_131
  let v300 : Index := Scalar.indexCast v299
  let c0_132 : Index := 0#32
  ![v300.toNat, 0]
abbrev stage0_0 : Fin 1 → Memref sig .tc .vmem S2048x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16384x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1152x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S32x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2048x64 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S768x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S2048x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S8x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S8x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
-- ==== ReferenceIdeal.lean ====
abbrev S64x32x16x16 : Shape := ⟨4, ![64, 32, 16, 16]⟩
abbrev S4096x32 : Shape := ⟨2, ![4096, 32]⟩
abbrev S4x32x32x3x3 : Shape := ⟨5, ![4, 32, 32, 3, 3]⟩
abbrev S4x32 : Shape := ⟨2, ![4, 32]⟩
abbrev S_ : Shape := ⟨0, ![]⟩

abbrev nBuf : Space → Nat
  | .hbm => 87
  | .vmem => 0
  | .smem => 0
  | _ => 0

abbrev bufTy : (tb : Table) → Fin (tcTables nBuf tb) → BufTy
  | .hbm, ⟨0, _⟩ => ⟨S64x32x16x16, .f32⟩
  | .hbm, ⟨1, _⟩ => ⟨S4096x32, .f32⟩
  | .hbm, ⟨2, _⟩ => ⟨S4x32x32x3x3, .f32⟩
  | .hbm, ⟨3, _⟩ => ⟨S4x32, .f32⟩
  | .hbm, ⟨4, _⟩ => ⟨S_, .f32⟩
  | .hbm, ⟨5, _⟩ => ⟨S64x32x16x16, .f32⟩
  | .hbm, ⟨6, _⟩ => ⟨S64x32x16x16, .f32⟩
  | .hbm, ⟨7, _⟩ => ⟨S64x32x16x16, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S64x32x16x16, .f32⟩
  | .hbm, ⟨17, _⟩ => ⟨S64x32x16x16, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S64x32x16x16, .f32⟩
  | .hbm, ⟨24, _⟩ => ⟨S64x32x16x16, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S64x32x16x16, .f32⟩
  | .hbm, ⟨33, _⟩ => ⟨S64x32x16x16, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S64x32x16x16, .f32⟩
  | .hbm, ⟨40, _⟩ => ⟨S64x32x16x16, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S64x32x16x16, .f32⟩
  | .hbm, ⟨49, _⟩ => ⟨S64x32x16x16, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S64x32x16x16, .f32⟩
  | .hbm, ⟨56, _⟩ => ⟨S64x32x16x16, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S64x32x16x16, .f32⟩
  | .hbm, ⟨65, _⟩ => ⟨S64x32x16x16, .f32⟩
  | .hbm, ⟨66, _⟩ => ⟨S_, .f32⟩
  | .hbm, ⟨67, _⟩ => ⟨S_, .f32⟩
  | .hbm, ⟨68, _⟩ => ⟨S_, .f32⟩
  | .hbm, ⟨69, _⟩ => ⟨S_, .f32⟩
  | .hbm, ⟨70, _⟩ => ⟨S_, .f32⟩
  | .hbm, ⟨71, _⟩ => ⟨S64x32x16x16, .f32⟩
  | .hbm, ⟨72, _⟩ => ⟨S64x32x16x16, .f32⟩
  | .hbm, ⟨73, _⟩ => ⟨S_, .f32⟩
  | .hbm, ⟨74, _⟩ => ⟨S_, .f32⟩
  | .hbm, ⟨75, _⟩ => ⟨S_, .f32⟩
  | .hbm, ⟨76, _⟩ => ⟨S_, .f32⟩
  | .hbm, ⟨77, _⟩ => ⟨S_, .f32⟩
  | .hbm, ⟨78, _⟩ => ⟨S_, .f32⟩
  | .hbm, ⟨79, _⟩ => ⟨S_, .f32⟩
  | .hbm, ⟨80, _⟩ => ⟨S64x32x16x16, .f32⟩
  | .hbm, ⟨81, _⟩ => ⟨S64x32x16x16, .f32⟩
  | .hbm, ⟨82, _⟩ => ⟨S_, .f32⟩
  | .hbm, ⟨83, _⟩ => ⟨S_, .f32⟩
  | .hbm, ⟨84, _⟩ => ⟨S_, .f32⟩
  | .hbm, ⟨85, _⟩ => ⟨S_, .f32⟩
  | .hbm, ⟨86, _⟩ => ⟨S_, .f32⟩
  | _, _ => ⟨S64x32x16x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_cst_0 : Ref sig .tc := ⟨.hbm, 10, rfl⟩
abbrev main_v1 : Ref sig .tc := ⟨.hbm, 11, rfl⟩
abbrev main_cst_0 : Ref sig .tc := ⟨.hbm, 12, rfl⟩
abbrev main_v2 : Ref sig .tc := ⟨.hbm, 13, rfl⟩
abbrev main_cst_1 : Ref sig .tc := ⟨.hbm, 14, rfl⟩
abbrev main_v3 : Ref sig .tc := ⟨.hbm, 15, rfl⟩
abbrev main_call1_v0 : Ref sig .tc := ⟨.hbm, 16, rfl⟩
abbrev main_call1_v1 : Ref sig .tc := ⟨.hbm, 17, rfl⟩
abbrev main_call1_cst : Ref sig .tc := ⟨.hbm, 18, rfl⟩
abbrev main_call1_v2 : Ref sig .tc := ⟨.hbm, 19, rfl⟩
abbrev main_call1_cst_0 : Ref sig .tc := ⟨.hbm, 20, rfl⟩
abbrev main_v4 : Ref sig .tc := ⟨.hbm, 21, rfl⟩
abbrev main_v5 : Ref sig .tc := ⟨.hbm, 22, rfl⟩
abbrev main_call2_v0 : Ref sig .tc := ⟨.hbm, 23, rfl⟩
abbrev main_call2_v1 : Ref sig .tc := ⟨.hbm, 24, rfl⟩
abbrev main_call2_cst : Ref sig .tc := ⟨.hbm, 25, rfl⟩
abbrev main_call2_v2 : Ref sig .tc := ⟨.hbm, 26, rfl⟩
abbrev main_call2_cst_0 : Ref sig .tc := ⟨.hbm, 27, rfl⟩
abbrev main_v6 : Ref sig .tc := ⟨.hbm, 28, rfl⟩
abbrev main_cst_2 : Ref sig .tc := ⟨.hbm, 29, rfl⟩
abbrev main_v7 : Ref sig .tc := ⟨.hbm, 30, rfl⟩
abbrev main_v8 : Ref sig .tc := ⟨.hbm, 31, rfl⟩
abbrev main_call3_v0 : Ref sig .tc := ⟨.hbm, 32, rfl⟩
abbrev main_call3_v1 : Ref sig .tc := ⟨.hbm, 33, rfl⟩
abbrev main_call3_cst : Ref sig .tc := ⟨.hbm, 34, rfl⟩
abbrev main_call3_v2 : Ref sig .tc := ⟨.hbm, 35, rfl⟩
abbrev main_call3_cst_0 : Ref sig .tc := ⟨.hbm, 36, rfl⟩
abbrev main_v9 : Ref sig .tc := ⟨.hbm, 37, rfl⟩
abbrev main_v10 : Ref sig .tc := ⟨.hbm, 38, rfl⟩
abbrev main_call4_v0 : Ref sig .tc := ⟨.hbm, 39, rfl⟩
abbrev main_call4_v1 : Ref sig .tc := ⟨.hbm, 40, rfl⟩
abbrev main_call4_cst : Ref sig .tc := ⟨.hbm, 41, rfl⟩
abbrev main_call4_v2 : Ref sig .tc := ⟨.hbm, 42, rfl⟩
abbrev main_call4_cst_0 : Ref sig .tc := ⟨.hbm, 43, rfl⟩
abbrev main_v11 : Ref sig .tc := ⟨.hbm, 44, rfl⟩
abbrev main_cst_3 : Ref sig .tc := ⟨.hbm, 45, rfl⟩
abbrev main_v12 : Ref sig .tc := ⟨.hbm, 46, rfl⟩
abbrev main_v13 : Ref sig .tc := ⟨.hbm, 47, rfl⟩
abbrev main_call5_v0 : Ref sig .tc := ⟨.hbm, 48, rfl⟩
abbrev main_call5_v1 : Ref sig .tc := ⟨.hbm, 49, rfl⟩
abbrev main_call5_cst : Ref sig .tc := ⟨.hbm, 50, rfl⟩
abbrev main_call5_v2 : Ref sig .tc := ⟨.hbm, 51, rfl⟩
abbrev main_call5_cst_0 : Ref sig .tc := ⟨.hbm, 52, rfl⟩
abbrev main_v14 : Ref sig .tc := ⟨.hbm, 53, rfl⟩
abbrev main_v15 : Ref sig .tc := ⟨.hbm, 54, rfl⟩
abbrev main_call6_v0 : Ref sig .tc := ⟨.hbm, 55, rfl⟩
abbrev main_call6_v1 : Ref sig .tc := ⟨.hbm, 56, rfl⟩
abbrev main_call6_cst : Ref sig .tc := ⟨.hbm, 57, rfl⟩
abbrev main_call6_v2 : Ref sig .tc := ⟨.hbm, 58, rfl⟩
abbrev main_call6_cst_0 : Ref sig .tc := ⟨.hbm, 59, rfl⟩
abbrev main_v16 : Ref sig .tc := ⟨.hbm, 60, rfl⟩
abbrev main_cst_4 : Ref sig .tc := ⟨.hbm, 61, rfl⟩
abbrev main_v17 : Ref sig .tc := ⟨.hbm, 62, rfl⟩
abbrev main_v18 : Ref sig .tc := ⟨.hbm, 63, rfl⟩
abbrev main_call7_v0 : Ref sig .tc := ⟨.hbm, 64, rfl⟩
abbrev main_call7_v1 : Ref sig .tc := ⟨.hbm, 65, rfl⟩
abbrev main_call7_cst : Ref sig .tc := ⟨.hbm, 66, rfl⟩
abbrev main_call7_v2 : Ref sig .tc := ⟨.hbm, 67, rfl⟩
abbrev main_call7_cst_0 : Ref sig .tc := ⟨.hbm, 68, rfl⟩
abbrev main_v19 : Ref sig .tc := ⟨.hbm, 69, rfl⟩
abbrev main_v20 : Ref sig .tc := ⟨.hbm, 70, rfl⟩
abbrev main_call8_v0 : Ref sig .tc := ⟨.hbm, 71, rfl⟩
abbrev main_call8_v1 : Ref sig .tc := ⟨.hbm, 72, rfl⟩
abbrev main_call8_cst : Ref sig .tc := ⟨.hbm, 73, rfl⟩
abbrev main_call8_v2 : Ref sig .tc := ⟨.hbm, 74, rfl⟩
abbrev main_call8_cst_0 : Ref sig .tc := ⟨.hbm, 75, rfl⟩
abbrev main_v21 : Ref sig .tc := ⟨.hbm, 76, rfl⟩
abbrev main_cst_5 : Ref sig .tc := ⟨.hbm, 77, rfl⟩
abbrev main_v22 : Ref sig .tc := ⟨.hbm, 78, rfl⟩
abbrev main_v23 : Ref sig .tc := ⟨.hbm, 79, rfl⟩
abbrev main_call9_v0 : Ref sig .tc := ⟨.hbm, 80, rfl⟩
abbrev main_call9_v1 : Ref sig .tc := ⟨.hbm, 81, rfl⟩
abbrev main_call9_cst : Ref sig .tc := ⟨.hbm, 82, rfl⟩
abbrev main_call9_v2 : Ref sig .tc := ⟨.hbm, 83, rfl⟩
abbrev main_call9_cst_0 : Ref sig .tc := ⟨.hbm, 84, rfl⟩
abbrev main_v24 : Ref sig .tc := ⟨.hbm, 85, rfl⟩
abbrev main_v25 : Ref sig .tc := ⟨.hbm, 86, rfl⟩

abbrev nD : Nat := 1
abbrev τ : Topo := Topo.v7x

variable {F : FTy → Type} [FloatOps F]
-- ==== Searches.lean ====
abbrev S64x32 : Shape := ⟨2, ![64, 32]⟩
abbrev S256x32 : Shape := ⟨2, ![256, 32]⟩
abbrev S1024x32 : Shape := ⟨2, ![1024, 32]⟩
abbrev S4096x32 : Shape := ⟨2, ![4096, 32]⟩
abbrev S64x32x16x16 : Shape := ⟨4, ![64, 32, 16, 16]⟩
abbrev S4x32x32x3x3 : Shape := ⟨5, ![4, 32, 32, 3, 3]⟩
abbrev S4x32 : Shape := ⟨2, ![4, 32]⟩
abbrev S64x16x16x32 : Shape := ⟨4, ![64, 16, 16, 32]⟩
abbrev S16384x32 : Shape := ⟨2, ![16384, 32]⟩
abbrev S1x32x32x1x1 : Shape := ⟨5, ![1, 32, 32, 1, 1]⟩
abbrev S32x32 : Shape := ⟨2, ![32, 32]⟩
abbrev S288x32 : Shape := ⟨2, ![288, 32]⟩
abbrev S1152x32 : Shape := ⟨2, ![1152, 32]⟩
abbrev S1x32 : Shape := ⟨2, ![1, 32]⟩
abbrev S32 : Shape := ⟨1, ![32]⟩
abbrev S8x32 : Shape := ⟨2, ![8, 32]⟩
abbrev S2048x256 : Shape := ⟨2, ![2048, 256]⟩
abbrev S8x128 : Shape := ⟨2, ![8, 128]⟩
abbrev S8x4096 : Shape := ⟨2, ![8, 4096]⟩
abbrev S4096 : Shape := ⟨1, ![4096]⟩
abbrev S4096x1 : Shape := ⟨2, ![4096, 1]⟩
abbrev S4096x96 : Shape := ⟨2, ![4096, 96]⟩
abbrev S4096x64 : Shape := ⟨2, ![4096, 64]⟩
abbrev S64x96 : Shape := ⟨2, ![64, 96]⟩
abbrev S64x4096 : Shape := ⟨2, ![64, 4096]⟩
abbrev S64 : Shape := ⟨1, ![64]⟩
abbrev S64x1 : Shape := ⟨2, ![64, 1]⟩
abbrev S1x4096 : Shape := ⟨2, ![1, 4096]⟩
abbrev S64x32x256 : Shape := ⟨3, ![64, 32, 256]⟩
abbrev S64x256x32 : Shape := ⟨3, ![64, 256, 32]⟩
abbrev S2048x32 : Shape := ⟨2, ![2048, 32]⟩
abbrev S2048x1 : Shape := ⟨2, ![2048, 1]⟩
abbrev S17x32 : Shape := ⟨2, ![17, 32]⟩
abbrev S2031x32 : Shape := ⟨2, ![2031, 32]⟩
abbrev S16x32 : Shape := ⟨2, ![16, 32]⟩
abbrev S2032x32 : Shape := ⟨2, ![2032, 32]⟩
abbrev S15x32 : Shape := ⟨2, ![15, 32]⟩
abbrev S2033x32 : Shape := ⟨2, ![2033, 32]⟩
abbrev S2047x32 : Shape := ⟨2, ![2047, 32]⟩
abbrev S2048x192 : Shape := ⟨2, ![2048, 192]⟩
abbrev S192x32 : Shape := ⟨2, ![192, 32]⟩
abbrev S2048x96 : Shape := ⟨2, ![2048, 96]⟩
abbrev S96x32 : Shape := ⟨2, ![96, 32]⟩
abbrev S256x96 : Shape := ⟨2, ![256, 96]⟩
abbrev S256x4096 : Shape := ⟨2, ![256, 4096]⟩
abbrev S256 : Shape := ⟨1, ![256]⟩
abbrev S256x1 : Shape := ⟨2, ![256, 1]⟩
abbrev S256x64 : Shape := ⟨2, ![256, 64]⟩
abbrev S512x32 : Shape := ⟨2, ![512, 32]⟩
abbrev S512x96 : Shape := ⟨2, ![512, 96]⟩
abbrev S512x4096 : Shape := ⟨2, ![512, 4096]⟩
abbrev S512 : Shape := ⟨1, ![512]⟩
abbrev S512x1 : Shape := ⟨2, ![512, 1]⟩
abbrev S1x1x4096 : Shape := ⟨3, ![1, 1, 4096]⟩
abbrev S1 : Shape := ⟨1, ![1]⟩
abbrev S1x1x1 : Shape := ⟨3, ![1, 1, 1]⟩
abbrev S1x1 : Shape := ⟨2, ![1, 1]⟩
abbrev S_ : Shape := ⟨0, ![]⟩

abbrev nBuf : Space → Nat
  | .hbm => 151
  | .vmem => 16
  | .smem => 0
  | _ => 0

abbrev hbmTy0_0 (i : Nat) : BufTy := match i % 128 with
  | 0 => ⟨S64x32, .f32⟩
  | 1 => ⟨S256x32, .f32⟩
  | 2 => ⟨S1024x32, .f32⟩
  | 3 => ⟨S4096x32, .f32⟩
  | 4 => ⟨S64x32x16x16, .f32⟩
  | 5 => ⟨S64x32x16x16, .f32⟩
  | 6 => ⟨S64x32x16x16, .f32⟩
  | 7 => ⟨S64x32x16x16, .f32⟩
  | 8 => ⟨S64x32x16x16, .f32⟩
  | 9 => ⟨S4096x32, .f32⟩
  | 10 => ⟨S4x32x32x3x3, .f32⟩
  | 11 => ⟨S4x32, .f32⟩
  | 12 => ⟨S64x16x16x32, .f32⟩
  | 13 => ⟨S16384x32, .f32⟩
  | 14 => ⟨S1x32x32x1x1, .f32⟩
  | 15 => ⟨S32x32, .f32⟩
  | 16 => ⟨S32x32, .f32⟩
  | 17 => ⟨S1x32x32x1x1, .f32⟩
  | 18 => ⟨S32x32, .f32⟩
  | 19 => ⟨S32x32, .f32⟩
  | 20 => ⟨S1x32x32x1x1, .f32⟩
  | 21 => ⟨S32x32, .f32⟩
  | 22 => ⟨S32x32, .f32⟩
  | 23 => ⟨S1x32x32x1x1, .f32⟩
  | 24 => ⟨S32x32, .f32⟩
  | 25 => ⟨S32x32, .f32⟩
  | 26 => ⟨S1x32x32x1x1, .f32⟩
  | 27 => ⟨S32x32, .f32⟩
  | 28 => ⟨S32x32, .f32⟩
  | 29 => ⟨S1x32x32x1x1, .f32⟩
  | 30 => ⟨S32x32, .f32⟩
  | 31 => ⟨S32x32, .f32⟩
  | 32 => ⟨S1x32x32x1x1, .f32⟩
  | 33 => ⟨S32x32, .f32⟩
  | 34 => ⟨S32x32, .f32⟩
  | 35 => ⟨S1x32x32x1x1, .f32⟩
  | 36 => ⟨S32x32, .f32⟩
  | 37 => ⟨S32x32, .f32⟩
  | 38 => ⟨S1x32x32x1x1, .f32⟩
  | 39 => ⟨S32x32, .f32⟩
  | 40 => ⟨S32x32, .f32⟩
  | 41 => ⟨S288x32, .f32⟩
  | 42 => ⟨S1x32x32x1x1, .f32⟩
  | 43 => ⟨S32x32, .f32⟩
  | 44 => ⟨S32x32, .f32⟩
  | 45 => ⟨S1x32x32x1x1, .f32⟩
  | 46 => ⟨S32x32, .f32⟩
  | 47 => ⟨S32x32, .f32⟩
  | 48 => ⟨S1x32x32x1x1, .f32⟩
  | 49 => ⟨S32x32, .f32⟩
  | 50 => ⟨S32x32, .f32⟩
  | 51 => ⟨S1x32x32x1x1, .f32⟩
  | 52 => ⟨S32x32, .f32⟩
  | 53 => ⟨S32x32, .f32⟩
  | 54 => ⟨S1x32x32x1x1, .f32⟩
  | 55 => ⟨S32x32, .f32⟩
  | 56 => ⟨S32x32, .f32⟩
  | 57 => ⟨S1x32x32x1x1, .f32⟩
  | 58 => ⟨S32x32, .f32⟩
  | 59 => ⟨S32x32, .f32⟩
  | 60 => ⟨S1x32x32x1x1, .f32⟩
  | 61 => ⟨S32x32, .f32⟩
  | 62 => ⟨S32x32, .f32⟩
  | 63 => ⟨S1x32x32x1x1, .f32⟩
  | 64 => ⟨S32x32, .f32⟩
  | 65 => ⟨S32x32, .f32⟩
  | 66 => ⟨S1x32x32x1x1, .f32⟩
  | 67 => ⟨S32x32, .f32⟩
  | 68 => ⟨S32x32, .f32⟩
  | 69 => ⟨S288x32, .f32⟩
  | 70 => ⟨S1x32x32x1x1, .f32⟩
  | 71 => ⟨S32x32, .f32⟩
  | 72 => ⟨S32x32, .f32⟩
  | 73 => ⟨S1x32x32x1x1, .f32⟩
  | 74 => ⟨S32x32, .f32⟩
  | 75 => ⟨S32x32, .f32⟩
  | 76 => ⟨S1x32x32x1x1, .f32⟩
  | 77 => ⟨S32x32, .f32⟩
  | 78 => ⟨S32x32, .f32⟩
  | 79 => ⟨S1x32x32x1x1, .f32⟩
  | 80 => ⟨S32x32, .f32⟩
  | 81 => ⟨S32x32, .f32⟩
  | 82 => ⟨S1x32x32x1x1, .f32⟩
  | 83 => ⟨S32x32, .f32⟩
  | 84 => ⟨S32x32, .f32⟩
  | 85 => ⟨S1x32x32x1x1, .f32⟩
  | 86 => ⟨S32x32, .f32⟩
  | 87 => ⟨S32x32, .f32⟩
  | 88 => ⟨S1x32x32x1x1, .f32⟩
  | 89 => ⟨S32x32, .f32⟩
  | 90 => ⟨S32x32, .f32⟩
  | 91 => ⟨S1x32x32x1x1, .f32⟩
  | 92 => ⟨S32x32, .f32⟩
  | 93 => ⟨S32x32, .f32⟩
  | 94 => ⟨S1x32x32x1x1, .f32⟩
  | 95 => ⟨S32x32, .f32⟩
  | 96 => ⟨S32x32, .f32⟩
  | 97 => ⟨S288x32, .f32⟩
  | 98 => ⟨S1x32x32x1x1, .f32⟩
  | 99 => ⟨S32x32, .f32⟩
  | 100 => ⟨S32x32, .f32⟩
  | 101 => ⟨S1x32x32x1x1, .f32⟩
  | 102 => ⟨S32x32, .f32⟩
  | 103 => ⟨S32x32, .f32⟩
  | 104 => ⟨S1x32x32x1x1, .f32⟩
  | 105 => ⟨S32x32, .f32⟩
  | 106 => ⟨S32x32, .f32⟩
  | 107 => ⟨S1x32x32x1x1, .f32⟩
  | 108 => ⟨S32x32, .f32⟩
  | 109 => ⟨S32x32, .f32⟩
  | 110 => ⟨S1x32x32x1x1, .f32⟩
  | 111 => ⟨S32x32, .f32⟩
  | 112 => ⟨S32x32, .f32⟩
  | 113 => ⟨S1x32x32x1x1, .f32⟩
  | 114 => ⟨S32x32, .f32⟩
  | 115 => ⟨S32x32, .f32⟩
  | 116 => ⟨S1x32x32x1x1, .f32⟩
  | 117 => ⟨S32x32, .f32⟩
  | 118 => ⟨S32x32, .f32⟩
  | 119 => ⟨S1x32x32x1x1, .f32⟩
  | 120 => ⟨S32x32, .f32⟩
  | 121 => ⟨S32x32, .f32⟩
  | 122 => ⟨S1x32x32x1x1, .f32⟩
  | 123 => ⟨S32x32, .f32⟩
  | 124 => ⟨S32x32, .f32⟩
  | 125 => ⟨S288x32, .f32⟩
  | 126 => ⟨S1152x32, .f32⟩
  | 127 => ⟨S1x32, .f32⟩
  | _ => ⟨S64x32, .f32⟩

abbrev hbmTy0_1 (i : Nat) : BufTy := match i % 128 with
  | 0 => ⟨S32, .f32⟩
  | 1 => ⟨S1x32, .f32⟩
  | 2 => ⟨S8x32, .f32⟩
  | 3 => ⟨S1x32, .f32⟩
  | 4 => ⟨S32, .f32⟩
  | 5 => ⟨S1x32, .f32⟩
  | 6 => ⟨S8x32, .f32⟩
  | 7 => ⟨S1x32, .f32⟩
  | 8 => ⟨S32, .f32⟩
  | 9 => ⟨S1x32, .f32⟩
  | 10 => ⟨S8x32, .f32⟩
  | 11 => ⟨S1x32, .f32⟩
  | 12 => ⟨S32, .f32⟩
  | 13 => ⟨S1x32, .f32⟩
  | 14 => ⟨S8x32, .f32⟩
  | 15 => ⟨S32x32, .f32⟩
  | 16 => ⟨S2048x256, .f32⟩
  | 17 => ⟨S2048x256, .f32⟩
  | 18 => ⟨S2048x256, .f32⟩
  | 19 => ⟨S2048x256, .f32⟩
  | 20 => ⟨S8x128, .f32⟩
  | 21 => ⟨S1x1, .f32⟩
  | 22 => ⟨S_, .f32⟩
  | _ => ⟨S64x32, .f32⟩

abbrev hbmTy (i : Nat) : BufTy := match i / 128 with
  | 0 => hbmTy0_0 i
  | 1 => hbmTy0_1 i
  | _ => ⟨S64x32, .f32⟩

abbrev bufTy : (tb : Table) → Fin (tcTables nBuf tb) → BufTy
  | .hbm, ⟨i, _⟩ => hbmTy i
  | .local _ .vmem, ⟨0, _⟩ => ⟨S64x32, .f32⟩
  | .local _ .vmem, ⟨1, _⟩ => ⟨S256x32, .f32⟩
  | .local _ .vmem, ⟨2, _⟩ => ⟨S1024x32, .f32⟩
  | .local _ .vmem, ⟨3, _⟩ => ⟨S4096x32, .f32⟩
  | .local _ .vmem, ⟨4, _⟩ => ⟨S2048x256, .f32⟩
  | .local _ .vmem, ⟨5, _⟩ => ⟨S2048x256, .f32⟩
  | .local _ .vmem, ⟨6, _⟩ => ⟨S2048x256, .f32⟩
  | .local _ .vmem, ⟨7, _⟩ => ⟨S2048x256, .f32⟩
  | .local _ .vmem, ⟨8, _⟩ => ⟨S16384x32, .f32⟩
  | .local _ .vmem, ⟨9, _⟩ => ⟨S4096x32, .f32⟩
  | .local _ .vmem, ⟨10, _⟩ => ⟨S1152x32, .f32⟩
  | .local _ .vmem, ⟨11, _⟩ => ⟨S32x32, .f32⟩
  | .local _ .vmem, ⟨12, _⟩ => ⟨S8x128, .f32⟩
  | .local _ .vmem, ⟨13, _⟩ => ⟨S16384x32, .f32⟩
  | .local _ .vmem, ⟨14, _⟩ => ⟨S16384x32, .f32⟩
  | .local _ .vmem, ⟨15, _⟩ => ⟨S8x4096, .f32⟩
  | _, _ => ⟨S64x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩
abbrev main_v71 : Ref sig .tc := ⟨.hbm, 83, rfl⟩
abbrev main_v72 : Ref sig .tc := ⟨.hbm, 84, rfl⟩
abbrev main_v73 : Ref sig .tc := ⟨.hbm, 85, rfl⟩
abbrev main_v74 : Ref sig .tc := ⟨.hbm, 86, rfl⟩
abbrev main_v75 : Ref sig .tc := ⟨.hbm, 87, rfl⟩
abbrev main_v76 : Ref sig .tc := ⟨.hbm, 88, rfl⟩
abbrev main_v77 : Ref sig .tc := ⟨.hbm, 89, rfl⟩
abbrev main_v78 : Ref sig .tc := ⟨.hbm, 90, rfl⟩
abbrev main_v79 : Ref sig .tc := ⟨.hbm, 91, rfl⟩
abbrev main_v80 : Ref sig .tc := ⟨.hbm, 92, rfl⟩
abbrev main_v81 : Ref sig .tc := ⟨.hbm, 93, rfl⟩
abbrev main_v82 : Ref sig .tc := ⟨.hbm, 94, rfl⟩
abbrev main_v83 : Ref sig .tc := ⟨.hbm, 95, rfl⟩
abbrev main_v84 : Ref sig .tc := ⟨.hbm, 96, rfl⟩
abbrev main_v85 : Ref sig .tc := ⟨.hbm, 97, rfl⟩
abbrev main_v86 : Ref sig .tc := ⟨.hbm, 98, rfl⟩
abbrev main_v87 : Ref sig .tc := ⟨.hbm, 99, rfl⟩
abbrev main_v88 : Ref sig .tc := ⟨.hbm, 100, rfl⟩
abbrev main_v89 : Ref sig .tc := ⟨.hbm, 101, rfl⟩
abbrev main_v90 : Ref sig .tc := ⟨.hbm, 102, rfl⟩
abbrev main_v91 : Ref sig .tc := ⟨.hbm, 103, rfl⟩
abbrev main_v92 : Ref sig .tc := ⟨.hbm, 104, rfl⟩
abbrev main_v93 : Ref sig .tc := ⟨.hbm, 105, rfl⟩
abbrev main_v94 : Ref sig .tc := ⟨.hbm, 106, rfl⟩
abbrev main_v95 : Ref sig .tc := ⟨.hbm, 107, rfl⟩
abbrev main_v96 : Ref sig .tc := ⟨.hbm, 108, rfl⟩
abbrev main_v97 : Ref sig .tc := ⟨.hbm, 109, rfl⟩
abbrev main_v98 : Ref sig .tc := ⟨.hbm, 110, rfl⟩
abbrev main_v99 : Ref sig .tc := ⟨.hbm, 111, rfl⟩
abbrev main_v100 : Ref sig .tc := ⟨.hbm, 112, rfl⟩
abbrev main_v101 : Ref sig .tc := ⟨.hbm, 113, rfl⟩
abbrev main_v102 : Ref sig .tc := ⟨.hbm, 114, rfl⟩
abbrev main_v103 : Ref sig .tc := ⟨.hbm, 115, rfl⟩
abbrev main_v104 : Ref sig .tc := ⟨.hbm, 116, rfl⟩
abbrev main_v105 : Ref sig .tc := ⟨.hbm, 117, rfl⟩
abbrev main_v106 : Ref sig .tc := ⟨.hbm, 118, rfl⟩
abbrev main_v107 : Ref sig .tc := ⟨.hbm, 119, rfl⟩
abbrev main_v108 : Ref sig .tc := ⟨.hbm, 120, rfl⟩
abbrev main_v109 : Ref sig .tc := ⟨.hbm, 121, rfl⟩
abbrev main_v110 : Ref sig .tc := ⟨.hbm, 122, rfl⟩
abbrev main_v111 : Ref sig .tc := ⟨.hbm, 123, rfl⟩
abbrev main_v112 : Ref sig .tc := ⟨.hbm, 124, rfl⟩
abbrev main_v113 : Ref sig .tc := ⟨.hbm, 125, rfl⟩
abbrev main_v114 : Ref sig .tc := ⟨.hbm, 126, rfl⟩
abbrev main_v115 : Ref sig .tc := ⟨.hbm, 127, rfl⟩
abbrev main_v116 : Ref sig .tc := ⟨.hbm, 128, rfl⟩
abbrev main_v117 : Ref sig .tc := ⟨.hbm, 129, rfl⟩
abbrev main_v118 : Ref sig .tc := ⟨.hbm, 130, rfl⟩
abbrev main_v119 : Ref sig .tc := ⟨.hbm, 131, rfl⟩
abbrev main_v120 : Ref sig .tc := ⟨.hbm, 132, rfl⟩
abbrev main_v121 : Ref sig .tc := ⟨.hbm, 133, rfl⟩
abbrev main_v122 : Ref sig .tc := ⟨.hbm, 134, rfl⟩
abbrev main_v123 : Ref sig .tc := ⟨.hbm, 135, rfl⟩
abbrev main_v124 : Ref sig .tc := ⟨.hbm, 136, rfl⟩
abbrev main_v125 : Ref sig .tc := ⟨.hbm, 137, rfl⟩
abbrev main_v126 : Ref sig .tc := ⟨.hbm, 138, rfl⟩
abbrev main_v127 : Ref sig .tc := ⟨.hbm, 139, rfl⟩
abbrev main_v128 : Ref sig .tc := ⟨.hbm, 140, rfl⟩
abbrev main_v129 : Ref sig .tc := ⟨.hbm, 141, rfl⟩
abbrev main_v130 : Ref sig .tc := ⟨.hbm, 142, rfl⟩
abbrev main_v131 : Ref sig .tc := ⟨.hbm, 143, rfl⟩
abbrev main_v132 : Ref sig .tc := ⟨.hbm, 144, rfl⟩
abbrev main_v133 : Ref sig .tc := ⟨.hbm, 145, rfl⟩
abbrev main_v134 : Ref sig .tc := ⟨.hbm, 146, rfl⟩
abbrev main_v135 : Ref sig .tc := ⟨.hbm, 147, rfl⟩
abbrev main_v136 : Ref sig .tc := ⟨.hbm, 148, rfl⟩
abbrev main_v137 : Ref sig .tc := ⟨.hbm, 149, rfl⟩
abbrev main_v138 : Ref sig .tc := ⟨.hbm, 150, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_scratch0 : Ref sig .tc := ⟨.vmem, 13, rfl⟩
abbrev cc0_scratch1 : Ref sig .tc := ⟨.vmem, 14, rfl⟩
abbrev cc0_scratch2 : Ref sig .tc := ⟨.vmem, 15, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12

abbrev nD : Nat := 1
abbrev τ : Topo := Topo.v7x

variable {F : FTy → Type} [FloatOps F]

abbrev grid0 : Pipeline.Grid := .none

@[reducible] def k0_t1_loop : Scf.Loop 32 :=
  let c0_i32 : BitVec 32 := 0#32
  let c8_i32 : BitVec 32 := 8#32
  let v63 : BitVec 32 := Scalar.addi c0_i32 c8_i32
  let c1_i32 : BitVec 32 := 1#32
  ⟨c0_i32, v63, c1_i32⟩
def k0_off1 (k0_t1 : Fin k0_t1_loop.trips) : Fin 2 → Nat :=
  let c0_i32 : BitVec 32 := 0#32
  let c1_i32 : BitVec 32 := 1#32
  let arg16 : BitVec 32 := Scf.iv c0_i32 c1_i32 k0_t1
  let c2048_i32 : BitVec 32 := 2048#32
  let v159 : BitVec 32 := Scalar.muli arg16 c2048_i32
  let v160 : Index := Scalar.indexCast v159
  let c0_94 : Index := 0#32
  ![v160.toNat, 0]
@[reducible] def k0_t2_loop : Scf.Loop 32 :=
  let c0_i32_42 : BitVec 32 := 0#32
  let c8_i32_43 : BitVec 32 := 8#32
  let v99 : BitVec 32 := Scalar.addi c0_i32_42 c8_i32_43
  let c1_i32_44 : BitVec 32 := 1#32
  ⟨c0_i32_42, v99, c1_i32_44⟩
def k0_off2 (k0_t2 : Fin k0_t2_loop.trips) : Fin 2 → Nat :=
  let c0_i32_42 : BitVec 32 := 0#32
  let c1_i32_44 : BitVec 32 := 1#32
  let arg16 : BitVec 32 := Scf.iv c0_i32_42 c1_i32_44 k0_t2
  let c2048_i32 : BitVec 32 := 2048#32
  let v159 : BitVec 32 := Scalar.muli arg16 c2048_i32
  let v160 : Index := Scalar.indexCast v159
  let c0_94 : Index := 0#32
  ![v160.toNat, 0]
@[reducible] def k0_t3_loop : Scf.Loop 32 :=
  let c0_i32_50 : BitVec 32 := 0#32
  let c2_i32 : BitVec 32 := 2#32
  let v104 : BitVec 32 := Scalar.addi c0_i32_50 c2_i32
  let c1_i32_51 : BitVec 32 := 1#32
  ⟨c0_i32_50, v104, c1_i32_51⟩
def k0_off3 (k0_t3 : Fin k0_t3_loop.trips) : Fin 2 → Nat :=
  let c2_i32_94 : BitVec 32 := 2#32
  let c0_i32_50 : BitVec 32 := 0#32
  let c1_i32_51 : BitVec 32 := 1#32
  let arg16 : BitVec 32 := Scf.iv c0_i32_50 c1_i32_51 k0_t3
  let v159 : BitVec 32 := Scalar.muli c2_i32_94 arg16
  let c256_i32 : BitVec 32 := 256#32
  let v160 : BitVec 32 := Scalar.muli v159 c256_i32
  let v161 : Index := Scalar.indexCast v160
  let c0_95 : Index := 0#32
  ![v161.toNat, 0]
def k0_off4 (k0_t3 : Fin k0_t3_loop.trips) : Fin 2 → Nat :=
  let c2_i32_96 : BitVec 32 := 2#32
  let c0_i32_50 : BitVec 32 := 0#32
  let c1_i32_51 : BitVec 32 := 1#32
  let arg16 : BitVec 32 := Scf.iv c0_i32_50 c1_i32_51 k0_t3
  let v163 : BitVec 32 := Scalar.muli c2_i32_96 arg16
  let c1_i32_97 : BitVec 32 := 1#32
  let v164 : BitVec 32 := Scalar.addi v163 c1_i32_97
  let c256_i32_98 : BitVec 32 := 256#32
  let v165 : BitVec 32 := Scalar.muli v164 c256_i32_98
  let v166 : Index := Scalar.indexCast v165
  let c0_99 : Index := 0#32
  ![v166.toNat, 0]
@[reducible] def k0_t4_loop : Scf.Loop 32 :=
  let c0_i32_59 : BitVec 32 := 0#32
  let c8_i32_60 : BitVec 32 := 8#32
  let v118 : BitVec 32 := Scalar.addi c0_i32_59 c8_i32_60
  let c1_i32_61 : BitVec 32 := 1#32
  ⟨c0_i32_59, v118, c1_i32_61⟩
def k0_off5 (k0_t4 : Fin k0_t4_loop.trips) : Fin 2 → Nat :=
  let c0_i32_59 : BitVec 32 := 0#32
  let c1_i32_61 : BitVec 32 := 1#32
  let arg16 : BitVec 32 := Scf.iv c0_i32_59 c1_i32_61 k0_t4
  let c2048_i32 : BitVec 32 := 2048#32
  let v159 : BitVec 32 := Scalar.muli arg16 c2048_i32
  let v160 : Index := Scalar.indexCast v159
  let c0_94 : Index := 0#32
  ![v160.toNat, 0]
@[reducible] def k0_t5_loop : Scf.Loop 32 :=
  let c0_i32_67 : BitVec 32 := 0#32
  let c8_i32_68 : BitVec 32 := 8#32
  let v123 : BitVec 32 := Scalar.addi c0_i32_67 c8_i32_68
  let c1_i32_69 : BitVec 32 := 1#32
  ⟨c0_i32_67, v123, c1_i32_69⟩
def k0_off6 (k0_t5 : Fin k0_t5_loop.trips) : Fin 2 → Nat :=
  let c2_i32_94 : BitVec 32 := 2#32
  let c0_i32_67 : BitVec 32 := 0#32
  let c1_i32_69 : BitVec 32 := 1#32
  let arg16 : BitVec 32 := Scf.iv c0_i32_67 c1_i32_69 k0_t5
  let v159 : BitVec 32 := Scalar.muli c2_i32_94 arg16
  let c256_i32 : BitVec 32 := 256#32
  let v160 : BitVec 32 := Scalar.muli v159 c256_i32
  let v161 : Index := Scalar.indexCast v160
  let c0_95 : Index := 0#32
  ![v161.toNat, 0]
def k0_off7 (k0_t5 : Fin k0_t5_loop.trips) : Fin 2 → Nat :=
  let c2_i32_96 : BitVec 32 := 2#32
  let c0_i32_67 : BitVec 32 := 0#32
  let c1_i32_69 : BitVec 32 := 1#32
  let arg16 : BitVec 32 := Scf.iv c0_i32_67 c1_i32_69 k0_t5
  let v163 : BitVec 32 := Scalar.muli c2_i32_96 arg16
  let c1_i32_97 : BitVec 32 := 1#32
  let v164 : BitVec 32 := Scalar.addi v163 c1_i32_97
  let c256_i32_98 : BitVec 32 := 256#32
  let v165 : BitVec 32 := Scalar.muli v164 c256_i32_98
  let v166 : Index := Scalar.indexCast v165
  let c0_99 : Index := 0#32
  ![v166.toNat, 0]
@[reducible] def k0_t6_loop : Scf.Loop 32 :=
  let c0_i32_77 : BitVec 32 := 0#32
  let c8_i32_78 : BitVec 32 := 8#32
  let v137 : BitVec 32 := Scalar.addi c0_i32_77 c8_i32_78
  let c1_i32_79 : BitVec 32 := 1#32
  ⟨c0_i32_77, v137, c1_i32_79⟩
def k0_off8 (k0_t6 : Fin k0_t6_loop.trips) : Fin 2 → Nat :=
  let c0_i32_77 : BitVec 32 := 0#32
  let c1_i32_79 : BitVec 32 := 1#32
  let arg16 : BitVec 32 := Scf.iv c0_i32_77 c1_i32_79 k0_t6
  let c2048_i32 : BitVec 32 := 2048#32
  let v159 : BitVec 32 := Scalar.muli arg16 c2048_i32
  let v160 : Index := Scalar.indexCast v159
  let c0_94 : Index := 0#32
  ![v160.toNat, 0]
@[reducible] def k0_t7_loop : Scf.Loop 32 :=
  let c0_i32_81 : BitVec 32 := 0#32
  let c8_i32_82 : BitVec 32 := 8#32
  let v138 : BitVec 32 := Scalar.addi c0_i32_81 c8_i32_82
  let c1_i32_83 : BitVec 32 := 1#32
  ⟨c0_i32_81, v138, c1_i32_83⟩
def k0_off9 (k0_t7 : Fin k0_t7_loop.trips) : Fin 2 → Nat :=
  let c4_i32 : BitVec 32 := 4#32
  let c0_i32_81 : BitVec 32 := 0#32
  let c1_i32_83 : BitVec 32 := 1#32
  let arg16 : BitVec 32 := Scf.iv c0_i32_81 c1_i32_83 k0_t7
  let v159 : BitVec 32 := Scalar.muli c4_i32 arg16
  let c512_i32 : BitVec 32 := 512#32
  let v160 : BitVec 32 := Scalar.muli v159 c512_i32
  let v161 : Index := Scalar.indexCast v160
  let c0_94 : Index := 0#32
  ![v161.toNat, 0]
def k0_off10 (k0_t7 : Fin k0_t7_loop.trips) (c1_i32_96 : BitVec 32) : Fin 2 → Nat :=
  let c4_i32_95 : BitVec 32 := 4#32
  let c0_i32_81 : BitVec 32 := 0#32
  let c1_i32_83 : BitVec 32 := 1#32
  let arg16 : BitVec 32 := Scf.iv c0_i32_81 c1_i32_83 k0_t7
  let v163 : BitVec 32 := Scalar.muli c4_i32_95 arg16
  let v164 : BitVec 32 := Scalar.addi v163 c1_i32_96
  let c512_i32_97 : BitVec 32 := 512#32
  let v165 : BitVec 32 := Scalar.muli v164 c512_i32_97
  let v166 : Index := Scalar.indexCast v165
  let c0_98 : Index := 0#32
  ![v166.toNat, 0]
abbrev stage0_0 : Fin 1 → Memref sig .tc .vmem S64x32 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4096x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2048x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2048x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2048x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S2048x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S16384x32 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S4096x32 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1152x32 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S32x32 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S8x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
-- ==== SearchesReferenceIdeal.lean ====
abbrev S64x32 : Shape := ⟨2, ![64, 32]⟩
abbrev S256x32 : Shape := ⟨2, ![256, 32]⟩
abbrev S1024x32 : Shape := ⟨2, ![1024, 32]⟩
abbrev S4096x32 : Shape := ⟨2, ![4096, 32]⟩
abbrev S64x32x16x16 : Shape := ⟨4, ![64, 32, 16, 16]⟩
abbrev S4x32x32x3x3 : Shape := ⟨5, ![4, 32, 32, 3, 3]⟩
abbrev S4x32 : Shape := ⟨2, ![4, 32]⟩
abbrev S_ : Shape := ⟨0, ![]⟩
abbrev S4096 : Shape := ⟨1, ![4096]⟩
abbrev S64 : Shape := ⟨1, ![64]⟩
abbrev S64x1 : Shape := ⟨2, ![64, 1]⟩
abbrev S4096x1 : Shape := ⟨2, ![4096, 1]⟩
abbrev S32x4096 : Shape := ⟨2, ![32, 4096]⟩
abbrev S64x4096 : Shape := ⟨2, ![64, 4096]⟩
abbrev S1x32x32x3x3 : Shape := ⟨5, ![1, 32, 32, 3, 3]⟩
abbrev S32x32x3x3 : Shape := ⟨4, ![32, 32, 3, 3]⟩
abbrev S1x32 : Shape := ⟨2, ![1, 32]⟩
abbrev S32 : Shape := ⟨1, ![32]⟩
abbrev S64x32x18x18 : Shape := ⟨4, ![64, 32, 18, 18]⟩
abbrev S64x32x16x18 : Shape := ⟨4, ![64, 32, 16, 18]⟩
abbrev S32x32x1x3 : Shape := ⟨4, ![32, 32, 1, 3]⟩
abbrev S32x32x3 : Shape := ⟨3, ![32, 32, 3]⟩
abbrev S32x32x1 : Shape := ⟨3, ![32, 32, 1]⟩
abbrev S32x32 : Shape := ⟨2, ![32, 32]⟩
abbrev S32x64x16x16 : Shape := ⟨4, ![32, 64, 16, 16]⟩
abbrev S1x32x1x1 : Shape := ⟨4, ![1, 32, 1, 1]⟩
abbrev S256 : Shape := ⟨1, ![256]⟩
abbrev S256x1 : Shape := ⟨2, ![256, 1]⟩
abbrev S256x4096 : Shape := ⟨2, ![256, 4096]⟩
abbrev S1024 : Shape := ⟨1, ![1024]⟩
abbrev S1024x1 : Shape := ⟨2, ![1024, 1]⟩
abbrev S1024x4096 : Shape := ⟨2, ![1024, 4096]⟩
abbrev S4096x4096 : Shape := ⟨2, ![4096, 4096]⟩
abbrev S64x16x16x32 : Shape := ⟨4, ![64, 16, 16, 32]⟩
abbrev S16384x32 : Shape := ⟨2, ![16384, 32]⟩
abbrev S16384 : Shape := ⟨1, ![16384]⟩
abbrev S16384x1 : Shape := ⟨2, ![16384, 1]⟩
abbrev S16384x4096 : Shape := ⟨2, ![16384, 4096]⟩

abbrev nBuf : Space → Nat
  | .hbm => 586
  | .vmem => 0
  | .smem => 0
  | _ => 0

abbrev hbmTy0_0 (i : Nat) : BufTy := match i % 128 with
  | 0 => ⟨S64x32, .f32⟩
  | 1 => ⟨S256x32, .f32⟩
  | 2 => ⟨S1024x32, .f32⟩
  | 3 => ⟨S4096x32, .f32⟩
  | 4 => ⟨S64x32x16x16, .f32⟩
  | 5 => ⟨S64x32x16x16, .f32⟩
  | 6 => ⟨S64x32x16x16, .f32⟩
  | 7 => ⟨S64x32x16x16, .f32⟩
  | 8 => ⟨S64x32x16x16, .f32⟩
  | 9 => ⟨S4096x32, .f32⟩
  | 10 => ⟨S4x32x32x3x3, .f32⟩
  | 11 => ⟨S4x32, .f32⟩
  | 12 => ⟨S_, .f32⟩
  | 13 => ⟨S4096, .f32⟩
  | 14 => ⟨S64x32, .f32⟩
  | 15 => ⟨S_, .f32⟩
  | 16 => ⟨S64, .f32⟩
  | 17 => ⟨S64x1, .f32⟩
  | 18 => ⟨S64x1, .f32⟩
  | 19 => ⟨S_, .f32⟩
  | 20 => ⟨S64x1, .f32⟩
  | 21 => ⟨S64x1, .f32⟩
  | 22 => ⟨S64x32, .f32⟩
  | 23 => ⟨S64x32, .f32⟩
  | 24 => ⟨S4096x32, .f32⟩
  | 25 => ⟨S_, .f32⟩
  | 26 => ⟨S4096, .f32⟩
  | 27 => ⟨S4096x1, .f32⟩
  | 28 => ⟨S4096x1, .f32⟩
  | 29 => ⟨S_, .f32⟩
  | 30 => ⟨S4096x1, .f32⟩
  | 31 => ⟨S4096x1, .f32⟩
  | 32 => ⟨S4096x32, .f32⟩
  | 33 => ⟨S4096x32, .f32⟩
  | 34 => ⟨S32x4096, .f32⟩
  | 35 => ⟨S64x4096, .f32⟩
  | 36 => ⟨S64x4096, .i32⟩
  | 37 => ⟨S_, .f32⟩
  | 38 => ⟨S64, .f32⟩
  | 39 => ⟨S64x1, .f32⟩
  | 40 => ⟨S64x4096, .f32⟩
  | 41 => ⟨S64x4096, .i1⟩
  | 42 => ⟨S_, .i32⟩
  | 43 => ⟨S_, .i32⟩
  | 44 => ⟨S64x4096, .i32⟩
  | 45 => ⟨S64x4096, .i32⟩
  | 46 => ⟨S_, .i32⟩
  | 47 => ⟨S64, .i32⟩
  | 48 => ⟨S64x4096, .i32⟩
  | 49 => ⟨S64x1, .i32⟩
  | 50 => ⟨S64x4096, .i32⟩
  | 51 => ⟨S64x4096, .i1⟩
  | 52 => ⟨S_, .f32⟩
  | 53 => ⟨S_, .f32⟩
  | 54 => ⟨S64x4096, .f32⟩
  | 55 => ⟨S64x4096, .f32⟩
  | 56 => ⟨S64x4096, .f32⟩
  | 57 => ⟨S64x4096, .f32⟩
  | 58 => ⟨S_, .f32⟩
  | 59 => ⟨S4096, .f32⟩
  | 60 => ⟨S1x32x32x3x3, .f32⟩
  | 61 => ⟨S32x32x3x3, .f32⟩
  | 62 => ⟨S1x32, .f32⟩
  | 63 => ⟨S32, .f32⟩
  | 64 => ⟨S_, .f32⟩
  | 65 => ⟨S64x32x16x16, .f32⟩
  | 66 => ⟨S64x32x16x16, .f32⟩
  | 67 => ⟨S_, .i32⟩
  | 68 => ⟨S_, .f32⟩
  | 69 => ⟨S64x32x18x18, .f32⟩
  | 70 => ⟨S64x32x16x18, .f32⟩
  | 71 => ⟨S32x32x1x3, .f32⟩
  | 72 => ⟨S32x32x3, .f32⟩
  | 73 => ⟨S64x32x16x16, .f32⟩
  | 74 => ⟨S32x32x1, .f32⟩
  | 75 => ⟨S32x32, .f32⟩
  | 76 => ⟨S32x64x16x16, .f32⟩
  | 77 => ⟨S64x32x16x16, .f32⟩
  | 78 => ⟨S64x32x16x16, .f32⟩
  | 79 => ⟨S32x32x1, .f32⟩
  | 80 => ⟨S32x32, .f32⟩
  | 81 => ⟨S32x64x16x16, .f32⟩
  | 82 => ⟨S64x32x16x16, .f32⟩
  | 83 => ⟨S64x32x16x16, .f32⟩
  | 84 => ⟨S32x32x1, .f32⟩
  | 85 => ⟨S32x32, .f32⟩
  | 86 => ⟨S32x64x16x16, .f32⟩
  | 87 => ⟨S64x32x16x16, .f32⟩
  | 88 => ⟨S64x32x16x16, .f32⟩
  | 89 => ⟨S64x32x16x16, .f32⟩
  | 90 => ⟨S64x32x16x18, .f32⟩
  | 91 => ⟨S32x32x1x3, .f32⟩
  | 92 => ⟨S32x32x3, .f32⟩
  | 93 => ⟨S64x32x16x16, .f32⟩
  | 94 => ⟨S32x32x1, .f32⟩
  | 95 => ⟨S32x32, .f32⟩
  | 96 => ⟨S32x64x16x16, .f32⟩
  | 97 => ⟨S64x32x16x16, .f32⟩
  | 98 => ⟨S64x32x16x16, .f32⟩
  | 99 => ⟨S32x32x1, .f32⟩
  | 100 => ⟨S32x32, .f32⟩
  | 101 => ⟨S32x64x16x16, .f32⟩
  | 102 => ⟨S64x32x16x16, .f32⟩
  | 103 => ⟨S64x32x16x16, .f32⟩
  | 104 => ⟨S32x32x1, .f32⟩
  | 105 => ⟨S32x32, .f32⟩
  | 106 => ⟨S32x64x16x16, .f32⟩
  | 107 => ⟨S64x32x16x16, .f32⟩
  | 108 => ⟨S64x32x16x16, .f32⟩
  | 109 => ⟨S64x32x16x16, .f32⟩
  | 110 => ⟨S64x32x16x18, .f32⟩
  | 111 => ⟨S32x32x1x3, .f32⟩
  | 112 => ⟨S32x32x3, .f32⟩
  | 113 => ⟨S64x32x16x16, .f32⟩
  | 114 => ⟨S32x32x1, .f32⟩
  | 115 => ⟨S32x32, .f32⟩
  | 116 => ⟨S32x64x16x16, .f32⟩
  | 117 => ⟨S64x32x16x16, .f32⟩
  | 118 => ⟨S64x32x16x16, .f32⟩
  | 119 => ⟨S32x32x1, .f32⟩
  | 120 => ⟨S32x32, .f32⟩
  | 121 => ⟨S32x64x16x16, .f32⟩
  | 122 => ⟨S64x32x16x16, .f32⟩
  | 123 => ⟨S64x32x16x16, .f32⟩
  | 124 => ⟨S32x32x1, .f32⟩
  | 125 => ⟨S32x32, .f32⟩
  | 126 => ⟨S32x64x16x16, .f32⟩
  | 127 => ⟨S64x32x16x16, .f32⟩
  | _ => ⟨S64x32, .f32⟩

abbrev hbmTy0_1 (i : Nat) : BufTy := match i % 128 with
  | 0 => ⟨S64x32x16x16, .f32⟩
  | 1 => ⟨S64x32x16x16, .f32⟩
  | 2 => ⟨S64x32x16x16, .f32⟩
  | 3 => ⟨S64x32x16x16, .f32⟩
  | 4 => ⟨S1x32x1x1, .f32⟩
  | 5 => ⟨S64x32x16x16, .f32⟩
  | 6 => ⟨S64x32x16x16, .f32⟩
  | 7 => ⟨S_, .f32⟩
  | 8 => ⟨S64x32x16x16, .f32⟩
  | 9 => ⟨S64x32x16x16, .f32⟩
  | 10 => ⟨S64x32x16x16, .f32⟩
  | 11 => ⟨S64x32x16x16, .f32⟩
  | 12 => ⟨S4096, .f32⟩
  | 13 => ⟨S256x32, .f32⟩
  | 14 => ⟨S_, .f32⟩
  | 15 => ⟨S256, .f32⟩
  | 16 => ⟨S256x1, .f32⟩
  | 17 => ⟨S256x1, .f32⟩
  | 18 => ⟨S_, .f32⟩
  | 19 => ⟨S256x1, .f32⟩
  | 20 => ⟨S256x1, .f32⟩
  | 21 => ⟨S256x32, .f32⟩
  | 22 => ⟨S256x32, .f32⟩
  | 23 => ⟨S4096x32, .f32⟩
  | 24 => ⟨S_, .f32⟩
  | 25 => ⟨S4096, .f32⟩
  | 26 => ⟨S4096x1, .f32⟩
  | 27 => ⟨S4096x1, .f32⟩
  | 28 => ⟨S_, .f32⟩
  | 29 => ⟨S4096x1, .f32⟩
  | 30 => ⟨S4096x1, .f32⟩
  | 31 => ⟨S4096x32, .f32⟩
  | 32 => ⟨S4096x32, .f32⟩
  | 33 => ⟨S32x4096, .f32⟩
  | 34 => ⟨S256x4096, .f32⟩
  | 35 => ⟨S256x4096, .i32⟩
  | 36 => ⟨S_, .f32⟩
  | 37 => ⟨S256, .f32⟩
  | 38 => ⟨S256x1, .f32⟩
  | 39 => ⟨S256x4096, .f32⟩
  | 40 => ⟨S256x4096, .i1⟩
  | 41 => ⟨S_, .i32⟩
  | 42 => ⟨S_, .i32⟩
  | 43 => ⟨S256x4096, .i32⟩
  | 44 => ⟨S256x4096, .i32⟩
  | 45 => ⟨S_, .i32⟩
  | 46 => ⟨S256, .i32⟩
  | 47 => ⟨S256x4096, .i32⟩
  | 48 => ⟨S256x1, .i32⟩
  | 49 => ⟨S256x4096, .i32⟩
  | 50 => ⟨S256x4096, .i1⟩
  | 51 => ⟨S_, .f32⟩
  | 52 => ⟨S_, .f32⟩
  | 53 => ⟨S256x4096, .f32⟩
  | 54 => ⟨S256x4096, .f32⟩
  | 55 => ⟨S256x4096, .f32⟩
  | 56 => ⟨S256x4096, .f32⟩
  | 57 => ⟨S_, .f32⟩
  | 58 => ⟨S4096, .f32⟩
  | 59 => ⟨S1x32x32x3x3, .f32⟩
  | 60 => ⟨S32x32x3x3, .f32⟩
  | 61 => ⟨S1x32, .f32⟩
  | 62 => ⟨S32, .f32⟩
  | 63 => ⟨S_, .f32⟩
  | 64 => ⟨S64x32x16x16, .f32⟩
  | 65 => ⟨S64x32x16x16, .f32⟩
  | 66 => ⟨S_, .i32⟩
  | 67 => ⟨S_, .f32⟩
  | 68 => ⟨S64x32x18x18, .f32⟩
  | 69 => ⟨S64x32x16x18, .f32⟩
  | 70 => ⟨S32x32x1x3, .f32⟩
  | 71 => ⟨S32x32x3, .f32⟩
  | 72 => ⟨S64x32x16x16, .f32⟩
  | 73 => ⟨S32x32x1, .f32⟩
  | 74 => ⟨S32x32, .f32⟩
  | 75 => ⟨S32x64x16x16, .f32⟩
  | 76 => ⟨S64x32x16x16, .f32⟩
  | 77 => ⟨S64x32x16x16, .f32⟩
  | 78 => ⟨S32x32x1, .f32⟩
  | 79 => ⟨S32x32, .f32⟩
  | 80 => ⟨S32x64x16x16, .f32⟩
  | 81 => ⟨S64x32x16x16, .f32⟩
  | 82 => ⟨S64x32x16x16, .f32⟩
  | 83 => ⟨S32x32x1, .f32⟩
  | 84 => ⟨S32x32, .f32⟩
  | 85 => ⟨S32x64x16x16, .f32⟩
  | 86 => ⟨S64x32x16x16, .f32⟩
  | 87 => ⟨S64x32x16x16, .f32⟩
  | 88 => ⟨S64x32x16x16, .f32⟩
  | 89 => ⟨S64x32x16x18, .f32⟩
  | 90 => ⟨S32x32x1x3, .f32⟩
  | 91 => ⟨S32x32x3, .f32⟩
  | 92 => ⟨S64x32x16x16, .f32⟩
  | 93 => ⟨S32x32x1, .f32⟩
  | 94 => ⟨S32x32, .f32⟩
  | 95 => ⟨S32x64x16x16, .f32⟩
  | 96 => ⟨S64x32x16x16, .f32⟩
  | 97 => ⟨S64x32x16x16, .f32⟩
  | 98 => ⟨S32x32x1, .f32⟩
  | 99 => ⟨S32x32, .f32⟩
  | 100 => ⟨S32x64x16x16, .f32⟩
  | 101 => ⟨S64x32x16x16, .f32⟩
  | 102 => ⟨S64x32x16x16, .f32⟩
  | 103 => ⟨S32x32x1, .f32⟩
  | 104 => ⟨S32x32, .f32⟩
  | 105 => ⟨S32x64x16x16, .f32⟩
  | 106 => ⟨S64x32x16x16, .f32⟩
  | 107 => ⟨S64x32x16x16, .f32⟩
  | 108 => ⟨S64x32x16x16, .f32⟩
  | 109 => ⟨S64x32x16x18, .f32⟩
  | 110 => ⟨S32x32x1x3, .f32⟩
  | 111 => ⟨S32x32x3, .f32⟩
  | 112 => ⟨S64x32x16x16, .f32⟩
  | 113 => ⟨S32x32x1, .f32⟩
  | 114 => ⟨S32x32, .f32⟩
  | 115 => ⟨S32x64x16x16, .f32⟩
  | 116 => ⟨S64x32x16x16, .f32⟩
  | 117 => ⟨S64x32x16x16, .f32⟩
  | 118 => ⟨S32x32x1, .f32⟩
  | 119 => ⟨S32x32, .f32⟩
  | 120 => ⟨S32x64x16x16, .f32⟩
  | 121 => ⟨S64x32x16x16, .f32⟩
  | 122 => ⟨S64x32x16x16, .f32⟩
  | 123 => ⟨S32x32x1, .f32⟩
  | 124 => ⟨S32x32, .f32⟩
  | 125 => ⟨S32x64x16x16, .f32⟩
  | 126 => ⟨S64x32x16x16, .f32⟩
  | 127 => ⟨S64x32x16x16, .f32⟩
  | _ => ⟨S64x32, .f32⟩

abbrev hbmTy0_2 (i : Nat) : BufTy := match i % 128 with
  | 0 => ⟨S64x32x16x16, .f32⟩
  | 1 => ⟨S64x32x16x16, .f32⟩
  | 2 => ⟨S64x32x16x16, .f32⟩
  | 3 => ⟨S1x32x1x1, .f32⟩
  | 4 => ⟨S64x32x16x16, .f32⟩
  | 5 => ⟨S64x32x16x16, .f32⟩
  | 6 => ⟨S_, .f32⟩
  | 7 => ⟨S64x32x16x16, .f32⟩
  | 8 => ⟨S64x32x16x16, .f32⟩
  | 9 => ⟨S64x32x16x16, .f32⟩
  | 10 => ⟨S64x32x16x16, .f32⟩
  | 11 => ⟨S4096, .f32⟩
  | 12 => ⟨S1024x32, .f32⟩
  | 13 => ⟨S_, .f32⟩
  | 14 => ⟨S1024, .f32⟩
  | 15 => ⟨S1024x1, .f32⟩
  | 16 => ⟨S1024x1, .f32⟩
  | 17 => ⟨S_, .f32⟩
  | 18 => ⟨S1024x1, .f32⟩
  | 19 => ⟨S1024x1, .f32⟩
  | 20 => ⟨S1024x32, .f32⟩
  | 21 => ⟨S1024x32, .f32⟩
  | 22 => ⟨S4096x32, .f32⟩
  | 23 => ⟨S_, .f32⟩
  | 24 => ⟨S4096, .f32⟩
  | 25 => ⟨S4096x1, .f32⟩
  | 26 => ⟨S4096x1, .f32⟩
  | 27 => ⟨S_, .f32⟩
  | 28 => ⟨S4096x1, .f32⟩
  | 29 => ⟨S4096x1, .f32⟩
  | 30 => ⟨S4096x32, .f32⟩
  | 31 => ⟨S4096x32, .f32⟩
  | 32 => ⟨S32x4096, .f32⟩
  | 33 => ⟨S1024x4096, .f32⟩
  | 34 => ⟨S1024x4096, .i32⟩
  | 35 => ⟨S_, .f32⟩
  | 36 => ⟨S1024, .f32⟩
  | 37 => ⟨S1024x1, .f32⟩
  | 38 => ⟨S1024x4096, .f32⟩
  | 39 => ⟨S1024x4096, .i1⟩
  | 40 => ⟨S_, .i32⟩
  | 41 => ⟨S_, .i32⟩
  | 42 => ⟨S1024x4096, .i32⟩
  | 43 => ⟨S1024x4096, .i32⟩
  | 44 => ⟨S_, .i32⟩
  | 45 => ⟨S1024, .i32⟩
  | 46 => ⟨S1024x4096, .i32⟩
  | 47 => ⟨S1024x1, .i32⟩
  | 48 => ⟨S1024x4096, .i32⟩
  | 49 => ⟨S1024x4096, .i1⟩
  | 50 => ⟨S_, .f32⟩
  | 51 => ⟨S_, .f32⟩
  | 52 => ⟨S1024x4096, .f32⟩
  | 53 => ⟨S1024x4096, .f32⟩
  | 54 => ⟨S1024x4096, .f32⟩
  | 55 => ⟨S1024x4096, .f32⟩
  | 56 => ⟨S_, .f32⟩
  | 57 => ⟨S4096, .f32⟩
  | 58 => ⟨S1x32x32x3x3, .f32⟩
  | 59 => ⟨S32x32x3x3, .f32⟩
  | 60 => ⟨S1x32, .f32⟩
  | 61 => ⟨S32, .f32⟩
  | 62 => ⟨S_, .f32⟩
  | 63 => ⟨S64x32x16x16, .f32⟩
  | 64 => ⟨S64x32x16x16, .f32⟩
  | 65 => ⟨S_, .i32⟩
  | 66 => ⟨S_, .f32⟩
  | 67 => ⟨S64x32x18x18, .f32⟩
  | 68 => ⟨S64x32x16x18, .f32⟩
  | 69 => ⟨S32x32x1x3, .f32⟩
  | 70 => ⟨S32x32x3, .f32⟩
  | 71 => ⟨S64x32x16x16, .f32⟩
  | 72 => ⟨S32x32x1, .f32⟩
  | 73 => ⟨S32x32, .f32⟩
  | 74 => ⟨S32x64x16x16, .f32⟩
  | 75 => ⟨S64x32x16x16, .f32⟩
  | 76 => ⟨S64x32x16x16, .f32⟩
  | 77 => ⟨S32x32x1, .f32⟩
  | 78 => ⟨S32x32, .f32⟩
  | 79 => ⟨S32x64x16x16, .f32⟩
  | 80 => ⟨S64x32x16x16, .f32⟩
  | 81 => ⟨S64x32x16x16, .f32⟩
  | 82 => ⟨S32x32x1, .f32⟩
  | 83 => ⟨S32x32, .f32⟩
  | 84 => ⟨S32x64x16x16, .f32⟩
  | 85 => ⟨S64x32x16x16, .f32⟩
  | 86 => ⟨S64x32x16x16, .f32⟩
  | 87 => ⟨S64x32x16x16, .f32⟩
  | 88 => ⟨S64x32x16x18, .f32⟩
  | 89 => ⟨S32x32x1x3, .f32⟩
  | 90 => ⟨S32x32x3, .f32⟩
  | 91 => ⟨S64x32x16x16, .f32⟩
  | 92 => ⟨S32x32x1, .f32⟩
  | 93 => ⟨S32x32, .f32⟩
  | 94 => ⟨S32x64x16x16, .f32⟩
  | 95 => ⟨S64x32x16x16, .f32⟩
  | 96 => ⟨S64x32x16x16, .f32⟩
  | 97 => ⟨S32x32x1, .f32⟩
  | 98 => ⟨S32x32, .f32⟩
  | 99 => ⟨S32x64x16x16, .f32⟩
  | 100 => ⟨S64x32x16x16, .f32⟩
  | 101 => ⟨S64x32x16x16, .f32⟩
  | 102 => ⟨S32x32x1, .f32⟩
  | 103 => ⟨S32x32, .f32⟩
  | 104 => ⟨S32x64x16x16, .f32⟩
  | 105 => ⟨S64x32x16x16, .f32⟩
  | 106 => ⟨S64x32x16x16, .f32⟩
  | 107 => ⟨S64x32x16x16, .f32⟩
  | 108 => ⟨S64x32x16x18, .f32⟩
  | 109 => ⟨S32x32x1x3, .f32⟩
  | 110 => ⟨S32x32x3, .f32⟩
  | 111 => ⟨S64x32x16x16, .f32⟩
  | 112 => ⟨S32x32x1, .f32⟩
  | 113 => ⟨S32x32, .f32⟩
  | 114 => ⟨S32x64x16x16, .f32⟩
  | 115 => ⟨S64x32x16x16, .f32⟩
  | 116 => ⟨S64x32x16x16, .f32⟩
  | 117 => ⟨S32x32x1, .f32⟩
  | 118 => ⟨S32x32, .f32⟩
  | 119 => ⟨S32x64x16x16, .f32⟩
  | 120 => ⟨S64x32x16x16, .f32⟩
  | 121 => ⟨S64x32x16x16, .f32⟩
  | 122 => ⟨S32x32x1, .f32⟩
  | 123 => ⟨S32x32, .f32⟩
  | 124 => ⟨S32x64x16x16, .f32⟩
  | 125 => ⟨S64x32x16x16, .f32⟩
  | 126 => ⟨S64x32x16x16, .f32⟩
  | 127 => ⟨S64x32x16x16, .f32⟩
  | _ => ⟨S64x32, .f32⟩

abbrev hbmTy0_3 (i : Nat) : BufTy := match i % 128 with
  | 0 => ⟨S64x32x16x16, .f32⟩
  | 1 => ⟨S64x32x16x16, .f32⟩
  | 2 => ⟨S1x32x1x1, .f32⟩
  | 3 => ⟨S64x32x16x16, .f32⟩
  | 4 => ⟨S64x32x16x16, .f32⟩
  | 5 => ⟨S_, .f32⟩
  | 6 => ⟨S64x32x16x16, .f32⟩
  | 7 => ⟨S64x32x16x16, .f32⟩
  | 8 => ⟨S64x32x16x16, .f32⟩
  | 9 => ⟨S64x32x16x16, .f32⟩
  | 10 => ⟨S4096, .f32⟩
  | 11 => ⟨S4096x32, .f32⟩
  | 12 => ⟨S_, .f32⟩
  | 13 => ⟨S4096, .f32⟩
  | 14 => ⟨S4096x1, .f32⟩
  | 15 => ⟨S4096x1, .f32⟩
  | 16 => ⟨S_, .f32⟩
  | 17 => ⟨S4096x1, .f32⟩
  | 18 => ⟨S4096x1, .f32⟩
  | 19 => ⟨S4096x32, .f32⟩
  | 20 => ⟨S4096x32, .f32⟩
  | 21 => ⟨S4096x32, .f32⟩
  | 22 => ⟨S_, .f32⟩
  | 23 => ⟨S4096, .f32⟩
  | 24 => ⟨S4096x1, .f32⟩
  | 25 => ⟨S4096x1, .f32⟩
  | 26 => ⟨S_, .f32⟩
  | 27 => ⟨S4096x1, .f32⟩
  | 28 => ⟨S4096x1, .f32⟩
  | 29 => ⟨S4096x32, .f32⟩
  | 30 => ⟨S4096x32, .f32⟩
  | 31 => ⟨S32x4096, .f32⟩
  | 32 => ⟨S4096x4096, .f32⟩
  | 33 => ⟨S4096x4096, .i32⟩
  | 34 => ⟨S_, .f32⟩
  | 35 => ⟨S4096, .f32⟩
  | 36 => ⟨S4096x1, .f32⟩
  | 37 => ⟨S4096x4096, .f32⟩
  | 38 => ⟨S4096x4096, .i1⟩
  | 39 => ⟨S_, .i32⟩
  | 40 => ⟨S_, .i32⟩
  | 41 => ⟨S4096x4096, .i32⟩
  | 42 => ⟨S4096x4096, .i32⟩
  | 43 => ⟨S_, .i32⟩
  | 44 => ⟨S4096, .i32⟩
  | 45 => ⟨S4096x4096, .i32⟩
  | 46 => ⟨S4096x1, .i32⟩
  | 47 => ⟨S4096x4096, .i32⟩
  | 48 => ⟨S4096x4096, .i1⟩
  | 49 => ⟨S_, .f32⟩
  | 50 => ⟨S_, .f32⟩
  | 51 => ⟨S4096x4096, .f32⟩
  | 52 => ⟨S4096x4096, .f32⟩
  | 53 => ⟨S4096x4096, .f32⟩
  | 54 => ⟨S4096x4096, .f32⟩
  | 55 => ⟨S_, .f32⟩
  | 56 => ⟨S4096, .f32⟩
  | 57 => ⟨S1x32x32x3x3, .f32⟩
  | 58 => ⟨S32x32x3x3, .f32⟩
  | 59 => ⟨S1x32, .f32⟩
  | 60 => ⟨S32, .f32⟩
  | 61 => ⟨S_, .f32⟩
  | 62 => ⟨S64x32x16x16, .f32⟩
  | 63 => ⟨S64x32x16x16, .f32⟩
  | 64 => ⟨S_, .i32⟩
  | 65 => ⟨S_, .f32⟩
  | 66 => ⟨S64x32x18x18, .f32⟩
  | 67 => ⟨S64x32x16x18, .f32⟩
  | 68 => ⟨S32x32x1x3, .f32⟩
  | 69 => ⟨S32x32x3, .f32⟩
  | 70 => ⟨S64x32x16x16, .f32⟩
  | 71 => ⟨S32x32x1, .f32⟩
  | 72 => ⟨S32x32, .f32⟩
  | 73 => ⟨S32x64x16x16, .f32⟩
  | 74 => ⟨S64x32x16x16, .f32⟩
  | 75 => ⟨S64x32x16x16, .f32⟩
  | 76 => ⟨S32x32x1, .f32⟩
  | 77 => ⟨S32x32, .f32⟩
  | 78 => ⟨S32x64x16x16, .f32⟩
  | 79 => ⟨S64x32x16x16, .f32⟩
  | 80 => ⟨S64x32x16x16, .f32⟩
  | 81 => ⟨S32x32x1, .f32⟩
  | 82 => ⟨S32x32, .f32⟩
  | 83 => ⟨S32x64x16x16, .f32⟩
  | 84 => ⟨S64x32x16x16, .f32⟩
  | 85 => ⟨S64x32x16x16, .f32⟩
  | 86 => ⟨S64x32x16x16, .f32⟩
  | 87 => ⟨S64x32x16x18, .f32⟩
  | 88 => ⟨S32x32x1x3, .f32⟩
  | 89 => ⟨S32x32x3, .f32⟩
  | 90 => ⟨S64x32x16x16, .f32⟩
  | 91 => ⟨S32x32x1, .f32⟩
  | 92 => ⟨S32x32, .f32⟩
  | 93 => ⟨S32x64x16x16, .f32⟩
  | 94 => ⟨S64x32x16x16, .f32⟩
  | 95 => ⟨S64x32x16x16, .f32⟩
  | 96 => ⟨S32x32x1, .f32⟩
  | 97 => ⟨S32x32, .f32⟩
  | 98 => ⟨S32x64x16x16, .f32⟩
  | 99 => ⟨S64x32x16x16, .f32⟩
  | 100 => ⟨S64x32x16x16, .f32⟩
  | 101 => ⟨S32x32x1, .f32⟩
  | 102 => ⟨S32x32, .f32⟩
  | 103 => ⟨S32x64x16x16, .f32⟩
  | 104 => ⟨S64x32x16x16, .f32⟩
  | 105 => ⟨S64x32x16x16, .f32⟩
  | 106 => ⟨S64x32x16x16, .f32⟩
  | 107 => ⟨S64x32x16x18, .f32⟩
  | 108 => ⟨S32x32x1x3, .f32⟩
  | 109 => ⟨S32x32x3, .f32⟩
  | 110 => ⟨S64x32x16x16, .f32⟩
  | 111 => ⟨S32x32x1, .f32⟩
  | 112 => ⟨S32x32, .f32⟩
  | 113 => ⟨S32x64x16x16, .f32⟩
  | 114 => ⟨S64x32x16x16, .f32⟩
  | 115 => ⟨S64x32x16x16, .f32⟩
  | 116 => ⟨S32x32x1, .f32⟩
  | 117 => ⟨S32x32, .f32⟩
  | 118 => ⟨S32x64x16x16, .f32⟩
  | 119 => ⟨S64x32x16x16, .f32⟩
  | 120 => ⟨S64x32x16x16, .f32⟩
  | 121 => ⟨S32x32x1, .f32⟩
  | 122 => ⟨S32x32, .f32⟩
  | 123 => ⟨S32x64x16x16, .f32⟩
  | 124 => ⟨S64x32x16x16, .f32⟩
  | 125 => ⟨S64x32x16x16, .f32⟩
  | 126 => ⟨S64x32x16x16, .f32⟩
  | 127 => ⟨S64x32x16x16, .f32⟩
  | _ => ⟨S64x32, .f32⟩

abbrev hbmTy0_4 (i : Nat) : BufTy := match i % 128 with
  | 0 => ⟨S64x32x16x16, .f32⟩
  | 1 => ⟨S1x32x1x1, .f32⟩
  | 2 => ⟨S64x32x16x16, .f32⟩
  | 3 => ⟨S64x32x16x16, .f32⟩
  | 4 => ⟨S_, .f32⟩
  | 5 => ⟨S64x32x16x16, .f32⟩
  | 6 => ⟨S64x32x16x16, .f32⟩
  | 7 => ⟨S64x32x16x16, .f32⟩
  | 8 => ⟨S64x32x16x16, .f32⟩
  | 9 => ⟨S4096, .f32⟩
  | 10 => ⟨S64x16x16x32, .f32⟩
  | 11 => ⟨S16384x32, .f32⟩
  | 12 => ⟨S16384x32, .f32⟩
  | 13 => ⟨S_, .f32⟩
  | 14 => ⟨S16384, .f32⟩
  | 15 => ⟨S16384x1, .f32⟩
  | 16 => ⟨S16384x1, .f32⟩
  | 17 => ⟨S_, .f32⟩
  | 18 => ⟨S16384x1, .f32⟩
  | 19 => ⟨S16384x1, .f32⟩
  | 20 => ⟨S16384x32, .f32⟩
  | 21 => ⟨S16384x32, .f32⟩
  | 22 => ⟨S4096x32, .f32⟩
  | 23 => ⟨S_, .f32⟩
  | 24 => ⟨S4096, .f32⟩
  | 25 => ⟨S4096x1, .f32⟩
  | 26 => ⟨S4096x1, .f32⟩
  | 27 => ⟨S_, .f32⟩
  | 28 => ⟨S4096x1, .f32⟩
  | 29 => ⟨S4096x1, .f32⟩
  | 30 => ⟨S4096x32, .f32⟩
  | 31 => ⟨S4096x32, .f32⟩
  | 32 => ⟨S32x4096, .f32⟩
  | 33 => ⟨S16384x4096, .f32⟩
  | 34 => ⟨S16384x4096, .i32⟩
  | 35 => ⟨S_, .f32⟩
  | 36 => ⟨S16384, .f32⟩
  | 37 => ⟨S16384x1, .f32⟩
  | 38 => ⟨S16384x4096, .f32⟩
  | 39 => ⟨S16384x4096, .i1⟩
  | 40 => ⟨S_, .i32⟩
  | 41 => ⟨S_, .i32⟩
  | 42 => ⟨S16384x4096, .i32⟩
  | 43 => ⟨S16384x4096, .i32⟩
  | 44 => ⟨S_, .i32⟩
  | 45 => ⟨S16384, .i32⟩
  | 46 => ⟨S16384x4096, .i32⟩
  | 47 => ⟨S16384x1, .i32⟩
  | 48 => ⟨S16384x4096, .i32⟩
  | 49 => ⟨S16384x4096, .i1⟩
  | 50 => ⟨S_, .f32⟩
  | 51 => ⟨S_, .f32⟩
  | 52 => ⟨S16384x4096, .f32⟩
  | 53 => ⟨S16384x4096, .f32⟩
  | 54 => ⟨S16384x4096, .f32⟩
  | 55 => ⟨S16384x4096, .f32⟩
  | 56 => ⟨S_, .f32⟩
  | 57 => ⟨S4096, .f32⟩
  | 58 => ⟨S4096, .f32⟩
  | 59 => ⟨S_, .f32⟩
  | 60 => ⟨S_, .f32⟩
  | 61 => ⟨S_, .f32⟩
  | 62 => ⟨S_, .f32⟩
  | 63 => ⟨S4096, .f32⟩
  | 64 => ⟨S4096, .f32⟩
  | 65 => ⟨S_, .f32⟩
  | 66 => ⟨S4096, .f32⟩
  | 67 => ⟨S4096, .f32⟩
  | 68 => ⟨S4096, .f32⟩
  | 69 => ⟨S4096, .f32⟩
  | 70 => ⟨S_, .f32⟩
  | 71 => ⟨S_, .f32⟩
  | 72 => ⟨S_, .f32⟩
  | 73 => ⟨S_, .f32⟩
  | _ => ⟨S64x32, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S64x32, .f32⟩

abbrev bufTy : (tb : Table) → Fin (tcTables nBuf tb) → BufTy
  | .hbm, ⟨i, _⟩ => hbmTy i
  | _, _ => ⟨S64x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_call0_call0_v0 : Ref sig .tc := ⟨.hbm, 14, rfl⟩
abbrev main_call0_call0_cst : Ref sig .tc := ⟨.hbm, 15, rfl⟩
abbrev main_call0_call0_v1 : Ref sig .tc := ⟨.hbm, 16, rfl⟩
abbrev main_call0_call0_v2 : Ref sig .tc := ⟨.hbm, 17, rfl⟩
abbrev main_call0_call0_v3 : Ref sig .tc := ⟨.hbm, 18, rfl⟩
abbrev main_call0_call0_cst_0 : Ref sig .tc := ⟨.hbm, 19, rfl⟩
abbrev main_call0_call0_v4 : Ref sig .tc := ⟨.hbm, 20, rfl⟩
abbrev main_call0_call0_v5 : Ref sig .tc := ⟨.hbm, 21, rfl⟩
abbrev main_call0_call0_v6 : Ref sig .tc := ⟨.hbm, 22, rfl⟩
abbrev main_call0_v0 : Ref sig .tc := ⟨.hbm, 23, rfl⟩
abbrev main_call0_call1_v0 : Ref sig .tc := ⟨.hbm, 24, rfl⟩
abbrev main_call0_call1_cst : Ref sig .tc := ⟨.hbm, 25, rfl⟩
abbrev main_call0_call1_v1 : Ref sig .tc := ⟨.hbm, 26, rfl⟩
abbrev main_call0_call1_v2 : Ref sig .tc := ⟨.hbm, 27, rfl⟩
abbrev main_call0_call1_v3 : Ref sig .tc := ⟨.hbm, 28, rfl⟩
abbrev main_call0_call1_cst_0 : Ref sig .tc := ⟨.hbm, 29, rfl⟩
abbrev main_call0_call1_v4 : Ref sig .tc := ⟨.hbm, 30, rfl⟩
abbrev main_call0_call1_v5 : Ref sig .tc := ⟨.hbm, 31, rfl⟩
abbrev main_call0_call1_v6 : Ref sig .tc := ⟨.hbm, 32, rfl⟩
abbrev main_call0_v1 : Ref sig .tc := ⟨.hbm, 33, rfl⟩
abbrev main_call0_v2 : Ref sig .tc := ⟨.hbm, 34, rfl⟩
abbrev main_v1 : Ref sig .tc := ⟨.hbm, 35, rfl⟩
abbrev main_call1_v0 : Ref sig .tc := ⟨.hbm, 36, rfl⟩
abbrev main_call1_cst : Ref sig .tc := ⟨.hbm, 37, rfl⟩
abbrev main_call1_v1 : Ref sig .tc := ⟨.hbm, 38, rfl⟩
abbrev main_call1_v2 : Ref sig .tc := ⟨.hbm, 39, rfl⟩
abbrev main_call1_v3 : Ref sig .tc := ⟨.hbm, 40, rfl⟩
abbrev main_call1_v4 : Ref sig .tc := ⟨.hbm, 41, rfl⟩
abbrev main_call1_c : Ref sig .tc := ⟨.hbm, 42, rfl⟩
abbrev main_call1_call0_v0 : Ref sig .tc := ⟨.hbm, 43, rfl⟩
abbrev main_call1_call0_v1 : Ref sig .tc := ⟨.hbm, 44, rfl⟩
abbrev main_call1_v5 : Ref sig .tc := ⟨.hbm, 45, rfl⟩
abbrev main_call1_c_0 : Ref sig .tc := ⟨.hbm, 46, rfl⟩
abbrev main_v2 : Ref sig .tc := ⟨.hbm, 47, rfl⟩
abbrev main_call2_v0 : Ref sig .tc := ⟨.hbm, 48, rfl⟩
abbrev main_call2_v1 : Ref sig .tc := ⟨.hbm, 49, rfl⟩
abbrev main_call2_v2 : Ref sig .tc := ⟨.hbm, 50, rfl⟩
abbrev main_call2_v3 : Ref sig .tc := ⟨.hbm, 51, rfl⟩
abbrev main_call2_cst : Ref sig .tc := ⟨.hbm, 52, rfl⟩
abbrev main_call2_cst_0 : Ref sig .tc := ⟨.hbm, 53, rfl⟩
abbrev main_call2_call0_v0 : Ref sig .tc := ⟨.hbm, 54, rfl⟩
abbrev main_call2_call0_v1 : Ref sig .tc := ⟨.hbm, 55, rfl⟩
abbrev main_call2_v4 : Ref sig .tc := ⟨.hbm, 56, rfl⟩
abbrev main_call2_v5 : Ref sig .tc := ⟨.hbm, 57, rfl⟩
abbrev main_call2_cst_1 : Ref sig .tc := ⟨.hbm, 58, rfl⟩
abbrev main_v3 : Ref sig .tc := ⟨.hbm, 59, rfl⟩
abbrev main_v4 : Ref sig .tc := ⟨.hbm, 60, rfl⟩
abbrev main_v5 : Ref sig .tc := ⟨.hbm, 61, rfl⟩
abbrev main_v6 : Ref sig .tc := ⟨.hbm, 62, rfl⟩
abbrev main_v7 : Ref sig .tc := ⟨.hbm, 63, rfl⟩
abbrev main_cst_0 : Ref sig .tc := ⟨.hbm, 64, rfl⟩
abbrev main_v8 : Ref sig .tc := ⟨.hbm, 65, rfl⟩
abbrev main_v9 : Ref sig .tc := ⟨.hbm, 66, rfl⟩
abbrev main_call3_c : Ref sig .tc := ⟨.hbm, 67, rfl⟩
abbrev main_call3_call0_v0 : Ref sig .tc := ⟨.hbm, 68, rfl⟩
abbrev main_call3_v0 : Ref sig .tc := ⟨.hbm, 69, rfl⟩
abbrev main_call3_v1 : Ref sig .tc := ⟨.hbm, 70, rfl⟩
abbrev main_call3_v2 : Ref sig .tc := ⟨.hbm, 71, rfl⟩
abbrev main_call3_v3 : Ref sig .tc := ⟨.hbm, 72, rfl⟩
abbrev main_call3_call1_v0 : Ref sig .tc := ⟨.hbm, 73, rfl⟩
abbrev main_call3_call1_v1 : Ref sig .tc := ⟨.hbm, 74, rfl⟩
abbrev main_call3_call1_v2 : Ref sig .tc := ⟨.hbm, 75, rfl⟩
abbrev main_call3_call1_v3 : Ref sig .tc := ⟨.hbm, 76, rfl⟩
abbrev main_call3_call1_v4 : Ref sig .tc := ⟨.hbm, 77, rfl⟩
abbrev main_call3_call1_v5 : Ref sig .tc := ⟨.hbm, 78, rfl⟩
abbrev main_call3_call1_v6 : Ref sig .tc := ⟨.hbm, 79, rfl⟩
abbrev main_call3_call1_v7 : Ref sig .tc := ⟨.hbm, 80, rfl⟩
abbrev main_call3_call1_v8 : Ref sig .tc := ⟨.hbm, 81, rfl⟩
abbrev main_call3_call1_v9 : Ref sig .tc := ⟨.hbm, 82, rfl⟩
abbrev main_call3_call1_v10 : Ref sig .tc := ⟨.hbm, 83, rfl⟩
abbrev main_call3_call1_v11 : Ref sig .tc := ⟨.hbm, 84, rfl⟩
abbrev main_call3_call1_v12 : Ref sig .tc := ⟨.hbm, 85, rfl⟩
abbrev main_call3_call1_v13 : Ref sig .tc := ⟨.hbm, 86, rfl⟩
abbrev main_call3_call1_v14 : Ref sig .tc := ⟨.hbm, 87, rfl⟩
abbrev main_call3_call1_v15 : Ref sig .tc := ⟨.hbm, 88, rfl⟩
abbrev main_call3_v4 : Ref sig .tc := ⟨.hbm, 89, rfl⟩
abbrev main_call3_v5 : Ref sig .tc := ⟨.hbm, 90, rfl⟩
abbrev main_call3_v6 : Ref sig .tc := ⟨.hbm, 91, rfl⟩
abbrev main_call3_v7 : Ref sig .tc := ⟨.hbm, 92, rfl⟩
abbrev main_call3_call2_v0 : Ref sig .tc := ⟨.hbm, 93, rfl⟩
abbrev main_call3_call2_v1 : Ref sig .tc := ⟨.hbm, 94, rfl⟩
abbrev main_call3_call2_v2 : Ref sig .tc := ⟨.hbm, 95, rfl⟩
abbrev main_call3_call2_v3 : Ref sig .tc := ⟨.hbm, 96, rfl⟩
abbrev main_call3_call2_v4 : Ref sig .tc := ⟨.hbm, 97, rfl⟩
abbrev main_call3_call2_v5 : Ref sig .tc := ⟨.hbm, 98, rfl⟩
abbrev main_call3_call2_v6 : Ref sig .tc := ⟨.hbm, 99, rfl⟩
abbrev main_call3_call2_v7 : Ref sig .tc := ⟨.hbm, 100, rfl⟩
abbrev main_call3_call2_v8 : Ref sig .tc := ⟨.hbm, 101, rfl⟩
abbrev main_call3_call2_v9 : Ref sig .tc := ⟨.hbm, 102, rfl⟩
abbrev main_call3_call2_v10 : Ref sig .tc := ⟨.hbm, 103, rfl⟩
abbrev main_call3_call2_v11 : Ref sig .tc := ⟨.hbm, 104, rfl⟩
abbrev main_call3_call2_v12 : Ref sig .tc := ⟨.hbm, 105, rfl⟩
abbrev main_call3_call2_v13 : Ref sig .tc := ⟨.hbm, 106, rfl⟩
abbrev main_call3_call2_v14 : Ref sig .tc := ⟨.hbm, 107, rfl⟩
abbrev main_call3_call2_v15 : Ref sig .tc := ⟨.hbm, 108, rfl⟩
abbrev main_call3_v8 : Ref sig .tc := ⟨.hbm, 109, rfl⟩
abbrev main_call3_v9 : Ref sig .tc := ⟨.hbm, 110, rfl⟩
abbrev main_call3_v10 : Ref sig .tc := ⟨.hbm, 111, rfl⟩
abbrev main_call3_v11 : Ref sig .tc := ⟨.hbm, 112, rfl⟩
abbrev main_call3_call3_v0 : Ref sig .tc := ⟨.hbm, 113, rfl⟩
abbrev main_call3_call3_v1 : Ref sig .tc := ⟨.hbm, 114, rfl⟩
abbrev main_call3_call3_v2 : Ref sig .tc := ⟨.hbm, 115, rfl⟩
abbrev main_call3_call3_v3 : Ref sig .tc := ⟨.hbm, 116, rfl⟩
abbrev main_call3_call3_v4 : Ref sig .tc := ⟨.hbm, 117, rfl⟩
abbrev main_call3_call3_v5 : Ref sig .tc := ⟨.hbm, 118, rfl⟩
abbrev main_call3_call3_v6 : Ref sig .tc := ⟨.hbm, 119, rfl⟩
abbrev main_call3_call3_v7 : Ref sig .tc := ⟨.hbm, 120, rfl⟩
abbrev main_call3_call3_v8 : Ref sig .tc := ⟨.hbm, 121, rfl⟩
abbrev main_call3_call3_v9 : Ref sig .tc := ⟨.hbm, 122, rfl⟩
abbrev main_call3_call3_v10 : Ref sig .tc := ⟨.hbm, 123, rfl⟩
abbrev main_call3_call3_v11 : Ref sig .tc := ⟨.hbm, 124, rfl⟩
abbrev main_call3_call3_v12 : Ref sig .tc := ⟨.hbm, 125, rfl⟩
abbrev main_call3_call3_v13 : Ref sig .tc := ⟨.hbm, 126, rfl⟩
abbrev main_call3_call3_v14 : Ref sig .tc := ⟨.hbm, 127, rfl⟩
abbrev main_call3_call3_v15 : Ref sig .tc := ⟨.hbm, 128, rfl⟩
abbrev main_call3_v12 : Ref sig .tc := ⟨.hbm, 129, rfl⟩
abbrev main_call3_v13 : Ref sig .tc := ⟨.hbm, 130, rfl⟩
abbrev main_call3_v14 : Ref sig .tc := ⟨.hbm, 131, rfl⟩
abbrev main_call3_v15 : Ref sig .tc := ⟨.hbm, 132, rfl⟩
abbrev main_call3_v16 : Ref sig .tc := ⟨.hbm, 133, rfl⟩
abbrev main_v10 : Ref sig .tc := ⟨.hbm, 134, rfl⟩
abbrev main_cst_1 : Ref sig .tc := ⟨.hbm, 135, rfl⟩
abbrev main_v11 : Ref sig .tc := ⟨.hbm, 136, rfl⟩
abbrev main_v12 : Ref sig .tc := ⟨.hbm, 137, rfl⟩
abbrev main_v13 : Ref sig .tc := ⟨.hbm, 138, rfl⟩
abbrev main_v14 : Ref sig .tc := ⟨.hbm, 139, rfl⟩
abbrev main_v15 : Ref sig .tc := ⟨.hbm, 140, rfl⟩
abbrev main_call4_call0_v0 : Ref sig .tc := ⟨.hbm, 141, rfl⟩
abbrev main_call4_call0_cst : Ref sig .tc := ⟨.hbm, 142, rfl⟩
abbrev main_call4_call0_v1 : Ref sig .tc := ⟨.hbm, 143, rfl⟩
abbrev main_call4_call0_v2 : Ref sig .tc := ⟨.hbm, 144, rfl⟩
abbrev main_call4_call0_v3 : Ref sig .tc := ⟨.hbm, 145, rfl⟩
abbrev main_call4_call0_cst_0 : Ref sig .tc := ⟨.hbm, 146, rfl⟩
abbrev main_call4_call0_v4 : Ref sig .tc := ⟨.hbm, 147, rfl⟩
abbrev main_call4_call0_v5 : Ref sig .tc := ⟨.hbm, 148, rfl⟩
abbrev main_call4_call0_v6 : Ref sig .tc := ⟨.hbm, 149, rfl⟩
abbrev main_call4_v0 : Ref sig .tc := ⟨.hbm, 150, rfl⟩
abbrev main_call4_call1_v0 : Ref sig .tc := ⟨.hbm, 151, rfl⟩
abbrev main_call4_call1_cst : Ref sig .tc := ⟨.hbm, 152, rfl⟩
abbrev main_call4_call1_v1 : Ref sig .tc := ⟨.hbm, 153, rfl⟩
abbrev main_call4_call1_v2 : Ref sig .tc := ⟨.hbm, 154, rfl⟩
abbrev main_call4_call1_v3 : Ref sig .tc := ⟨.hbm, 155, rfl⟩
abbrev main_call4_call1_cst_0 : Ref sig .tc := ⟨.hbm, 156, rfl⟩
abbrev main_call4_call1_v4 : Ref sig .tc := ⟨.hbm, 157, rfl⟩
abbrev main_call4_call1_v5 : Ref sig .tc := ⟨.hbm, 158, rfl⟩
abbrev main_call4_call1_v6 : Ref sig .tc := ⟨.hbm, 159, rfl⟩
abbrev main_call4_v1 : Ref sig .tc := ⟨.hbm, 160, rfl⟩
abbrev main_call4_v2 : Ref sig .tc := ⟨.hbm, 161, rfl⟩
abbrev main_v16 : Ref sig .tc := ⟨.hbm, 162, rfl⟩
abbrev main_call5_v0 : Ref sig .tc := ⟨.hbm, 163, rfl⟩
abbrev main_call5_cst : Ref sig .tc := ⟨.hbm, 164, rfl⟩
abbrev main_call5_v1 : Ref sig .tc := ⟨.hbm, 165, rfl⟩
abbrev main_call5_v2 : Ref sig .tc := ⟨.hbm, 166, rfl⟩
abbrev main_call5_v3 : Ref sig .tc := ⟨.hbm, 167, rfl⟩
abbrev main_call5_v4 : Ref sig .tc := ⟨.hbm, 168, rfl⟩
abbrev main_call5_c : Ref sig .tc := ⟨.hbm, 169, rfl⟩
abbrev main_call5_call0_v0 : Ref sig .tc := ⟨.hbm, 170, rfl⟩
abbrev main_call5_call0_v1 : Ref sig .tc := ⟨.hbm, 171, rfl⟩
abbrev main_call5_v5 : Ref sig .tc := ⟨.hbm, 172, rfl⟩
abbrev main_call5_c_0 : Ref sig .tc := ⟨.hbm, 173, rfl⟩
abbrev main_v17 : Ref sig .tc := ⟨.hbm, 174, rfl⟩
abbrev main_call6_v0 : Ref sig .tc := ⟨.hbm, 175, rfl⟩
abbrev main_call6_v1 : Ref sig .tc := ⟨.hbm, 176, rfl⟩
abbrev main_call6_v2 : Ref sig .tc := ⟨.hbm, 177, rfl⟩
abbrev main_call6_v3 : Ref sig .tc := ⟨.hbm, 178, rfl⟩
abbrev main_call6_cst : Ref sig .tc := ⟨.hbm, 179, rfl⟩
abbrev main_call6_cst_0 : Ref sig .tc := ⟨.hbm, 180, rfl⟩
abbrev main_call6_call0_v0 : Ref sig .tc := ⟨.hbm, 181, rfl⟩
abbrev main_call6_call0_v1 : Ref sig .tc := ⟨.hbm, 182, rfl⟩
abbrev main_call6_v4 : Ref sig .tc := ⟨.hbm, 183, rfl⟩
abbrev main_call6_v5 : Ref sig .tc := ⟨.hbm, 184, rfl⟩
abbrev main_call6_cst_1 : Ref sig .tc := ⟨.hbm, 185, rfl⟩
abbrev main_v18 : Ref sig .tc := ⟨.hbm, 186, rfl⟩
abbrev main_v19 : Ref sig .tc := ⟨.hbm, 187, rfl⟩
abbrev main_v20 : Ref sig .tc := ⟨.hbm, 188, rfl⟩
abbrev main_v21 : Ref sig .tc := ⟨.hbm, 189, rfl⟩
abbrev main_v22 : Ref sig .tc := ⟨.hbm, 190, rfl⟩
abbrev main_cst_2 : Ref sig .tc := ⟨.hbm, 191, rfl⟩
abbrev main_v23 : Ref sig .tc := ⟨.hbm, 192, rfl⟩
abbrev main_v24 : Ref sig .tc := ⟨.hbm, 193, rfl⟩
abbrev main_call7_c : Ref sig .tc := ⟨.hbm, 194, rfl⟩
abbrev main_call7_call0_v0 : Ref sig .tc := ⟨.hbm, 195, rfl⟩
abbrev main_call7_v0 : Ref sig .tc := ⟨.hbm, 196, rfl⟩
abbrev main_call7_v1 : Ref sig .tc := ⟨.hbm, 197, rfl⟩
abbrev main_call7_v2 : Ref sig .tc := ⟨.hbm, 198, rfl⟩
abbrev main_call7_v3 : Ref sig .tc := ⟨.hbm, 199, rfl⟩
abbrev main_call7_call1_v0 : Ref sig .tc := ⟨.hbm, 200, rfl⟩
abbrev main_call7_call1_v1 : Ref sig .tc := ⟨.hbm, 201, rfl⟩
abbrev main_call7_call1_v2 : Ref sig .tc := ⟨.hbm, 202, rfl⟩
abbrev main_call7_call1_v3 : Ref sig .tc := ⟨.hbm, 203, rfl⟩
abbrev main_call7_call1_v4 : Ref sig .tc := ⟨.hbm, 204, rfl⟩
abbrev main_call7_call1_v5 : Ref sig .tc := ⟨.hbm, 205, rfl⟩
abbrev main_call7_call1_v6 : Ref sig .tc := ⟨.hbm, 206, rfl⟩
abbrev main_call7_call1_v7 : Ref sig .tc := ⟨.hbm, 207, rfl⟩
abbrev main_call7_call1_v8 : Ref sig .tc := ⟨.hbm, 208, rfl⟩
abbrev main_call7_call1_v9 : Ref sig .tc := ⟨.hbm, 209, rfl⟩
abbrev main_call7_call1_v10 : Ref sig .tc := ⟨.hbm, 210, rfl⟩
abbrev main_call7_call1_v11 : Ref sig .tc := ⟨.hbm, 211, rfl⟩
abbrev main_call7_call1_v12 : Ref sig .tc := ⟨.hbm, 212, rfl⟩
abbrev main_call7_call1_v13 : Ref sig .tc := ⟨.hbm, 213, rfl⟩
abbrev main_call7_call1_v14 : Ref sig .tc := ⟨.hbm, 214, rfl⟩
abbrev main_call7_call1_v15 : Ref sig .tc := ⟨.hbm, 215, rfl⟩
abbrev main_call7_v4 : Ref sig .tc := ⟨.hbm, 216, rfl⟩
abbrev main_call7_v5 : Ref sig .tc := ⟨.hbm, 217, rfl⟩
abbrev main_call7_v6 : Ref sig .tc := ⟨.hbm, 218, rfl⟩
abbrev main_call7_v7 : Ref sig .tc := ⟨.hbm, 219, rfl⟩
abbrev main_call7_call2_v0 : Ref sig .tc := ⟨.hbm, 220, rfl⟩
abbrev main_call7_call2_v1 : Ref sig .tc := ⟨.hbm, 221, rfl⟩
abbrev main_call7_call2_v2 : Ref sig .tc := ⟨.hbm, 222, rfl⟩
abbrev main_call7_call2_v3 : Ref sig .tc := ⟨.hbm, 223, rfl⟩
abbrev main_call7_call2_v4 : Ref sig .tc := ⟨.hbm, 224, rfl⟩
abbrev main_call7_call2_v5 : Ref sig .tc := ⟨.hbm, 225, rfl⟩
abbrev main_call7_call2_v6 : Ref sig .tc := ⟨.hbm, 226, rfl⟩
abbrev main_call7_call2_v7 : Ref sig .tc := ⟨.hbm, 227, rfl⟩
abbrev main_call7_call2_v8 : Ref sig .tc := ⟨.hbm, 228, rfl⟩
abbrev main_call7_call2_v9 : Ref sig .tc := ⟨.hbm, 229, rfl⟩
abbrev main_call7_call2_v10 : Ref sig .tc := ⟨.hbm, 230, rfl⟩
abbrev main_call7_call2_v11 : Ref sig .tc := ⟨.hbm, 231, rfl⟩
abbrev main_call7_call2_v12 : Ref sig .tc := ⟨.hbm, 232, rfl⟩
abbrev main_call7_call2_v13 : Ref sig .tc := ⟨.hbm, 233, rfl⟩
abbrev main_call7_call2_v14 : Ref sig .tc := ⟨.hbm, 234, rfl⟩
abbrev main_call7_call2_v15 : Ref sig .tc := ⟨.hbm, 235, rfl⟩
abbrev main_call7_v8 : Ref sig .tc := ⟨.hbm, 236, rfl⟩
abbrev main_call7_v9 : Ref sig .tc := ⟨.hbm, 237, rfl⟩
abbrev main_call7_v10 : Ref sig .tc := ⟨.hbm, 238, rfl⟩
abbrev main_call7_v11 : Ref sig .tc := ⟨.hbm, 239, rfl⟩
abbrev main_call7_call3_v0 : Ref sig .tc := ⟨.hbm, 240, rfl⟩
abbrev main_call7_call3_v1 : Ref sig .tc := ⟨.hbm, 241, rfl⟩
abbrev main_call7_call3_v2 : Ref sig .tc := ⟨.hbm, 242, rfl⟩
abbrev main_call7_call3_v3 : Ref sig .tc := ⟨.hbm, 243, rfl⟩
abbrev main_call7_call3_v4 : Ref sig .tc := ⟨.hbm, 244, rfl⟩
abbrev main_call7_call3_v5 : Ref sig .tc := ⟨.hbm, 245, rfl⟩
abbrev main_call7_call3_v6 : Ref sig .tc := ⟨.hbm, 246, rfl⟩
abbrev main_call7_call3_v7 : Ref sig .tc := ⟨.hbm, 247, rfl⟩
abbrev main_call7_call3_v8 : Ref sig .tc := ⟨.hbm, 248, rfl⟩
abbrev main_call7_call3_v9 : Ref sig .tc := ⟨.hbm, 249, rfl⟩
abbrev main_call7_call3_v10 : Ref sig .tc := ⟨.hbm, 250, rfl⟩
abbrev main_call7_call3_v11 : Ref sig .tc := ⟨.hbm, 251, rfl⟩
abbrev main_call7_call3_v12 : Ref sig .tc := ⟨.hbm, 252, rfl⟩
abbrev main_call7_call3_v13 : Ref sig .tc := ⟨.hbm, 253, rfl⟩
abbrev main_call7_call3_v14 : Ref sig .tc := ⟨.hbm, 254, rfl⟩
abbrev main_call7_call3_v15 : Ref sig .tc := ⟨.hbm, 255, rfl⟩
abbrev main_call7_v12 : Ref sig .tc := ⟨.hbm, 256, rfl⟩
abbrev main_call7_v13 : Ref sig .tc := ⟨.hbm, 257, rfl⟩
abbrev main_call7_v14 : Ref sig .tc := ⟨.hbm, 258, rfl⟩
abbrev main_call7_v15 : Ref sig .tc := ⟨.hbm, 259, rfl⟩
abbrev main_call7_v16 : Ref sig .tc := ⟨.hbm, 260, rfl⟩
abbrev main_v25 : Ref sig .tc := ⟨.hbm, 261, rfl⟩
abbrev main_cst_3 : Ref sig .tc := ⟨.hbm, 262, rfl⟩
abbrev main_v26 : Ref sig .tc := ⟨.hbm, 263, rfl⟩
abbrev main_v27 : Ref sig .tc := ⟨.hbm, 264, rfl⟩
abbrev main_v28 : Ref sig .tc := ⟨.hbm, 265, rfl⟩
abbrev main_v29 : Ref sig .tc := ⟨.hbm, 266, rfl⟩
abbrev main_v30 : Ref sig .tc := ⟨.hbm, 267, rfl⟩
abbrev main_call8_call0_v0 : Ref sig .tc := ⟨.hbm, 268, rfl⟩
abbrev main_call8_call0_cst : Ref sig .tc := ⟨.hbm, 269, rfl⟩
abbrev main_call8_call0_v1 : Ref sig .tc := ⟨.hbm, 270, rfl⟩
abbrev main_call8_call0_v2 : Ref sig .tc := ⟨.hbm, 271, rfl⟩
abbrev main_call8_call0_v3 : Ref sig .tc := ⟨.hbm, 272, rfl⟩
abbrev main_call8_call0_cst_0 : Ref sig .tc := ⟨.hbm, 273, rfl⟩
abbrev main_call8_call0_v4 : Ref sig .tc := ⟨.hbm, 274, rfl⟩
abbrev main_call8_call0_v5 : Ref sig .tc := ⟨.hbm, 275, rfl⟩
abbrev main_call8_call0_v6 : Ref sig .tc := ⟨.hbm, 276, rfl⟩
abbrev main_call8_v0 : Ref sig .tc := ⟨.hbm, 277, rfl⟩
abbrev main_call8_call1_v0 : Ref sig .tc := ⟨.hbm, 278, rfl⟩
abbrev main_call8_call1_cst : Ref sig .tc := ⟨.hbm, 279, rfl⟩
abbrev main_call8_call1_v1 : Ref sig .tc := ⟨.hbm, 280, rfl⟩
abbrev main_call8_call1_v2 : Ref sig .tc := ⟨.hbm, 281, rfl⟩
abbrev main_call8_call1_v3 : Ref sig .tc := ⟨.hbm, 282, rfl⟩
abbrev main_call8_call1_cst_0 : Ref sig .tc := ⟨.hbm, 283, rfl⟩
abbrev main_call8_call1_v4 : Ref sig .tc := ⟨.hbm, 284, rfl⟩
abbrev main_call8_call1_v5 : Ref sig .tc := ⟨.hbm, 285, rfl⟩
abbrev main_call8_call1_v6 : Ref sig .tc := ⟨.hbm, 286, rfl⟩
abbrev main_call8_v1 : Ref sig .tc := ⟨.hbm, 287, rfl⟩
abbrev main_call8_v2 : Ref sig .tc := ⟨.hbm, 288, rfl⟩
abbrev main_v31 : Ref sig .tc := ⟨.hbm, 289, rfl⟩
abbrev main_call9_v0 : Ref sig .tc := ⟨.hbm, 290, rfl⟩
abbrev main_call9_cst : Ref sig .tc := ⟨.hbm, 291, rfl⟩
abbrev main_call9_v1 : Ref sig .tc := ⟨.hbm, 292, rfl⟩
abbrev main_call9_v2 : Ref sig .tc := ⟨.hbm, 293, rfl⟩
abbrev main_call9_v3 : Ref sig .tc := ⟨.hbm, 294, rfl⟩
abbrev main_call9_v4 : Ref sig .tc := ⟨.hbm, 295, rfl⟩
abbrev main_call9_c : Ref sig .tc := ⟨.hbm, 296, rfl⟩
abbrev main_call9_call0_v0 : Ref sig .tc := ⟨.hbm, 297, rfl⟩
abbrev main_call9_call0_v1 : Ref sig .tc := ⟨.hbm, 298, rfl⟩
abbrev main_call9_v5 : Ref sig .tc := ⟨.hbm, 299, rfl⟩
abbrev main_call9_c_0 : Ref sig .tc := ⟨.hbm, 300, rfl⟩
abbrev main_v32 : Ref sig .tc := ⟨.hbm, 301, rfl⟩
abbrev main_call10_v0 : Ref sig .tc := ⟨.hbm, 302, rfl⟩
abbrev main_call10_v1 : Ref sig .tc := ⟨.hbm, 303, rfl⟩
abbrev main_call10_v2 : Ref sig .tc := ⟨.hbm, 304, rfl⟩
abbrev main_call10_v3 : Ref sig .tc := ⟨.hbm, 305, rfl⟩
abbrev main_call10_cst : Ref sig .tc := ⟨.hbm, 306, rfl⟩
abbrev main_call10_cst_0 : Ref sig .tc := ⟨.hbm, 307, rfl⟩
abbrev main_call10_call0_v0 : Ref sig .tc := ⟨.hbm, 308, rfl⟩
abbrev main_call10_call0_v1 : Ref sig .tc := ⟨.hbm, 309, rfl⟩
abbrev main_call10_v4 : Ref sig .tc := ⟨.hbm, 310, rfl⟩
abbrev main_call10_v5 : Ref sig .tc := ⟨.hbm, 311, rfl⟩
abbrev main_call10_cst_1 : Ref sig .tc := ⟨.hbm, 312, rfl⟩
abbrev main_v33 : Ref sig .tc := ⟨.hbm, 313, rfl⟩
abbrev main_v34 : Ref sig .tc := ⟨.hbm, 314, rfl⟩
abbrev main_v35 : Ref sig .tc := ⟨.hbm, 315, rfl⟩
abbrev main_v36 : Ref sig .tc := ⟨.hbm, 316, rfl⟩
abbrev main_v37 : Ref sig .tc := ⟨.hbm, 317, rfl⟩
abbrev main_cst_4 : Ref sig .tc := ⟨.hbm, 318, rfl⟩
abbrev main_v38 : Ref sig .tc := ⟨.hbm, 319, rfl⟩
abbrev main_v39 : Ref sig .tc := ⟨.hbm, 320, rfl⟩
abbrev main_call11_c : Ref sig .tc := ⟨.hbm, 321, rfl⟩
abbrev main_call11_call0_v0 : Ref sig .tc := ⟨.hbm, 322, rfl⟩
abbrev main_call11_v0 : Ref sig .tc := ⟨.hbm, 323, rfl⟩
abbrev main_call11_v1 : Ref sig .tc := ⟨.hbm, 324, rfl⟩
abbrev main_call11_v2 : Ref sig .tc := ⟨.hbm, 325, rfl⟩
abbrev main_call11_v3 : Ref sig .tc := ⟨.hbm, 326, rfl⟩
abbrev main_call11_call1_v0 : Ref sig .tc := ⟨.hbm, 327, rfl⟩
abbrev main_call11_call1_v1 : Ref sig .tc := ⟨.hbm, 328, rfl⟩
abbrev main_call11_call1_v2 : Ref sig .tc := ⟨.hbm, 329, rfl⟩
abbrev main_call11_call1_v3 : Ref sig .tc := ⟨.hbm, 330, rfl⟩
abbrev main_call11_call1_v4 : Ref sig .tc := ⟨.hbm, 331, rfl⟩
abbrev main_call11_call1_v5 : Ref sig .tc := ⟨.hbm, 332, rfl⟩
abbrev main_call11_call1_v6 : Ref sig .tc := ⟨.hbm, 333, rfl⟩
abbrev main_call11_call1_v7 : Ref sig .tc := ⟨.hbm, 334, rfl⟩
abbrev main_call11_call1_v8 : Ref sig .tc := ⟨.hbm, 335, rfl⟩
abbrev main_call11_call1_v9 : Ref sig .tc := ⟨.hbm, 336, rfl⟩
abbrev main_call11_call1_v10 : Ref sig .tc := ⟨.hbm, 337, rfl⟩
abbrev main_call11_call1_v11 : Ref sig .tc := ⟨.hbm, 338, rfl⟩
abbrev main_call11_call1_v12 : Ref sig .tc := ⟨.hbm, 339, rfl⟩
abbrev main_call11_call1_v13 : Ref sig .tc := ⟨.hbm, 340, rfl⟩
abbrev main_call11_call1_v14 : Ref sig .tc := ⟨.hbm, 341, rfl⟩
abbrev main_call11_call1_v15 : Ref sig .tc := ⟨.hbm, 342, rfl⟩
abbrev main_call11_v4 : Ref sig .tc := ⟨.hbm, 343, rfl⟩
abbrev main_call11_v5 : Ref sig .tc := ⟨.hbm, 344, rfl⟩
abbrev main_call11_v6 : Ref sig .tc := ⟨.hbm, 345, rfl⟩
abbrev main_call11_v7 : Ref sig .tc := ⟨.hbm, 346, rfl⟩
abbrev main_call11_call2_v0 : Ref sig .tc := ⟨.hbm, 347, rfl⟩
abbrev main_call11_call2_v1 : Ref sig .tc := ⟨.hbm, 348, rfl⟩
abbrev main_call11_call2_v2 : Ref sig .tc := ⟨.hbm, 349, rfl⟩
abbrev main_call11_call2_v3 : Ref sig .tc := ⟨.hbm, 350, rfl⟩
abbrev main_call11_call2_v4 : Ref sig .tc := ⟨.hbm, 351, rfl⟩
abbrev main_call11_call2_v5 : Ref sig .tc := ⟨.hbm, 352, rfl⟩
abbrev main_call11_call2_v6 : Ref sig .tc := ⟨.hbm, 353, rfl⟩
abbrev main_call11_call2_v7 : Ref sig .tc := ⟨.hbm, 354, rfl⟩
abbrev main_call11_call2_v8 : Ref sig .tc := ⟨.hbm, 355, rfl⟩
abbrev main_call11_call2_v9 : Ref sig .tc := ⟨.hbm, 356, rfl⟩
abbrev main_call11_call2_v10 : Ref sig .tc := ⟨.hbm, 357, rfl⟩
abbrev main_call11_call2_v11 : Ref sig .tc := ⟨.hbm, 358, rfl⟩
abbrev main_call11_call2_v12 : Ref sig .tc := ⟨.hbm, 359, rfl⟩
abbrev main_call11_call2_v13 : Ref sig .tc := ⟨.hbm, 360, rfl⟩
abbrev main_call11_call2_v14 : Ref sig .tc := ⟨.hbm, 361, rfl⟩
abbrev main_call11_call2_v15 : Ref sig .tc := ⟨.hbm, 362, rfl⟩
abbrev main_call11_v8 : Ref sig .tc := ⟨.hbm, 363, rfl⟩
abbrev main_call11_v9 : Ref sig .tc := ⟨.hbm, 364, rfl⟩
abbrev main_call11_v10 : Ref sig .tc := ⟨.hbm, 365, rfl⟩
abbrev main_call11_v11 : Ref sig .tc := ⟨.hbm, 366, rfl⟩
abbrev main_call11_call3_v0 : Ref sig .tc := ⟨.hbm, 367, rfl⟩
abbrev main_call11_call3_v1 : Ref sig .tc := ⟨.hbm, 368, rfl⟩
abbrev main_call11_call3_v2 : Ref sig .tc := ⟨.hbm, 369, rfl⟩
abbrev main_call11_call3_v3 : Ref sig .tc := ⟨.hbm, 370, rfl⟩
abbrev main_call11_call3_v4 : Ref sig .tc := ⟨.hbm, 371, rfl⟩
abbrev main_call11_call3_v5 : Ref sig .tc := ⟨.hbm, 372, rfl⟩
abbrev main_call11_call3_v6 : Ref sig .tc := ⟨.hbm, 373, rfl⟩
abbrev main_call11_call3_v7 : Ref sig .tc := ⟨.hbm, 374, rfl⟩
abbrev main_call11_call3_v8 : Ref sig .tc := ⟨.hbm, 375, rfl⟩
abbrev main_call11_call3_v9 : Ref sig .tc := ⟨.hbm, 376, rfl⟩
abbrev main_call11_call3_v10 : Ref sig .tc := ⟨.hbm, 377, rfl⟩
abbrev main_call11_call3_v11 : Ref sig .tc := ⟨.hbm, 378, rfl⟩
abbrev main_call11_call3_v12 : Ref sig .tc := ⟨.hbm, 379, rfl⟩
abbrev main_call11_call3_v13 : Ref sig .tc := ⟨.hbm, 380, rfl⟩
abbrev main_call11_call3_v14 : Ref sig .tc := ⟨.hbm, 381, rfl⟩
abbrev main_call11_call3_v15 : Ref sig .tc := ⟨.hbm, 382, rfl⟩
abbrev main_call11_v12 : Ref sig .tc := ⟨.hbm, 383, rfl⟩
abbrev main_call11_v13 : Ref sig .tc := ⟨.hbm, 384, rfl⟩
abbrev main_call11_v14 : Ref sig .tc := ⟨.hbm, 385, rfl⟩
abbrev main_call11_v15 : Ref sig .tc := ⟨.hbm, 386, rfl⟩
abbrev main_call11_v16 : Ref sig .tc := ⟨.hbm, 387, rfl⟩
abbrev main_v40 : Ref sig .tc := ⟨.hbm, 388, rfl⟩
abbrev main_cst_5 : Ref sig .tc := ⟨.hbm, 389, rfl⟩
abbrev main_v41 : Ref sig .tc := ⟨.hbm, 390, rfl⟩
abbrev main_v42 : Ref sig .tc := ⟨.hbm, 391, rfl⟩
abbrev main_v43 : Ref sig .tc := ⟨.hbm, 392, rfl⟩
abbrev main_v44 : Ref sig .tc := ⟨.hbm, 393, rfl⟩
abbrev main_v45 : Ref sig .tc := ⟨.hbm, 394, rfl⟩
abbrev main_call12_call0_v0 : Ref sig .tc := ⟨.hbm, 395, rfl⟩
abbrev main_call12_call0_cst : Ref sig .tc := ⟨.hbm, 396, rfl⟩
abbrev main_call12_call0_v1 : Ref sig .tc := ⟨.hbm, 397, rfl⟩
abbrev main_call12_call0_v2 : Ref sig .tc := ⟨.hbm, 398, rfl⟩
abbrev main_call12_call0_v3 : Ref sig .tc := ⟨.hbm, 399, rfl⟩
abbrev main_call12_call0_cst_0 : Ref sig .tc := ⟨.hbm, 400, rfl⟩
abbrev main_call12_call0_v4 : Ref sig .tc := ⟨.hbm, 401, rfl⟩
abbrev main_call12_call0_v5 : Ref sig .tc := ⟨.hbm, 402, rfl⟩
abbrev main_call12_call0_v6 : Ref sig .tc := ⟨.hbm, 403, rfl⟩
abbrev main_call12_v0 : Ref sig .tc := ⟨.hbm, 404, rfl⟩
abbrev main_call12_call1_v0 : Ref sig .tc := ⟨.hbm, 405, rfl⟩
abbrev main_call12_call1_cst : Ref sig .tc := ⟨.hbm, 406, rfl⟩
abbrev main_call12_call1_v1 : Ref sig .tc := ⟨.hbm, 407, rfl⟩
abbrev main_call12_call1_v2 : Ref sig .tc := ⟨.hbm, 408, rfl⟩
abbrev main_call12_call1_v3 : Ref sig .tc := ⟨.hbm, 409, rfl⟩
abbrev main_call12_call1_cst_0 : Ref sig .tc := ⟨.hbm, 410, rfl⟩
abbrev main_call12_call1_v4 : Ref sig .tc := ⟨.hbm, 411, rfl⟩
abbrev main_call12_call1_v5 : Ref sig .tc := ⟨.hbm, 412, rfl⟩
abbrev main_call12_call1_v6 : Ref sig .tc := ⟨.hbm, 413, rfl⟩
abbrev main_call12_v1 : Ref sig .tc := ⟨.hbm, 414, rfl⟩
abbrev main_call12_v2 : Ref sig .tc := ⟨.hbm, 415, rfl⟩
abbrev main_v46 : Ref sig .tc := ⟨.hbm, 416, rfl⟩
abbrev main_call13_v0 : Ref sig .tc := ⟨.hbm, 417, rfl⟩
abbrev main_call13_cst : Ref sig .tc := ⟨.hbm, 418, rfl⟩
abbrev main_call13_v1 : Ref sig .tc := ⟨.hbm, 419, rfl⟩
abbrev main_call13_v2 : Ref sig .tc := ⟨.hbm, 420, rfl⟩
abbrev main_call13_v3 : Ref sig .tc := ⟨.hbm, 421, rfl⟩
abbrev main_call13_v4 : Ref sig .tc := ⟨.hbm, 422, rfl⟩
abbrev main_call13_c : Ref sig .tc := ⟨.hbm, 423, rfl⟩
abbrev main_call13_call0_v0 : Ref sig .tc := ⟨.hbm, 424, rfl⟩
abbrev main_call13_call0_v1 : Ref sig .tc := ⟨.hbm, 425, rfl⟩
abbrev main_call13_v5 : Ref sig .tc := ⟨.hbm, 426, rfl⟩
abbrev main_call13_c_0 : Ref sig .tc := ⟨.hbm, 427, rfl⟩
abbrev main_v47 : Ref sig .tc := ⟨.hbm, 428, rfl⟩
abbrev main_call14_v0 : Ref sig .tc := ⟨.hbm, 429, rfl⟩
abbrev main_call14_v1 : Ref sig .tc := ⟨.hbm, 430, rfl⟩
abbrev main_call14_v2 : Ref sig .tc := ⟨.hbm, 431, rfl⟩
abbrev main_call14_v3 : Ref sig .tc := ⟨.hbm, 432, rfl⟩
abbrev main_call14_cst : Ref sig .tc := ⟨.hbm, 433, rfl⟩
abbrev main_call14_cst_0 : Ref sig .tc := ⟨.hbm, 434, rfl⟩
abbrev main_call14_call0_v0 : Ref sig .tc := ⟨.hbm, 435, rfl⟩
abbrev main_call14_call0_v1 : Ref sig .tc := ⟨.hbm, 436, rfl⟩
abbrev main_call14_v4 : Ref sig .tc := ⟨.hbm, 437, rfl⟩
abbrev main_call14_v5 : Ref sig .tc := ⟨.hbm, 438, rfl⟩
abbrev main_call14_cst_1 : Ref sig .tc := ⟨.hbm, 439, rfl⟩
abbrev main_v48 : Ref sig .tc := ⟨.hbm, 440, rfl⟩
abbrev main_v49 : Ref sig .tc := ⟨.hbm, 441, rfl⟩
abbrev main_v50 : Ref sig .tc := ⟨.hbm, 442, rfl⟩
abbrev main_v51 : Ref sig .tc := ⟨.hbm, 443, rfl⟩
abbrev main_v52 : Ref sig .tc := ⟨.hbm, 444, rfl⟩
abbrev main_cst_6 : Ref sig .tc := ⟨.hbm, 445, rfl⟩
abbrev main_v53 : Ref sig .tc := ⟨.hbm, 446, rfl⟩
abbrev main_v54 : Ref sig .tc := ⟨.hbm, 447, rfl⟩
abbrev main_call15_c : Ref sig .tc := ⟨.hbm, 448, rfl⟩
abbrev main_call15_call0_v0 : Ref sig .tc := ⟨.hbm, 449, rfl⟩
abbrev main_call15_v0 : Ref sig .tc := ⟨.hbm, 450, rfl⟩
abbrev main_call15_v1 : Ref sig .tc := ⟨.hbm, 451, rfl⟩
abbrev main_call15_v2 : Ref sig .tc := ⟨.hbm, 452, rfl⟩
abbrev main_call15_v3 : Ref sig .tc := ⟨.hbm, 453, rfl⟩
abbrev main_call15_call1_v0 : Ref sig .tc := ⟨.hbm, 454, rfl⟩
abbrev main_call15_call1_v1 : Ref sig .tc := ⟨.hbm, 455, rfl⟩
abbrev main_call15_call1_v2 : Ref sig .tc := ⟨.hbm, 456, rfl⟩
abbrev main_call15_call1_v3 : Ref sig .tc := ⟨.hbm, 457, rfl⟩
abbrev main_call15_call1_v4 : Ref sig .tc := ⟨.hbm, 458, rfl⟩
abbrev main_call15_call1_v5 : Ref sig .tc := ⟨.hbm, 459, rfl⟩
abbrev main_call15_call1_v6 : Ref sig .tc := ⟨.hbm, 460, rfl⟩
abbrev main_call15_call1_v7 : Ref sig .tc := ⟨.hbm, 461, rfl⟩
abbrev main_call15_call1_v8 : Ref sig .tc := ⟨.hbm, 462, rfl⟩
abbrev main_call15_call1_v9 : Ref sig .tc := ⟨.hbm, 463, rfl⟩
abbrev main_call15_call1_v10 : Ref sig .tc := ⟨.hbm, 464, rfl⟩
abbrev main_call15_call1_v11 : Ref sig .tc := ⟨.hbm, 465, rfl⟩
abbrev main_call15_call1_v12 : Ref sig .tc := ⟨.hbm, 466, rfl⟩
abbrev main_call15_call1_v13 : Ref sig .tc := ⟨.hbm, 467, rfl⟩
abbrev main_call15_call1_v14 : Ref sig .tc := ⟨.hbm, 468, rfl⟩
abbrev main_call15_call1_v15 : Ref sig .tc := ⟨.hbm, 469, rfl⟩
abbrev main_call15_v4 : Ref sig .tc := ⟨.hbm, 470, rfl⟩
abbrev main_call15_v5 : Ref sig .tc := ⟨.hbm, 471, rfl⟩
abbrev main_call15_v6 : Ref sig .tc := ⟨.hbm, 472, rfl⟩
abbrev main_call15_v7 : Ref sig .tc := ⟨.hbm, 473, rfl⟩
abbrev main_call15_call2_v0 : Ref sig .tc := ⟨.hbm, 474, rfl⟩
abbrev main_call15_call2_v1 : Ref sig .tc := ⟨.hbm, 475, rfl⟩
abbrev main_call15_call2_v2 : Ref sig .tc := ⟨.hbm, 476, rfl⟩
abbrev main_call15_call2_v3 : Ref sig .tc := ⟨.hbm, 477, rfl⟩
abbrev main_call15_call2_v4 : Ref sig .tc := ⟨.hbm, 478, rfl⟩
abbrev main_call15_call2_v5 : Ref sig .tc := ⟨.hbm, 479, rfl⟩
abbrev main_call15_call2_v6 : Ref sig .tc := ⟨.hbm, 480, rfl⟩
abbrev main_call15_call2_v7 : Ref sig .tc := ⟨.hbm, 481, rfl⟩
abbrev main_call15_call2_v8 : Ref sig .tc := ⟨.hbm, 482, rfl⟩
abbrev main_call15_call2_v9 : Ref sig .tc := ⟨.hbm, 483, rfl⟩
abbrev main_call15_call2_v10 : Ref sig .tc := ⟨.hbm, 484, rfl⟩
abbrev main_call15_call2_v11 : Ref sig .tc := ⟨.hbm, 485, rfl⟩
abbrev main_call15_call2_v12 : Ref sig .tc := ⟨.hbm, 486, rfl⟩
abbrev main_call15_call2_v13 : Ref sig .tc := ⟨.hbm, 487, rfl⟩
abbrev main_call15_call2_v14 : Ref sig .tc := ⟨.hbm, 488, rfl⟩
abbrev main_call15_call2_v15 : Ref sig .tc := ⟨.hbm, 489, rfl⟩
abbrev main_call15_v8 : Ref sig .tc := ⟨.hbm, 490, rfl⟩
abbrev main_call15_v9 : Ref sig .tc := ⟨.hbm, 491, rfl⟩
abbrev main_call15_v10 : Ref sig .tc := ⟨.hbm, 492, rfl⟩
abbrev main_call15_v11 : Ref sig .tc := ⟨.hbm, 493, rfl⟩
abbrev main_call15_call3_v0 : Ref sig .tc := ⟨.hbm, 494, rfl⟩
abbrev main_call15_call3_v1 : Ref sig .tc := ⟨.hbm, 495, rfl⟩
abbrev main_call15_call3_v2 : Ref sig .tc := ⟨.hbm, 496, rfl⟩
abbrev main_call15_call3_v3 : Ref sig .tc := ⟨.hbm, 497, rfl⟩
abbrev main_call15_call3_v4 : Ref sig .tc := ⟨.hbm, 498, rfl⟩
abbrev main_call15_call3_v5 : Ref sig .tc := ⟨.hbm, 499, rfl⟩
abbrev main_call15_call3_v6 : Ref sig .tc := ⟨.hbm, 500, rfl⟩
abbrev main_call15_call3_v7 : Ref sig .tc := ⟨.hbm, 501, rfl⟩
abbrev main_call15_call3_v8 : Ref sig .tc := ⟨.hbm, 502, rfl⟩
abbrev main_call15_call3_v9 : Ref sig .tc := ⟨.hbm, 503, rfl⟩
abbrev main_call15_call3_v10 : Ref sig .tc := ⟨.hbm, 504, rfl⟩
abbrev main_call15_call3_v11 : Ref sig .tc := ⟨.hbm, 505, rfl⟩
abbrev main_call15_call3_v12 : Ref sig .tc := ⟨.hbm, 506, rfl⟩
abbrev main_call15_call3_v13 : Ref sig .tc := ⟨.hbm, 507, rfl⟩
abbrev main_call15_call3_v14 : Ref sig .tc := ⟨.hbm, 508, rfl⟩
abbrev main_call15_call3_v15 : Ref sig .tc := ⟨.hbm, 509, rfl⟩
abbrev main_call15_v12 : Ref sig .tc := ⟨.hbm, 510, rfl⟩
abbrev main_call15_v13 : Ref sig .tc := ⟨.hbm, 511, rfl⟩
abbrev main_call15_v14 : Ref sig .tc := ⟨.hbm, 512, rfl⟩
abbrev main_call15_v15 : Ref sig .tc := ⟨.hbm, 513, rfl⟩
abbrev main_call15_v16 : Ref sig .tc := ⟨.hbm, 514, rfl⟩
abbrev main_v55 : Ref sig .tc := ⟨.hbm, 515, rfl⟩
abbrev main_cst_7 : Ref sig .tc := ⟨.hbm, 516, rfl⟩
abbrev main_v56 : Ref sig .tc := ⟨.hbm, 517, rfl⟩
abbrev main_v57 : Ref sig .tc := ⟨.hbm, 518, rfl⟩
abbrev main_v58 : Ref sig .tc := ⟨.hbm, 519, rfl⟩
abbrev main_v59 : Ref sig .tc := ⟨.hbm, 520, rfl⟩
abbrev main_v60 : Ref sig .tc := ⟨.hbm, 521, rfl⟩
abbrev main_v61 : Ref sig .tc := ⟨.hbm, 522, rfl⟩
abbrev main_v62 : Ref sig .tc := ⟨.hbm, 523, rfl⟩
abbrev main_call16_call0_v0 : Ref sig .tc := ⟨.hbm, 524, rfl⟩
abbrev main_call16_call0_cst : Ref sig .tc := ⟨.hbm, 525, rfl⟩
abbrev main_call16_call0_v1 : Ref sig .tc := ⟨.hbm, 526, rfl⟩
abbrev main_call16_call0_v2 : Ref sig .tc := ⟨.hbm, 527, rfl⟩
abbrev main_call16_call0_v3 : Ref sig .tc := ⟨.hbm, 528, rfl⟩
abbrev main_call16_call0_cst_0 : Ref sig .tc := ⟨.hbm, 529, rfl⟩
abbrev main_call16_call0_v4 : Ref sig .tc := ⟨.hbm, 530, rfl⟩
abbrev main_call16_call0_v5 : Ref sig .tc := ⟨.hbm, 531, rfl⟩
abbrev main_call16_call0_v6 : Ref sig .tc := ⟨.hbm, 532, rfl⟩
abbrev main_call16_v0 : Ref sig .tc := ⟨.hbm, 533, rfl⟩
abbrev main_call16_call1_v0 : Ref sig .tc := ⟨.hbm, 534, rfl⟩
abbrev main_call16_call1_cst : Ref sig .tc := ⟨.hbm, 535, rfl⟩
abbrev main_call16_call1_v1 : Ref sig .tc := ⟨.hbm, 536, rfl⟩
abbrev main_call16_call1_v2 : Ref sig .tc := ⟨.hbm, 537, rfl⟩
abbrev main_call16_call1_v3 : Ref sig .tc := ⟨.hbm, 538, rfl⟩
abbrev main_call16_call1_cst_0 : Ref sig .tc := ⟨.hbm, 539, rfl⟩
abbrev main_call16_call1_v4 : Ref sig .tc := ⟨.hbm, 540, rfl⟩
abbrev main_call16_call1_v5 : Ref sig .tc := ⟨.hbm, 541, rfl⟩
abbrev main_call16_call1_v6 : Ref sig .tc := ⟨.hbm, 542, rfl⟩
abbrev main_call16_v1 : Ref sig .tc := ⟨.hbm, 543, rfl⟩
abbrev main_call16_v2 : Ref sig .tc := ⟨.hbm, 544, rfl⟩
abbrev main_v63 : Ref sig .tc := ⟨.hbm, 545, rfl⟩
abbrev main_call17_v0 : Ref sig .tc := ⟨.hbm, 546, rfl⟩
abbrev main_call17_cst : Ref sig .tc := ⟨.hbm, 547, rfl⟩
abbrev main_call17_v1 : Ref sig .tc := ⟨.hbm, 548, rfl⟩
abbrev main_call17_v2 : Ref sig .tc := ⟨.hbm, 549, rfl⟩
abbrev main_call17_v3 : Ref sig .tc := ⟨.hbm, 550, rfl⟩
abbrev main_call17_v4 : Ref sig .tc := ⟨.hbm, 551, rfl⟩
abbrev main_call17_c : Ref sig .tc := ⟨.hbm, 552, rfl⟩
abbrev main_call17_call0_v0 : Ref sig .tc := ⟨.hbm, 553, rfl⟩
abbrev main_call17_call0_v1 : Ref sig .tc := ⟨.hbm, 554, rfl⟩
abbrev main_call17_v5 : Ref sig .tc := ⟨.hbm, 555, rfl⟩
abbrev main_call17_c_0 : Ref sig .tc := ⟨.hbm, 556, rfl⟩
abbrev main_v64 : Ref sig .tc := ⟨.hbm, 557, rfl⟩
abbrev main_call18_v0 : Ref sig .tc := ⟨.hbm, 558, rfl⟩
abbrev main_call18_v1 : Ref sig .tc := ⟨.hbm, 559, rfl⟩
abbrev main_call18_v2 : Ref sig .tc := ⟨.hbm, 560, rfl⟩
abbrev main_call18_v3 : Ref sig .tc := ⟨.hbm, 561, rfl⟩
abbrev main_call18_cst : Ref sig .tc := ⟨.hbm, 562, rfl⟩
abbrev main_call18_cst_0 : Ref sig .tc := ⟨.hbm, 563, rfl⟩
abbrev main_call18_call0_v0 : Ref sig .tc := ⟨.hbm, 564, rfl⟩
abbrev main_call18_call0_v1 : Ref sig .tc := ⟨.hbm, 565, rfl⟩
abbrev main_call18_v4 : Ref sig .tc := ⟨.hbm, 566, rfl⟩
abbrev main_call18_v5 : Ref sig .tc := ⟨.hbm, 567, rfl⟩
abbrev main_call18_cst_1 : Ref sig .tc := ⟨.hbm, 568, rfl⟩
abbrev main_v65 : Ref sig .tc := ⟨.hbm, 569, rfl⟩
abbrev main_v66 : Ref sig .tc := ⟨.hbm, 570, rfl⟩
abbrev main_cst_8 : Ref sig .tc := ⟨.hbm, 571, rfl⟩
abbrev main_v67 : Ref sig .tc := ⟨.hbm, 572, rfl⟩
abbrev main_cst_9 : Ref sig .tc := ⟨.hbm, 573, rfl⟩
abbrev main_v68 : Ref sig .tc := ⟨.hbm, 574, rfl⟩
abbrev main_v69 : Ref sig .tc := ⟨.hbm, 575, rfl⟩
abbrev main_v70 : Ref sig .tc := ⟨.hbm, 576, rfl⟩
abbrev main_cst_10 : Ref sig .tc := ⟨.hbm, 577, rfl⟩
abbrev main_v71 : Ref sig .tc := ⟨.hbm, 578, rfl⟩
abbrev main_v72 : Ref sig .tc := ⟨.hbm, 579, rfl⟩
abbrev main_v73 : Ref sig .tc := ⟨.hbm, 580, rfl⟩
abbrev main_v74 : Ref sig .tc := ⟨.hbm, 581, rfl⟩
abbrev main_cst_11 : Ref sig .tc := ⟨.hbm, 582, rfl⟩
abbrev main_v75 : Ref sig .tc := ⟨.hbm, 583, rfl⟩
abbrev main_v76 : Ref sig .tc := ⟨.hbm, 584, rfl⟩
abbrev main_v77 : Ref sig .tc := ⟨.hbm, 585, rfl⟩

abbrev nD : Nat := 1
abbrev τ : Topo := Topo.v7x

variable {F : FTy → Type} [FloatOps F]
-- ==== Proof.KernelFrame.RunA.lean ====
/- One run of the whole body of Kernel. -/
module

public import proofs.«01_k».proof.Proof.KernelFrame.Runs

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 1000000 in
/-- The body's triple: on whole staging memrefs — the inputs' at their contents,
    the FORGOTTEN outputs' (7, 8, 9) at anything, handed back at some contents nothing names —
    the body runs to the continuation holding the inputs' as they were, the scratch at some contents: the printed functions are their skeletons (`Gen.*_eq_skeleton`),
    which `sl_exec` runs (Lib/Exec.lean). -/
theorem kernelRun0_A (c : Dev nD) (arg0 : Memref sig .tc .vmem S2048x256 .f32) (harg0 : arg0.IsWhole) (arg1 : Memref sig .tc .vmem S16384x32 .f32) (harg1 : arg1.IsWhole) (arg2 : Memref sig .tc .vmem S4096x32 .f32) (harg2 : arg2.IsWhole) (arg3 : Memref sig .tc .vmem S1152x32 .f32) (harg3 : arg3.IsWhole) (arg4 : Memref sig .tc .vmem S32x32 .f32) (harg4 : arg4.IsWhole) (arg5 : Memref sig .tc .vmem S2048x64 .bf16) (harg5 : arg5.IsWhole) (arg6 : Memref sig .tc .vmem S768x256 .bf16) (harg6 : arg6.IsWhole) (arg7 : Memref sig .tc .vmem S2048x256 .f32) (harg7 : arg7.IsWhole) (arg8 : Memref sig .tc .vmem S8x128 .f32) (harg8 : arg8.IsWhole) (arg9 : Memref sig .tc .vmem S8x128 .f32) (harg9 : arg9.IsWhole) (arg10 : Memref sig .tc .vmem S16384x32 .f32) (harg10 : arg10.IsWhole) (arg11 : Memref sig .tc .vmem S16384x32 .f32) (harg11 : arg11.IsWhole) (arg12 : Memref sig .tc .vmem S8x4096 .f32) (harg12 : arg12.IsWhole)
    (x0 : Vec F S2048x256 .f32) (x1 : Vec F S16384x32 .f32) (x2 : Vec F S4096x32 .f32) (x3 : Vec F S1152x32 .f32) (x4 : Vec F S32x32 .f32) (x5 : Vec F S2048x64 .bf16) (x6 : Vec F S768x256 .bf16) :
      ∀ (E : Set ℕ) (K : PUnit → sProp 𝕄),
        iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)) -∗ K ⟨⟩))
          ⊢ wp frame (wpE (defs₀ (F := F)) Variants.none c none) E (cc0__body arg0 harg0 arg1 harg1 arg2 harg2 arg3 harg3 arg4 harg4 arg5 harg5 arg6 harg6 arg7 harg7 arg8 harg8 arg9 harg9 arg10 harg10 arg11 harg11 arg12 harg12) K := by
    intro E K
    simp only [cc0__body_eq_skeleton]; unfold cc0__body_skel
    simp only [k0_part29_eq_skeleton, k0_part30_eq_skeleton, k0_part31_eq_skeleton, k0_part32_eq_skeleton, k0_part33_eq_skeleton, k0_part34_eq_skeleton, k0_part35_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%ds0, %fs0, -, HS0⟩, ⟨%ds1, %fs1, -, HS1⟩, ⟨%ds2, %fs2, -, HS2⟩, Hk⟩
    obtain rfl := harg0.eq_unread hf0; obtain rfl := harg1.eq_unread hf1; obtain rfl := harg2.eq_unread hf2; obtain rfl := harg3.eq_unread hf3; obtain rfl := harg4.eq_unread hf4; obtain rfl := harg5.eq_unread hf5; obtain rfl := harg6.eq_unread hf6
    sl_exec
    sl_step
    iapply Hk
    isplitl [H0]
    · iexists _; isplitr; · ipureintro; exact harg0.read_unread _
      iexact H0
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _, _; isplitr; swap; · iexact H7
      ipureintro; rfl
    isplitl [H8]
    · iexists _, _; isplitr; swap; · iexact H8
      ipureintro; rfl
    isplitl [H9]
    · iexists _, _; isplitr; swap; · iexact H9
      ipureintro; rfl
    isplitl [HS0]
    · iexists _, _; isplitr; swap; · iexact HS0
      ipureintro; rfl
    isplitl [HS1]
    · iexists _, _; isplitr; swap; · iexact HS1
      ipureintro; rfl
    iexists _, _; isplitr; swap; · iexact HS2
    ipureintro; rfl

end Cert.Kernel.Gen

end
-- ==== Proof.KernelFrame.Frame.lean ====
/- The run of Kernel from launch to the end. -/
module

public import proofs.«01_k».proof.Proof.KernelFrame.RunA
public import Idealize.ShloMosaic.Lib.Claim

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The pipeline's proof data -/

/-- The output windows this certificate FORGETS (7, 8, 9): nothing reads what the kernel leaves in them, so nothing
    of it is named (Lib/Pipeline/Dat.lean `Dat.toRForget`). -/
def forgets0 : Fin 10 → Bool := fun w => w.val == 7 || w.val == 8 || w.val == 9

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, h⟩ => Pipeline.Dat.unnamed (cfg := cfg0) ⟨7, h⟩ t
    | ⟨8, h⟩ => Pipeline.Dat.unnamed (cfg := cfg0) ⟨8, h⟩ t
    | ⟨9, h⟩ => Pipeline.Dat.unnamed (cfg := cfg0) ⟨9, h⟩ t
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare d)
    ∗ (∃ d, owns (c : Thread nD τ) (ms0_8 t) fullShare d)
    ∗ (∃ d, owns (c : Thread nD τ) (ms0_9 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ (∃ d, owns (c : Thread nD τ) (ms0_7 t) fullShare d)
    ∗ (∃ d, owns (c : Thread nD τ) (ms0_8 t) fullShare d)
    ∗ (∃ d, owns (c : Thread nD τ) (ms0_9 t) fullShare d))

set_option maxHeartbeats 1200000 in
/-- The body at any point: the inputs' memrefs hold their blocks (`before0_W`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6]
  rw [show (dats m 0 c).Φ t.castSucc = Pipeline.ΦA spec0 c from rfl, PhiA0_eq]
  iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply ((kernelRun0_A c _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t)) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  isplitl [HS0]; · iexact HS0
  isplitl [HS1]; · iexact HS1
  isplitl [HS2]; · iexact HS2
  iintro ⟨H0, H1, H2, H3, H4, H5, H6, H7, H8, H9, HS0, HS1, HS2⟩
  isplitl [HS0 HS1 HS2 Hg]
  · isplitl [HS0 HS1 HS2]
    · isplitl [HS0]
      · iexact HS0
      isplitl [HS1]
      · iexact HS1
      iexact HS2
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

-- `θ_run_frame_around_T_forget`'s implicit arguments are found by unifying its conclusion with this one, which takes unfolding plain
-- definitions in a metavariable's type
set_option backward.isDefEq.respectTransparency.types false in
set_option maxHeartbeats 800000 in
/-- THE LAUNCH: `run_main`'s statement, and every semaphore counter of the machine at zero at every final state. -/
theorem run_main_quiescent : θ_run defs (onTc (τ := τ) (main (F := F))) (s₀ m ρ) (fun r => (Pipeline.RDat.FramePostR (cfgs 0) (fun c => (dats m 0 c).toRForget forgets0) T0 (V m)) r ∧ r.2.sem = fun _ => 0) :=
  Pipeline.θ_run_frame_around_T_forget (Q' := _) cfgs (dats m) (0 : Fin 1) launch0 defs₀ Variants.none forgets0 T0 m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps) (hT := sfx_writes)
    (hmain := hmain m Variants.none) (hA := A_eq m) (hΦ := fun _ _ => rfl)

/-- At the compiled mesh, for any values, from any memory with zero counters: every weakly fair execution of @main on the
    TensorCores terminates, and every final state has every INPUT array of the pipeline unchanged, nothing stated of the
    FORGOTTEN outputs (windows 7, 8, 9) (Lib/Pipeline/Frame.lean `RDat.FramePostR` over the proof data with those windows
    forgotten, Dat.lean `Dat.toRForget`), and every other unscoped buffer outside `T0` at its region-entry contents. -/
theorem run_main : θ_run defs (onTc (τ := τ) (main (F := F))) (s₀ m ρ) (Pipeline.RDat.FramePostR (cfgs 0) (fun c => (dats m 0 c).toRForget forgets0) T0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (fun c => (dats m 0 c).toRForget forgets0) (A_eq m) (run_main m ρ)

/-- THE FRAME: `Cert.quiescent_Kernel`'s statement (Defs.lean) at any `F` — Proof.lean cites it at `Bits`:
    `theorem Cert.Proof.claim : Cert.Claim := ⟨Cert.Kernel.Gen.facts, fun m ρ _ => Cert.Kernel.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

end Cert.Kernel.Gen

end
-- ==== Proof.KernelIdealFrame.Runs.lean ====
/- What the region of KernelIdeal finds at entry, and its windows. -/
module

public import proofs.«01_k».proof.Proof.Gen.KernelIdeal.Launch
public import proofs.«01_k».proof.Proof.Gen.KernelIdeal.Skeleton
public import proofs.«01_k».proof.Proof.Gen.KernelIdeal.Loops
public import proofs.«01_k».proof.Proof.Gen.KernelIdeal.Points
public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main around the region -/

/-- Core `c`'s TensorCore buffer contents when the region is entered, as a valuation: after the host operations before
    the region (`hostOps0`, `hostOps0_1`, `hostOps0_2`, `hostOps0_3`, `hostOps0_4`, `hostOps0_5`, `hostOps0_6`, `hostOps0_7`, `hostOps0_8`, `hostOps0_9`, `hostOps0_10`, `hostOps0_11`, `hostOps0_12`, `hostOps0_13`, `hostOps0_14`, `hostOps0_15`, `hostOps0_16`, `hostOps0_17`, `hostOps0_18`, `hostOps0_19`, `hostOps0_20`, `hostOps0_21`, `hostOps0_22`, `hostOps0_23`, `hostOps0_24`, `hostOps0_25`, `hostOps0_26`, `hostOps0_27`, `hostOps0_28`, `hostOps0_29`, `hostOps0_30`, `hostOps0_31`, `hostOps0_32`, `hostOps0_33`, `hostOps0_34`, `hostOps0_35`, `hostOps0_36`, `hostOps0_37`, `hostOps0_38`, `hostOps0_39`, `hostOps0_40`, `hostOps0_41`, `hostOps0_42`, `hostOps0_43`, `hostOps0_44`, `hostOps0_45`, `hostOps0_46`, `hostOps0_47`, `hostOps0_48`, `hostOps0_49`, `hostOps0_50`, `hostOps0_51`, `hostOps0_52`, `hostOps0_53`, `hostOps0_54`, `hostOps0_55`, `hostOps0_56`, `hostOps0_57`, `hostOps0_58`, `hostOps0_59`, `hostOps0_60`, `hostOps0_61`, `hostOps0_62`, `hostOps0_63`, `hostOps0_64`). -/
abbrev V0 (c : Dev nD) : Valuation τ sig (Elt F) := StableHlo.after (List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, hostOps0_43, hostOps0_44, hostOps0_45, hostOps0_46, hostOps0_47, hostOps0_48, hostOps0_49, hostOps0_50, hostOps0_51, hostOps0_52, hostOps0_53, hostOps0_54, hostOps0_55, hostOps0_56, hostOps0_57, hostOps0_58, hostOps0_59, hostOps0_60, hostOps0_61, hostOps0_62, hostOps0_63, hostOps0_64]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps0_7_fresh : (hostOps0_7 : List (HloOp τ sig (Elt F))).Forall fun op => op.fresh = ∅ := by
  simp only [List.Forall]; repeat' constructor
theorem hostOps0_8_fresh : (hostOps0_8 : List (HloOp τ sig (Elt F))).Forall fun op => op.fresh = ∅ := by
  simp only [List.Forall]; repeat' constructor
theorem hostOps0_9_fresh : (hostOps0_9 : List (HloOp τ sig (Elt F))).Forall fun op => op.fresh = ∅ := by
  simp only [List.Forall]; repeat' constructor
theorem hostOps0_10_fresh : (hostOps0_10 : List (HloOp τ sig (Elt F))).Forall fun op => op.fresh = ∅ := by
  simp only [List.Forall]; repeat' constructor
theorem hostOps0_11_fresh : (hostOps0_11 : List (HloOp τ sig (Elt F))).Forall fun op => op.fresh = ∅ := by
  simp only [List.Forall]; repeat' constructor
theorem hostOps0_12_fresh : (hostOps0_12 : List (HloOp τ sig (Elt F))).Forall fun op => op.fresh = ∅ := by
  simp only [List.Forall]; repeat' constructor
theorem hostOps0_13_fresh : (hostOps0_13 : List (HloOp τ sig (Elt F))).Forall fun op => op.fresh = ∅ := by
  simp only [List.Forall]; repeat' constructor
theorem hostOps0_14_fresh : (hostOps0_14 : List (HloOp τ sig (Elt F))).Forall fun op => op.fresh = ∅ := by
  simp only [List.Forall]; repeat' constructor
theorem hostOps0_15_fresh : (hostOps0_15 : List (HloOp τ sig (Elt F))).Forall fun op => op.fresh = ∅ := by
  simp only [List.Forall]; repeat' constructor
theorem hostOps0_16_fresh : (hostOps0_16 : List (HloOp τ sig (Elt F))).Forall fun op => op.fresh = ∅ := by
  simp only [List.Forall]; repeat' constructor
theorem hostOps0_17_fresh : (hostOps0_17 : List (HloOp τ sig (Elt F))).Forall fun op => op.fresh = ∅ := by
  simp only [List.Forall]; repeat' constructor
theorem hostOps0_18_fresh : (hostOps0_18 : List (HloOp τ sig (Elt F))).Forall fun op => op.fresh = ∅ := by
  simp only [List.Forall]; repeat' constructor
theorem hostOps0_19_fresh : (hostOps0_19 : List (HloOp τ sig (Elt F))).Forall fun op => op.fresh = ∅ := by
  simp only [List.Forall]; repeat' constructor
theorem hostOps0_20_fresh : (hostOps0_20 : List (HloOp τ sig (Elt F))).Forall fun op => op.fresh = ∅ := by
  simp only [List.Forall]; repeat' constructor
theorem hostOps0_21_fresh : (hostOps0_21 : List (HloOp τ sig (Elt F))).Forall fun op => op.fresh = ∅ := by
  simp only [List.Forall]; repeat' constructor
theorem hostOps0_22_fresh : (hostOps0_22 : List (HloOp τ sig (Elt F))).Forall fun op => op.fresh = ∅ := by
  simp only [List.Forall]; repeat' constructor
theorem hostOps0_23_fresh : (hostOps0_23 : List (HloOp τ sig (Elt F))).Forall fun op => op.fresh = ∅ := by
  simp only [List.Forall]; repeat' constructor
theorem hostOps0_24_fresh : (hostOps0_24 : List (HloOp τ sig (Elt F))).Forall fun op => op.fresh = ∅ := by
  simp only [List.Forall]; repeat' constructor
theorem hostOps0_25_fresh : (hostOps0_25 : List (HloOp τ sig (Elt F))).Forall fun op => op.fresh = ∅ := by
  simp only [List.Forall]; repeat' constructor
theorem hostOps0_26_fresh : (hostOps0_26 : List (HloOp τ sig (Elt F))).Forall fun op => op.fresh = ∅ := by
  simp only [List.Forall]; repeat' constructor
theorem hostOps0_27_fresh : (hostOps0_27 : List (HloOp τ sig (Elt F))).Forall fun op => op.fresh = ∅ := by
  simp only [List.Forall]; repeat' constructor
theorem hostOps0_28_fresh : (hostOps0_28 : List (HloOp τ sig (Elt F))).Forall fun op => op.fresh = ∅ := by
  simp only [List.Forall]; repeat' constructor
theorem hostOps0_29_fresh : (hostOps0_29 : List (HloOp τ sig (Elt F))).Forall fun op => op.fresh = ∅ := by
  simp only [List.Forall]; repeat' constructor
theorem hostOps0_30_fresh : (hostOps0_30 : List (HloOp τ sig (Elt F))).Forall fun op => op.fresh = ∅ := by
  simp only [List.Forall]; repeat' constructor
theorem hostOps0_31_fresh : (hostOps0_31 : List (HloOp τ sig (Elt F))).Forall fun op => op.fresh = ∅ := by
  simp only [List.Forall]; repeat' constructor
theorem hostOps0_32_fresh : (hostOps0_32 : List (HloOp τ sig (Elt F))).Forall fun op => op.fresh = ∅ := by
  simp only [List.Forall]; repeat' constructor
theorem hostOps0_33_fresh : (hostOps0_33 : List (HloOp τ sig (Elt F))).Forall fun op => op.fresh = ∅ := by
  simp only [List.Forall]; repeat' constructor
theorem hostOps0_34_fresh : (hostOps0_34 : List (HloOp τ sig (Elt F))).Forall fun op => op.fresh = ∅ := by
  simp only [List.Forall]; repeat' constructor
theorem hostOps0_35_fresh : (hostOps0_35 : List (HloOp τ sig (Elt F))).Forall fun op => op.fresh = ∅ := by
  simp only [List.Forall]; repeat' constructor
theorem hostOps0_36_fresh : (hostOps0_36 : List (HloOp τ sig (Elt F))).Forall fun op => op.fresh = ∅ := by
  simp only [List.Forall]; repeat' constructor
theorem hostOps0_37_fresh : (hostOps0_37 : List (HloOp τ sig (Elt F))).Forall fun op => op.fresh = ∅ := by
  simp only [List.Forall]; repeat' constructor
theorem hostOps0_38_fresh : (hostOps0_38 : List (HloOp τ sig (Elt F))).Forall fun op => op.fresh = ∅ := by
  simp only [List.Forall]; repeat' constructor
theorem hostOps0_39_fresh : (hostOps0_39 : List (HloOp τ sig (Elt F))).Forall fun op => op.fresh = ∅ := by
  simp only [List.Forall]; repeat' constructor
theorem hostOps0_40_fresh : (hostOps0_40 : List (HloOp τ sig (Elt F))).Forall fun op => op.fresh = ∅ := by
  simp only [List.Forall]; repeat' constructor
theorem hostOps0_41_fresh : (hostOps0_41 : List (HloOp τ sig (Elt F))).Forall fun op => op.fresh = ∅ := by
  simp only [List.Forall]; repeat' constructor
theorem hostOps0_42_fresh : (hostOps0_42 : List (HloOp τ sig (Elt F))).Forall fun op => op.fresh = ∅ := by
  simp only [List.Forall]; repeat' constructor
theorem hostOps0_43_fresh : (hostOps0_43 : List (HloOp τ sig (Elt F))).Forall fun op => op.fresh = ∅ := by
  simp only [List.Forall]; repeat' constructor
theorem hostOps0_44_fresh : (hostOps0_44 : List (HloOp τ sig (Elt F))).Forall fun op => op.fresh = ∅ := by
  simp only [List.Forall]; repeat' constructor
theorem hostOps0_45_fresh : (hostOps0_45 : List (HloOp τ sig (Elt F))).Forall fun op => op.fresh = ∅ := by
  simp only [List.Forall]; repeat' constructor
theorem hostOps0_46_fresh : (hostOps0_46 : List (HloOp τ sig (Elt F))).Forall fun op => op.fresh = ∅ := by
  simp only [List.Forall]; repeat' constructor
theorem hostOps0_47_fresh : (hostOps0_47 : List (HloOp τ sig (Elt F))).Forall fun op => op.fresh = ∅ := by
  simp only [List.Forall]; repeat' constructor
theorem hostOps0_48_fresh : (hostOps0_48 : List (HloOp τ sig (Elt F))).Forall fun op => op.fresh = ∅ := by
  simp only [List.Forall]; repeat' constructor
theorem hostOps0_49_fresh : (hostOps0_49 : List (HloOp τ sig (Elt F))).Forall fun op => op.fresh = ∅ := by
  simp only [List.Forall]; repeat' constructor
theorem hostOps0_50_fresh : (hostOps0_50 : List (HloOp τ sig (Elt F))).Forall fun op => op.fresh = ∅ := by
  simp only [List.Forall]; repeat' constructor
theorem hostOps0_51_fresh : (hostOps0_51 : List (HloOp τ sig (Elt F))).Forall fun op => op.fresh = ∅ := by
  simp only [List.Forall]; repeat' constructor
theorem hostOps0_52_fresh : (hostOps0_52 : List (HloOp τ sig (Elt F))).Forall fun op => op.fresh = ∅ := by
  simp only [List.Forall]; repeat' constructor
theorem hostOps0_53_fresh : (hostOps0_53 : List (HloOp τ sig (Elt F))).Forall fun op => op.fresh = ∅ := by
  simp only [List.Forall]; repeat' constructor
theorem hostOps0_54_fresh : (hostOps0_54 : List (HloOp τ sig (Elt F))).Forall fun op => op.fresh = ∅ := by
  simp only [List.Forall]; repeat' constructor
theorem hostOps0_55_fresh : (hostOps0_55 : List (HloOp τ sig (Elt F))).Forall fun op => op.fresh = ∅ := by
  simp only [List.Forall]; repeat' constructor
theorem hostOps0_56_fresh : (hostOps0_56 : List (HloOp τ sig (Elt F))).Forall fun op => op.fresh = ∅ := by
  simp only [List.Forall]; repeat' constructor
theorem hostOps0_57_fresh : (hostOps0_57 : List (HloOp τ sig (Elt F))).Forall fun op => op.fresh = ∅ := by
  simp only [List.Forall]; repeat' constructor
theorem hostOps0_58_fresh : (hostOps0_58 : List (HloOp τ sig (Elt F))).Forall fun op => op.fresh = ∅ := by
  simp only [List.Forall]; repeat' constructor
theorem hostOps0_59_fresh : (hostOps0_59 : List (HloOp τ sig (Elt F))).Forall fun op => op.fresh = ∅ := by
  simp only [List.Forall]; repeat' constructor
theorem hostOps0_60_fresh : (hostOps0_60 : List (HloOp τ sig (Elt F))).Forall fun op => op.fresh = ∅ := by
  simp only [List.Forall]; repeat' constructor
theorem hostOps0_61_fresh : (hostOps0_61 : List (HloOp τ sig (Elt F))).Forall fun op => op.fresh = ∅ := by
  simp only [List.Forall]; repeat' constructor
theorem hostOps0_62_fresh : (hostOps0_62 : List (HloOp τ sig (Elt F))).Forall fun op => op.fresh = ∅ := by
  simp only [List.Forall]; repeat' constructor
theorem hostOps0_63_fresh : (hostOps0_63 : List (HloOp τ sig (Elt F))).Forall fun op => op.fresh = ∅ := by
  simp only [List.Forall]; repeat' constructor
theorem hostOps0_64_fresh : (hostOps0_64 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

set_option maxHeartbeats 800000 in
/-- @main around the region, at the certificate's variants `𝒱₀`: the host lines before it, the region, the host lines
    after it (`Pipeline.hmain_around`, off `main_chain`): it reduces to the region CONTINUED BY the later lines. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ([hostOps1].map StableHlo.seq)) :=
  Pipeline.hmain_around cfgs 0 defs₀ 𝒱₀ m main [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, hostOps0_43, hostOps0_44, hostOps0_45, hostOps0_46, hostOps0_47, hostOps0_48, hostOps0_49, hostOps0_50, hostOps0_51, hostOps0_52, hostOps0_53, hostOps0_54, hostOps0_55, hostOps0_56, hostOps0_57, hostOps0_58, hostOps0_59, hostOps0_60, hostOps0_61, hostOps0_62, hostOps0_63, hostOps0_64] [hostOps1] (by simp only [List.Forall]; exact ⟨hostOps0_sub, hostOps0_1_sub, hostOps0_2_sub, hostOps0_3_sub, hostOps0_4_sub, hostOps0_5_sub, hostOps0_6_sub, hostOps0_7_sub, hostOps0_8_sub, hostOps0_9_sub, hostOps0_10_sub, hostOps0_11_sub, hostOps0_12_sub, hostOps0_13_sub, hostOps0_14_sub, hostOps0_15_sub, hostOps0_16_sub, hostOps0_17_sub, hostOps0_18_sub, hostOps0_19_sub, hostOps0_20_sub, hostOps0_21_sub, hostOps0_22_sub, hostOps0_23_sub, hostOps0_24_sub, hostOps0_25_sub, hostOps0_26_sub, hostOps0_27_sub, hostOps0_28_sub, hostOps0_29_sub, hostOps0_30_sub, hostOps0_31_sub, hostOps0_32_sub, hostOps0_33_sub, hostOps0_34_sub, hostOps0_35_sub, hostOps0_36_sub, hostOps0_37_sub, hostOps0_38_sub, hostOps0_39_sub, hostOps0_40_sub, hostOps0_41_sub, hostOps0_42_sub, hostOps0_43_sub, hostOps0_44_sub, hostOps0_45_sub, hostOps0_46_sub, hostOps0_47_sub, hostOps0_48_sub, hostOps0_49_sub, hostOps0_50_sub, hostOps0_51_sub, hostOps0_52_sub, hostOps0_53_sub, hostOps0_54_sub, hostOps0_55_sub, hostOps0_56_sub, hostOps0_57_sub, hostOps0_58_sub, hostOps0_59_sub, hostOps0_60_sub, hostOps0_61_sub, hostOps0_62_sub, hostOps0_63_sub, hostOps0_64_sub⟩)
    (by simp only [List.Forall]; exact ⟨hostOps0_fresh, hostOps0_1_fresh, hostOps0_2_fresh, hostOps0_3_fresh, hostOps0_4_fresh, hostOps0_5_fresh, hostOps0_6_fresh, hostOps0_7_fresh, hostOps0_8_fresh, hostOps0_9_fresh, hostOps0_10_fresh, hostOps0_11_fresh, hostOps0_12_fresh, hostOps0_13_fresh, hostOps0_14_fresh, hostOps0_15_fresh, hostOps0_16_fresh, hostOps0_17_fresh, hostOps0_18_fresh, hostOps0_19_fresh, hostOps0_20_fresh, hostOps0_21_fresh, hostOps0_22_fresh, hostOps0_23_fresh, hostOps0_24_fresh, hostOps0_25_fresh, hostOps0_26_fresh, hostOps0_27_fresh, hostOps0_28_fresh, hostOps0_29_fresh, hostOps0_30_fresh, hostOps0_31_fresh, hostOps0_32_fresh, hostOps0_33_fresh, hostOps0_34_fresh, hostOps0_35_fresh, hostOps0_36_fresh, hostOps0_37_fresh, hostOps0_38_fresh, hostOps0_39_fresh, hostOps0_40_fresh, hostOps0_41_fresh, hostOps0_42_fresh, hostOps0_43_fresh, hostOps0_44_fresh, hostOps0_45_fresh, hostOps0_46_fresh, hostOps0_47_fresh, hostOps0_48_fresh, hostOps0_49_fresh, hostOps0_50_fresh, hostOps0_51_fresh, hostOps0_52_fresh, hostOps0_53_fresh, hostOps0_54_fresh, hostOps0_55_fresh, hostOps0_56_fresh, hostOps0_57_fresh, hostOps0_58_fresh, hostOps0_59_fresh, hostOps0_60_fresh, hostOps0_61_fresh, hostOps0_62_fresh, hostOps0_63_fresh, hostOps0_64_fresh⟩) main_chain

/-- The lines after the region touch the pipeline's arrays and the bypassing buffers only (each operation's buffers are
    unscoped TensorCore references, and with nothing prefetched every such reference is one or the other:
    `Pipeline.tailRefs_none`). -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And write no array of the pipeline (each writes only its own result buffer, which is no array). -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton] <;> exact StableHlo.devRef_ne_of_ne (by decide)

set_option maxHeartbeats 4000000 in
/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, hostOps0_43, hostOps0_44, hostOps0_45, hostOps0_46, hostOps0_47, hostOps0_48, hostOps0_49, hostOps0_50, hostOps0_51, hostOps0_52, hostOps0_53, hostOps0_54, hostOps0_55, hostOps0_56, hostOps0_57, hostOps0_58, hostOps0_59, hostOps0_60, hostOps0_61, hostOps0_62, hostOps0_63, hostOps0_64, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
set_option maxHeartbeats 4000000 in
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, hostOps0_43, hostOps0_44, hostOps0_45, hostOps0_46, hostOps0_47, hostOps0_48, hostOps0_49, hostOps0_50, hostOps0_51, hostOps0_52, hostOps0_53, hostOps0_54, hostOps0_55, hostOps0_56, hostOps0_57, hostOps0_58, hostOps0_59, hostOps0_60, hostOps0_61, hostOps0_62, hostOps0_63, hostOps0_64, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
set_option maxHeartbeats 4000000 in
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, hostOps0_43, hostOps0_44, hostOps0_45, hostOps0_46, hostOps0_47, hostOps0_48, hostOps0_49, hostOps0_50, hostOps0_51, hostOps0_52, hostOps0_53, hostOps0_54, hostOps0_55, hostOps0_56, hostOps0_57, hostOps0_58, hostOps0_59, hostOps0_60, hostOps0_61, hostOps0_62, hostOps0_63, hostOps0_64, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
set_option maxHeartbeats 4000000 in
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, hostOps0_43, hostOps0_44, hostOps0_45, hostOps0_46, hostOps0_47, hostOps0_48, hostOps0_49, hostOps0_50, hostOps0_51, hostOps0_52, hostOps0_53, hostOps0_54, hostOps0_55, hostOps0_56, hostOps0_57, hostOps0_58, hostOps0_59, hostOps0_60, hostOps0_61, hostOps0_62, hostOps0_63, hostOps0_64, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

/-- No host operation after the region writes `main_arg0`: it ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c
/-- No host operation after the region writes `main_arg2`: it ends as launched. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c
/-- No host operation after the region writes `main_arg3`: it ends as launched. -/
theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c
/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `FramePost` read at the argument arrays — a staged input by the library's
    `Dat.arrAt_in`, an array no window stages by the post's second clause, each then by `W_…` / `V_…` — is the frame
    claim's post (`Cert.frame_KernelIdeal`, Defs.lean, at any `F`). -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(((h c).2 main_arg0 (Pipeline.mem_restRefs_of main_arg0 (by decide) (by decide))).trans (W_main_arg0 m dats c)),
      ((h c).1 2).trans (((dats 0 c).arrAt_in 2 rfl _).trans ((hA c 2).trans (V_main_arg1 m c))),
      (((h c).2 main_arg2 (Pipeline.mem_restRefs_of main_arg2 (by decide) (by decide))).trans (W_main_arg2 m dats c)),
      (((h c).2 main_arg3 (Pipeline.mem_restRefs_of main_arg3 (by decide) (by decide))).trans (W_main_arg3 m dats c))⟩) h

/-! ## The kernel body on any staging memrefs: a subtype the run finds -/

/-- One staging buffer of output window 7, through which its contents are stated (`View.read_writes_of_cover`: the
    choice does not matter). -/
abbrev VO0_7 : View sig .tc .vmem S2048x256 .f32 := (Memref.whole cc0_stg7_0 : Memref sig .tc .vmem S2048x256 .f32).view
/-- One staging buffer of output window 8, through which its contents are stated (`View.read_writes_of_cover`: the
    choice does not matter). -/
abbrev VO0_8 : View sig .tc .vmem S8x128 .f32 := (Memref.whole cc0_stg8_0 : Memref sig .tc .vmem S8x128 .f32).view
/-- One staging buffer of output window 9, through which its contents are stated (`View.read_writes_of_cover`: the
    choice does not matter). -/
abbrev VO0_9 : View sig .tc .vmem S8x128 .f32 := (Memref.whole cc0_stg9_0 : Memref sig .tc .vmem S8x128 .f32).view
/-- Each window's current staging memref at point `t`, spelled as the pipeline passes it (`bodyAt0`), and its wholeness. -/
abbrev ms0_0 (t : Fin cfg0.N) : Memref sig .tc .vmem S2048x256 .f32 := win0_0.stage (cfg0.slots t 0)
abbrev hs0_0 (t : Fin cfg0.N) : (ms0_0 t).IsWhole := hstage0_0 0
abbrev ms0_1 (t : Fin cfg0.N) : Memref sig .tc .vmem S16384x32 .f32 := win0_1.stage (cfg0.slots t 1)
abbrev hs0_1 (t : Fin cfg0.N) : (ms0_1 t).IsWhole := hstage0_1 0
abbrev ms0_2 (t : Fin cfg0.N) : Memref sig .tc .vmem S4096x32 .f32 := win0_2.stage (cfg0.slots t 2)
abbrev hs0_2 (t : Fin cfg0.N) : (ms0_2 t).IsWhole := hstage0_2 0
abbrev ms0_3 (t : Fin cfg0.N) : Memref sig .tc .vmem S1152x32 .f32 := win0_3.stage (cfg0.slots t 3)
abbrev hs0_3 (t : Fin cfg0.N) : (ms0_3 t).IsWhole := hstage0_3 0
abbrev ms0_4 (t : Fin cfg0.N) : Memref sig .tc .vmem S32x32 .f32 := win0_4.stage (cfg0.slots t 4)
abbrev hs0_4 (t : Fin cfg0.N) : (ms0_4 t).IsWhole := hstage0_4 0
abbrev ms0_5 (t : Fin cfg0.N) : Memref sig .tc .vmem S2048x64 .bf16 := win0_5.stage (cfg0.slots t 5)
abbrev hs0_5 (t : Fin cfg0.N) : (ms0_5 t).IsWhole := hstage0_5 0
abbrev ms0_6 (t : Fin cfg0.N) : Memref sig .tc .vmem S768x256 .bf16 := win0_6.stage (cfg0.slots t 6)
abbrev hs0_6 (t : Fin cfg0.N) : (ms0_6 t).IsWhole := hstage0_6 0
abbrev ms0_7 (t : Fin cfg0.N) : Memref sig .tc .vmem S2048x256 .f32 := win0_7.stage (cfg0.slots t 7)
abbrev hs0_7 (t : Fin cfg0.N) : (ms0_7 t).IsWhole := hstage0_7 0
abbrev ms0_8 (t : Fin cfg0.N) : Memref sig .tc .vmem S8x128 .f32 := win0_8.stage (cfg0.slots t 8)
abbrev hs0_8 (t : Fin cfg0.N) : (ms0_8 t).IsWhole := hstage0_8 0
abbrev ms0_9 (t : Fin cfg0.N) : Memref sig .tc .vmem S8x128 .f32 := win0_9.stage (cfg0.slots t 9)
abbrev hs0_9 (t : Fin cfg0.N) : (ms0_9 t).IsWhole := hstage0_9 0
/-- The scratch operands: whole scoped buffers of the kernel's own, passed beside the windows. -/
abbrev scM0_0 : Memref sig .tc .vmem S16384x32 .f32 := Memref.whole cc0_scratch0
abbrev scM0_1 : Memref sig .tc .vmem S16384x32 .f32 := Memref.whole cc0_scratch1
abbrev scM0_2 : Memref sig .tc .vmem S8x4096 .f32 := Memref.whole cc0_scratch2

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

end Cert.KernelIdeal.Gen

end
-- ==== Proof.KernelIdealFrame.RunA.lean ====
/- One run of the whole body of KernelIdeal. -/
module

public import proofs.«01_k».proof.Proof.KernelIdealFrame.Runs

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first), WITH the
    proof that on whole staging memrefs — the inputs' at their contents, the other outputs' at
    anything, the scratch buffers at anything, the body runs to the continuation holding the inputs' as they were,
    the scratch at some contents, each output's buffer with its pieces written: the printed functions are their skeletons
    (`Gen.*_eq_skeleton`), which `sl_exec` runs (Lib/Exec.lean); the pieces are
    the witness that run finds (assigned when `iexact` hands the buffer to the continuation). -/
noncomputable def kernelRun0_A (c : Dev nD) (arg0 : Memref sig .tc .vmem S2048x256 .f32) (harg0 : arg0.IsWhole) (arg1 : Memref sig .tc .vmem S16384x32 .f32) (harg1 : arg1.IsWhole) (arg2 : Memref sig .tc .vmem S4096x32 .f32) (harg2 : arg2.IsWhole) (arg3 : Memref sig .tc .vmem S1152x32 .f32) (harg3 : arg3.IsWhole) (arg4 : Memref sig .tc .vmem S32x32 .f32) (harg4 : arg4.IsWhole) (arg5 : Memref sig .tc .vmem S2048x64 .bf16) (harg5 : arg5.IsWhole) (arg6 : Memref sig .tc .vmem S768x256 .bf16) (harg6 : arg6.IsWhole) (arg7 : Memref sig .tc .vmem S2048x256 .f32) (harg7 : arg7.IsWhole) (arg8 : Memref sig .tc .vmem S8x128 .f32) (harg8 : arg8.IsWhole) (arg9 : Memref sig .tc .vmem S8x128 .f32) (harg9 : arg9.IsWhole) (arg10 : Memref sig .tc .vmem S16384x32 .f32) (harg10 : arg10.IsWhole) (arg11 : Memref sig .tc .vmem S16384x32 .f32) (harg11 : arg11.IsWhole) (arg12 : Memref sig .tc .vmem S8x4096 .f32) (harg12 : arg12.IsWhole)
    (x0 : Vec F S2048x256 .f32) (x1 : Vec F S16384x32 .f32) (x2 : Vec F S4096x32 .f32) (x3 : Vec F S1152x32 .f32) (x4 : Vec F S32x32 .f32) (x5 : Vec F S2048x64 .bf16) (x6 : Vec F S768x256 .bf16) :
    Σ' (L7 : List (View.Piece (Elt F) S2048x256 .f32)), Σ' (L8 : List (View.Piece (Elt F) S8x128 .f32)), { L9 : List (View.Piece (Elt F) S8x128 .f32) //
      ∀ (E : Set ℕ) (K : PUnit → sProp 𝕄),
        iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ (∃ f, arg7.view.loc (c : Thread nD τ) ↦[arg7.view.set]{fullShare} arg7.view.writes (Elt F) f L7) ∗ (∃ f, arg8.view.loc (c : Thread nD τ) ↦[arg8.view.set]{fullShare} arg8.view.writes (Elt F) f L8) ∗ (∃ f, arg9.view.loc (c : Thread nD τ) ↦[arg9.view.set]{fullShare} arg9.view.writes (Elt F) f L9) ∗ (∃ d, owns (c : Thread nD τ) arg10 fullShare d) ∗ (∃ d, owns (c : Thread nD τ) arg11 fullShare d) ∗ (∃ d, owns (c : Thread nD τ) arg12 fullShare d)) -∗ K ⟨⟩))
          ⊢ wp frame (wpE (defs₀ (F := F)) Variants.none c none) E (cc0__body arg0 harg0 arg1 harg1 arg2 harg2 arg3 harg3 arg4 harg4 arg5 harg5 arg6 harg6 arg7 harg7 arg8 harg8 arg9 harg9 arg10 harg10 arg11 harg11 arg12 harg12) K } := by
  refine ⟨?_, ?_, ?_, fun E K => ?run⟩
  case run =>
    simp only [cc0__body_eq_skeleton]; unfold cc0__body_skel
    simp only [k0_part29_eq_skeleton, k0_part30_eq_skeleton, k0_part31_eq_skeleton, k0_part32_eq_skeleton, k0_part33_eq_skeleton, k0_part34_eq_skeleton, k0_part35_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%ds0, %fs0, -, HS0⟩, ⟨%ds1, %fs1, -, HS1⟩, ⟨%ds2, %fs2, -, HS2⟩, Hk⟩
    obtain rfl := harg0.eq_unread hf0; obtain rfl := harg1.eq_unread hf1; obtain rfl := harg2.eq_unread hf2; obtain rfl := harg3.eq_unread hf3; obtain rfl := harg4.eq_unread hf4; obtain rfl := harg5.eq_unread hf5; obtain rfl := harg6.eq_unread hf6
    sl_exec
    sl_step
    iapply Hk
    isplitl [H0]
    · iexists _; isplitr; · ipureintro; exact harg0.read_unread _
      iexact H0
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]; · iexists _; iexact H7
    isplitl [H8]; · iexists _; iexact H8
    isplitl [H9]; · iexists _; iexact H9
    isplitl [HS0]
    · iexists _, _; isplitr; swap; · iexact HS0
      ipureintro; rfl
    isplitl [HS1]
    · iexists _, _; isplitr; swap; · iexact HS1
      ipureintro; rfl
    iexists _, _; isplitr; swap; · iexact HS2
    ipureintro; rfl

end Cert.KernelIdeal.Gen

end
-- ==== Proof.KernelIdealFrame.Frame.lean ====
/- The run of KernelIdeal from launch to the end. -/
module

public import proofs.«01_k».proof.Proof.KernelIdealFrame.RunA
public import Idealize.ShloMosaic.Lib.Claim

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- The run's pieces for output 7 tile its block (1 store of `S2048x256`, checked by the kernel's evaluation: Lib/Ring.lean `Piece.tiledL`, linear in the pieces, through a loop's `@[irreducible]` trip theorem too), so they cover it. -/
theorem cover0_A_7 (c : Dev nD) (arg0 : Memref sig .tc .vmem S2048x256 .f32) (harg0 : arg0.IsWhole) (arg1 : Memref sig .tc .vmem S16384x32 .f32) (harg1 : arg1.IsWhole) (arg2 : Memref sig .tc .vmem S4096x32 .f32) (harg2 : arg2.IsWhole) (arg3 : Memref sig .tc .vmem S1152x32 .f32) (harg3 : arg3.IsWhole) (arg4 : Memref sig .tc .vmem S32x32 .f32) (harg4 : arg4.IsWhole) (arg5 : Memref sig .tc .vmem S2048x64 .bf16) (harg5 : arg5.IsWhole) (arg6 : Memref sig .tc .vmem S768x256 .bf16) (harg6 : arg6.IsWhole) (arg7 : Memref sig .tc .vmem S2048x256 .f32) (harg7 : arg7.IsWhole) (arg8 : Memref sig .tc .vmem S8x128 .f32) (harg8 : arg8.IsWhole) (arg9 : Memref sig .tc .vmem S8x128 .f32) (harg9 : arg9.IsWhole) (arg10 : Memref sig .tc .vmem S16384x32 .f32) (harg10 : arg10.IsWhole) (arg11 : Memref sig .tc .vmem S16384x32 .f32) (harg11 : arg11.IsWhole) (arg12 : Memref sig .tc .vmem S8x4096 .f32) (harg12 : arg12.IsWhole)
    (x0 : Vec F S2048x256 .f32) (x1 : Vec F S16384x32 .f32) (x2 : Vec F S4096x32 .f32) (x3 : Vec F S1152x32 .f32) (x4 : Vec F S32x32 .f32) (x5 : Vec F S2048x64 .bf16) (x6 : Vec F S768x256 .bf16) (y : S2048x256.Idx) :
    ∃ pc ∈ (kernelRun0_A c arg0 harg0 arg1 harg1 arg2 harg2 arg3 harg3 arg4 harg4 arg5 harg5 arg6 harg6 arg7 harg7 arg8 harg8 arg9 harg9 arg10 harg10 arg11 harg11 arg12 harg12 x0 x1 x2 x3 x4 x5 x6).1, y ∈ pc.1.set :=
  View.cover_of_tiledL (kernelRun0_A c arg0 harg0 arg1 harg1 arg2 harg2 arg3 harg3 arg4 harg4 arg5 harg5 arg6 harg6 arg7 harg7 arg8 harg8 arg9 harg9 arg10 harg10 arg11 harg11 arg12 harg12 x0 x1 x2 x3 x4 x5 x6).1 S2048x256.size (by sl_kernel_rfl) y

/-- What the run leaves in output 7's staging buffer: its pieces read back over junk. -/
def out0_A_7 (c : Dev nD) (arg0 : Memref sig .tc .vmem S2048x256 .f32) (harg0 : arg0.IsWhole) (arg1 : Memref sig .tc .vmem S16384x32 .f32) (harg1 : arg1.IsWhole) (arg2 : Memref sig .tc .vmem S4096x32 .f32) (harg2 : arg2.IsWhole) (arg3 : Memref sig .tc .vmem S1152x32 .f32) (harg3 : arg3.IsWhole) (arg4 : Memref sig .tc .vmem S32x32 .f32) (harg4 : arg4.IsWhole) (arg5 : Memref sig .tc .vmem S2048x64 .bf16) (harg5 : arg5.IsWhole) (arg6 : Memref sig .tc .vmem S768x256 .bf16) (harg6 : arg6.IsWhole) (arg7 : Memref sig .tc .vmem S2048x256 .f32) (harg7 : arg7.IsWhole) (arg8 : Memref sig .tc .vmem S8x128 .f32) (harg8 : arg8.IsWhole) (arg9 : Memref sig .tc .vmem S8x128 .f32) (harg9 : arg9.IsWhole) (arg10 : Memref sig .tc .vmem S16384x32 .f32) (harg10 : arg10.IsWhole) (arg11 : Memref sig .tc .vmem S16384x32 .f32) (harg11 : arg11.IsWhole) (arg12 : Memref sig .tc .vmem S8x4096 .f32) (harg12 : arg12.IsWhole)
    (x0 : Vec F S2048x256 .f32) (x1 : Vec F S16384x32 .f32) (x2 : Vec F S4096x32 .f32) (x3 : Vec F S1152x32 .f32) (x4 : Vec F S32x32 .f32) (x5 : Vec F S2048x64 .bf16) (x6 : Vec F S768x256 .bf16) : Vec F S2048x256 .f32 :=
  VO0_7.read (Elt F) (VO0_7.writes (Elt F) VO0_7.junk (kernelRun0_A c arg0 harg0 arg1 harg1 arg2 harg2 arg3 harg3 arg4 harg4 arg5 harg5 arg6 harg6 arg7 harg7 arg8 harg8 arg9 harg9 arg10 harg10 arg11 harg11 arg12 harg12 x0 x1 x2 x3 x4 x5 x6).1)

/-- The run's pieces for output 8 tile its block (1 store of `S8x128`, checked by the kernel's evaluation: Lib/Ring.lean `Piece.tiledL`, linear in the pieces, through a loop's `@[irreducible]` trip theorem too), so they cover it. -/
theorem cover0_A_8 (c : Dev nD) (arg0 : Memref sig .tc .vmem S2048x256 .f32) (harg0 : arg0.IsWhole) (arg1 : Memref sig .tc .vmem S16384x32 .f32) (harg1 : arg1.IsWhole) (arg2 : Memref sig .tc .vmem S4096x32 .f32) (harg2 : arg2.IsWhole) (arg3 : Memref sig .tc .vmem S1152x32 .f32) (harg3 : arg3.IsWhole) (arg4 : Memref sig .tc .vmem S32x32 .f32) (harg4 : arg4.IsWhole) (arg5 : Memref sig .tc .vmem S2048x64 .bf16) (harg5 : arg5.IsWhole) (arg6 : Memref sig .tc .vmem S768x256 .bf16) (harg6 : arg6.IsWhole) (arg7 : Memref sig .tc .vmem S2048x256 .f32) (harg7 : arg7.IsWhole) (arg8 : Memref sig .tc .vmem S8x128 .f32) (harg8 : arg8.IsWhole) (arg9 : Memref sig .tc .vmem S8x128 .f32) (harg9 : arg9.IsWhole) (arg10 : Memref sig .tc .vmem S16384x32 .f32) (harg10 : arg10.IsWhole) (arg11 : Memref sig .tc .vmem S16384x32 .f32) (harg11 : arg11.IsWhole) (arg12 : Memref sig .tc .vmem S8x4096 .f32) (harg12 : arg12.IsWhole)
    (x0 : Vec F S2048x256 .f32) (x1 : Vec F S16384x32 .f32) (x2 : Vec F S4096x32 .f32) (x3 : Vec F S1152x32 .f32) (x4 : Vec F S32x32 .f32) (x5 : Vec F S2048x64 .bf16) (x6 : Vec F S768x256 .bf16) (y : S8x128.Idx) :
    ∃ pc ∈ (kernelRun0_A c arg0 harg0 arg1 harg1 arg2 harg2 arg3 harg3 arg4 harg4 arg5 harg5 arg6 harg6 arg7 harg7 arg8 harg8 arg9 harg9 arg10 harg10 arg11 harg11 arg12 harg12 x0 x1 x2 x3 x4 x5 x6).2.1, y ∈ pc.1.set :=
  View.cover_of_tiledL (kernelRun0_A c arg0 harg0 arg1 harg1 arg2 harg2 arg3 harg3 arg4 harg4 arg5 harg5 arg6 harg6 arg7 harg7 arg8 harg8 arg9 harg9 arg10 harg10 arg11 harg11 arg12 harg12 x0 x1 x2 x3 x4 x5 x6).2.1 S8x128.size (by sl_kernel_rfl) y

/-- What the run leaves in output 8's staging buffer: its pieces read back over junk. -/
def out0_A_8 (c : Dev nD) (arg0 : Memref sig .tc .vmem S2048x256 .f32) (harg0 : arg0.IsWhole) (arg1 : Memref sig .tc .vmem S16384x32 .f32) (harg1 : arg1.IsWhole) (arg2 : Memref sig .tc .vmem S4096x32 .f32) (harg2 : arg2.IsWhole) (arg3 : Memref sig .tc .vmem S1152x32 .f32) (harg3 : arg3.IsWhole) (arg4 : Memref sig .tc .vmem S32x32 .f32) (harg4 : arg4.IsWhole) (arg5 : Memref sig .tc .vmem S2048x64 .bf16) (harg5 : arg5.IsWhole) (arg6 : Memref sig .tc .vmem S768x256 .bf16) (harg6 : arg6.IsWhole) (arg7 : Memref sig .tc .vmem S2048x256 .f32) (harg7 : arg7.IsWhole) (arg8 : Memref sig .tc .vmem S8x128 .f32) (harg8 : arg8.IsWhole) (arg9 : Memref sig .tc .vmem S8x128 .f32) (harg9 : arg9.IsWhole) (arg10 : Memref sig .tc .vmem S16384x32 .f32) (harg10 : arg10.IsWhole) (arg11 : Memref sig .tc .vmem S16384x32 .f32) (harg11 : arg11.IsWhole) (arg12 : Memref sig .tc .vmem S8x4096 .f32) (harg12 : arg12.IsWhole)
    (x0 : Vec F S2048x256 .f32) (x1 : Vec F S16384x32 .f32) (x2 : Vec F S4096x32 .f32) (x3 : Vec F S1152x32 .f32) (x4 : Vec F S32x32 .f32) (x5 : Vec F S2048x64 .bf16) (x6 : Vec F S768x256 .bf16) : Vec F S8x128 .f32 :=
  VO0_8.read (Elt F) (VO0_8.writes (Elt F) VO0_8.junk (kernelRun0_A c arg0 harg0 arg1 harg1 arg2 harg2 arg3 harg3 arg4 harg4 arg5 harg5 arg6 harg6 arg7 harg7 arg8 harg8 arg9 harg9 arg10 harg10 arg11 harg11 arg12 harg12 x0 x1 x2 x3 x4 x5 x6).2.1)

/-- The run's pieces for output 9 tile its block (1 store of `S8x128`, checked by the kernel's evaluation: Lib/Ring.lean `Piece.tiledL`, linear in the pieces, through a loop's `@[irreducible]` trip theorem too), so they cover it. -/
theorem cover0_A_9 (c : Dev nD) (arg0 : Memref sig .tc .vmem S2048x256 .f32) (harg0 : arg0.IsWhole) (arg1 : Memref sig .tc .vmem S16384x32 .f32) (harg1 : arg1.IsWhole) (arg2 : Memref sig .tc .vmem S4096x32 .f32) (harg2 : arg2.IsWhole) (arg3 : Memref sig .tc .vmem S1152x32 .f32) (harg3 : arg3.IsWhole) (arg4 : Memref sig .tc .vmem S32x32 .f32) (harg4 : arg4.IsWhole) (arg5 : Memref sig .tc .vmem S2048x64 .bf16) (harg5 : arg5.IsWhole) (arg6 : Memref sig .tc .vmem S768x256 .bf16) (harg6 : arg6.IsWhole) (arg7 : Memref sig .tc .vmem S2048x256 .f32) (harg7 : arg7.IsWhole) (arg8 : Memref sig .tc .vmem S8x128 .f32) (harg8 : arg8.IsWhole) (arg9 : Memref sig .tc .vmem S8x128 .f32) (harg9 : arg9.IsWhole) (arg10 : Memref sig .tc .vmem S16384x32 .f32) (harg10 : arg10.IsWhole) (arg11 : Memref sig .tc .vmem S16384x32 .f32) (harg11 : arg11.IsWhole) (arg12 : Memref sig .tc .vmem S8x4096 .f32) (harg12 : arg12.IsWhole)
    (x0 : Vec F S2048x256 .f32) (x1 : Vec F S16384x32 .f32) (x2 : Vec F S4096x32 .f32) (x3 : Vec F S1152x32 .f32) (x4 : Vec F S32x32 .f32) (x5 : Vec F S2048x64 .bf16) (x6 : Vec F S768x256 .bf16) (y : S8x128.Idx) :
    ∃ pc ∈ (kernelRun0_A c arg0 harg0 arg1 harg1 arg2 harg2 arg3 harg3 arg4 harg4 arg5 harg5 arg6 harg6 arg7 harg7 arg8 harg8 arg9 harg9 arg10 harg10 arg11 harg11 arg12 harg12 x0 x1 x2 x3 x4 x5 x6).2.2.1, y ∈ pc.1.set :=
  View.cover_of_tiledL (kernelRun0_A c arg0 harg0 arg1 harg1 arg2 harg2 arg3 harg3 arg4 harg4 arg5 harg5 arg6 harg6 arg7 harg7 arg8 harg8 arg9 harg9 arg10 harg10 arg11 harg11 arg12 harg12 x0 x1 x2 x3 x4 x5 x6).2.2.1 S8x128.size (by sl_kernel_rfl) y

/-- What the run leaves in output 9's staging buffer: its pieces read back over junk. -/
def out0_A_9 (c : Dev nD) (arg0 : Memref sig .tc .vmem S2048x256 .f32) (harg0 : arg0.IsWhole) (arg1 : Memref sig .tc .vmem S16384x32 .f32) (harg1 : arg1.IsWhole) (arg2 : Memref sig .tc .vmem S4096x32 .f32) (harg2 : arg2.IsWhole) (arg3 : Memref sig .tc .vmem S1152x32 .f32) (harg3 : arg3.IsWhole) (arg4 : Memref sig .tc .vmem S32x32 .f32) (harg4 : arg4.IsWhole) (arg5 : Memref sig .tc .vmem S2048x64 .bf16) (harg5 : arg5.IsWhole) (arg6 : Memref sig .tc .vmem S768x256 .bf16) (harg6 : arg6.IsWhole) (arg7 : Memref sig .tc .vmem S2048x256 .f32) (harg7 : arg7.IsWhole) (arg8 : Memref sig .tc .vmem S8x128 .f32) (harg8 : arg8.IsWhole) (arg9 : Memref sig .tc .vmem S8x128 .f32) (harg9 : arg9.IsWhole) (arg10 : Memref sig .tc .vmem S16384x32 .f32) (harg10 : arg10.IsWhole) (arg11 : Memref sig .tc .vmem S16384x32 .f32) (harg11 : arg11.IsWhole) (arg12 : Memref sig .tc .vmem S8x4096 .f32) (harg12 : arg12.IsWhole)
    (x0 : Vec F S2048x256 .f32) (x1 : Vec F S16384x32 .f32) (x2 : Vec F S4096x32 .f32) (x3 : Vec F S1152x32 .f32) (x4 : Vec F S32x32 .f32) (x5 : Vec F S2048x64 .bf16) (x6 : Vec F S768x256 .bf16) : Vec F S8x128 .f32 :=
  VO0_9.read (Elt F) (VO0_9.writes (Elt F) VO0_9.junk (kernelRun0_A c arg0 harg0 arg1 harg1 arg2 harg2 arg3 harg3 arg4 harg4 arg5 harg5 arg6 harg6 arg7 harg7 arg8 harg8 arg9 harg9 arg10 harg10 arg11 harg11 arg12 harg12 x0 x1 x2 x3 x4 x5 x6).2.2.1)

/-! ## What the outputs hold after each point -/

/-- What the outputs' staging buffers hold after the body at point `t` (as a tuple, in window order): the run's contents at
    the point's memrefs and input blocks. -/
def outsAt0 (c : Dev nD) (t : Fin cfg0.N) : Vec F S2048x256 .f32 × Vec F S8x128 .f32 × Vec F S8x128 .f32 :=
  (out0_A_7 c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) (iblk m c 0 t) (iblk m c 1 t) (iblk m c 2 t) (iblk m c 3 t) (iblk m c 4 t) (iblk m c 5 t) (iblk m c 6 t), out0_A_8 c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) (iblk m c 0 t) (iblk m c 1 t) (iblk m c 2 t) (iblk m c 3 t) (iblk m c 4 t) (iblk m c 5 t) (iblk m c 6 t), out0_A_9 c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) (iblk m c 0 t) (iblk m c 1 t) (iblk m c 2 t) (iblk m c 3 t) (iblk m c 4 t) (iblk m c 5 t) (iblk m c 6 t))

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => (outsAt0 m c t).1
    | ⟨8, _⟩ => (outsAt0 m c t).2.1
    | ⟨9, _⟩ => (outsAt0 m c t).2.2
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = (outsAt0 m c t).1 := by dsimp only [dats]
theorem after0_8 (c : Dev nD) (t : Fin cfg0.N) : (dats m 0 c).after 8 t = (outsAt0 m c t).2.1 := by dsimp only [dats]
theorem after0_9 (c : Dev nD) (t : Fin cfg0.N) : (dats m 0 c).after 9 t = (outsAt0 m c t).2.2 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t))

set_option maxHeartbeats 1200000 in
/-- The body at any point: the inputs' memrefs hold their blocks (`before0_W`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9]
  rw [show (dats m 0 c).Φ t.castSucc = Pipeline.ΦA spec0 c from rfl, PhiA0_eq]
  unfold outsAt0
  unfold out0_A_7 out0_A_8 out0_A_9; (try dsimp only)
  iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply ((kernelRun0_A c _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t)).2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  isplitl [HS0]; · iexact HS0
  isplitl [HS1]; · iexact HS1
  isplitl [HS2]; · iexact HS2
  iintro ⟨H0, H1, H2, H3, H4, H5, H6, ⟨%e7, H7⟩, ⟨%e8, H8⟩, ⟨%e9, H9⟩, HS0, HS1, HS2⟩
  isplitl [HS0 HS1 HS2 Hg]
  · isplitl [HS0 HS1 HS2]
    · isplitl [HS0]
      · iexact HS0
      isplitl [HS1]
      · iexact HS1
      iexact HS2
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]
  · unfold owns; iexists _; isplitr
    swap; · iexact H7
    ipureintro; exact View.read_writes_of_cover _ _ _ _ _ (cover0_A_7 c _ _ _ _ _ _ _ _ _ _ _ _ _ _ _ _ _ _ _ _ _ _ _ _ _ _ _ _ _ _ _ _ _)
  isplitl [H8]
  · unfold owns; iexists _; isplitr
    swap; · iexact H8
    ipureintro; exact View.read_writes_of_cover _ _ _ _ _ (cover0_A_8 c _ _ _ _ _ _ _ _ _ _ _ _ _ _ _ _ _ _ _ _ _ _ _ _ _ _ _ _ _ _ _ _ _)
  unfold owns; iexists _; isplitr
  swap; · iexact H9
  ipureintro; exact View.read_writes_of_cover _ _ _ _ _ (cover0_A_9 c _ _ _ _ _ _ _ _ _ _ _ _ _ _ _ _ _ _ _ _ _ _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame_around`'s implicit arguments are found by unifying its conclusion with this one, which takes unfolding plain
-- definitions in a metavariable's type
set_option backward.isDefEq.respectTransparency.types false in
set_option maxHeartbeats 800000 in
/-- THE LAUNCH: `run_main`'s statement, and every semaphore counter of the machine at zero at every final state. -/
theorem run_main_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the lines after the region leave it (Lib/Pipeline/Frame.lean `FramePost`). -/
theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

/-- THE FRAME: `Cert.quiescent_KernelIdeal`'s statement (Defs.lean) at any `F` — Proof.lean cites it at `Bits`:
    `theorem Cert.Proof.claim : Cert.Claim := ⟨Cert.KernelIdeal.Gen.facts, fun m ρ _ => Cert.KernelIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

end Cert.KernelIdeal.Gen

end
-- ==== Proof.KernelIdealFrame.Run.lean ====
/- The results of KernelIdeal read after the region. -/
module

public import proofs.«01_k».proof.Proof.Gen.KernelIdeal
public import proofs.«01_k».proof.Proof.KernelIdealFrame.Frame
public import Idealize.ShloMosaic.Lib.StableHlo.Run
public import Idealize.ShloMosaic.Lib.Pipeline.FrameSuffix

@[expose] public section

noncomputable section

namespace Cert.KernelIdeal.Value

open Cert.KernelIdeal Cert.KernelIdeal.Gen Idealize.ShloMosaic Idealize.ShloMosaic.TcCoe Idealize.SL.Sem Idealize.ShloMosaic.StableHlo

variable {F : FTy → Type} [FloatOps F]

variable (m : (ℓ : Loc nD τ sig) → Buf (Elt F) ℓ)

/-- Core `c`'s TensorCore buffer contents when the region is left: the arrays of its pipeline at what the proof data give
    after the last point, every other buffer as the region found it. -/
abbrev exitV (c : Dev nD) : Valuation τ sig (Elt F) :=
  Pipeline.withArrays spec0 c (Gen.V0 m c) fun w => (Gen.dats m 0 c).arrAt w cfg0.N

/-- What the kernel region leaves in its result array `main_v554_0` (window 7's): not opened here. -/
def reg_main_v554_0 (c : Dev nD) : Buf (Elt F) ((c.tc : Thread nD τ).loc main_v554_0) := (Gen.dats m 0 c).arrAt 7 cfg0.N
/-- What the kernel region leaves in its result array `main_v554_1` (window 8's): not opened here. -/
def reg_main_v554_1 (c : Dev nD) : Buf (Elt F) ((c.tc : Thread nD τ).loc main_v554_1) := (Gen.dats m 0 c).arrAt 8 cfg0.N
/-- What the kernel region leaves in its result array `main_v554_2` (window 9's): not opened here. -/
def reg_main_v554_2 (c : Dev nD) : Buf (Elt F) ((c.tc : Thread nD τ).loc main_v554_2) := (Gen.dats m 0 c).arrAt 9 cfg0.N

/-- The exit contents at the region's result array `main_v554_0`. -/
theorem exit_main_v554_0 (c : Dev nD) : exitV m c (Proc.devRef .tc main_v554_0) = reg_main_v554_0 m c :=
  Pipeline.withArrays_arr spec0 Gen.launch0.win.arr_inj c (Gen.V0 m c) _ 7
/-- The exit contents at the region's result array `main_v554_1`. -/
theorem exit_main_v554_1 (c : Dev nD) : exitV m c (Proc.devRef .tc main_v554_1) = reg_main_v554_1 m c :=
  Pipeline.withArrays_arr spec0 Gen.launch0.win.arr_inj c (Gen.V0 m c) _ 8

/-- The later operations from any contents `V0`, read at result `main_v555`. -/
theorem tail_main_v555 (V0 : Valuation τ sig (Elt F)) :
    after (List.flatten [Gen.hostOps1]) V0 (Proc.devRef .tc main_v555) = shapeCast _ (V0 (Proc.devRef .tc main_v554_0)) shapeCasts_S2048x256_S64x32x16x16 := by
  simp only [Gen.hostOps1, List.flatten_cons, List.flatten_nil, List.append_nil, List.cons_append, List.nil_append]
  after_results <;> rfl
/-- Result `main_v555` after the later operations from the region's exit contents. -/
theorem fin_main_v555 (c : Dev nD) :
    Pipeline.afterTail₀ cfgs (Gen.dats m) 0 (Gen.V0 m) [Gen.hostOps1] c main_v555 = shapeCast _ (reg_main_v554_0 m c) shapeCasts_S2048x256_S64x32x16x16 :=
  (tail_main_v555 (exitV m c)).trans (by rw [exit_main_v554_0])

/-- The later operations from any contents `V0`, read at result `main_v557`. -/
theorem tail_main_v557 (V0 : Valuation τ sig (Elt F)) :
    after (List.flatten [Gen.hostOps1]) V0 (Proc.devRef .tc main_v557) = shapeCast _ (extractStridedSlice S1x1 ![0, 0] (V0 (Proc.devRef .tc main_v554_1)) slices_S8x128_S1x1_0_0) shapeCasts_S1x1_S_ := by
  simp only [Gen.hostOps1, List.flatten_cons, List.flatten_nil, List.append_nil, List.cons_append, List.nil_append]
  after_results <;> rfl
/-- Result `main_v557` after the later operations from the region's exit contents. -/
theorem fin_main_v557 (c : Dev nD) :
    Pipeline.afterTail₀ cfgs (Gen.dats m) 0 (Gen.V0 m) [Gen.hostOps1] c main_v557 = shapeCast _ (extractStridedSlice S1x1 ![0, 0] (reg_main_v554_1 m c) slices_S8x128_S1x1_0_0) shapeCasts_S1x1_S_ :=
  (tail_main_v557 (exitV m c)).trans (by rw [exit_main_v554_1])

/-- On every device, for any float values, from any memory with zero counters: every weakly fair execution of
    @main terminates with each result at the later operations' composed term of the arguments and the region's
    outputs, and the arguments unchanged. -/
theorem run (ρ : Dev nD → PrngReg) :
    θ_run defs (onTc (τ := τ) (main (F := F))) ⟨m, fun _ => 0, ρ⟩ fun r => ∀ c : Dev nD,
      r.2.mem ((c.tc : Thread nD τ).loc main_v555) = shapeCast _ (reg_main_v554_0 m c) shapeCasts_S2048x256_S64x32x16x16
      ∧ r.2.mem ((c.tc : Thread nD τ).loc main_v557) = shapeCast _ (extractStridedSlice S1x1 ![0, 0] (reg_main_v554_1 m c) slices_S8x128_S1x1_0_0) shapeCasts_S1x1_S_
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨((h c).2 main_v555 (Pipeline.mem_restRefs_of main_v555 (by decide) (by decide))).trans (fin_main_v555 m c),
      ((h c).2 main_v557 (Pipeline.mem_restRefs_of main_v557 (by decide) (by decide))).trans (fin_main_v557 m c),
      ((h c).2 main_arg0 (Pipeline.mem_restRefs_of main_arg0 (by decide) (by decide))).trans (Gen.W_main_arg0 m (Gen.dats m) c),
      ((h c).1 2).trans (((Gen.dats m 0 c).arrAt_in 2 rfl _).trans ((Gen.A_eq m c 2).trans (Gen.V_main_arg1 m c))),
      ((h c).2 main_arg2 (Pipeline.mem_restRefs_of main_arg2 (by decide) (by decide))).trans (Gen.W_main_arg2 m (Gen.dats m) c),
      ((h c).2 main_arg3 (Pipeline.mem_restRefs_of main_arg3 (by decide) (by decide))).trans (Gen.W_main_arg3 m (Gen.dats m) c)⟩) (Gen.run_main m ρ)

end Cert.KernelIdeal.Value

end
-- ==== Proof.Loss.lean ====
/- The loss on both sides, as a function of the argument: 6.25 times the mean of the squares. -/
module

public import proofs.«01_k».proof.Proof.Gen.KernelIdeal.Skeleton
public import proofs.«01_k».proof.Proof.Gen.ReferenceIdeal.Read
public import Idealize.ShloMosaic.PureOps.Ideal
public import Idealize.ShloMosaic.Lib.Pipeline.ValueKit
public import Idealize.ShloMosaic.Lib.IdealHost

@[expose] public section

noncomputable section

namespace Cert.Own

open Idealize.ShloMosaic

/-- The sum of the squares of an array. -/
def squares {S : Shape} (x : Vec Ideal S .f32) : EReal := ∑ i, x i * x i

/-- The square of an extended real is not negative. -/
theorem sq_nonneg (x : EReal) : 0 ≤ x * x := by
  rcases le_total 0 x with h | h
  · exact mul_nonneg h h
  · simpa using mul_nonneg (EReal.neg_nonneg.mpr h) (EReal.neg_nonneg.mpr h)

theorem squares_nonneg {S : Shape} (x : Vec Ideal S .f32) : 0 ≤ squares x :=
  Finset.sum_nonneg fun _ _ => sq_nonneg _

/-- Reshaping an array keeps the sum of its squares. -/
theorem squares_shapeCast {S T : Shape} (x : Vec Ideal S .f32) (h : S.ShapeCasts T) :
    squares (S := T) (shapeCast T x h) = squares x :=
  (Shape.reshapeEquiv h).sum_comp fun i => x i * x i

/-- The number of elements. -/
theorem bits_count : Ideal.ofBits .f32 1224736768#32 = ((524288 : ℝ) : EReal) := by
  simp [Ideal.ofBits, Ideal.ieee, -EReal.coe_mul]; norm_num
theorem bits_beta : Ideal.ofBits .f32 1048576000#32 = ((1 / 4 : ℝ) : EReal) := by
  simp [Ideal.ofBits, Ideal.ieee, -EReal.coe_mul]; norm_num
theorem bits_weight : Ideal.ofBits .f32 1086849024#32 = ((25 / 4 : ℝ) : EReal) := by
  simp [Ideal.ofBits, Ideal.ieee, -EReal.coe_mul]; norm_num

/-- The mean of the squares. -/
def meanSq {S : Shape} (x : Vec Ideal S .f32) : EReal := squares x * ((1 / 524288 : ℝ) : EReal)

theorem meanSq_nonneg {S : Shape} (x : Vec Ideal S .f32) : 0 ≤ meanSq x :=
  mul_nonneg (squares_nonneg x) (by exact_mod_cast (by norm_num : (0 : ℝ) ≤ 1 / 524288))

/-- Five times the loss of one scale, added up in the reference's order, is 6.25 times the mean. -/
theorem five_scales (q m : EReal) (hq : q = ((1 / 4 : ℝ) : EReal)) (h : 0 ≤ m) :
    0 + q * m + m + q * m + m + q * m + m + q * m + m + q * m + m = ((25 / 4 : ℝ) : EReal) * m := by
  subst hq
  induction m with
  | bot => simp at h
  | top =>
    rw [EReal.coe_mul_top_of_pos (by norm_num), EReal.coe_mul_top_of_pos (by norm_num)]; simp
  | coe r => norm_cast; ring

theorem pay1_apply (j : Cert.KernelIdeal.S2048x256.Idx) : Cert.KernelIdeal.Gen.k0_pay1 (F := Ideal) j = 0 := by
  unfold Cert.KernelIdeal.Gen.k0_pay1
  pointwise

theorem pay2_apply (x : Vec Ideal Cert.KernelIdeal.S2048x256 .f32) (j) :
    Cert.KernelIdeal.Gen.k0_pay2 (F := Ideal) x j = ((25 / 4 : ℝ) : EReal) * meanSq x := by
  unfold Cert.KernelIdeal.Gen.k0_pay2
  pointwise
  rw [bits_weight, bits_count, Ideal.div_coe (by norm_num)]
  unfold meanSq squares
  congr 2
  exact (sum_idx2 fun i => x i * x i).symm

/-- The reference's mean of the squares of `0 - x`. -/
theorem mse_apply (x : Vec Ideal Cert.ReferenceIdeal.S64x32x16x16 .f32) (i) :
    Cert.ReferenceIdeal.Read.val_main_v1 (F := Ideal) x i = meanSq x := by
  rw [Cert.ReferenceIdeal.Read.val_main_v1_apply, Cert.ReferenceIdeal.Read.val_main_call0_v2_apply]
  have h : ∀ j, Cert.ReferenceIdeal.Read.val_main_call0_v1 (F := Ideal) x j = x j * x j := fun j => by
    rw [Cert.ReferenceIdeal.Read.val_main_call0_v1_apply, Cert.ReferenceIdeal.Read.val_main_call0_v0_apply,
      Cert.ReferenceIdeal.Read.val_main_v0_apply, Cert.ReferenceIdeal.Read.val_main_cst_apply]
    simp
  rw [Cert.ReferenceIdeal.Read.val_main_call0_cst_0_apply, Cert.ReferenceIdeal.Read.val_main_call0_cst_apply]
  simp only [h]
  show Ideal.div (Ideal.ofBits .f32 0x00000000#32 + squares x) (Ideal.ofBits .f32 1224736768#32) = _
  rw [Ideal.ofBits_zero_f32, zero_add, bits_count, Ideal.div_coe (by norm_num)]
  rfl

theorem ref_apply (x : Vec Ideal Cert.ReferenceIdeal.S64x32x16x16 .f32) (j) :
    Cert.ReferenceIdeal.Read.val_main_v25 (F := Ideal) x j = ((25 / 4 : ℝ) : EReal) * meanSq x := by
  have h := mse_apply x j
  refine Eq.trans ?_ (five_scales _ _ bits_beta (meanSq_nonneg x))
  rw [← h, ← Ideal.ofBits_zero_f32]
  rfl

end Cert.Own

end
-- ==== Proof.Host.lean ====
/- What the kernel's region finds in its first operand. -/
module

public import proofs.«01_k».proof.Proof.KernelIdealFrame.Runs
public import Idealize.ShloMosaic.PureOps.Ideal
public import Idealize.ShloMosaic.Lib.Claim

@[expose] public section

set_option maxRecDepth 100000

noncomputable section

open Idealize.ShloMosaic Idealize.ShloMosaic.TcCoe Idealize.SL.Sem
open Idealize.ShloMosaic.Pipeline (Dat)

namespace Cert.KernelIdeal.Own

open Cert.KernelIdeal Cert.KernelIdeal.Gen

variable (m : (ℓ : Loc nD τ sig) → Buf (Elt Ideal) ℓ)

set_option maxHeartbeats 4000000 in
/-- No host operation after the first writes the reshaped argument. -/
theorem rest_main_v0 (W : Valuation τ sig (Elt Ideal)) :
    StableHlo.after (List.tail (hostOps0 (F := Ideal)) ++ List.flatten [hostOps0_1 (F := Ideal), hostOps0_2 (F := Ideal), hostOps0_3 (F := Ideal), hostOps0_4 (F := Ideal), hostOps0_5 (F := Ideal), hostOps0_6 (F := Ideal), hostOps0_7 (F := Ideal), hostOps0_8 (F := Ideal), hostOps0_9 (F := Ideal), hostOps0_10 (F := Ideal), hostOps0_11 (F := Ideal), hostOps0_12 (F := Ideal), hostOps0_13 (F := Ideal), hostOps0_14 (F := Ideal), hostOps0_15 (F := Ideal), hostOps0_16 (F := Ideal), hostOps0_17 (F := Ideal), hostOps0_18 (F := Ideal), hostOps0_19 (F := Ideal), hostOps0_20 (F := Ideal), hostOps0_21 (F := Ideal), hostOps0_22 (F := Ideal), hostOps0_23 (F := Ideal), hostOps0_24 (F := Ideal), hostOps0_25 (F := Ideal), hostOps0_26 (F := Ideal), hostOps0_27 (F := Ideal), hostOps0_28 (F := Ideal), hostOps0_29 (F := Ideal), hostOps0_30 (F := Ideal), hostOps0_31 (F := Ideal), hostOps0_32 (F := Ideal), hostOps0_33 (F := Ideal), hostOps0_34 (F := Ideal), hostOps0_35 (F := Ideal), hostOps0_36 (F := Ideal), hostOps0_37 (F := Ideal), hostOps0_38 (F := Ideal), hostOps0_39 (F := Ideal), hostOps0_40 (F := Ideal), hostOps0_41 (F := Ideal), hostOps0_42 (F := Ideal), hostOps0_43 (F := Ideal), hostOps0_44 (F := Ideal), hostOps0_45 (F := Ideal), hostOps0_46 (F := Ideal), hostOps0_47 (F := Ideal), hostOps0_48 (F := Ideal), hostOps0_49 (F := Ideal), hostOps0_50 (F := Ideal), hostOps0_51 (F := Ideal), hostOps0_52 (F := Ideal), hostOps0_53 (F := Ideal), hostOps0_54 (F := Ideal), hostOps0_55 (F := Ideal), hostOps0_56 (F := Ideal), hostOps0_57 (F := Ideal), hostOps0_58 (F := Ideal), hostOps0_59 (F := Ideal), hostOps0_60 (F := Ideal), hostOps0_61 (F := Ideal), hostOps0_62 (F := Ideal), hostOps0_63 (F := Ideal), hostOps0_64 (F := Ideal)]) W (Proc.devRef .tc main_v0) = W (Proc.devRef .tc main_v0) :=
  StableHlo.after_of_forall_not_mem (b := Proc.devRef .tc main_v0) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, hostOps0_43, hostOps0_44, hostOps0_45, hostOps0_46, hostOps0_47, hostOps0_48, hostOps0_49, hostOps0_50, hostOps0_51, hostOps0_52, hostOps0_53, hostOps0_54, hostOps0_55, hostOps0_56, hostOps0_57, hostOps0_58, hostOps0_59, hostOps0_60, hostOps0_61, hostOps0_62, hostOps0_63, hostOps0_64, List.tail_cons, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

/-- The operations of a list of lists, the first one apart. -/
theorem after_flatten_cons (op : HloOp τ sig (Elt Ideal)) (ops : List (HloOp τ sig (Elt Ideal))) (L : List (List (HloOp τ sig (Elt Ideal))))
    (W : Valuation τ sig (Elt Ideal)) :
    StableHlo.after (List.flatten ((op :: ops) :: L)) W = StableHlo.after (ops ++ List.flatten L) (StableHlo.after [op] W) := by
  rw [List.flatten_cons, List.cons_append, StableHlo.after_cons, StableHlo.after_cons, StableHlo.after_nil]

/-- The region finds the argument reshaped to rows of 256. -/
theorem V_main_v0 (c : Dev nD) : V m c main_v0 = shapeCast S2048x256 (m ((c : Thread nD τ).loc main_arg0)) shapeCasts_S64x32x16x16_S2048x256 := by
  refine (congrFun (after_flatten_cons _ _ _ _) _).trans ((rest_main_v0 _).trans ?_)
  after_results <;> rfl

end Cert.KernelIdeal.Own

end
-- ==== Proof.Value.lean ====
/- What the kernel's region leaves in its first two results, and the value claim of the two results. -/
module

public import proofs.«01_k».proof.Defs
public import proofs.«01_k».proof.Proof.Loss
public import proofs.«01_k».proof.Proof.KernelIdealFrame.Run
public import proofs.«01_k».proof.Proof.Host
public import Idealize.ShloMosaic.Lib.Claim

@[expose] public section

set_option maxRecDepth 100000

noncomputable section

open Idealize.ShloMosaic Idealize.ShloMosaic.TcCoe Idealize.SL.Sem
open Idealize.ShloMosaic.Pipeline (Dat)

namespace Cert.KernelIdeal.Own

open Cert.KernelIdeal Cert.KernelIdeal.Gen Cert.KernelIdeal.Value

variable (m : (ℓ : Loc nD τ sig) → Buf (Elt Ideal) ℓ)

/-- The first operand's block index at the one point. -/
theorem idx0 : ∀ t : Fin cfg0.N, win0_0.index t = ![0, 0] := (by decide +kernel : ∀ t : Fin grid0.N, _)

/-- The block of the first operand is the whole of it. -/
theorem blk0 (c : Dev nD) (X : Buf (Elt Ideal) ((c : Thread nD τ).loc main_v0)) :
    (((cfg0.win 0).blk t0_0).view.read (Elt Ideal) X : S2048x256.Idx → Elt Ideal .f32) = X := by
  blk_ext! [idx0 t0_0]

/-- The input block of the argument at the one point. -/
theorem iblk0 (c : Dev nD) : iblk m c 0 t0_0 = shapeCast S2048x256 (m ((c : Thread nD τ).loc main_arg0)) shapeCasts_S64x32x16x16_S2048x256 :=
  (blk0 c (V m c main_v0)).trans (V_main_v0 m c)

theorem final7 (c : Dev nD) (j : S2048x256.Idx) : reg_main_v554_0 m c j = (0 : EReal) := by
  unfold reg_main_v554_0
  refine congrFun ((dats m 0 c).arrAt_eq_of_after_last 7 t0_0 (by decide +kernel) (fun _ => (0 : EReal)) fun j => ?_) j
  blk_simp
  rw [after0_7]
  unfold outsAt0
  frame_out
  exact Cert.Own.pay1_apply _

theorem final8 (c : Dev nD) (j : S8x128.Idx) :
    reg_main_v554_1 m c j = ((25 / 4 : ℝ) : EReal) * Cert.Own.meanSq (S := S64x32x16x16) (m ((c : Thread nD τ).loc main_arg0)) := by
  unfold reg_main_v554_1
  refine congrFun ((dats m 0 c).arrAt_eq_of_after_last 8 t0_0 (by decide +kernel) (fun _ => _) fun j => ?_) j
  blk_simp
  rw [after0_8]
  unfold outsAt0
  frame_out
  rw [iblk0]
  refine (Cert.Own.pay2_apply _ _).trans ?_
  rw [(hs0_0 t0_0).read_unread]
  unfold Cert.Own.meanSq
  rw [Cert.Own.squares_shapeCast]

end Cert.KernelIdeal.Own

namespace Cert.Proof

theorem algebraic : Cert.algebraic_KernelIdeal_ReferenceIdeal := by
  pair_intro
  · run_from Cert.KernelIdeal.Value.run m g
  · run_from Cert.ReferenceIdeal.Value.run m' g'
    · funext j
      refine Eq.trans ?_ (Cert.KernelIdeal.Own.final7 m c _).symm
      exact (Cert.ReferenceIdeal.Read.val_main_v0_apply (F := Ideal) j).trans Ideal.ofBits_zero_f32
    · funext j
      rw [Cert.ReferenceIdeal.Read.val_main_v25_eq, (hagree c).1]
      exact (Cert.Own.ref_apply _ j).trans (Cert.KernelIdeal.Own.final8 m c _).symm

end Cert.Proof

end
-- ==== Proof.Searches.Search.lean ====
module

public import Idealize.ShloMosaic.PureOps.Ideal
public import Idealize.ShloMosaic.Lib.Pipeline.ValueKit
public import Idealize.ShloMosaic.Lib.IdealHost

@[expose] public section
noncomputable section

/-! The search of one row among the codes, in the extended reals: the product of the row with every unit code, the
greatest of them, and the mark of the codes that reach it. Dividing a finite row by its norm changes no comparison. -/

namespace Cert.Search

open Idealize.ShloMosaic

/-- The least norm a vector is divided by. -/
abbrev tiny : EReal := Ideal.ofBits .f32 0x2B8CBCCC#32

/-- The norm a vector is divided by. -/
def norm (x : Fin 32 → EReal) : EReal := max (Ideal.sqrt (∑ k, x k * x k)) tiny

/-- A vector divided by its norm. -/
def unit (x : Fin 32 → EReal) (k : Fin 32) : EReal := Ideal.div (x k) (norm x)

/-- A row times a unit code. -/
def dot (x : Fin 32 → EReal) (e : Fin 4096 → Fin 32 → EReal) (v : Fin 4096) : EReal := ∑ k, x k * unit (e v) k

/-- The cosine of a row and a code. -/
def cosine (x : Fin 32 → EReal) (e : Fin 4096 → Fin 32 → EReal) (v : Fin 4096) : EReal := ∑ k, unit x k * unit (e v) k

/-- The greatest of 4096 values. -/
abbrev best (s : Fin 4096 → EReal) : EReal := Finset.univ.fold max ⊥ s

theorem tiny_pos : ∃ d : ℝ, 0 < d ∧ tiny = (d : EReal) := by
  refine ⟨_, ?_, by simp [tiny, Ideal.ofBits, Ideal.ieee, -EReal.coe_mul]; rfl⟩
  norm_num

/-- The norm of a finite vector is a positive real. -/
theorem norm_real (x : Fin 32 → ℝ) : ∃ d : ℝ, 0 < d ∧ norm (fun k => (x k : EReal)) = (d : EReal) := by
  obtain ⟨t, ht, e⟩ := tiny_pos
  refine ⟨max (Real.sqrt (∑ k, x k * x k)) t, lt_max_of_lt_right ht, ?_⟩
  have h : (∑ k, (x k : EReal) * (x k : EReal)) = ((∑ k, x k * x k : ℝ) : EReal) := by
    simp only [← EReal.coe_mul]
    exact (map_sum (⟨⟨Real.toEReal, rfl⟩, fun _ _ => rfl⟩ : ℝ →+ EReal) _ _).symm
  have h0 : ¬ (∑ k, x k * x k : ℝ) < 0 := not_lt.mpr (Finset.sum_nonneg fun k _ => mul_self_nonneg _)
  rw [norm, h, Ideal.sqrt_coe, if_neg h0, e]
  exact (EReal.coe_strictMono.monotone.map_max).symm

/-- A finite vector divided by its norm is finite. -/
theorem unit_real (x : Fin 32 → ℝ) :
    ∃ d : ℝ, 0 < d ∧ unit (fun k => (x k : EReal)) = fun k => ((x k / d : ℝ) : EReal) := by
  obtain ⟨d, hd, e⟩ := norm_real x
  refine ⟨d, hd, funext fun k => ?_⟩
  rw [unit, e, Ideal.div_coe hd.ne', ← EReal.coe_mul, mul_one_div]

theorem sum_coe {n : ℕ} (f : Fin n → ℝ) : (∑ k, (f k : EReal)) = ((∑ k, f k : ℝ) : EReal) :=
  (map_sum (⟨⟨Real.toEReal, rfl⟩, fun _ _ => rfl⟩ : ℝ →+ EReal) _ _).symm

/-- The products of a finite row with the codes are its cosines times one positive real. -/
theorem dot_real (x : Fin 32 → ℝ) (e : Fin 4096 → Fin 32 → ℝ) : ∃ (d : ℝ) (s : Fin 4096 → ℝ), 0 < d ∧
    (dot (fun k => (x k : EReal)) fun v k => (e v k : EReal)) = (fun v => (s v : EReal)) ∧
    (cosine (fun k => (x k : EReal)) fun v k => (e v k : EReal)) = fun v => ((s v / d : ℝ) : EReal) := by
  obtain ⟨d, hd, ex⟩ := unit_real x
  choose c _ ec using fun v => unit_real (e v)
  refine ⟨d, fun v => ∑ k, x k * (e v k / c v), hd, funext fun v => ?_, funext fun v => ?_⟩
  · simp only [dot, ec, ← EReal.coe_mul, sum_coe]
  · simp only [cosine, ec, ex, ← EReal.coe_mul, sum_coe]
    congr 1
    rw [Finset.sum_div]
    exact Finset.sum_congr rfl fun k _ => by ring

/-- A value reaches the greatest exactly when no other is greater. -/
theorem eq_best {s : Fin 4096 → EReal} {v : Fin 4096} : s v = best s ↔ ∀ w, s w ≤ s v := by
  have h : ∀ c, best s ≤ c ↔ ∀ w, s w ≤ c := fun c => by
    rw [best, Finset.fold_max_le]; simp
  constructor
  · intro e w; rw [e]; exact (h _).mp le_rfl w
  · exact fun a => le_antisymm ((h _).mp le_rfl v) ((h _).mpr a)

theorem exists_best (s : Fin 4096 → EReal) : ∃ v, s v = best s := by
  obtain ⟨v, -, h⟩ := Finset.exists_max_image Finset.univ s ⟨0, Finset.mem_univ _⟩
  exact ⟨v, eq_best.mpr fun w => h w (Finset.mem_univ _)⟩

/-- A code reaches the greatest product with a finite row exactly when it reaches the row's greatest cosine. -/
theorem dot_best (x : Fin 32 → ℝ) (e : Fin 4096 → Fin 32 → ℝ) (v : Fin 4096) :
    (dot (fun k => (x k : EReal)) (fun v k => (e v k : EReal)) v
        = best (dot (fun k => (x k : EReal)) fun v k => (e v k : EReal))) ↔
      cosine (fun k => (x k : EReal)) (fun v k => (e v k : EReal)) v
        = best (cosine (fun k => (x k : EReal)) fun v k => (e v k : EReal)) := by
  obtain ⟨d, s, hd, h1, h2⟩ := dot_real x e
  rw [h1, h2]
  refine (eq_best (s := fun v => (s v : EReal))).trans
    (Iff.trans ?_ (eq_best (s := fun v => ((s v / d : ℝ) : EReal))).symm)
  simp only [EReal.coe_le_coe_iff, div_le_div_iff_of_pos_right hd]

theorem sum96 (f : Fin 96 → EReal) : ∑ k, f k
    = ∑ k : Fin 32, f ⟨k, by omega⟩ + (∑ k : Fin 32, f ⟨32 + k, by omega⟩ + ∑ k : Fin 32, f ⟨64 + k, by omega⟩) := by
  rw [Fin.sum_univ_add (a := 32) (b := 64) f, Fin.sum_univ_add (a := 32) (b := 32) (fun i => f (Fin.natAdd 32 i))]
  congr 1

theorem sub_self_real (a : ℝ) : (a : EReal) - (a : EReal) = 0 := by
  rw [← EReal.coe_sub, sub_self, EReal.coe_zero]

/-- The product of three pieces is the product of the first where the remainders are zero. -/
theorem dot96 (x : Fin 32 → ℝ) (e : Fin 32 → ℝ) (a b : Fin 96 → EReal)
    (ha : ∀ k, a k = if h : (k : ℕ) < 32 then (x ⟨k, h⟩ : EReal) else if h : (k : ℕ) - 32 < 32 then (x ⟨k - 32, h⟩ : EReal)
      else (x ⟨k - 32 - 32, by omega⟩ : EReal) - (x ⟨k - 32 - 32, by omega⟩ : EReal))
    (hb : ∀ k, b k = if h : (k : ℕ) < 32 then (unit (fun k => (e k : EReal)) ⟨k, h⟩ : EReal)
      else if h : (k : ℕ) - 32 < 32 then unit (fun k => (e k : EReal)) ⟨k - 32, h⟩ - unit (fun k => (e k : EReal)) ⟨k - 32, h⟩
      else unit (fun k => (e k : EReal)) ⟨k - 32 - 32, by omega⟩) :
    ∑ k, a k * b k = ∑ k, (x k : EReal) * unit (fun k => (e k : EReal)) k := by
  obtain ⟨c, _, ec⟩ := unit_real e
  have h1 : ∀ k : Fin 32, a ⟨32 + k, by omega⟩ * b ⟨32 + k, by omega⟩ = 0 := fun k => by
    rw [hb, dif_neg (by simp), dif_pos (by simp), ec]
    simp [sub_self_real]
  have h2 : ∀ k : Fin 32, a ⟨64 + k, by omega⟩ * b ⟨64 + k, by omega⟩ = 0 := fun k => by
    rw [ha, dif_neg (by simp only [not_lt]; omega), dif_neg (by simp only [not_lt]; omega)]
    simp [sub_self_real]
  rw [sum96]
  simp only [h1, h2, Finset.sum_const_zero, add_zero]
  refine Finset.sum_congr rfl fun k _ => ?_
  rw [ha, hb, dif_pos k.2, dif_pos k.2]

/-- A row's mark on a code: one where the code reaches the row's greatest product. -/
def mark (x : Fin 32 → EReal) (e : Fin 4096 → Fin 32 → EReal) (v : Fin 4096) : EReal :=
  if dot x e v = best (dot x e) then 1 else 0

end Cert.Search

end
-- ==== Proof.Searches.Chunk.lean ====
module

public import proofs.«01_k».proof.Proof.Gen.SearchesIdeal.Skeleton
public import proofs.«01_k».proof.Proof.Searches.Search

@[expose] public section
noncomputable section

/-! The values the kernel of the searches computes, read at an index. -/

namespace Cert.SearchesIdeal

open Idealize.ShloMosaic
open Cert.SearchesIdeal.Gen Cert.Search

theorem neg_inf : Ideal.ofBits .f32 0xFF800000#32 = ⊥ := by simp [Ideal.ofBits, Ideal.ieee]

/-- A row's three pieces: itself twice, and its remainder. -/
def triple (x : Fin 32 → EReal) (k : Fin 96) : EReal :=
  if h : (k : ℕ) < 32 then x ⟨k, h⟩ else if h : (k : ℕ) - 32 < 32 then x ⟨k - 32, h⟩
  else x ⟨k - 32 - 32, by omega⟩ - x ⟨k - 32 - 32, by omega⟩

/-- The product of a finite row's pieces with a code's. -/
theorem pieces (E : FVec Ideal S4096x32 .f32) (x : Fin 32 → ℝ) (e : Fin 4096 → Fin 32 → ℝ)
    (he : ∀ v k, E (ix2 v k) = (e v k : EReal)) (v : Fin 4096) :
    ∑ k : Fin 96, triple (fun k => (x k : EReal)) k * k0_pay123 (F := Ideal) E (ix2 v k)
      = dot (fun k => (x k : EReal)) (fun v k => (e v k : EReal)) v := by
  refine dot96 x (e v) _ _ (fun k => rfl) fun k => ?_
  unfold k0_pay123
  pointwise
  simp only [he]
  rfl

/-- The counts of a chunk's rows: each code's number of rows whose greatest product it reaches. -/
def counts {n : ℕ} (x : Fin n → Fin 32 → ℝ) (e : Fin 4096 → Fin 32 → ℝ) (v : Fin 4096) : EReal :=
  ∑ r, mark (fun k => (x r k : EReal)) (fun v k => (e v k : EReal)) v

theorem counts_of {n : ℕ} (E : FVec Ideal S4096x32 .f32) (X : Fin n → Fin 32 → EReal) (x : Fin n → Fin 32 → ℝ) (e : Fin 4096 → Fin 32 → ℝ)
    (he : ∀ v k, E (ix2 v k) = (e v k : EReal)) (hx : ∀ r k, X r k = (x r k : EReal)) (v : Fin 4096) :
    (∑ r : Fin n, if ∑ k : Fin 96, triple (X r) k * k0_pay123 (F := Ideal) E (ix2 v k)
        = Finset.fold max (Ideal.ofBits .f32 0xFF800000#32)
          (fun w : Fin 4096 => ∑ k : Fin 96, triple (X r) k * k0_pay123 (F := Ideal) E (ix2 w k)) Finset.univ
      then (1 : EReal) else 0) = counts x e v := by
  have hX : X = fun r k => (x r k : EReal) := funext fun r => funext fun k => hx r k
  subst hX
  simp only [pieces E _ e he, neg_inf]
  rfl

/-- A comparison turned into a number. -/
theorem one_hot (p : Prop) [Decidable p] :
    (FloatOps.sitofp FTy.f32 (BitVec.setWidth 32 (BitVec.ofBool (decide p))) : Ideal .f32) = if p then (1 : EReal) else 0 := by
  by_cases h : p
  · rw [if_pos h, decide_eq_true h]
    show (((BitVec.setWidth 32 (BitVec.ofBool true)).toInt : ℝ) : EReal) = 1
    rw [show (BitVec.setWidth 32 (BitVec.ofBool true)).toInt = 1 by decide]
    simp
  · rw [if_neg h, decide_eq_false h]
    show (((BitVec.setWidth 32 (BitVec.ofBool false)).toInt : ℝ) : EReal) = 0
    rw [show (BitVec.setWidth 32 (BitVec.ofBool false)).toInt = 0 by decide]
    simp

section
variable (E : FVec Ideal S4096x32 .f32) (e : Fin 4096 → Fin 32 → ℝ) (he : ∀ v k, E (ix2 v k) = (e v k : EReal))
include he

/-! The chunk of 64 rows, and those of 256. -/

section
variable (X : FVec Ideal S64x32 .f32) (x : Fin 64 → Fin 32 → ℝ) (hx : ∀ r k, X (ix2 r k) = (x r k : EReal))
include hx

theorem pay25 (p : FVec Ideal S1x4096 .f32) (v : Fin 4096) :
    k0_pay128 (F := Ideal) (k0_pay127 E X) p (ix2 0 v) = p (ix2 0 v) + counts x e v := by
  rw [← counts_of E (fun r k => X (ix2 r k)) x e he hx]
  unfold k0_pay128 k0_pay127 triple
  pointwise
  exact congrArg (_ + ·) (Finset.sum_congr rfl fun r _ => one_hot _)
end

section
variable (X : FVec Ideal S256x32 .f32) (x : Fin 256 → Fin 32 → ℝ) (hx : ∀ r k, X (ix2 r k) = (x r k : EReal))
include hx

theorem pay27 (p : FVec Ideal S1x4096 .f32) (v : Fin 4096) :
    k0_pay134 (F := Ideal) (k0_pay133 (k0_pay123 E) X) p (ix2 0 v) = p (ix2 0 v) + counts x e v := by
  rw [← counts_of E (fun r k => X (ix2 r k)) x e he hx]
  unfold k0_pay134 k0_pay133 triple
  pointwise
  exact congrArg (_ + ·) (Finset.sum_congr rfl fun r _ => one_hot _)

theorem pay4 (v : Fin 4096) : k0_pay57 (F := Ideal) (k0_pay123 E) X (ix2 0 v) = counts x e v := by
  rw [← counts_of E (fun r k => X (ix2 r k)) x e he hx]
  unfold k0_pay57 k0_pay55 triple
  pointwise
  exact Finset.sum_congr rfl fun r _ => one_hot _

theorem pay11 (v : Fin 4096) : k0_pay89 (F := Ideal) (k0_pay123 E) X (ix2 0 v) = counts x e v :=
  pay4 E e he X x hx v

theorem pay31 (a p : FVec Ideal S1x4096 .f32) (v : Fin 4096) :
    k0_pay142 (F := Ideal) a (k0_pay58 (k0_pay123 E) X) p (ix2 0 v) = p (ix2 0 v) + (a (ix2 0 v) + counts x e v) := by
  rw [← counts_of E (fun r k => X (ix2 r k)) x e he hx]
  unfold k0_pay142 k0_pay58 triple
  pointwise
  exact congrArg (_ + ·) (congrArg (_ + ·) (Finset.sum_congr rfl fun r _ => one_hot _))

theorem pay35 (a p : FVec Ideal S1x4096 .f32) (v : Fin 4096) :
    k0_pay151 (F := Ideal) a (k0_pay90 (k0_pay123 E) X) p (ix2 0 v) = p (ix2 0 v) + (a (ix2 0 v) + counts x e v) :=
  pay31 E e he X x hx a p v
end

/-! The chunks of 512 rows. -/

section
variable (X : FVec Ideal S512x32 .f32) (x : Fin 512 → Fin 32 → ℝ) (hx : ∀ r k, X (ix2 r k) = (x r k : EReal))
include hx

theorem pay16 (v : Fin 4096) : k0_pay119 (F := Ideal) (k0_pay123 E) X (ix2 0 v) = counts x e v := by
  rw [← counts_of E (fun r k => X (ix2 r k)) x e he hx]
  unfold k0_pay119 triple
  pointwise

theorem pay18 (p : FVec Ideal S1x4096 .f32) (v : Fin 4096) :
    k0_pay121 (F := Ideal) (k0_pay123 E) p (k0_pay120 X) (ix2 0 v) = p (ix2 0 v) + counts x e v := by
  rw [← counts_of E (fun r k => X (ix2 r k)) x e he hx]
  unfold k0_pay121 k0_pay120 triple
  pointwise

theorem pay19 (X' : FVec Ideal S512x32 .f32) (x' : Fin 512 → Fin 32 → ℝ)
    (hx' : ∀ r k, X' (ix2 r k) = (x' r k : EReal)) (v : Fin 4096) :
    k0_pay122 (F := Ideal) (k0_pay123 E) X X' (ix2 0 v) = counts x e v + counts x' e v := by
  rw [← counts_of E (fun r k => X (ix2 r k)) x e he hx, ← counts_of E (fun r k => X' (ix2 r k)) x' e he hx']
  unfold k0_pay122 triple
  pointwise
end
end

theorem pay36 (a b c : FVec Ideal S1x4096 .f32) (v : Fin 4096) :
    k0_pay3 (F := Ideal) a b c (ix2 0 v) = a (ix2 0 v) + (b (ix2 0 v) + c (ix2 0 v)) := by
  unfold k0_pay3
  pointwise

/-- The perplexity of a row of hits. -/
def perplexity (h : Fin 4096 → EReal) : EReal :=
  Ideal.exp (-∑ v, Ideal.div (h v) (max (∑ w, h w) 1)
    * Ideal.log (Ideal.div (h v) (max (∑ w, h w) 1) + Ideal.ofBits .f32 0x2EDBE6FF#32))

theorem pay1 (h : FVec Ideal S1x4096 .f32) (j : S8x128.Idx) :
    k0_pay4 (F := Ideal) h j = perplexity fun v => h (ix2 0 v) := by
  unfold k0_pay4
  pointwise
  simp
  rfl

end Cert.SearchesIdeal

end
-- ==== Proof.Searches.Loop.lean ====
module

public import proofs.«01_k».proof.Proof.Gen.SearchesIdeal.Frame
public import proofs.«01_k».proof.Proof.Searches.Chunk
public import Idealize.ShloMosaic.Lib.VecWindow
public import Idealize.ShloMosaic.Lib.WritesUnit
public import Idealize.ShloMosaic.Lib.Pipeline.Value

@[expose] public section
noncomputable section

/-! The loops over the rows: after any number of trips the first row of the scratch holds the hits it began with and
the marks of the rows passed, and the rows not yet passed are as they were. -/

namespace Cert.SearchesIdeal

open Idealize.ShloMosaic Idealize.ShloMosaic.TcCoe
open Cert.SearchesIdeal.Gen Cert.Search

/-- The first row of the hits. -/
abbrev firstRow : Rect S8x4096 := Rect.unit ![0, 0] ![1, 4096] inb_S8x4096_S1x4096_0_0

/-- What the first row holds. -/
abbrev rowOf {a : Memref sig .tc .vmem S8x4096 .f32} (f : BufTy.Contents (Elt Ideal) a.view.ty) : Vec Ideal S1x4096 .f32 :=
  a.view.readAt (Elt Ideal) firstRow.toLoadRect f

theorem rowOf_writes {a : Memref sig .tc .vmem S8x4096 .f32} (f : BufTy.Contents (Elt Ideal) a.view.ty)
    (w : Vec Ideal S1x4096 .f32) (L : List (View.Piece (Elt Ideal) S8x4096 .f32)) :
    rowOf (a.view.writes (Elt Ideal) f (⟨firstRow, w⟩ :: L)) = w :=
  funext fun y => View.read_writes_cons_emb a.view f firstRow w L y

/-- The contents are the rows `xs` from row `l` to row `u`. -/
def Rows {a : Memref sig .tc .vmem S16384x32 .f32} (X : BufTy.Contents (Elt Ideal) a.view.ty) (xs : ℕ → Fin 32 → ℝ) (l u : ℕ) : Prop :=
  ∀ (r : Fin 16384) k, l ≤ (r : ℕ) → (r : ℕ) < u → a.view.read (Elt Ideal) X (ix2 r k) = (xs r k : EReal)

/-- A load of some rows reads them. -/
theorem chunk_read {a : Memref sig .tc .vmem S16384x32 .f32} {X : BufTy.Contents (Elt Ideal) a.view.ty}
    {xs : ℕ → Fin 32 → ℝ} {l u : ℕ} (hX : Rows X xs l u) {n : ℕ}
    {off : Fin 2 → ℕ} (inb : ∀ a, off a + (![n, 32] : Fin 2 → ℕ) a ≤ S16384x32.size a) {o : ℕ} (ho : off = ![o, 0])
    (hl : l ≤ o) (hu : o + n ≤ u) (r : Fin n) (k : Fin 32) :
    a.view.readAt (Elt Ideal) (Rect.unit (s := S16384x32) off ![n, 32] inb).toLoadRect X (ix2 r k) = (xs (o + r) k : EReal) := by
  subst ho
  have hb : o + n ≤ 16384 := inb 0
  have hr := r.2
  refine Eq.trans ?_ (hX ⟨o + r, by omega⟩ k (show l ≤ o + (r : ℕ) by omega) (show o + (r : ℕ) < u by omega))
  refine congrArg (a.view.read (Elt Ideal) X) (funext fun a => Fin.ext ?_)
  match a with
  | ⟨0, _⟩ => show o + 1 * (r : ℕ) = o + r; omega
  | ⟨1, _⟩ => show 0 + 1 * (k : ℕ) = k; omega

/-- Row `i`'s mark on code `v`. -/
def markAt (e : Fin 4096 → Fin 32 → ℝ) (xs : ℕ → Fin 32 → ℝ) (v : Fin 4096) (i : ℕ) : EReal :=
  mark (fun k => (xs i k : EReal)) (fun v k => (e v k : EReal)) v

theorem counts_range (e : Fin 4096 → Fin 32 → ℝ) (xs : ℕ → Fin 32 → ℝ) (n o : ℕ) (v : Fin 4096) :
    counts (fun r : Fin n => xs (o + r)) e v = ∑ i ∈ Finset.range n, markAt e xs v (o + i) :=
  Fin.sum_univ_eq_sum_range (fun i => markAt e xs v (o + i)) n

theorem two (e : Fin 4096 → Fin 32 → ℝ) (xs : ℕ → Fin 32 → ℝ) (k : ℕ) (v : Fin 4096) :
    ∑ i ∈ Finset.range (512 * (k + 1)), markAt e xs v i
    = ∑ i ∈ Finset.range (512 * k), markAt e xs v i
      + (counts (fun r : Fin 256 => xs (512 * k + r)) e v + counts (fun r : Fin 256 => xs (512 * k + 256 + r)) e v) := by
  simp only [counts_range]
  rw [show 512 * (k + 1) = 512 * k + 256 + 256 by ring]
  simp only [Finset.sum_range_add]
  simp only [add_assoc]

theorem four (e : Fin 4096 → Fin 32 → ℝ) (xs : ℕ → Fin 32 → ℝ) (k : ℕ) (v : Fin 4096) :
    ∑ i ∈ Finset.range (2048 * (k + 1)), markAt e xs v i
    = ∑ i ∈ Finset.range (2048 * k), markAt e xs v i
      + ((counts (fun r : Fin 512 => xs (2048 * k + r)) e v + counts (fun r : Fin 512 => xs (2048 * k + 512 * 0 + 512 + r)) e v)
        + (counts (fun r : Fin 512 => xs (2048 * k + 512 * 1 + 512 + r)) e v + counts (fun r : Fin 512 => xs (2048 * k + 512 * 2 + 512 + r)) e v)) := by
  simp only [counts_range]
  rw [show 2048 * (k + 1) = 2048 * k + 512 + 512 + 512 + 512 by ring]
  simp only [Finset.sum_range_add]
  simp only [show 2048 * k + 512 * 0 + 512 = 2048 * k + 512 by ring, show 2048 * k + 512 * 1 + 512 = 2048 * k + 512 + 512 by ring,
    show 2048 * k + 512 * 2 + 512 = 2048 * k + 512 + 512 + 512 by ring]
  simp only [add_assoc]

/-- Rows stored from the first row on are the rows read there. -/
theorem rows_top {a : Memref sig .tc .vmem S16384x32 .f32} (f : BufTy.Contents (Elt Ideal) a.view.ty) {n : ℕ}
    (inb : ∀ a, (![0, 0] : Fin 2 → ℕ) a + (![n, 32] : Fin 2 → ℕ) a ≤ S16384x32.size a)
    (w : (Rect.unit (s := S16384x32) ![0, 0] ![n, 32] inb).shape.Idx → Elt Ideal .f32) (L : List (View.Piece (Elt Ideal) S16384x32 .f32))
    (xs : ℕ → Fin 32 → ℝ) (hw : ∀ (r : Fin n) (k : Fin 32), w (ix2 r k) = (xs r k : EReal)) :
    Rows (a.view.writes (Elt Ideal) f (⟨Rect.unit (s := S16384x32) ![0, 0] ![n, 32] inb, w⟩ :: L)) xs 0 n := fun r k _ hu =>
  (View.read_writes_cons_rows_of_mem (o := 0) a.view f inb w L (ix2 r k) (ix2 ⟨r, hu⟩ k) rfl (Nat.zero_add _).symm rfl).trans (hw ⟨r, hu⟩ k)

theorem pay126_at (i : S8x4096.Idx) : k0_pay126 (F := Ideal) i = 0 := by
  unfold k0_pay126
  pointwise

theorem row_zero {a : Memref sig .tc .vmem S8x4096 .f32} (v : Fin 4096) : rowOf (a.view.writes (Elt Ideal) a.view.junk
    [⟨Rect.unit (s := S8x4096) ![0, 0] S8x4096.size inb_S8x4096_S8x4096_0_0, k0_pay126 (F := Ideal)⟩]) (ix2 0 v) = 0 := by
  show a.view.read (Elt Ideal) (a.view.writes (Elt Ideal) a.view.junk
    [⟨Rect.unit (s := S8x4096) ![0, 0] S8x4096.size inb_S8x4096_S8x4096_0_0, k0_pay126 (F := Ideal)⟩]) _ = 0
  rw [View.read_writes_full]
  exact pay126_at _

theorem counts_all (e : Fin 4096 → Fin 32 → ℝ) (xs : ℕ → Fin 32 → ℝ) (n : ℕ) (v : Fin 4096) :
    counts (fun r : Fin n => xs r) e v = ∑ i ∈ Finset.range n, markAt e xs v i :=
  Fin.sum_univ_eq_sum_range (fun i => markAt e xs v i) n

section
variable (c : Dev nD) (a0 : Memref sig .tc .vmem S64x32 .f32) (h0 : a0.IsWhole) (a1 : Memref sig .tc .vmem S256x32 .f32) (h1 : a1.IsWhole) (a2 : Memref sig .tc .vmem S1024x32 .f32) (h2 : a2.IsWhole) (a3 : Memref sig .tc .vmem S4096x32 .f32) (h3 : a3.IsWhole) (a4 : Memref sig .tc .vmem S2048x256 .f32) (h4 : a4.IsWhole) (a5 : Memref sig .tc .vmem S2048x256 .f32) (h5 : a5.IsWhole) (a6 : Memref sig .tc .vmem S2048x256 .f32) (h6 : a6.IsWhole) (a7 : Memref sig .tc .vmem S2048x256 .f32) (h7 : a7.IsWhole) (a8 : Memref sig .tc .vmem S16384x32 .f32) (h8 : a8.IsWhole) (a9 : Memref sig .tc .vmem S4096x32 .f32) (h9 : a9.IsWhole) (a10 : Memref sig .tc .vmem S1152x32 .f32) (h10 : a10.IsWhole) (a11 : Memref sig .tc .vmem S32x32 .f32) (h11 : a11.IsWhole) (a12 : Memref sig .tc .vmem S8x128 .f32) (h12 : a12.IsWhole) (a13 : Memref sig .tc .vmem S16384x32 .f32) (h13 : a13.IsWhole) (a14 : Memref sig .tc .vmem S16384x32 .f32) (h14 : a14.IsWhole) (a15 : Memref sig .tc .vmem S8x4096 .f32) (h15 : a15.IsWhole)
   (S3 : FVec Ideal S256x4096 .f32) (S5 : FVec Ideal S2048x256 .f32)
   (E : Vec Ideal S4096x32 .f32) (e : Fin 4096 → Fin 32 → ℝ) (he : ∀ v k, E (ix2 v k) = (e v k : EReal)) (xs : ℕ → Fin 32 → ℝ)
include he

/-- A trip stores two chunks of rows, and in the first row what it held and the marks of the trip's 512 rows. -/
theorem trip1 (k : Fin k0_t3_loop.trips) (f : BufTy.Contents (Elt Ideal) a14.view.ty) (hf : Rows f xs (512 * k) 1024)
    (g : BufTy.Contents (Elt Ideal) a15.view.ty) : ∃ p, ∃ q, ∃ w : Vec Ideal S1x4096 .f32,
    tripL_k0_t3 (F := Ideal) Variants.none c none a0 h0 a1 h1 a2 h2 a3 h3 a4 h4 a5 h5 a6 h6 a7 h7 a8 h8 a9 h9 a10 h10 a11 h11 a12 h12 a13 h13 a14 h14 a15 h15 (k0_pay123 E) (k0_pay124 E) S3 k f g
      = ([⟨Rect.unit (s := S16384x32) (k0_off4 k) ![256, 32] (k0_off4_inb k), p⟩,
          ⟨Rect.unit (s := S16384x32) (k0_off3 k) ![256, 32] (k0_off3_inb k), q⟩], [⟨firstRow, w⟩])
      ∧ ∀ v, w (ix2 0 v) = rowOf g (ix2 0 v)
        + (counts (fun r : Fin 256 => xs (512 * k + r)) e v + counts (fun r : Fin 256 => xs (512 * k + 256 + r)) e v) := by
  have hk : k.val < 2 := Nat.lt_of_lt_of_le k.isLt k0_t3_abs.2.1
  unfold tripL_k0_t3 trip_k0_t3
  dsimp only
  refine ⟨_, _, _, rfl, fun v => ?_⟩
  refine (pay31 E e he _ (fun r : Fin 256 => xs (512 * k + 256 + r)) ?_ _ _ v).trans ?_
  · exact chunk_read hf _ (k0_off4_eq k) (by omega) (by omega)
  · refine congrArg (_ + ·) (congrArg (· + _) (pay4 E e he _ _ ?_ v))
    exact chunk_read hf _ (k0_off3_eq k) (by omega) (by omega)

/-- After `k` trips the rows from `512 * k` on are as they were, and the first row holds what it began with and the
marks of the rows before. -/
theorem loop1 (G : BufTy.Contents (Elt Ideal) a14.view.ty) (hG : Rows G xs 0 1024) (H : BufTy.Contents (Elt Ideal) a15.view.ty) :
    ∀ k : ℕ, k ≤ k0_t3_loop.trips →
    Rows (a14.view.writes (Elt Ideal) G (pb_k0_t3 (F := Ideal) Variants.none c none a0 h0 a1 h1 a2 h2 a3 h3 a4 h4 a5 h5 a6 h6 a7 h7 a8 h8 a9 h9 a10 h10 a11 h11 a12 h12 a13 h13 a14 h14 a15 h15 (k0_pay123 E) (k0_pay124 E) S3 G H k).1) xs (512 * k) 1024
    ∧ ∀ v, rowOf (a15.view.writes (Elt Ideal) H (pb_k0_t3 (F := Ideal) Variants.none c none a0 h0 a1 h1 a2 h2 a3 h3 a4 h4 a5 h5 a6 h6 a7 h7 a8 h8 a9 h9 a10 h10 a11 h11 a12 h12 a13 h13 a14 h14 a15 h15 (k0_pay123 E) (k0_pay124 E) S3 G H k).2) (ix2 0 v)
      = rowOf H (ix2 0 v) + ∑ i ∈ Finset.range (512 * k), markAt e xs v i
  | 0, _ => by
    rw [pb_k0_t3.eq_1]
    simp only [View.writes_nil]
    exact ⟨hG, fun v => by simp⟩
  | k + 1, h => by
    obtain ⟨i1, i2⟩ := loop1 G hG H k (Nat.le_of_succ_le h)
    obtain ⟨p, q, w, e1, e2⟩ := trip1 c a0 h0 a1 h1 a2 h2 a3 h3 a4 h4 a5 h5 a6 h6 a7 h7 a8 h8 a9 h9 a10 h10 a11 h11 a12 h12 a13 h13 a14 h14 a15 h15 S3 E e he xs ⟨k, h⟩ _ i1
      (a15.view.writes (Elt Ideal) H (pb_k0_t3 (F := Ideal) Variants.none c none a0 h0 a1 h1 a2 h2 a3 h3 a4 h4 a5 h5 a6 h6 a7 h7 a8 h8 a9 h9 a10 h10 a11 h11 a12 h12 a13 h13 a14 h14 a15 h15 (k0_pay123 E) (k0_pay124 E) S3 G H k).2)
    rw [pb_k0_t3_succ Variants.none c none a0 h0 a1 h1 a2 h2 a3 h3 a4 h4 a5 h5 a6 h6 a7 h7 a8 h8 a9 h9 a10 h10 a11 h11 a12 h12 a13 h13 a14 h14 a15 h15 (k0_pay123 E) (k0_pay124 E) S3 G H ⟨k, h⟩, e1]
    refine ⟨fun r j hl hu => ?_, fun v => ?_⟩
    · simp only [List.cons_append, List.nil_append]
      rw [View.read_writes_cons_rows_of_not_mem (W := 256) _ _ _ _ _ _ (k0_off4_eq ⟨k, h⟩) rfl (Or.inr (show 512 * k + 256 + 256 ≤ (r : ℕ) by omega)),
        View.read_writes_cons_rows_of_not_mem (W := 256) _ _ _ _ _ _ (k0_off3_eq ⟨k, h⟩) rfl (Or.inr (show 512 * k + 256 ≤ (r : ℕ) by omega))]
      exact i1 r j (by omega) hu
    · simp only [List.cons_append, List.nil_append]
      rw [rowOf_writes, e2, i2, two, add_assoc]

/-- A trip stores two chunks of rows, and in the first row what it held and the marks of the trip's 512 rows. -/
theorem trip2 (k : Fin k0_t5_loop.trips) (f : BufTy.Contents (Elt Ideal) a14.view.ty) (hf : Rows f xs (512 * k) 4096)
    (g : BufTy.Contents (Elt Ideal) a15.view.ty) : ∃ p, ∃ q, ∃ w : Vec Ideal S1x4096 .f32,
    tripL_k0_t5 (F := Ideal) Variants.none c none a0 h0 a1 h1 a2 h2 a3 h3 a4 h4 a5 h5 a6 h6 a7 h7 a8 h8 a9 h9 a10 h10 a11 h11 a12 h12 a13 h13 a14 h14 a15 h15 (k0_pay123 E) (k0_pay124 E) S5 k f g
      = ([⟨Rect.unit (s := S16384x32) (k0_off7 k) ![256, 32] (k0_off7_inb k), p⟩,
          ⟨Rect.unit (s := S16384x32) (k0_off6 k) ![256, 32] (k0_off6_inb k), q⟩], [⟨firstRow, w⟩])
      ∧ ∀ v, w (ix2 0 v) = rowOf g (ix2 0 v)
        + (counts (fun r : Fin 256 => xs (512 * k + r)) e v + counts (fun r : Fin 256 => xs (512 * k + 256 + r)) e v) := by
  have hk : k.val < 8 := Nat.lt_of_lt_of_le k.isLt k0_t5_abs.2.1
  unfold tripL_k0_t5 trip_k0_t5
  dsimp only
  refine ⟨_, _, _, rfl, fun v => ?_⟩
  refine (pay35 E e he _ (fun r : Fin 256 => xs (512 * k + 256 + r)) ?_ _ _ v).trans ?_
  · exact chunk_read hf _ (k0_off7_eq k) (by omega) (by omega)
  · refine congrArg (_ + ·) (congrArg (· + _) (pay11 E e he _ _ ?_ v))
    exact chunk_read hf _ (k0_off6_eq k) (by omega) (by omega)

/-- After `k` trips the rows from `512 * k` on are as they were, and the first row holds what it began with and the
marks of the rows before. -/
theorem loop2 (G : BufTy.Contents (Elt Ideal) a14.view.ty) (hG : Rows G xs 0 4096) (H : BufTy.Contents (Elt Ideal) a15.view.ty) :
    ∀ k : ℕ, k ≤ k0_t5_loop.trips →
    Rows (a14.view.writes (Elt Ideal) G (pb_k0_t5 (F := Ideal) Variants.none c none a0 h0 a1 h1 a2 h2 a3 h3 a4 h4 a5 h5 a6 h6 a7 h7 a8 h8 a9 h9 a10 h10 a11 h11 a12 h12 a13 h13 a14 h14 a15 h15 (k0_pay123 E) (k0_pay124 E) S5 G H k).1) xs (512 * k) 4096
    ∧ ∀ v, rowOf (a15.view.writes (Elt Ideal) H (pb_k0_t5 (F := Ideal) Variants.none c none a0 h0 a1 h1 a2 h2 a3 h3 a4 h4 a5 h5 a6 h6 a7 h7 a8 h8 a9 h9 a10 h10 a11 h11 a12 h12 a13 h13 a14 h14 a15 h15 (k0_pay123 E) (k0_pay124 E) S5 G H k).2) (ix2 0 v)
      = rowOf H (ix2 0 v) + ∑ i ∈ Finset.range (512 * k), markAt e xs v i
  | 0, _ => by
    rw [pb_k0_t5.eq_1]
    simp only [View.writes_nil]
    exact ⟨hG, fun v => by simp⟩
  | k + 1, h => by
    obtain ⟨i1, i2⟩ := loop2 G hG H k (Nat.le_of_succ_le h)
    obtain ⟨p, q, w, e1, e2⟩ := trip2 c a0 h0 a1 h1 a2 h2 a3 h3 a4 h4 a5 h5 a6 h6 a7 h7 a8 h8 a9 h9 a10 h10 a11 h11 a12 h12 a13 h13 a14 h14 a15 h15 S5 E e he xs ⟨k, h⟩ _ i1
      (a15.view.writes (Elt Ideal) H (pb_k0_t5 (F := Ideal) Variants.none c none a0 h0 a1 h1 a2 h2 a3 h3 a4 h4 a5 h5 a6 h6 a7 h7 a8 h8 a9 h9 a10 h10 a11 h11 a12 h12 a13 h13 a14 h14 a15 h15 (k0_pay123 E) (k0_pay124 E) S5 G H k).2)
    rw [pb_k0_t5_succ Variants.none c none a0 h0 a1 h1 a2 h2 a3 h3 a4 h4 a5 h5 a6 h6 a7 h7 a8 h8 a9 h9 a10 h10 a11 h11 a12 h12 a13 h13 a14 h14 a15 h15 (k0_pay123 E) (k0_pay124 E) S5 G H ⟨k, h⟩, e1]
    refine ⟨fun r j hl hu => ?_, fun v => ?_⟩
    · simp only [List.cons_append, List.nil_append]
      rw [View.read_writes_cons_rows_of_not_mem (W := 256) _ _ _ _ _ _ (k0_off7_eq ⟨k, h⟩) rfl (Or.inr (show 512 * k + 256 + 256 ≤ (r : ℕ) by omega)),
        View.read_writes_cons_rows_of_not_mem (W := 256) _ _ _ _ _ _ (k0_off6_eq ⟨k, h⟩) rfl (Or.inr (show 512 * k + 256 ≤ (r : ℕ) by omega))]
      exact i1 r j (by omega) hu
    · simp only [List.cons_append, List.nil_append]
      rw [rowOf_writes, e2, i2, two, add_assoc]

variable {X : BufTy.Contents (Elt Ideal) a13.view.ty} (hX : Rows X xs 0 16384)
include hX

/-- A trip stores, in the first row, what it held and the marks of the trip's 2048 rows. -/
theorem trip3 (k : Fin k0_t7_loop.trips) (f : BufTy.Contents (Elt Ideal) a15.view.ty) : ∃ w : Vec Ideal S1x4096 .f32,
    tripL_k0_t7 (F := Ideal) Variants.none c none a0 h0 a1 h1 a2 h2 a3 h3 a4 h4 a5 h5 a6 h6 a7 h7 a8 h8 a9 h9 a10 h10 a11 h11 a12 h12 a13 h13 a14 h14 a15 h15 (k0_pay123 E) X k f = [⟨firstRow, w⟩]
      ∧ ∀ v, w (ix2 0 v) = rowOf f (ix2 0 v)
        + ((counts (fun r : Fin 512 => xs (2048 * k + r)) e v + counts (fun r : Fin 512 => xs (2048 * k + 512 * 0 + 512 + r)) e v)
        + (counts (fun r : Fin 512 => xs (2048 * k + 512 * 1 + 512 + r)) e v + counts (fun r : Fin 512 => xs (2048 * k + 512 * 2 + 512 + r)) e v)) := by
  have hk : k.val < 8 := Nat.lt_of_lt_of_le k.isLt k0_t7_abs.2.1
  unfold tripL_k0_t7 trip_k0_t7
  dsimp only
  refine ⟨_, rfl, fun v => ?_⟩
  refine (pay36 _ _ _ v).trans ?_
  sl_unfold_words
  refine congrArg₂ (· + ·) rfl (congrArg₂ (· + ·) ((pay18 E e he _ _ ?_ _ v).trans
    (congrArg (· + _) (pay16 E e he _ _ ?_ v))) (pay19 E e he _ _ ?_ _ _ ?_ v))
  · exact chunk_read hX _ (k0_off10_eq k 0) (by omega) (by simp; omega)
  · exact chunk_read hX _ (k0_off9_eq k) (by omega) (by omega)
  · exact chunk_read hX _ (k0_off10_eq k 1) (by omega) (by simp; omega)
  · exact chunk_read hX _ (k0_off10_eq k 2) (by omega) (by simp; omega)

/-- After `k` trips the first row holds what it began with and the marks of the `2048 * k` rows passed. -/
theorem loop3 (G : BufTy.Contents (Elt Ideal) a15.view.ty) (v : Fin 4096) : ∀ k : ℕ, k ≤ k0_t7_loop.trips →
    rowOf (a15.view.writes (Elt Ideal) G (pb_k0_t7 (F := Ideal) Variants.none c none a0 h0 a1 h1 a2 h2 a3 h3 a4 h4 a5 h5 a6 h6 a7 h7 a8 h8 a9 h9 a10 h10 a11 h11 a12 h12 a13 h13 a14 h14 a15 h15 (k0_pay123 E) X G k)) (ix2 0 v)
      = rowOf G (ix2 0 v) + ∑ i ∈ Finset.range (2048 * k), markAt e xs v i
  | 0, _ => by
    rw [pb_k0_t7.eq_1]
    simp [View.writes_nil]
  | k + 1, h => by
    obtain ⟨w, e1, e2⟩ := trip3 c a0 h0 a1 h1 a2 h2 a3 h3 a4 h4 a5 h5 a6 h6 a7 h7 a8 h8 a9 h9 a10 h10 a11 h11 a12 h12 a13 h13 a14 h14 a15 h15 E e he xs hX ⟨k, h⟩
      (a15.view.writes (Elt Ideal) G (pb_k0_t7 (F := Ideal) Variants.none c none a0 h0 a1 h1 a2 h2 a3 h3 a4 h4 a5 h5 a6 h6 a7 h7 a8 h8 a9 h9 a10 h10 a11 h11 a12 h12 a13 h13 a14 h14 a15 h15 (k0_pay123 E) X G k))
    rw [pb_k0_t7_succ Variants.none c none a0 h0 a1 h1 a2 h2 a3 h3 a4 h4 a5 h5 a6 h6 a7 h7 a8 h8 a9 h9 a10 h10 a11 h11 a12 h12 a13 h13 a14 h14 a15 h15 (k0_pay123 E) X G ⟨k, h⟩, e1, List.singleton_append, rowOf_writes, e2,
      loop3 G v k (Nat.le_of_succ_le h), four, add_assoc]
end

section
variable (c : Dev nD) (a0 : Memref sig .tc .vmem S64x32 .f32) (h0 : a0.IsWhole) (a1 : Memref sig .tc .vmem S256x32 .f32) (h1 : a1.IsWhole) (a2 : Memref sig .tc .vmem S1024x32 .f32) (h2 : a2.IsWhole) (a3 : Memref sig .tc .vmem S4096x32 .f32) (h3 : a3.IsWhole) (a4 : Memref sig .tc .vmem S2048x256 .f32) (h4 : a4.IsWhole) (a5 : Memref sig .tc .vmem S2048x256 .f32) (h5 : a5.IsWhole) (a6 : Memref sig .tc .vmem S2048x256 .f32) (h6 : a6.IsWhole) (a7 : Memref sig .tc .vmem S2048x256 .f32) (h7 : a7.IsWhole) (a8 : Memref sig .tc .vmem S16384x32 .f32) (h8 : a8.IsWhole) (a9 : Memref sig .tc .vmem S4096x32 .f32) (h9 : a9.IsWhole) (a10 : Memref sig .tc .vmem S1152x32 .f32) (h10 : a10.IsWhole) (a11 : Memref sig .tc .vmem S32x32 .f32) (h11 : a11.IsWhole) (a12 : Memref sig .tc .vmem S8x128 .f32) (h12 : a12.IsWhole) (a13 : Memref sig .tc .vmem S16384x32 .f32) (h13 : a13.IsWhole) (a14 : Memref sig .tc .vmem S16384x32 .f32) (h14 : a14.IsWhole) (a15 : Memref sig .tc .vmem S8x4096 .f32) (h15 : a15.IsWhole)
   (S3 : FVec Ideal S256x4096 .f32) (S5 : FVec Ideal S2048x256 .f32)
   (E : Vec Ideal S4096x32 .f32) (e : Fin 4096 → Fin 32 → ℝ) (he : ∀ v k, E (ix2 v k) = (e v k : EReal)) (xs : ℕ → Fin 32 → ℝ)
   (L : List (View.Piece (Elt Ideal) S8x4096 .f32)) (v : Fin 4096)
include he

theorem after1 (G : BufTy.Contents (Elt Ideal) a14.view.ty) (hG : Rows G xs 0 1024) :
    rowOf (a15.view.writes (Elt Ideal) a15.view.junk ((pb_k0_t3 (F := Ideal) Variants.none c none a0 h0 a1 h1 a2 h2 a3 h3 a4 h4 a5 h5 a6 h6 a7 h7 a8 h8 a9 h9 a10 h10 a11 h11 a12 h12 a13 h13 a14 h14 a15 h15 (k0_pay123 E) (k0_pay124 E) S3 G (a15.view.writes (Elt Ideal) a15.view.junk L) k0_t3_loop.trips).2 ++ L)) (ix2 0 v)
      = rowOf (a15.view.writes (Elt Ideal) a15.view.junk L) (ix2 0 v) + ∑ i ∈ Finset.range 1024, markAt e xs v i := by
  rw [View.writes_append]
  exact (loop1 c a0 h0 a1 h1 a2 h2 a3 h3 a4 h4 a5 h5 a6 h6 a7 h7 a8 h8 a9 h9 a10 h10 a11 h11 a12 h12 a13 h13 a14 h14 a15 h15 S3 E e he xs G hG _ _ le_rfl).2 v

theorem after2 (G : BufTy.Contents (Elt Ideal) a14.view.ty) (hG : Rows G xs 0 4096) :
    rowOf (a15.view.writes (Elt Ideal) a15.view.junk ((pb_k0_t5 (F := Ideal) Variants.none c none a0 h0 a1 h1 a2 h2 a3 h3 a4 h4 a5 h5 a6 h6 a7 h7 a8 h8 a9 h9 a10 h10 a11 h11 a12 h12 a13 h13 a14 h14 a15 h15 (k0_pay123 E) (k0_pay124 E) S5 G (a15.view.writes (Elt Ideal) a15.view.junk L) k0_t5_loop.trips).2 ++ L)) (ix2 0 v)
      = rowOf (a15.view.writes (Elt Ideal) a15.view.junk L) (ix2 0 v) + ∑ i ∈ Finset.range 4096, markAt e xs v i := by
  rw [View.writes_append]
  exact (loop2 c a0 h0 a1 h1 a2 h2 a3 h3 a4 h4 a5 h5 a6 h6 a7 h7 a8 h8 a9 h9 a10 h10 a11 h11 a12 h12 a13 h13 a14 h14 a15 h15 S5 E e he xs G hG _ _ le_rfl).2 v

theorem after3 (X : BufTy.Contents (Elt Ideal) a13.view.ty) (hX : Rows X xs 0 16384) :
    rowOf (a15.view.writes (Elt Ideal) a15.view.junk (pb_k0_t7 (F := Ideal) Variants.none c none a0 h0 a1 h1 a2 h2 a3 h3 a4 h4 a5 h5 a6 h6 a7 h7 a8 h8 a9 h9 a10 h10 a11 h11 a12 h12 a13 h13 a14 h14 a15 h15 (k0_pay123 E) X (a15.view.writes (Elt Ideal) a15.view.junk L) k0_t7_loop.trips ++ L)) (ix2 0 v)
      = rowOf (a15.view.writes (Elt Ideal) a15.view.junk L) (ix2 0 v) + ∑ i ∈ Finset.range 16384, markAt e xs v i := by
  rw [View.writes_append]
  exact loop3 c a0 h0 a1 h1 a2 h2 a3 h3 a4 h4 a5 h5 a6 h6 a7 h7 a8 h8 a9 h9 a10 h10 a11 h11 a12 h12 a13 h13 a14 h14 a15 h15 E e he xs hX _ v _ le_rfl
end

end Cert.SearchesIdeal

end
-- ==== Proof.Searches.Conv.lean ====
module

public import proofs.«01_k».proof.Proof.Gen.SearchesIdeal.Skeleton
public import proofs.«01_k».proof.Proof.Searches.Search

@[expose] public section
noncomputable section

/-! A block of the convolution, read: each tap is the neighbouring row, or zero outside of the image. -/

namespace Cert.SearchesIdeal

open Idealize.ShloMosaic Idealize.ShloMosaic.TcCoe
open Cert.SearchesIdeal.Gen Cert.Search

/-- Row `i`'s neighbour `a - 1` rows down and `b - 1` to the right in its image of 16 by 16, or zero outside of it. -/
def tap (xs : ℕ → Fin 32 → ℝ) (i a b : ℕ) (c : Fin 32) : ℝ :=
  if (1 ≤ i / 16 % 16 + a ∧ i / 16 % 16 + a ≤ 16) ∧ (1 ≤ i % 16 + b ∧ i % 16 + b ≤ 16) then xs (i + 16 * a + b - 17) c else 0

/-- What neighbour `t` adds to the convolution at row `i` and channel `o`. -/
def term (xs : ℕ → Fin 32 → ℝ) (W : ℕ → Fin 32 → ℝ) (i : ℕ) (o : Fin 32) (t : ℕ) : ℝ :=
  ∑ c : Fin 32, tap xs i (t / 3) (t % 3) c * W (32 * t + c) o

/-- The convolution of the rows, at row `i` and channel `o`. -/
def conv (xs : ℕ → Fin 32 → ℝ) (W : ℕ → Fin 32 → ℝ) (b : Fin 32 → ℝ) (i : ℕ) (o : Fin 32) : ℝ :=
  b o + (term xs W i o 0 + term xs W i o 1 + term xs W i o 2 + term xs W i o 3 + term xs W i o 4 + term xs W i o 5)
    + (term xs W i o 6 + term xs W i o 7 + term xs W i o 8)

/-- What is left of the rows after a scale: half the upsampled codes and half their convolution are taken off. -/
def left (f xs : ℕ → Fin 32 → ℝ) (W : ℕ → Fin 32 → ℝ) (b : Fin 32 → ℝ) (i : ℕ) (o : Fin 32) : ℝ :=
  f i o - 1 / 2 * xs i o - 1 / 2 * conv xs W b i o

theorem sum3 (F : Fin 96 → EReal) : ∑ x, F x = ∑ c : Fin 32, F ⟨c, by omega⟩ + ∑ c : Fin 32, F ⟨32 + c, by omega⟩ + ∑ c : Fin 32, F ⟨64 + c, by omega⟩ := by
  refine (Fin.sum_univ_add (a := 64) (b := 32) F).trans (congrArg (· + _) ?_)
  exact Fin.sum_univ_add (a := 32) (b := 32) _

theorem sum6 (F : Fin 192 → EReal) : ∑ x, F x = ∑ c : Fin 32, F ⟨c, by omega⟩ + ∑ c : Fin 32, F ⟨32 + c, by omega⟩ + ∑ c : Fin 32, F ⟨64 + c, by omega⟩
    + ∑ c : Fin 32, F ⟨96 + c, by omega⟩ + ∑ c : Fin 32, F ⟨128 + c, by omega⟩ + ∑ c : Fin 32, F ⟨160 + c, by omega⟩ := by
  refine (Fin.sum_univ_add (a := 160) (b := 32) F).trans (congrArg (· + _) ?_)
  refine (Fin.sum_univ_add (a := 128) (b := 32) _).trans (congrArg (· + _) ?_)
  refine (Fin.sum_univ_add (a := 96) (b := 32) _).trans (congrArg (· + _) ?_)
  refine (Fin.sum_univ_add (a := 64) (b := 32) _).trans (congrArg (· + _) ?_)
  exact Fin.sum_univ_add (a := 32) (b := 32) _

theorem term_eq (xs : ℕ → Fin 32 → ℝ) (W : ℕ → Fin 32 → ℝ) (i : ℕ) (o : Fin 32) (t : ℕ) (F : Fin 32 → EReal)
    (h : ∀ c : Fin 32, F c = (tap xs i (t / 3) (t % 3) c : EReal) * (W (32 * t + c) o : EReal)) : ∑ c, F c = (term xs W i o t : EReal) := by
  unfold term
  rw [← sum_coe]
  exact Finset.sum_congr rfl fun c _ => (h c).trans (EReal.coe_mul _ _).symm

theorem half : Ideal.ofBits .f32 0x3F000000#32 = ((1 / 2 : ℝ) : EReal) := by
  simp [Ideal.ofBits, Ideal.ieee]
  rw [← EReal.coe_mul]
  norm_num

theorem conv_cast (xs : ℕ → Fin 32 → ℝ) (W : ℕ → Fin 32 → ℝ) (b : Fin 32 → ℝ) (i : ℕ) (o : Fin 32) : (conv xs W b i o : EReal)
    = (b o : EReal) + ((term xs W i o 0 : EReal) + (term xs W i o 1 : EReal) + (term xs W i o 2 : EReal) + (term xs W i o 3 : EReal)
      + (term xs W i o 4 : EReal) + (term xs W i o 5 : EReal)) + ((term xs W i o 6 : EReal) + (term xs W i o 7 : EReal) + (term xs W i o 8 : EReal)) := by
  unfold conv
  push_cast
  rfl

theorem low4 (n : ℕ) : BitVec.ofNat 32 n &&& 15#32 = BitVec.ofNat 32 (n % 16) := by
  apply BitVec.eq_of_toNat_eq
  simp only [BitVec.toNat_and, BitVec.toNat_ofNat]
  rw [show 15 % 2 ^ 32 = 2 ^ 4 - 1 by norm_num, Nat.and_two_pow_sub_one_eq_mod]
  omega

theorem pay6_at (r : Fin 2048) : k0_pay6 (ix2 r 0) = BitVec.ofNat 32 (r % 16) := by
  unfold k0_pay6
  pointwise
  exact low4 r

theorem pay7_at (r : Fin 2048) : k0_pay7 (ix2 r 0) = BitVec.ofNat 32 (r / 16 % 16) := by
  unfold k0_pay7
  pointwise
  refine Eq.trans (congrArg (IntOp.andi · 15#32) ?_) (low4 (r / 16))
  have hr := r.2
  revert hr
  generalize (r : ℕ) = n
  intro hr
  have : ∀ n : Fin 2048, IntOp.shrsi ArithUnit.vector (BitVec.ofNat 32 n) 4#32 = BitVec.ofNat 32 (n / 16) := by
    intro n
    unfold IntOp.shrsi
    rw [if_pos (by decide)]
    have h := n.2
    rw [BitVec.sshiftRight', BitVec.sshiftRight_eq_of_msb_false (by rw [BitVec.msb_eq_decide]; simp; omega)]
    apply BitVec.eq_of_toNat_eq
    simp only [BitVec.toNat_ushiftRight, BitVec.toNat_ofNat, Nat.shiftRight_eq_div_pow]
    norm_num
    omega
  exact this ⟨n, hr⟩

theorem pay5_at (r : Fin 2048) (c : Fin 32) : k0_pay5 (F := Ideal) (ix2 r c) = 0 := by
  unfold k0_pay5
  pointwise

theorem mask_of (n : ℕ) (hn : n < 16) (a : ℕ) (d : BitVec 32) (hd : (a = 0 ∧ d = 4294967295#32) ∨ (a = 1 ∧ d = 0#32) ∨ (a = 2 ∧ d = 1#32)) :
    IntOp.andi (IntOp.cmpi CmpIPredicate.sge (IntOp.addi (BitVec.ofNat 32 n) d) 0#32)
      (IntOp.cmpi CmpIPredicate.slt (IntOp.addi (BitVec.ofNat 32 n) d) 16#32) = if 1 ≤ n + a ∧ n + a ≤ 16 then 1#1 else 0#1 := by
  obtain ⟨rfl, rfl⟩ | ⟨rfl, rfl⟩ | ⟨rfl, rfl⟩ := hd
  all_goals (interval_cases n <;> rfl)

theorem select_both {P Q : Prop} [Decidable P] [Decidable Q] (x y : EReal) :
    Scalar.select (α := EReal) (IntOp.andi (if P then 1#1 else 0#1) (if Q then 1#1 else 0#1)) x y = if P ∧ Q then x else y := by
  by_cases P <;> by_cases Q <;> simp_all [Scalar.select, IntOp.andi]

section
variable (X : Vec Ideal S2048x32 .f32) (xs : ℕ → Fin 32 → ℝ) (k : ℕ) (hx : ∀ (r : Fin 2048) c, X (ix2 r c) = (xs (2048 * k + r) c : EReal))
include hx

set_option maxRecDepth 20000 in
theorem tap0 (r : Fin 2048) (c : Fin 32) : k0_pay8 (F := Ideal) X (ix2 r c) = (tap xs (2048 * k + r) 0 0 c : EReal) := by
  unfold k0_pay8
  pointwise
  simp only [pay5_at, pay6_at, pay7_at, hx]
  rw [mask_of _ (by omega) 0 _ (by decide), mask_of _ (by omega) 0 _ (by decide), select_both]
  unfold tap
  have hr := r.2
  have e1 : (2048 * k + (r : ℕ)) / 16 % 16 = (r : ℕ) / 16 % 16 := by omega
  have e2 : (2048 * k + (r : ℕ)) % 16 = (r : ℕ) % 16 := by omega
  rw [e1, e2]
  split_ifs
  all_goals first
    | rfl
    | (exfalso; omega)
    | (refine congrArg (fun i => ((xs i c : ℝ) : EReal)) ?_; omega)

set_option maxRecDepth 20000 in
theorem tap1 (r : Fin 2048) (c : Fin 32) : k0_pay10 (F := Ideal) k0_pay6 k0_pay7 (k0_pay9 (F := Ideal) X) (ix2 r c) = (tap xs (2048 * k + r) 0 1 c : EReal) := by
  unfold k0_pay10 k0_pay9
  pointwise
  simp only [pay5_at, pay6_at, pay7_at, hx]
  rw [mask_of _ (by omega) 0 _ (by decide), mask_of _ (by omega) 1 _ (by decide), select_both]
  unfold tap
  have hr := r.2
  have e1 : (2048 * k + (r : ℕ)) / 16 % 16 = (r : ℕ) / 16 % 16 := by omega
  have e2 : (2048 * k + (r : ℕ)) % 16 = (r : ℕ) % 16 := by omega
  rw [e1, e2]
  split_ifs
  all_goals first
    | rfl
    | (exfalso; omega)
    | (refine congrArg (fun i => ((xs i c : ℝ) : EReal)) ?_; omega)

set_option maxRecDepth 20000 in
theorem tap2 (r : Fin 2048) (c : Fin 32) : k0_pay16 (F := Ideal) (k0_pay11 (F := Ideal) X (k0_pay5 (F := Ideal))) (k0_pay12 k0_pay7) (k0_pay13 k0_pay6) (k0_pay14 k0_pay6) k0_pay15 (ix2 r c) = (tap xs (2048 * k + r) 0 2 c : EReal) := by
  unfold k0_pay16 k0_pay11 k0_pay12 k0_pay13 k0_pay14 k0_pay15
  pointwise
  simp only [pay5_at, pay6_at, pay7_at, hx]
  rw [mask_of _ (by omega) 0 _ (by decide), mask_of _ (by omega) 2 _ (by decide), select_both]
  unfold tap
  have hr := r.2
  have e1 : (2048 * k + (r : ℕ)) / 16 % 16 = (r : ℕ) / 16 % 16 := by omega
  have e2 : (2048 * k + (r : ℕ)) % 16 = (r : ℕ) % 16 := by omega
  rw [e1, e2]
  split_ifs
  all_goals first
    | rfl
    | (exfalso; omega)
    | (refine congrArg (fun i => ((xs i c : ℝ) : EReal)) ?_; omega)

set_option maxRecDepth 20000 in
theorem tap3 (r : Fin 2048) (c : Fin 32) : k0_pay17 (F := Ideal) X (k0_pay5 (F := Ideal)) k0_pay6 k0_pay7 (ix2 r c) = (tap xs (2048 * k + r) 1 0 c : EReal) := by
  unfold k0_pay17
  pointwise
  simp only [pay5_at, pay6_at, pay7_at, hx]
  rw [mask_of _ (by omega) 1 _ (by decide), mask_of _ (by omega) 0 _ (by decide), select_both]
  unfold tap
  have hr := r.2
  have e1 : (2048 * k + (r : ℕ)) / 16 % 16 = (r : ℕ) / 16 % 16 := by omega
  have e2 : (2048 * k + (r : ℕ)) % 16 = (r : ℕ) % 16 := by omega
  rw [e1, e2]
  split_ifs
  all_goals first
    | rfl
    | (exfalso; omega)
    | (refine congrArg (fun i => ((xs i c : ℝ) : EReal)) ?_; omega)

set_option maxRecDepth 20000 in
theorem tap4 (r : Fin 2048) (c : Fin 32) : k0_pay20 (F := Ideal) X k0_pay6 (k0_pay18 k0_pay7) k0_pay19 (ix2 r c) = (tap xs (2048 * k + r) 1 1 c : EReal) := by
  unfold k0_pay20 k0_pay18 k0_pay19
  pointwise
  simp only [pay5_at, pay6_at, pay7_at, hx]
  rw [mask_of _ (by omega) 1 _ (by decide), mask_of _ (by omega) 1 _ (by decide), select_both]
  unfold tap
  have hr := r.2
  have e1 : (2048 * k + (r : ℕ)) / 16 % 16 = (r : ℕ) / 16 % 16 := by omega
  have e2 : (2048 * k + (r : ℕ)) % 16 = (r : ℕ) % 16 := by omega
  rw [e1, e2]
  split_ifs
  all_goals first
    | rfl
    | (exfalso; omega)
    | (refine congrArg (fun i => ((xs i c : ℝ) : EReal)) ?_; omega)

set_option maxRecDepth 20000 in
theorem tap5 (r : Fin 2048) (c : Fin 32) : k0_pay21 (F := Ideal) X (k0_pay5 (F := Ideal)) k0_pay6 k0_pay7 (ix2 r c) = (tap xs (2048 * k + r) 1 2 c : EReal) := by
  unfold k0_pay21
  pointwise
  simp only [pay5_at, pay6_at, pay7_at, hx]
  rw [mask_of _ (by omega) 1 _ (by decide), mask_of _ (by omega) 2 _ (by decide), select_both]
  unfold tap
  have hr := r.2
  have e1 : (2048 * k + (r : ℕ)) / 16 % 16 = (r : ℕ) / 16 % 16 := by omega
  have e2 : (2048 * k + (r : ℕ)) % 16 = (r : ℕ) % 16 := by omega
  rw [e1, e2]
  split_ifs
  all_goals first
    | rfl
    | (exfalso; omega)
    | (refine congrArg (fun i => ((xs i c : ℝ) : EReal)) ?_; omega)

set_option maxRecDepth 20000 in
theorem tap6 (r : Fin 2048) (c : Fin 32) : k0_pay24 (F := Ideal) k0_pay6 k0_pay7 (k0_pay22 (F := Ideal) X (k0_pay5 (F := Ideal))) (k0_pay23 k0_pay7) (ix2 r c) = (tap xs (2048 * k + r) 2 0 c : EReal) := by
  unfold k0_pay24 k0_pay22 k0_pay23
  pointwise
  simp only [pay5_at, pay6_at, pay7_at, hx]
  rw [mask_of _ (by omega) 2 _ (by decide), mask_of _ (by omega) 0 _ (by decide), select_both]
  unfold tap
  have hr := r.2
  have e1 : (2048 * k + (r : ℕ)) / 16 % 16 = (r : ℕ) / 16 % 16 := by omega
  have e2 : (2048 * k + (r : ℕ)) % 16 = (r : ℕ) % 16 := by omega
  rw [e1, e2]
  split_ifs
  all_goals first
    | rfl
    | (exfalso; omega)
    | (refine congrArg (fun i => ((xs i c : ℝ) : EReal)) ?_; omega)

set_option maxRecDepth 20000 in
theorem tap7 (r : Fin 2048) (c : Fin 32) : Scalar.select (α := EReal)
    (IntOp.andi
      (IntOp.andi (IntOp.cmpi CmpIPredicate.sge (IntOp.addi (k0_pay7 (ix2 r 0)) 1#32) 0#32)
        (IntOp.cmpi CmpIPredicate.slt (IntOp.addi (k0_pay7 (ix2 r 0)) 1#32) 16#32))
      (IntOp.andi (IntOp.cmpi CmpIPredicate.sge (IntOp.addi (k0_pay6 (ix2 r 0)) 0#32) 0#32)
        (IntOp.cmpi CmpIPredicate.slt (IntOp.addi (k0_pay6 (ix2 r 0)) 0#32) 16#32)))
    (if h : (r : ℕ) < 2032 then X (ix2 ⟨16 + r, by omega⟩ c) else k0_pay5 (F := Ideal) (ix2 ⟨r - 2032, by omega⟩ c)) 0
    = (tap xs (2048 * k + r) 2 1 c : EReal) := by
  simp only [pay5_at, pay6_at, pay7_at, hx]
  rw [mask_of _ (by omega) 2 _ (by decide), mask_of _ (by omega) 1 _ (by decide), select_both]
  unfold tap
  have hr := r.2
  have e1 : (2048 * k + (r : ℕ)) / 16 % 16 = (r : ℕ) / 16 % 16 := by omega
  have e2 : (2048 * k + (r : ℕ)) % 16 = (r : ℕ) % 16 := by omega
  rw [e1, e2]
  split_ifs
  all_goals first
    | rfl
    | (exfalso; omega)
    | (refine congrArg (fun i => ((xs i c : ℝ) : EReal)) ?_; omega)

set_option maxRecDepth 20000 in
theorem tap8 (r : Fin 2048) (c : Fin 32) : Scalar.select (α := EReal)
    (IntOp.andi
      (IntOp.andi (IntOp.cmpi CmpIPredicate.sge (IntOp.addi (k0_pay7 (ix2 r 0)) 1#32) 0#32)
        (IntOp.cmpi CmpIPredicate.slt (IntOp.addi (k0_pay7 (ix2 r 0)) 1#32) 16#32))
      (IntOp.andi (IntOp.cmpi CmpIPredicate.sge (IntOp.addi (k0_pay6 (ix2 r 0)) 1#32) 0#32)
        (IntOp.cmpi CmpIPredicate.slt (IntOp.addi (k0_pay6 (ix2 r 0)) 1#32) 16#32)))
    (if h : (r : ℕ) < 2031 then X (ix2 ⟨17 + r, by omega⟩ c) else k0_pay5 (F := Ideal) (ix2 ⟨r - 2031, by omega⟩ c)) 0
    = (tap xs (2048 * k + r) 2 2 c : EReal) := by
  simp only [pay5_at, pay6_at, pay7_at, hx]
  rw [mask_of _ (by omega) 2 _ (by decide), mask_of _ (by omega) 2 _ (by decide), select_both]
  unfold tap
  have hr := r.2
  have e1 : (2048 * k + (r : ℕ)) / 16 % 16 = (r : ℕ) / 16 % 16 := by omega
  have e2 : (2048 * k + (r : ℕ)) % 16 = (r : ℕ) % 16 := by omega
  rw [e1, e2]
  split_ifs
  all_goals first
    | rfl
    | (exfalso; omega)
    | (refine congrArg (fun i => ((xs i c : ℝ) : EReal)) ?_; omega)

variable (w : ℕ → Fin 32 → ℝ) (b : Fin 32 → ℝ)

set_option maxRecDepth 20000 in
set_option maxHeartbeats 1000000 in
theorem pay27_at (W : FVec Ideal S288x32 .bf16) (B : FVec Ideal S1x32 .f32) (hW : ∀ (q : Fin 288) o, W (ix2 q o) = (w q o : EReal))
    (hB : ∀ o, B (ix2 0 o) = (b o : EReal)) (r : Fin 2048) (o : Fin 32)
    (v0 : FVec Ideal S2048x32 .bf16) (g0 : ∀ c, v0 (ix2 r c) = (tap xs (2048 * k + r) 0 0 c : EReal)) (v1 : FVec Ideal S2048x32 .bf16) (g1 : ∀ c, v1 (ix2 r c) = (tap xs (2048 * k + r) 0 1 c : EReal)) (v2 : FVec Ideal S2048x32 .bf16) (g2 : ∀ c, v2 (ix2 r c) = (tap xs (2048 * k + r) 0 2 c : EReal)) (v3 : FVec Ideal S2048x32 .bf16) (g3 : ∀ c, v3 (ix2 r c) = (tap xs (2048 * k + r) 1 0 c : EReal)) (v4 : FVec Ideal S2048x32 .bf16) (g4 : ∀ c, v4 (ix2 r c) = (tap xs (2048 * k + r) 1 1 c : EReal)) (v5 : FVec Ideal S2048x32 .bf16) (g5 : ∀ c, v5 (ix2 r c) = (tap xs (2048 * k + r) 1 2 c : EReal)) (v6 : FVec Ideal S2048x32 .bf16) (g6 : ∀ c, v6 (ix2 r c) = (tap xs (2048 * k + r) 2 0 c : EReal)) :
    k0_pay27 (F := Ideal) W B X (k0_pay5 (F := Ideal)) k0_pay6 k0_pay7 v0 v1 v2 v3 v4 v5 v6
      (k0_pay25 (F := Ideal) X (k0_pay5 (F := Ideal))) (k0_pay26 k0_pay6 k0_pay7) (ix2 r o) = (conv xs w b (2048 * k + r) o : EReal) := by
  unfold k0_pay27 k0_pay25 k0_pay26
  pointwise
  refine (congrArg₂ (· + ·) (congrArg (_ + ·) (sum6 _)) (sum3 _)).trans ?_
  refine Eq.trans ?_ (conv_cast xs w b _ o).symm
  refine congrArg₂ (· + ·) (congrArg₂ (· + ·) (hB o) (congrArg₂ (· + ·) (congrArg₂ (· + ·) (congrArg₂ (· + ·) (congrArg₂ (· + ·) (congrArg₂ (· + ·)
    ?_ ?_) ?_) ?_) ?_) ?_)) (congrArg₂ (· + ·) (congrArg₂ (· + ·) ?_ ?_) ?_)
  · refine term_eq xs w _ o 0 _ fun c => congrArg₂ (· * ·) ?_ ((hW _ o).trans (congrArg (fun q => ((w q o : ℝ) : EReal)) ?_))
    · have hc := c.2
      refine (dif_pos (by dsimp only; omega)).trans ?_
      refine (g0 _).trans (congrArg (fun c => ((tap xs (2048 * k + r) 0 0 c : ℝ) : EReal)) (Fin.ext ?_))
      first | rfl | (dsimp only; omega)
    · first | rfl | (dsimp only; omega)
  · refine term_eq xs w _ o 1 _ fun c => congrArg₂ (· * ·) ?_ ((hW _ o).trans (congrArg (fun q => ((w q o : ℝ) : EReal)) ?_))
    · have hc := c.2
      refine (dif_neg (by dsimp only; omega)).trans ?_
      refine (dif_pos (by dsimp only; omega)).trans ?_
      refine (g1 _).trans (congrArg (fun c => ((tap xs (2048 * k + r) 0 1 c : ℝ) : EReal)) (Fin.ext ?_))
      first | rfl | (dsimp only; omega)
    · first | rfl | (dsimp only; omega)
  · refine term_eq xs w _ o 2 _ fun c => congrArg₂ (· * ·) ?_ ((hW _ o).trans (congrArg (fun q => ((w q o : ℝ) : EReal)) ?_))
    · have hc := c.2
      refine (dif_neg (by dsimp only; omega)).trans ?_
      refine (dif_neg (by dsimp only; omega)).trans ?_
      refine (dif_pos (by dsimp only; omega)).trans ?_
      refine (g2 _).trans (congrArg (fun c => ((tap xs (2048 * k + r) 0 2 c : ℝ) : EReal)) (Fin.ext ?_))
      first | rfl | (dsimp only; omega)
    · first | rfl | (dsimp only; omega)
  · refine term_eq xs w _ o 3 _ fun c => congrArg₂ (· * ·) ?_ ((hW _ o).trans (congrArg (fun q => ((w q o : ℝ) : EReal)) ?_))
    · have hc := c.2
      refine (dif_neg (by dsimp only; omega)).trans ?_
      refine (dif_neg (by dsimp only; omega)).trans ?_
      refine (dif_neg (by dsimp only; omega)).trans ?_
      refine (dif_pos (by dsimp only; omega)).trans ?_
      refine (g3 _).trans (congrArg (fun c => ((tap xs (2048 * k + r) 1 0 c : ℝ) : EReal)) (Fin.ext ?_))
      first | rfl | (dsimp only; omega)
    · first | rfl | (dsimp only; omega)
  · refine term_eq xs w _ o 4 _ fun c => congrArg₂ (· * ·) ?_ ((hW _ o).trans (congrArg (fun q => ((w q o : ℝ) : EReal)) ?_))
    · have hc := c.2
      refine (dif_neg (by dsimp only; omega)).trans ?_
      refine (dif_neg (by dsimp only; omega)).trans ?_
      refine (dif_neg (by dsimp only; omega)).trans ?_
      refine (dif_neg (by dsimp only; omega)).trans ?_
      refine (dif_pos (by dsimp only; omega)).trans ?_
      refine (g4 _).trans (congrArg (fun c => ((tap xs (2048 * k + r) 1 1 c : ℝ) : EReal)) (Fin.ext ?_))
      first | rfl | (dsimp only; omega)
    · first | rfl | (dsimp only; omega)
  · refine term_eq xs w _ o 5 _ fun c => congrArg₂ (· * ·) ?_ ((hW _ o).trans (congrArg (fun q => ((w q o : ℝ) : EReal)) ?_))
    · have hc := c.2
      refine (dif_neg (by dsimp only; omega)).trans ?_
      refine (dif_neg (by dsimp only; omega)).trans ?_
      refine (dif_neg (by dsimp only; omega)).trans ?_
      refine (dif_neg (by dsimp only; omega)).trans ?_
      refine (dif_neg (by dsimp only; omega)).trans ?_
      refine (g5 _).trans (congrArg (fun c => ((tap xs (2048 * k + r) 1 2 c : ℝ) : EReal)) (Fin.ext ?_))
      first | rfl | (dsimp only; omega)
    · first | rfl | (dsimp only; omega)
  · refine term_eq xs w _ o 6 _ fun c => congrArg₂ (· * ·) ?_ ((hW _ o).trans (congrArg (fun q => ((w q o : ℝ) : EReal)) ?_))
    · have hc := c.2
      refine (dif_pos (by dsimp only; omega)).trans ?_
      refine (g6 _).trans (congrArg (fun c => ((tap xs (2048 * k + r) 2 0 c : ℝ) : EReal)) (Fin.ext ?_))
      first | rfl | (dsimp only; omega)
    · first | rfl | (dsimp only; omega)
  · refine term_eq xs w _ o 7 _ fun c => congrArg₂ (· * ·) ?_ ((hW _ o).trans (congrArg (fun q => ((w q o : ℝ) : EReal)) ?_))
    · have hc := c.2
      refine (dif_neg (by dsimp only; omega)).trans ?_
      refine (dif_pos (by dsimp only; omega)).trans ?_
      simp only [show 32 + (c : ℕ) - 32 = c by omega, Fin.eta]
      exact tap7 X xs k hx r c
    · first | rfl | (dsimp only; omega)
  · refine term_eq xs w _ o 8 _ fun c => congrArg₂ (· * ·) ?_ ((hW _ o).trans (congrArg (fun q => ((w q o : ℝ) : EReal)) ?_))
    · have hc := c.2
      refine (dif_neg (by dsimp only; omega)).trans ?_
      refine (dif_neg (by dsimp only; omega)).trans ?_
      simp only [show 64 + (c : ℕ) - 32 - 32 = c by omega, Fin.eta]
      exact tap8 X xs k hx r c
    · first | rfl | (dsimp only; omega)

theorem pay132_at (F : Vec Ideal S2048x32 .f32) (f : ℕ → Fin 32 → ℝ) (hf : ∀ (r : Fin 2048) c, F (ix2 r c) = (f (2048 * k + r) c : EReal))
    (Y : FVec Ideal S2048x32 .f32) (hY : ∀ (r : Fin 2048) c, Y (ix2 r c) = (conv xs w b (2048 * k + r) c : EReal)) (r : Fin 2048) (o : Fin 32) :
    k0_pay132 (F := Ideal) Y (k0_pay28 (F := Ideal) X F) (k0_pay29 (F := Ideal)) (ix2 r o) = (left f xs w b (2048 * k + r) o : EReal) := by
  unfold k0_pay132 k0_pay28 k0_pay29
  pointwise
  rw [hY, hf, hx, half]
  unfold left
  push_cast
  rfl
end

end Cert.SearchesIdeal

end
-- ==== Proof.Searches.ConvLoop.lean ====
module

public import proofs.«01_k».proof.Proof.Searches.Loop
public import proofs.«01_k».proof.Proof.Searches.Conv

@[expose] public section
noncomputable section

/-! The loops of the convolutions: after any number of trips the rows passed are what is left of them, and the others
are as they were. -/

namespace Cert.SearchesIdeal

open Idealize.ShloMosaic Idealize.ShloMosaic.TcCoe
open Cert.SearchesIdeal.Gen Cert.Search

/-! The four convolutions are the same text. -/

theorem pay30_eq : @k0_pay30 = @k0_pay5 := rfl
theorem pay31_eq : @k0_pay31 = @k0_pay6 := rfl
theorem pay32_eq : @k0_pay32 = @k0_pay7 := rfl
theorem pay33_eq : @k0_pay33 = @k0_pay8 := rfl
theorem pay34_eq : @k0_pay34 = @k0_pay9 := rfl
theorem pay35_eq : @k0_pay35 = @k0_pay10 := rfl
theorem pay36_eq : @k0_pay36 = @k0_pay11 := rfl
theorem pay37_eq : @k0_pay37 = @k0_pay12 := rfl
theorem pay38_eq : @k0_pay38 = @k0_pay13 := rfl
theorem pay39_eq : @k0_pay39 = @k0_pay14 := rfl
theorem pay40_eq : @k0_pay40 = @k0_pay15 := rfl
theorem pay41_eq : @k0_pay41 = @k0_pay16 := rfl
theorem pay42_eq : @k0_pay42 = @k0_pay17 := rfl
theorem pay43_eq : @k0_pay43 = @k0_pay18 := rfl
theorem pay44_eq : @k0_pay44 = @k0_pay19 := rfl
theorem pay45_eq : @k0_pay45 = @k0_pay20 := rfl
theorem pay46_eq : @k0_pay46 = @k0_pay21 := rfl
theorem pay47_eq : @k0_pay47 = @k0_pay22 := rfl
theorem pay48_eq : @k0_pay48 = @k0_pay23 := rfl
theorem pay49_eq : @k0_pay49 = @k0_pay24 := rfl
theorem pay50_eq : @k0_pay50 = @k0_pay25 := rfl
theorem pay51_eq : @k0_pay51 = @k0_pay26 := rfl
theorem pay52_eq : @k0_pay52 = @k0_pay27 := rfl
theorem pay53_eq : @k0_pay53 = @k0_pay28 := rfl
theorem pay54_eq : @k0_pay54 = @k0_pay29 := rfl
theorem pay138_eq : @k0_pay138 = @k0_pay132 := rfl
theorem pay136_eq : @k0_pay136 = @k0_pay130 := rfl
theorem pay137_eq : @k0_pay137 = @k0_pay131 := rfl

theorem pay62_eq : @k0_pay62 = @k0_pay5 := rfl
theorem pay63_eq : @k0_pay63 = @k0_pay6 := rfl
theorem pay64_eq : @k0_pay64 = @k0_pay7 := rfl
theorem pay65_eq : @k0_pay65 = @k0_pay8 := rfl
theorem pay66_eq : @k0_pay66 = @k0_pay9 := rfl
theorem pay67_eq : @k0_pay67 = @k0_pay10 := rfl
theorem pay68_eq : @k0_pay68 = @k0_pay11 := rfl
theorem pay69_eq : @k0_pay69 = @k0_pay12 := rfl
theorem pay70_eq : @k0_pay70 = @k0_pay13 := rfl
theorem pay71_eq : @k0_pay71 = @k0_pay14 := rfl
theorem pay72_eq : @k0_pay72 = @k0_pay15 := rfl
theorem pay73_eq : @k0_pay73 = @k0_pay16 := rfl
theorem pay74_eq : @k0_pay74 = @k0_pay17 := rfl
theorem pay75_eq : @k0_pay75 = @k0_pay18 := rfl
theorem pay76_eq : @k0_pay76 = @k0_pay19 := rfl
theorem pay77_eq : @k0_pay77 = @k0_pay20 := rfl
theorem pay78_eq : @k0_pay78 = @k0_pay21 := rfl
theorem pay79_eq : @k0_pay79 = @k0_pay22 := rfl
theorem pay80_eq : @k0_pay80 = @k0_pay23 := rfl
theorem pay81_eq : @k0_pay81 = @k0_pay24 := rfl
theorem pay82_eq : @k0_pay82 = @k0_pay25 := rfl
theorem pay83_eq : @k0_pay83 = @k0_pay26 := rfl
theorem pay84_eq : @k0_pay84 = @k0_pay27 := rfl
theorem pay85_eq : @k0_pay85 = @k0_pay28 := rfl
theorem pay86_eq : @k0_pay86 = @k0_pay29 := rfl
theorem pay147_eq : @k0_pay147 = @k0_pay132 := rfl
theorem pay145_eq : @k0_pay145 = @k0_pay130 := rfl
theorem pay146_eq : @k0_pay146 = @k0_pay131 := rfl

theorem pay94_eq : @k0_pay94 = @k0_pay5 := rfl
theorem pay95_eq : @k0_pay95 = @k0_pay6 := rfl
theorem pay96_eq : @k0_pay96 = @k0_pay7 := rfl
theorem pay97_eq : @k0_pay97 = @k0_pay8 := rfl
theorem pay98_eq : @k0_pay98 = @k0_pay9 := rfl
theorem pay99_eq : @k0_pay99 = @k0_pay10 := rfl
theorem pay100_eq : @k0_pay100 = @k0_pay11 := rfl
theorem pay101_eq : @k0_pay101 = @k0_pay12 := rfl
theorem pay102_eq : @k0_pay102 = @k0_pay13 := rfl
theorem pay103_eq : @k0_pay103 = @k0_pay14 := rfl
theorem pay104_eq : @k0_pay104 = @k0_pay15 := rfl
theorem pay105_eq : @k0_pay105 = @k0_pay16 := rfl
theorem pay106_eq : @k0_pay106 = @k0_pay17 := rfl
theorem pay107_eq : @k0_pay107 = @k0_pay18 := rfl
theorem pay108_eq : @k0_pay108 = @k0_pay19 := rfl
theorem pay109_eq : @k0_pay109 = @k0_pay20 := rfl
theorem pay110_eq : @k0_pay110 = @k0_pay21 := rfl
theorem pay111_eq : @k0_pay111 = @k0_pay22 := rfl
theorem pay112_eq : @k0_pay112 = @k0_pay23 := rfl
theorem pay113_eq : @k0_pay113 = @k0_pay24 := rfl
theorem pay114_eq : @k0_pay114 = @k0_pay25 := rfl
theorem pay115_eq : @k0_pay115 = @k0_pay26 := rfl
theorem pay116_eq : @k0_pay116 = @k0_pay27 := rfl
theorem pay117_eq : @k0_pay117 = @k0_pay28 := rfl
theorem pay118_eq : @k0_pay118 = @k0_pay29 := rfl
theorem pay2_eq : @k0_pay2 = @k0_pay132 := rfl
theorem pay153_eq : @k0_pay153 = @k0_pay130 := rfl
theorem pay1_eq : @k0_pay1 = @k0_pay131 := rfl

theorem pay130_at (W : Vec Ideal S288x32 .f32) (q : Fin 288) (o : Fin 32) : k0_pay130 (F := Ideal) W (ix2 q o) = W (ix2 q o) := by
  unfold k0_pay130
  pointwise

theorem pay131_at (B : Vec Ideal S1x32 .f32) (o : Fin 32) : k0_pay131 (F := Ideal) B (ix2 0 o) = B (ix2 0 o) := by
  unfold k0_pay131
  pointwise

/-- What a trip stores. -/
theorem block (W : Vec Ideal S288x32 .f32) (B : Vec Ideal S1x32 .f32) (X F : Vec Ideal S2048x32 .f32) (w : ℕ → Fin 32 → ℝ) (b : Fin 32 → ℝ)
    (xs f : ℕ → Fin 32 → ℝ) (k : ℕ) (hW : ∀ (q : Fin 288) o, W (ix2 q o) = (w q o : EReal)) (hB : ∀ o, B (ix2 0 o) = (b o : EReal))
    (hx : ∀ (r : Fin 2048) c, X (ix2 r c) = (xs (2048 * k + r) c : EReal)) (hf : ∀ (r : Fin 2048) c, F (ix2 r c) = (f (2048 * k + r) c : EReal))
    (r : Fin 2048) (o : Fin 32) :
    k0_pay132 (F := Ideal) (k0_pay27 (F := Ideal) (k0_pay130 (F := Ideal) W) (k0_pay131 (F := Ideal) B) X (k0_pay5 (F := Ideal)) k0_pay6 k0_pay7
      (k0_pay8 (F := Ideal) X) (k0_pay10 (F := Ideal) k0_pay6 k0_pay7 (k0_pay9 (F := Ideal) X)) (k0_pay16 (F := Ideal) (k0_pay11 (F := Ideal) X (k0_pay5 (F := Ideal))) (k0_pay12 k0_pay7) (k0_pay13 k0_pay6) (k0_pay14 k0_pay6) k0_pay15) (k0_pay17 (F := Ideal) X (k0_pay5 (F := Ideal)) k0_pay6 k0_pay7) (k0_pay20 (F := Ideal) X k0_pay6 (k0_pay18 k0_pay7) k0_pay19) (k0_pay21 (F := Ideal) X (k0_pay5 (F := Ideal)) k0_pay6 k0_pay7) (k0_pay24 (F := Ideal) k0_pay6 k0_pay7 (k0_pay22 (F := Ideal) X (k0_pay5 (F := Ideal))) (k0_pay23 k0_pay7))
      (k0_pay25 (F := Ideal) X (k0_pay5 (F := Ideal))) (k0_pay26 k0_pay6 k0_pay7)) (k0_pay28 (F := Ideal) X F) (k0_pay29 (F := Ideal)) (ix2 r o)
      = (left f xs w b (2048 * k + r) o : EReal) :=
  pay132_at X xs k hx w b F f hf _ (fun r o => pay27_at X xs k hx w b _ _ (fun q o => (pay130_at W q o).trans (hW q o))
    (fun o => (pay131_at B o).trans (hB o)) r o _ (tap0 X xs k hx r) _ (tap1 X xs k hx r) _ (tap2 X xs k hx r) _ (tap3 X xs k hx r)
    _ (tap4 X xs k hx r) _ (tap5 X xs k hx r) _ (tap6 X xs k hx r)) r o

section
variable (c : Dev nD) (a0 : Memref sig .tc .vmem S64x32 .f32) (h0 : a0.IsWhole) (a1 : Memref sig .tc .vmem S256x32 .f32) (h1 : a1.IsWhole) (a2 : Memref sig .tc .vmem S1024x32 .f32) (h2 : a2.IsWhole) (a3 : Memref sig .tc .vmem S4096x32 .f32) (h3 : a3.IsWhole) (a4 : Memref sig .tc .vmem S2048x256 .f32) (h4 : a4.IsWhole) (a5 : Memref sig .tc .vmem S2048x256 .f32) (h5 : a5.IsWhole) (a6 : Memref sig .tc .vmem S2048x256 .f32) (h6 : a6.IsWhole) (a7 : Memref sig .tc .vmem S2048x256 .f32) (h7 : a7.IsWhole) (a8 : Memref sig .tc .vmem S16384x32 .f32) (h8 : a8.IsWhole) (a9 : Memref sig .tc .vmem S4096x32 .f32) (h9 : a9.IsWhole) (a10 : Memref sig .tc .vmem S1152x32 .f32) (h10 : a10.IsWhole) (a11 : Memref sig .tc .vmem S32x32 .f32) (h11 : a11.IsWhole) (a12 : Memref sig .tc .vmem S8x128 .f32) (h12 : a12.IsWhole) (a13 : Memref sig .tc .vmem S16384x32 .f32) (h13 : a13.IsWhole) (a14 : Memref sig .tc .vmem S16384x32 .f32) (h14 : a14.IsWhole) (a15 : Memref sig .tc .vmem S8x4096 .f32) (h15 : a15.IsWhole)
  (E : Vec Ideal S4096x32 .f32) (W : Vec Ideal S288x32 .f32) (B : Vec Ideal S1x32 .f32) (w : ℕ → Fin 32 → ℝ) (b : Fin 32 → ℝ)
  (hW : ∀ (q : Fin 288) o, W (ix2 q o) = (w q o : EReal)) (hB : ∀ o, B (ix2 0 o) = (b o : EReal))
  (xs fr : ℕ → Fin 32 → ℝ) (X : BufTy.Contents (Elt Ideal) a14.view.ty) (hX : Rows X xs 0 16384)
include hW hB hX

/-- A trip stores what is left of its 2048 rows. -/
theorem ctrip1 (S : FVec Ideal S64x4096 .f32) (k : Fin k0_t1_loop.trips) (f : BufTy.Contents (Elt Ideal) a13.view.ty) (hf : Rows f fr (2048 * k) 16384) :
    ∃ p : Vec Ideal S2048x32 .f32,
    tripL_k0_t1 (F := Ideal) Variants.none c none a0 h0 a1 h1 a2 h2 a3 h3 a4 h4 a5 h5 a6 h6 a7 h7 a8 h8 a9 h9 a10 h10 a11 h11 a12 h12 a13 h13 a14 h14 a15 h15 (k0_pay123 (F := Ideal) E) S W B X k f
      = [⟨Rect.unit (s := S16384x32) (k0_off1 k) ![2048, 32] (k0_off1_inb k), p⟩]
      ∧ ∀ r o, p (ix2 r o) = (left fr xs w b (2048 * k + r) o : EReal) := by
  have hk : k.val < 8 := Nat.lt_of_lt_of_le k.isLt k0_t1_abs.2.1
  unfold tripL_k0_t1 trip_k0_t1
  dsimp only
  refine ⟨_, rfl, fun r o => ?_⟩
  have q := block W B _ _ w b xs fr k hW hB
    (chunk_read hX (k0_off1_inb k) (k0_off1_eq k) (by omega) (by omega))
    (chunk_read hf (k0_off1_inb k) (k0_off1_eq k) (by omega) (by omega)) r o
  exact q

/-- After `k` trips the rows before `2048 * k` are what is left of them, and the others are as they were. -/
theorem cloop1 (S : FVec Ideal S64x4096 .f32) (G : BufTy.Contents (Elt Ideal) a13.view.ty) (hG : Rows G fr 0 16384) :
    ∀ k : ℕ, k ≤ k0_t1_loop.trips →
    Rows (a13.view.writes (Elt Ideal) G (pb_k0_t1 (F := Ideal) Variants.none c none a0 h0 a1 h1 a2 h2 a3 h3 a4 h4 a5 h5 a6 h6 a7 h7 a8 h8 a9 h9 a10 h10 a11 h11 a12 h12 a13 h13 a14 h14 a15 h15 (k0_pay123 (F := Ideal) E) S W B X G k)) (left fr xs w b) 0 (2048 * k)
    ∧ Rows (a13.view.writes (Elt Ideal) G (pb_k0_t1 (F := Ideal) Variants.none c none a0 h0 a1 h1 a2 h2 a3 h3 a4 h4 a5 h5 a6 h6 a7 h7 a8 h8 a9 h9 a10 h10 a11 h11 a12 h12 a13 h13 a14 h14 a15 h15 (k0_pay123 (F := Ideal) E) S W B X G k)) fr (2048 * k) 16384
  | 0, _ => by
    rw [pb_k0_t1.eq_1]
    simp only [View.writes_nil]
    exact ⟨fun r j _ h => absurd h (by omega), hG⟩
  | k + 1, h => by
    obtain ⟨i1, i2⟩ := cloop1 S G hG k (Nat.le_of_succ_le h)
    obtain ⟨p, e1, e2⟩ := ctrip1 c a0 h0 a1 h1 a2 h2 a3 h3 a4 h4 a5 h5 a6 h6 a7 h7 a8 h8 a9 h9 a10 h10 a11 h11 a12 h12 a13 h13 a14 h14 a15 h15 E W B w b hW hB xs fr X hX S ⟨k, h⟩ _ i2
    rw [pb_k0_t1_succ Variants.none c none a0 h0 a1 h1 a2 h2 a3 h3 a4 h4 a5 h5 a6 h6 a7 h7 a8 h8 a9 h9 a10 h10 a11 h11 a12 h12 a13 h13 a14 h14 a15 h15 (k0_pay123 (F := Ideal) E) S W B X G ⟨k, h⟩, e1]
    simp only [List.cons_append, List.nil_append]
    refine ⟨fun r j _ hu => ?_, fun r j hl hu => ?_⟩
    · by_cases hr : (r : ℕ) < 2048 * k
      · rw [View.read_writes_cons_rows_of_not_mem (W := 2048) _ _ _ _ _ _ (k0_off1_eq ⟨k, h⟩) rfl (Or.inl hr)]
        exact i1 r j (by omega) hr
      · refine (View.read_writes_cons_rows_of_mem (o := 2048 * k) a13.view G (k0_off1_inb ⟨k, h⟩) p _ (ix2 r j)
          (ix2 (⟨(r : ℕ) - 2048 * k, by omega⟩ : Fin 2048) j) (k0_off1_eq ⟨k, h⟩) (show (r : ℕ) = 2048 * k + (r - 2048 * k) by omega) rfl).trans ?_
        refine (e2 _ j).trans (congrArg (fun i => ((left fr xs w b i j : ℝ) : EReal)) ?_)
        show 2048 * k + ((r : ℕ) - 2048 * k) = r
        omega
    · rw [View.read_writes_cons_rows_of_not_mem (W := 2048) _ _ _ _ _ _ (k0_off1_eq ⟨k, h⟩) rfl (Or.inr (show 2048 * k + 2048 ≤ (r : ℕ) by omega))]
      exact i2 r j (by omega) hu

theorem cafter1 (S : FVec Ideal S64x4096 .f32) (L : List (View.Piece (Elt Ideal) S16384x32 .f32)) (hL : Rows (a13.view.writes (Elt Ideal) a13.view.junk L) fr 0 16384) :
    Rows (a13.view.writes (Elt Ideal) a13.view.junk (pb_k0_t1 (F := Ideal) Variants.none c none a0 h0 a1 h1 a2 h2 a3 h3 a4 h4 a5 h5 a6 h6 a7 h7 a8 h8 a9 h9 a10 h10 a11 h11 a12 h12 a13 h13 a14 h14 a15 h15 (k0_pay123 (F := Ideal) E) S W B X (a13.view.writes (Elt Ideal) a13.view.junk L) k0_t1_loop.trips ++ L)) (left fr xs w b) 0 16384 := by
  rw [View.writes_append]
  exact (cloop1 c a0 h0 a1 h1 a2 h2 a3 h3 a4 h4 a5 h5 a6 h6 a7 h7 a8 h8 a9 h9 a10 h10 a11 h11 a12 h12 a13 h13 a14 h14 a15 h15 E W B w b hW hB xs fr X hX S _ hL _ le_rfl).1

/-- A trip stores what is left of its 2048 rows. -/
theorem ctrip2 (S : FVec Ideal S256x4096 .f32) (k : Fin k0_t2_loop.trips) (f : BufTy.Contents (Elt Ideal) a13.view.ty) (hf : Rows f fr (2048 * k) 16384) :
    ∃ p : Vec Ideal S2048x32 .f32,
    tripL_k0_t2 (F := Ideal) Variants.none c none a0 h0 a1 h1 a2 h2 a3 h3 a4 h4 a5 h5 a6 h6 a7 h7 a8 h8 a9 h9 a10 h10 a11 h11 a12 h12 a13 h13 a14 h14 a15 h15 (k0_pay123 (F := Ideal) E) (k0_pay124 (F := Ideal) E) S W B X k f
      = [⟨Rect.unit (s := S16384x32) (k0_off2 k) ![2048, 32] (k0_off2_inb k), p⟩]
      ∧ ∀ r o, p (ix2 r o) = (left fr xs w b (2048 * k + r) o : EReal) := by
  have hk : k.val < 8 := Nat.lt_of_lt_of_le k.isLt k0_t2_abs.2.1
  unfold tripL_k0_t2 trip_k0_t2
  dsimp only
  refine ⟨_, rfl, fun r o => ?_⟩
  have q := block W B _ _ w b xs fr k hW hB
    (chunk_read hX (k0_off2_inb k) (k0_off2_eq k) (by omega) (by omega))
    (chunk_read hf (k0_off2_inb k) (k0_off2_eq k) (by omega) (by omega)) r o
  simp only [pay30_eq, pay31_eq, pay32_eq, pay33_eq, pay34_eq, pay35_eq, pay36_eq, pay37_eq, pay38_eq, pay39_eq, pay40_eq, pay41_eq, pay42_eq, pay43_eq, pay44_eq, pay45_eq, pay46_eq, pay47_eq, pay48_eq, pay49_eq, pay50_eq, pay51_eq, pay52_eq, pay53_eq, pay54_eq, pay138_eq, pay136_eq, pay137_eq]
  exact q

/-- After `k` trips the rows before `2048 * k` are what is left of them, and the others are as they were. -/
theorem cloop2 (S : FVec Ideal S256x4096 .f32) (G : BufTy.Contents (Elt Ideal) a13.view.ty) (hG : Rows G fr 0 16384) :
    ∀ k : ℕ, k ≤ k0_t2_loop.trips →
    Rows (a13.view.writes (Elt Ideal) G (pb_k0_t2 (F := Ideal) Variants.none c none a0 h0 a1 h1 a2 h2 a3 h3 a4 h4 a5 h5 a6 h6 a7 h7 a8 h8 a9 h9 a10 h10 a11 h11 a12 h12 a13 h13 a14 h14 a15 h15 (k0_pay123 (F := Ideal) E) (k0_pay124 (F := Ideal) E) S W B X G k)) (left fr xs w b) 0 (2048 * k)
    ∧ Rows (a13.view.writes (Elt Ideal) G (pb_k0_t2 (F := Ideal) Variants.none c none a0 h0 a1 h1 a2 h2 a3 h3 a4 h4 a5 h5 a6 h6 a7 h7 a8 h8 a9 h9 a10 h10 a11 h11 a12 h12 a13 h13 a14 h14 a15 h15 (k0_pay123 (F := Ideal) E) (k0_pay124 (F := Ideal) E) S W B X G k)) fr (2048 * k) 16384
  | 0, _ => by
    rw [pb_k0_t2.eq_1]
    simp only [View.writes_nil]
    exact ⟨fun r j _ h => absurd h (by omega), hG⟩
  | k + 1, h => by
    obtain ⟨i1, i2⟩ := cloop2 S G hG k (Nat.le_of_succ_le h)
    obtain ⟨p, e1, e2⟩ := ctrip2 c a0 h0 a1 h1 a2 h2 a3 h3 a4 h4 a5 h5 a6 h6 a7 h7 a8 h8 a9 h9 a10 h10 a11 h11 a12 h12 a13 h13 a14 h14 a15 h15 E W B w b hW hB xs fr X hX S ⟨k, h⟩ _ i2
    rw [pb_k0_t2_succ Variants.none c none a0 h0 a1 h1 a2 h2 a3 h3 a4 h4 a5 h5 a6 h6 a7 h7 a8 h8 a9 h9 a10 h10 a11 h11 a12 h12 a13 h13 a14 h14 a15 h15 (k0_pay123 (F := Ideal) E) (k0_pay124 (F := Ideal) E) S W B X G ⟨k, h⟩, e1]
    simp only [List.cons_append, List.nil_append]
    refine ⟨fun r j _ hu => ?_, fun r j hl hu => ?_⟩
    · by_cases hr : (r : ℕ) < 2048 * k
      · rw [View.read_writes_cons_rows_of_not_mem (W := 2048) _ _ _ _ _ _ (k0_off2_eq ⟨k, h⟩) rfl (Or.inl hr)]
        exact i1 r j (by omega) hr
      · refine (View.read_writes_cons_rows_of_mem (o := 2048 * k) a13.view G (k0_off2_inb ⟨k, h⟩) p _ (ix2 r j)
          (ix2 (⟨(r : ℕ) - 2048 * k, by omega⟩ : Fin 2048) j) (k0_off2_eq ⟨k, h⟩) (show (r : ℕ) = 2048 * k + (r - 2048 * k) by omega) rfl).trans ?_
        refine (e2 _ j).trans (congrArg (fun i => ((left fr xs w b i j : ℝ) : EReal)) ?_)
        show 2048 * k + ((r : ℕ) - 2048 * k) = r
        omega
    · rw [View.read_writes_cons_rows_of_not_mem (W := 2048) _ _ _ _ _ _ (k0_off2_eq ⟨k, h⟩) rfl (Or.inr (show 2048 * k + 2048 ≤ (r : ℕ) by omega))]
      exact i2 r j (by omega) hu

theorem cafter2 (S : FVec Ideal S256x4096 .f32) (L : List (View.Piece (Elt Ideal) S16384x32 .f32)) (hL : Rows (a13.view.writes (Elt Ideal) a13.view.junk L) fr 0 16384) :
    Rows (a13.view.writes (Elt Ideal) a13.view.junk (pb_k0_t2 (F := Ideal) Variants.none c none a0 h0 a1 h1 a2 h2 a3 h3 a4 h4 a5 h5 a6 h6 a7 h7 a8 h8 a9 h9 a10 h10 a11 h11 a12 h12 a13 h13 a14 h14 a15 h15 (k0_pay123 (F := Ideal) E) (k0_pay124 (F := Ideal) E) S W B X (a13.view.writes (Elt Ideal) a13.view.junk L) k0_t2_loop.trips ++ L)) (left fr xs w b) 0 16384 := by
  rw [View.writes_append]
  exact (cloop2 c a0 h0 a1 h1 a2 h2 a3 h3 a4 h4 a5 h5 a6 h6 a7 h7 a8 h8 a9 h9 a10 h10 a11 h11 a12 h12 a13 h13 a14 h14 a15 h15 E W B w b hW hB xs fr X hX S _ hL _ le_rfl).1

/-- A trip stores what is left of its 2048 rows. -/
theorem ctrip4 (S : FVec Ideal S2048x256 .f32) (k : Fin k0_t4_loop.trips) (f : BufTy.Contents (Elt Ideal) a13.view.ty) (hf : Rows f fr (2048 * k) 16384) :
    ∃ p : Vec Ideal S2048x32 .f32,
    tripL_k0_t4 (F := Ideal) Variants.none c none a0 h0 a1 h1 a2 h2 a3 h3 a4 h4 a5 h5 a6 h6 a7 h7 a8 h8 a9 h9 a10 h10 a11 h11 a12 h12 a13 h13 a14 h14 a15 h15 (k0_pay123 (F := Ideal) E) (k0_pay124 (F := Ideal) E) S W B X k f
      = [⟨Rect.unit (s := S16384x32) (k0_off5 k) ![2048, 32] (k0_off5_inb k), p⟩]
      ∧ ∀ r o, p (ix2 r o) = (left fr xs w b (2048 * k + r) o : EReal) := by
  have hk : k.val < 8 := Nat.lt_of_lt_of_le k.isLt k0_t4_abs.2.1
  unfold tripL_k0_t4 trip_k0_t4
  dsimp only
  refine ⟨_, rfl, fun r o => ?_⟩
  have q := block W B _ _ w b xs fr k hW hB
    (chunk_read hX (k0_off5_inb k) (k0_off5_eq k) (by omega) (by omega))
    (chunk_read hf (k0_off5_inb k) (k0_off5_eq k) (by omega) (by omega)) r o
  simp only [pay62_eq, pay63_eq, pay64_eq, pay65_eq, pay66_eq, pay67_eq, pay68_eq, pay69_eq, pay70_eq, pay71_eq, pay72_eq, pay73_eq, pay74_eq, pay75_eq, pay76_eq, pay77_eq, pay78_eq, pay79_eq, pay80_eq, pay81_eq, pay82_eq, pay83_eq, pay84_eq, pay85_eq, pay86_eq, pay147_eq, pay145_eq, pay146_eq]
  exact q

/-- After `k` trips the rows before `2048 * k` are what is left of them, and the others are as they were. -/
theorem cloop4 (S : FVec Ideal S2048x256 .f32) (G : BufTy.Contents (Elt Ideal) a13.view.ty) (hG : Rows G fr 0 16384) :
    ∀ k : ℕ, k ≤ k0_t4_loop.trips →
    Rows (a13.view.writes (Elt Ideal) G (pb_k0_t4 (F := Ideal) Variants.none c none a0 h0 a1 h1 a2 h2 a3 h3 a4 h4 a5 h5 a6 h6 a7 h7 a8 h8 a9 h9 a10 h10 a11 h11 a12 h12 a13 h13 a14 h14 a15 h15 (k0_pay123 (F := Ideal) E) (k0_pay124 (F := Ideal) E) S W B X G k)) (left fr xs w b) 0 (2048 * k)
    ∧ Rows (a13.view.writes (Elt Ideal) G (pb_k0_t4 (F := Ideal) Variants.none c none a0 h0 a1 h1 a2 h2 a3 h3 a4 h4 a5 h5 a6 h6 a7 h7 a8 h8 a9 h9 a10 h10 a11 h11 a12 h12 a13 h13 a14 h14 a15 h15 (k0_pay123 (F := Ideal) E) (k0_pay124 (F := Ideal) E) S W B X G k)) fr (2048 * k) 16384
  | 0, _ => by
    rw [pb_k0_t4.eq_1]
    simp only [View.writes_nil]
    exact ⟨fun r j _ h => absurd h (by omega), hG⟩
  | k + 1, h => by
    obtain ⟨i1, i2⟩ := cloop4 S G hG k (Nat.le_of_succ_le h)
    obtain ⟨p, e1, e2⟩ := ctrip4 c a0 h0 a1 h1 a2 h2 a3 h3 a4 h4 a5 h5 a6 h6 a7 h7 a8 h8 a9 h9 a10 h10 a11 h11 a12 h12 a13 h13 a14 h14 a15 h15 E W B w b hW hB xs fr X hX S ⟨k, h⟩ _ i2
    rw [pb_k0_t4_succ Variants.none c none a0 h0 a1 h1 a2 h2 a3 h3 a4 h4 a5 h5 a6 h6 a7 h7 a8 h8 a9 h9 a10 h10 a11 h11 a12 h12 a13 h13 a14 h14 a15 h15 (k0_pay123 (F := Ideal) E) (k0_pay124 (F := Ideal) E) S W B X G ⟨k, h⟩, e1]
    simp only [List.cons_append, List.nil_append]
    refine ⟨fun r j _ hu => ?_, fun r j hl hu => ?_⟩
    · by_cases hr : (r : ℕ) < 2048 * k
      · rw [View.read_writes_cons_rows_of_not_mem (W := 2048) _ _ _ _ _ _ (k0_off5_eq ⟨k, h⟩) rfl (Or.inl hr)]
        exact i1 r j (by omega) hr
      · refine (View.read_writes_cons_rows_of_mem (o := 2048 * k) a13.view G (k0_off5_inb ⟨k, h⟩) p _ (ix2 r j)
          (ix2 (⟨(r : ℕ) - 2048 * k, by omega⟩ : Fin 2048) j) (k0_off5_eq ⟨k, h⟩) (show (r : ℕ) = 2048 * k + (r - 2048 * k) by omega) rfl).trans ?_
        refine (e2 _ j).trans (congrArg (fun i => ((left fr xs w b i j : ℝ) : EReal)) ?_)
        show 2048 * k + ((r : ℕ) - 2048 * k) = r
        omega
    · rw [View.read_writes_cons_rows_of_not_mem (W := 2048) _ _ _ _ _ _ (k0_off5_eq ⟨k, h⟩) rfl (Or.inr (show 2048 * k + 2048 ≤ (r : ℕ) by omega))]
      exact i2 r j (by omega) hu

theorem cafter4 (S : FVec Ideal S2048x256 .f32) (L : List (View.Piece (Elt Ideal) S16384x32 .f32)) (hL : Rows (a13.view.writes (Elt Ideal) a13.view.junk L) fr 0 16384) :
    Rows (a13.view.writes (Elt Ideal) a13.view.junk (pb_k0_t4 (F := Ideal) Variants.none c none a0 h0 a1 h1 a2 h2 a3 h3 a4 h4 a5 h5 a6 h6 a7 h7 a8 h8 a9 h9 a10 h10 a11 h11 a12 h12 a13 h13 a14 h14 a15 h15 (k0_pay123 (F := Ideal) E) (k0_pay124 (F := Ideal) E) S W B X (a13.view.writes (Elt Ideal) a13.view.junk L) k0_t4_loop.trips ++ L)) (left fr xs w b) 0 16384 := by
  rw [View.writes_append]
  exact (cloop4 c a0 h0 a1 h1 a2 h2 a3 h3 a4 h4 a5 h5 a6 h6 a7 h7 a8 h8 a9 h9 a10 h10 a11 h11 a12 h12 a13 h13 a14 h14 a15 h15 E W B w b hW hB xs fr X hX S _ hL _ le_rfl).1

/-- A trip stores what is left of its 2048 rows. -/
theorem ctrip6 (k : Fin k0_t6_loop.trips) (f : BufTy.Contents (Elt Ideal) a13.view.ty) (hf : Rows f fr (2048 * k) 16384) :
    ∃ p : Vec Ideal S2048x32 .f32,
    tripL_k0_t6 (F := Ideal) Variants.none c none a0 h0 a1 h1 a2 h2 a3 h3 a4 h4 a5 h5 a6 h6 a7 h7 a8 h8 a9 h9 a10 h10 a11 h11 a12 h12 a13 h13 a14 h14 a15 h15 (k0_pay153 (F := Ideal) W) B X k f
      = [⟨Rect.unit (s := S16384x32) (k0_off8 k) ![2048, 32] (k0_off8_inb k), p⟩]
      ∧ ∀ r o, p (ix2 r o) = (left fr xs w b (2048 * k + r) o : EReal) := by
  have hk : k.val < 8 := Nat.lt_of_lt_of_le k.isLt k0_t6_abs.2.1
  unfold tripL_k0_t6 trip_k0_t6
  dsimp only
  refine ⟨_, rfl, fun r o => ?_⟩
  have q := block W B _ _ w b xs fr k hW hB
    (chunk_read hX (k0_off8_inb k) (k0_off8_eq k) (by omega) (by omega))
    (chunk_read hf (k0_off8_inb k) (k0_off8_eq k) (by omega) (by omega)) r o
  simp only [pay94_eq, pay95_eq, pay96_eq, pay97_eq, pay98_eq, pay99_eq, pay100_eq, pay101_eq, pay102_eq, pay103_eq, pay104_eq, pay105_eq, pay106_eq, pay107_eq, pay108_eq, pay109_eq, pay110_eq, pay111_eq, pay112_eq, pay113_eq, pay114_eq, pay115_eq, pay116_eq, pay117_eq, pay118_eq, pay2_eq, pay153_eq, pay1_eq]
  exact q

/-- After `k` trips the rows before `2048 * k` are what is left of them, and the others are as they were. -/
theorem cloop6 (G : BufTy.Contents (Elt Ideal) a13.view.ty) (hG : Rows G fr 0 16384) :
    ∀ k : ℕ, k ≤ k0_t6_loop.trips →
    Rows (a13.view.writes (Elt Ideal) G (pb_k0_t6 (F := Ideal) Variants.none c none a0 h0 a1 h1 a2 h2 a3 h3 a4 h4 a5 h5 a6 h6 a7 h7 a8 h8 a9 h9 a10 h10 a11 h11 a12 h12 a13 h13 a14 h14 a15 h15 (k0_pay153 (F := Ideal) W) B X G k)) (left fr xs w b) 0 (2048 * k)
    ∧ Rows (a13.view.writes (Elt Ideal) G (pb_k0_t6 (F := Ideal) Variants.none c none a0 h0 a1 h1 a2 h2 a3 h3 a4 h4 a5 h5 a6 h6 a7 h7 a8 h8 a9 h9 a10 h10 a11 h11 a12 h12 a13 h13 a14 h14 a15 h15 (k0_pay153 (F := Ideal) W) B X G k)) fr (2048 * k) 16384
  | 0, _ => by
    rw [pb_k0_t6.eq_1]
    simp only [View.writes_nil]
    exact ⟨fun r j _ h => absurd h (by omega), hG⟩
  | k + 1, h => by
    obtain ⟨i1, i2⟩ := cloop6 G hG k (Nat.le_of_succ_le h)
    obtain ⟨p, e1, e2⟩ := ctrip6 c a0 h0 a1 h1 a2 h2 a3 h3 a4 h4 a5 h5 a6 h6 a7 h7 a8 h8 a9 h9 a10 h10 a11 h11 a12 h12 a13 h13 a14 h14 a15 h15 W B w b hW hB xs fr X hX ⟨k, h⟩ _ i2
    rw [pb_k0_t6_succ Variants.none c none a0 h0 a1 h1 a2 h2 a3 h3 a4 h4 a5 h5 a6 h6 a7 h7 a8 h8 a9 h9 a10 h10 a11 h11 a12 h12 a13 h13 a14 h14 a15 h15 (k0_pay153 (F := Ideal) W) B X G ⟨k, h⟩, e1]
    simp only [List.cons_append, List.nil_append]
    refine ⟨fun r j _ hu => ?_, fun r j hl hu => ?_⟩
    · by_cases hr : (r : ℕ) < 2048 * k
      · rw [View.read_writes_cons_rows_of_not_mem (W := 2048) _ _ _ _ _ _ (k0_off8_eq ⟨k, h⟩) rfl (Or.inl hr)]
        exact i1 r j (by omega) hr
      · refine (View.read_writes_cons_rows_of_mem (o := 2048 * k) a13.view G (k0_off8_inb ⟨k, h⟩) p _ (ix2 r j)
          (ix2 (⟨(r : ℕ) - 2048 * k, by omega⟩ : Fin 2048) j) (k0_off8_eq ⟨k, h⟩) (show (r : ℕ) = 2048 * k + (r - 2048 * k) by omega) rfl).trans ?_
        refine (e2 _ j).trans (congrArg (fun i => ((left fr xs w b i j : ℝ) : EReal)) ?_)
        show 2048 * k + ((r : ℕ) - 2048 * k) = r
        omega
    · rw [View.read_writes_cons_rows_of_not_mem (W := 2048) _ _ _ _ _ _ (k0_off8_eq ⟨k, h⟩) rfl (Or.inr (show 2048 * k + 2048 ≤ (r : ℕ) by omega))]
      exact i2 r j (by omega) hu

theorem cafter6 (L : List (View.Piece (Elt Ideal) S16384x32 .f32)) (hL : Rows (a13.view.writes (Elt Ideal) a13.view.junk L) fr 0 16384) :
    Rows (a13.view.writes (Elt Ideal) a13.view.junk (pb_k0_t6 (F := Ideal) Variants.none c none a0 h0 a1 h1 a2 h2 a3 h3 a4 h4 a5 h5 a6 h6 a7 h7 a8 h8 a9 h9 a10 h10 a11 h11 a12 h12 a13 h13 a14 h14 a15 h15 (k0_pay153 (F := Ideal) W) B X (a13.view.writes (Elt Ideal) a13.view.junk L) k0_t6_loop.trips ++ L)) (left fr xs w b) 0 16384 := by
  rw [View.writes_append]
  exact (cloop6 c a0 h0 a1 h1 a2 h2 a3 h3 a4 h4 a5 h5 a6 h6 a7 h7 a8 h8 a9 h9 a10 h10 a11 h11 a12 h12 a13 h13 a14 h14 a15 h15 W B w b hW hB xs fr X hX _ hL _ le_rfl).1

end

end Cert.SearchesIdeal

end
-- ==== Proof.Searches.Out.lean ====
module

public import proofs.«01_k».proof.Proof.Searches.ConvLoop

@[expose] public section
noncomputable section

/-! What the kernel of the searches stores. -/

namespace Cert.SearchesIdeal

open Idealize.ShloMosaic Idealize.ShloMosaic.TcCoe
open Cert.SearchesIdeal.Gen Cert.Search

/-- The channels' images, as rows of channels. -/
theorem pay129_at (U : Vec Ideal S2048x256 .f32) (r : Fin 16384) (c : Fin 32) :
    k0_pay129 (F := Ideal) U (ix2 r c) = U (ix2 ⟨32 * ((r : ℕ) / 256) + c, by omega⟩ ⟨(r : ℕ) % 256, by omega⟩) := by
  unfold k0_pay129
  pointwise
  exact congrArg (fun q => U (ix2 q _)) (Fin.ext (show (r : ℕ) / 256 * 32 + c = 32 * ((r : ℕ) / 256) + c by omega))

/-- A load of some rows reads them. -/
theorem load_at {n m : ℕ} {a : Memref sig .tc .vmem ⟨2, ![n, 32]⟩ .f32} (h : a.IsWhole) (x : Vec Ideal ⟨2, ![n, 32]⟩ .f32) (f : ℕ → Fin 32 → ℝ)
    (hf : ∀ (q : Fin n) k, x (ix2 q k) = (f q k : EReal)) (o : ℕ) (inb : ∀ a, (![o, 0] : Fin 2 → ℕ) a + (![m, 32] : Fin 2 → ℕ) a ≤ (⟨2, ![n, 32]⟩ : Shape).size a)
    (q : Fin m) (k : Fin 32) :
    View.readAt (Elt Ideal) a.view (Rect.unit (s := ⟨2, ![n, 32]⟩) ![o, 0] ![m, 32] inb).toLoadRect (h.unread x) (ix2 q k) = (f (o + q) k : EReal) := by
  have hb : o + m ≤ n := inb 0
  have hq := q.2
  refine Eq.trans ?_ (hf ⟨o + q, by omega⟩ k)
  refine Eq.trans ?_ (congrFun (h.read_unread x) _)
  refine congrArg (a.view.read (Elt Ideal) (h.unread x)) (funext fun a => Fin.ext ?_)
  match a with
  | ⟨0, _⟩ => show o + 1 * (q : ℕ) = o + q; omega
  | ⟨1, _⟩ => show 0 + 1 * (k : ℕ) = k; omega

/-- What the kernel stores: the perplexity of the marks of all rows of all scales. -/
theorem out_eq (c : Dev nD) (a0 : Memref sig .tc .vmem S64x32 .f32) (h0 : a0.IsWhole) (a1 : Memref sig .tc .vmem S256x32 .f32) (h1 : a1.IsWhole) (a2 : Memref sig .tc .vmem S1024x32 .f32) (h2 : a2.IsWhole) (a3 : Memref sig .tc .vmem S4096x32 .f32) (h3 : a3.IsWhole) (a4 : Memref sig .tc .vmem S2048x256 .f32) (h4 : a4.IsWhole) (a5 : Memref sig .tc .vmem S2048x256 .f32) (h5 : a5.IsWhole) (a6 : Memref sig .tc .vmem S2048x256 .f32) (h6 : a6.IsWhole) (a7 : Memref sig .tc .vmem S2048x256 .f32) (h7 : a7.IsWhole) (a8 : Memref sig .tc .vmem S16384x32 .f32) (h8 : a8.IsWhole) (a9 : Memref sig .tc .vmem S4096x32 .f32) (h9 : a9.IsWhole) (a10 : Memref sig .tc .vmem S1152x32 .f32) (h10 : a10.IsWhole) (a11 : Memref sig .tc .vmem S32x32 .f32) (h11 : a11.IsWhole) (a12 : Memref sig .tc .vmem S8x128 .f32) (h12 : a12.IsWhole) (a13 : Memref sig .tc .vmem S16384x32 .f32) (h13 : a13.IsWhole) (a14 : Memref sig .tc .vmem S16384x32 .f32) (h14 : a14.IsWhole) (a15 : Memref sig .tc .vmem S8x4096 .f32) (h15 : a15.IsWhole)
   (x0 : Vec Ideal S64x32 .f32) (x1 : Vec Ideal S256x32 .f32) (x2 : Vec Ideal S1024x32 .f32) (x3 : Vec Ideal S4096x32 .f32) (x4 : Vec Ideal S2048x256 .f32) (x5 : Vec Ideal S2048x256 .f32) (x6 : Vec Ideal S2048x256 .f32) (x7 : Vec Ideal S2048x256 .f32) (x8 : Vec Ideal S16384x32 .f32) (x9 : Vec Ideal S4096x32 .f32) (x10 : Vec Ideal S1152x32 .f32) (x11 : Vec Ideal S32x32 .f32)
   (e : Fin 4096 → Fin 32 → ℝ) (he : ∀ v k, x9 (ix2 v k) = (e v k : EReal))
   (y0 y1 y2 y3 u1 u2 u3 u4 z w b : ℕ → Fin 32 → ℝ) (hx0 : ∀ (r : Fin 64) k, x0 (ix2 r k) = (y0 r k : EReal))
   (hx1 : ∀ (r : Fin 256) k, x1 (ix2 r k) = (y1 r k : EReal)) (hx2 : ∀ (r : Fin 1024) k, x2 (ix2 r k) = (y2 r k : EReal))
   (hx3 : ∀ (r : Fin 4096) k, x3 (ix2 r k) = (y3 r k : EReal)) (hx8 : ∀ (r : Fin 16384) k, x8 (ix2 r k) = (z r k : EReal))
   (hu1 : ∀ (r : Fin 16384) (k : Fin 32), x4 (ix2 ⟨32 * ((r : ℕ) / 256) + k, by omega⟩ ⟨(r : ℕ) % 256, by omega⟩) = (u1 r k : EReal))
   (hu2 : ∀ (r : Fin 16384) (k : Fin 32), x5 (ix2 ⟨32 * ((r : ℕ) / 256) + k, by omega⟩ ⟨(r : ℕ) % 256, by omega⟩) = (u2 r k : EReal))
   (hu3 : ∀ (r : Fin 16384) (k : Fin 32), x6 (ix2 ⟨32 * ((r : ℕ) / 256) + k, by omega⟩ ⟨(r : ℕ) % 256, by omega⟩) = (u3 r k : EReal))
   (hu4 : ∀ (r : Fin 16384) (k : Fin 32), x7 (ix2 ⟨32 * ((r : ℕ) / 256) + k, by omega⟩ ⟨(r : ℕ) % 256, by omega⟩) = (u4 r k : EReal))
   (hx10 : ∀ (q : Fin 1152) o, x10 (ix2 q o) = (w q o : EReal)) (hx11 : ∀ (q : Fin 32) o, x11 (ix2 q o) = (b q o : EReal))
   (j : S8x128.Idx) :
    out0_A_12 (F := Ideal) c a0 h0 a1 h1 a2 h2 a3 h3 a4 h4 a5 h5 a6 h6 a7 h7 a8 h8 a9 h9 a10 h10 a11 h11 a12 h12 a13 h13 a14 h14 a15 h15 x0 x1 x2 x3 x4 x5 x6 x7 x8 x9 x10 x11 j
      = perplexity fun v => 0 + ∑ i ∈ Finset.range 64, markAt e y0 v i + ∑ i ∈ Finset.range 256, markAt e y1 v i
        + ∑ i ∈ Finset.range 1024, markAt e y2 v i + ∑ i ∈ Finset.range 4096, markAt e y3 v i
        + ∑ i ∈ Finset.range 16384, markAt e (left (left (left (left z u1 (fun q => w (0 + q)) (b 0)) u2 (fun q => w (288 + q)) (b 8)) u3
          (fun q => w (576 + q)) (b 16)) u4 (fun q => w (864 + q)) (b 24)) v i := by
  have hz : (![0, 0] : Fin 2 → Nat) = fun _ => 0 := funext fun a => by fin_cases a <;> rfl
  unfold out0_A_12
  rw [View.read_writes_eq_canon _ _ _ (cover0_A_12 c a0 h0 a1 h1 a2 h2 a3 h3 a4 h4 a5 h5 a6 h6 a7 h7 a8 h8 a9 h9 a10 h10 a11 h11 a12 h12 a13 h13 a14 h14 a15 h15 x0 x1 x2 x3 x4 x5 x6 x7 x8 x9 x10 x11)]
  unfold kernelRun0_A
  dsimp only
  rw [View.canon_unit_zero hz]
  sl_unfold_words
  refine (pay1 _ j).trans (congrArg perplexity (funext fun v => ?_))
  have r0 : View.readAt (Elt Ideal) a0.view (Rect.unit (s := S64x32) ![0, 0] ![64, 32] inb_S64x32_S64x32_0_0).toLoadRect (h0.unread x0) = x0 := by
    rw [View.readAt_full]; exact h0.read_unread x0
  have r1 : View.readAt (Elt Ideal) a1.view (Rect.unit (s := S256x32) ![0, 0] ![256, 32] inb_S256x32_S256x32_0_0).toLoadRect (h1.unread x1) = x1 := by
    rw [View.readAt_full]; exact h1.read_unread x1
  have r2 : View.readAt (Elt Ideal) a2.view (Rect.unit (s := S1024x32) ![0, 0] ![1024, 32] inb_S1024x32_S1024x32_0_0).toLoadRect (h2.unread x2) = x2 := by
    rw [View.readAt_full]; exact h2.read_unread x2
  have r3 : View.readAt (Elt Ideal) a3.view (Rect.unit (s := S4096x32) ![0, 0] ![4096, 32] inb_S4096x32_S4096x32_0_0).toLoadRect (h3.unread x3) = x3 := by
    rw [View.readAt_full]; exact h3.read_unread x3
  have r4 : View.readAt (Elt Ideal) a4.view (Rect.unit (s := S2048x256) ![0, 0] ![2048, 256] inb_S2048x256_S2048x256_0_0).toLoadRect (h4.unread x4) = x4 := by
    rw [View.readAt_full]; exact h4.read_unread x4
  have r5 : View.readAt (Elt Ideal) a5.view (Rect.unit (s := S2048x256) ![0, 0] ![2048, 256] inb_S2048x256_S2048x256_0_0).toLoadRect (h5.unread x5) = x5 := by
    rw [View.readAt_full]; exact h5.read_unread x5
  have r6 : View.readAt (Elt Ideal) a6.view (Rect.unit (s := S2048x256) ![0, 0] ![2048, 256] inb_S2048x256_S2048x256_0_0).toLoadRect (h6.unread x6) = x6 := by
    rw [View.readAt_full]; exact h6.read_unread x6
  have r7 : View.readAt (Elt Ideal) a7.view (Rect.unit (s := S2048x256) ![0, 0] ![2048, 256] inb_S2048x256_S2048x256_0_0).toLoadRect (h7.unread x7) = x7 := by
    rw [View.readAt_full]; exact h7.read_unread x7
  have r8 : View.readAt (Elt Ideal) a8.view (Rect.unit (s := S16384x32) ![0, 0] ![16384, 32] inb_S16384x32_S16384x32_0_0).toLoadRect (h8.unread x8) = x8 := by
    rw [View.readAt_full]; exact h8.read_unread x8
  have r9 : View.readAt (Elt Ideal) a9.view (Rect.unit (s := S4096x32) ![0, 0] ![4096, 32] inb_S4096x32_S4096x32_0_0).toLoadRect (h9.unread x9) = x9 := by
    rw [View.readAt_full]; exact h9.read_unread x9
  rw [r0, r1, r2, r3, r4, r5, r6, r7, r8, r9]
  have t129 : ∀ (U : Vec Ideal S2048x256 .f32) (u : ℕ → Fin 32 → ℝ)
      (_ : ∀ (r : Fin 16384) (k : Fin 32), U (ix2 ⟨32 * ((r : ℕ) / 256) + k, by omega⟩ ⟨(r : ℕ) % 256, by omega⟩) = (u r k : EReal))
      (L : List (View.Piece (Elt Ideal) S16384x32 .f32)),
      Rows (a14.view.writes (Elt Ideal) a14.view.junk (⟨Rect.unit (s := S16384x32) ![0, 0] ![16384, 32] inb_S16384x32_S16384x32_0_0, k0_pay129 (F := Ideal) U⟩ :: L)) u 0 16384 :=
    fun U u hU L => rows_top _ _ _ _ _ fun r k => (pay129_at U r k).trans (hU r k)
  refine (after3 c a0 h0 a1 h1 a2 h2 a3 h3 a4 h4 a5 h5 a6 h6 a7 h7 a8 h8 a9 h9 a10 h10 a11 h11 a12 h12 a13 h13 a14 h14 a15 h15 x9 e he _ _ v _ ?_).trans (congrArg (· + _) ?_)
  · refine cafter6 c a0 h0 a1 h1 a2 h2 a3 h3 a4 h4 a5 h5 a6 h6 a7 h7 a8 h8 a9 h9 a10 h10 a11 h11 a12 h12 a13 h13 a14 h14 a15 h15 _ _ (fun q => w (864 + q)) (b 24) (fun q o => load_at (n := 1152) (m := 288) h10 x10 w hx10 864 _ q o) (fun o => load_at (n := 32) (m := 1) h11 x11 b hx11 24 _ 0 o) u4 _ _ (t129 x7 u4 hu4 _) _ ?_
    refine cafter4 c a0 h0 a1 h1 a2 h2 a3 h3 a4 h4 a5 h5 a6 h6 a7 h7 a8 h8 a9 h9 a10 h10 a11 h11 a12 h12 a13 h13 a14 h14 a15 h15 x9 _ _ (fun q => w (576 + q)) (b 16) (fun q o => load_at (n := 1152) (m := 288) h10 x10 w hx10 576 _ q o) (fun o => load_at (n := 32) (m := 1) h11 x11 b hx11 16 _ 0 o) u3 _ _ (t129 x6 u3 hu3 _) _ _ ?_
    refine cafter2 c a0 h0 a1 h1 a2 h2 a3 h3 a4 h4 a5 h5 a6 h6 a7 h7 a8 h8 a9 h9 a10 h10 a11 h11 a12 h12 a13 h13 a14 h14 a15 h15 x9 _ _ (fun q => w (288 + q)) (b 8) (fun q o => load_at (n := 1152) (m := 288) h10 x10 w hx10 288 _ q o) (fun o => load_at (n := 32) (m := 1) h11 x11 b hx11 8 _ 0 o) u2 _ _ (t129 x5 u2 hu2 _) _ _ ?_
    refine cafter1 c a0 h0 a1 h1 a2 h2 a3 h3 a4 h4 a5 h5 a6 h6 a7 h7 a8 h8 a9 h9 a10 h10 a11 h11 a12 h12 a13 h13 a14 h14 a15 h15 x9 _ _ (fun q => w (0 + q)) (b 0) (fun q o => load_at (n := 1152) (m := 288) h10 x10 w hx10 0 _ q o) (fun o => load_at (n := 32) (m := 1) h11 x11 b hx11 0 _ 0 o) u1 _ _ (t129 x4 u1 hu1 _) _ _ ?_
    refine rows_top _ _ _ _ _ fun r k => Eq.trans ?_ (hx8 r k)
    unfold k0_pay125
    pointwise
  refine (after2 c a0 h0 a1 h1 a2 h2 a3 h3 a4 h4 a5 h5 a6 h6 a7 h7 a8 h8 a9 h9 a10 h10 a11 h11 a12 h12 a13 h13 a14 h14 a15 h15 _ x9 e he y3 _ v _ ?_).trans (congrArg (· + _) ?_)
  · refine rows_top _ _ _ _ _ fun r k => Eq.trans ?_ (hx3 r k)
    unfold k0_pay148
    pointwise
  refine (after1 c a0 h0 a1 h1 a2 h2 a3 h3 a4 h4 a5 h5 a6 h6 a7 h7 a8 h8 a9 h9 a10 h10 a11 h11 a12 h12 a13 h13 a14 h14 a15 h15 _ x9 e he y2 _ v _ ?_).trans (congrArg (· + _) ?_)
  · refine rows_top _ _ _ _ _ fun r k => Eq.trans ?_ (hx2 r k)
    unfold k0_pay139
    pointwise
  refine (congrFun (rowOf_writes _ _ _) _).trans ((pay27 x9 e he x1 (fun r => y1 r) hx1 _ v).trans
    (congrArg₂ (· + ·) ?_ (counts_all e y1 256 v)))
  refine (congrFun (rowOf_writes _ _ _) _).trans ((pay25 x9 e he x0 (fun r => y0 r) hx0 _ v).trans
    (congrArg₂ (· + ·) ?_ (counts_all e y0 64 v)))
  exact row_zero v

end Cert.SearchesIdeal

end
-- ==== Proof.Searches.Pre.lean ====
module

public import proofs.«01_k».proof.Proof.Gen.Pre_untied
public import proofs.«01_k».proof.Proof.Searches.Search
public import Idealize.ShloMosaic.Lib.ReduceAll

@[expose] public section
noncomputable section

/-! What the precondition says of its arguments: the values are real, and each row's chosen code is the only one that
reaches the row's greatest cosine. -/

namespace Cert.Pre_untied

open Idealize.ShloMosaic
open Cert.Search Facts

theorem ofBool_one {p : Prop} [Decidable p] (h : BitVec.ofBool (decide p) = 1#1) : p := by
  by_cases hp : p
  · exact hp
  · simp [hp] at h

/-- A value of absolute value below infinity is real. -/
theorem real_of_abs {a : EReal} (h : max a (-a) < Ideal.ofBits .f32 0x7F800000#32) : ∃ r : ℝ, a = (r : EReal) := by
  have e : Ideal.ofBits .f32 0x7F800000#32 = ⊤ := by simp [Ideal.ofBits, Ideal.ieee]
  rw [e] at h
  induction a using EReal.rec with
  | bot => simp at h
  | coe r => exact ⟨r, rfl⟩
  | top => simp at h

theorem neg_inf : Ideal.ofBits .f32 0xFF800000#32 = ⊥ := by simp [Ideal.ofBits, Ideal.ieee]

theorem ori_one {a b : BitVec 1} (h : IntOp.ori a b = 1#1) : a = 1#1 ∨ b = 1#1 := by
  revert a b; decide

theorem cmpi_one {a b : BitVec 32} (h : IntOp.cmpi .eq a b = 1#1) : a = b := IntOp.cmpi_eq.mp h

theorem olt_one {s : Shape} (a b : FVec Ideal s .f32) (i : s.Idx) (h : cmpf .olt a b i = 1#1) : a i < b i :=
  ofBool_one h

/-- When every code but the chosen one is below the greatest, the chosen code is the one that reaches it. -/
theorem chosen_of {s : Fin 4096 → EReal} {i : BitVec 32} (h : ∀ v : Fin 4096, i = BitVec.ofNat 32 v ∨ s v < best s) (v : Fin 4096) :
    i = BitVec.ofNat 32 v ↔ s v = best s := by
  obtain ⟨u, hu⟩ := exists_best s
  have a := (h u).resolve_right (not_lt.mpr hu.ge)
  constructor
  · intro b
    have : BitVec.ofNat 32 (u : ℕ) = BitVec.ofNat 32 (v : ℕ) := a.symm.trans b
    have e : u = v := by
      have := congrArg BitVec.toNat this
      simp only [BitVec.toNat_ofNat] at this
      ext; omega
    exact e ▸ hu
  · intro b
    exact (h v).resolve_right (not_lt.mpr b.ge)

/-! The scale of 64 rows. -/

theorem finite_64 (x : FVec Ideal S64x32 .f32) (j : S_.Idx) (h : fn_finite_4 (F := Ideal) x j = 1#1)
    (i : S64x32.Idx) : ∃ r : ℝ, x i = (r : EReal) := by
  unfold fn_finite_4 at h
  exact real_of_abs (ofBool_one (Host.reduce_andi_all _ _ _ _ j h i))

theorem spread_64 {α : Type} (y : S64.Idx → α) (r : Fin 64) (v : Fin 4096) :
    broadcastInDim S64x4096 ![0, 1] bcast_S64x1_S64x4096_0_1 (broadcastInDim S64x1 ![0] bcast_S64_S64x1_0 y)
      (ix2 r v) = y (ix1 r) := by
  pointwise

theorem row_best_64 (s : FVec Ideal S64x4096 .f32) (r : Fin 64) :
    Host.reduce FloatOps.maximumf s (constant S_ .f32 0xFF800000#32 : FVec Ideal S_ .f32) reducesTo_S64x4096_S64_d1 h_S_ (ix1 r)
      = best fun w => s (ix2 r w) := by
  pointwise
  rw [neg_inf]

theorem alone_64 (s : FVec Ideal S64x4096 .f32) (idx : IVec S64 32) (j : S_.Idx)
    (h : fn_chosen_alone (F := Ideal) s idx j = 1#1) (r : Fin 64) (v : Fin 4096) :
    idx (ix1 r) = BitVec.ofNat 32 v ∨ s (ix2 r v) < best fun w => s (ix2 r w) := by
  unfold fn_chosen_alone at h
  have e := Host.reduce_andi_all _ _ _ _ j h (ix2 r v)
  rcases ori_one e with e | e
  · refine Or.inl ?_
    have e' := cmpi_one e
    rw [spread_64] at e'
    exact e'
  · refine Or.inr ?_
    have e' := olt_one _ _ _ e
    rw [spread_64] at e'
    exact e'.trans_eq (row_best_64 s r)

/-- The similarities are the cosines of the rows and the codes. -/
theorem sims_64 (x : FVec Ideal S64x32 .f32) (e : FVec Ideal S4096x32 .f32) (r : Fin 64) (v : Fin 4096) :
    fn_similarities (F := Ideal) x e (ix2 r v) = cosine (fun k => x (ix2 r k)) (fun v k => e (ix2 v k)) v := by
  unfold fn_similarities fn_normalized fn_normalized_3
  pointwise
  rfl

/-- The codes chosen by the rows. -/
abbrev choice_64 (x : FVec Ideal S64x32 .f32) (e : FVec Ideal S4096x32 .f32) : IVec S64 32 :=
  fn_argmax (F := Ideal) (fn_similarities (F := Ideal) x e)

/-- The rows are real, and a row's choice agrees with its marks. -/
theorem scale_64 (x : FVec Ideal S64x32 .f32) (E : FVec Ideal S4096x32 .f32) (j : S_.Idx)
    (hf : fn_finite_4 (F := Ideal) x j = 1#1)
    (hc : fn_chosen_alone (F := Ideal) (fn_similarities (F := Ideal) x E) (choice_64 x E) j = 1#1)
    (e : Fin 4096 → Fin 32 → ℝ) (he : ∀ v k, E (ix2 v k) = (e v k : EReal)) :
    ∃ xs : ℕ → Fin 32 → ℝ, (∀ (r : Fin 64) k, x (ix2 r k) = (xs r k : EReal)) ∧
      ∀ (r : Fin 64) (v : Fin 4096), (if choice_64 x E (ix1 r) = BitVec.ofNat 32 v then (1 : EReal) else 0)
        = mark (fun k => (xs r k : EReal)) (fun v k => (e v k : EReal)) v := by
  obtain ⟨xs, hx⟩ : ∃ xs : ℕ → Fin 32 → ℝ, ∀ (r : Fin 64) k, x (ix2 r k) = (xs r k : EReal) := by
    choose x' hx' using finite_64 x j hf
    refine ⟨fun i k => if hi : i < 64 then x' (ix2 ⟨i, hi⟩ k) else 0, fun r k => ?_⟩
    beta_reduce
    rw [dif_pos r.2]
    exact hx' _
  refine ⟨xs, hx, fun r v => ?_⟩
  unfold mark
  refine if_congr ((chosen_of (alone_64 _ _ j hc r) v).trans ?_) rfl rfl
  rw [dot_best]
  simp only [sims_64, hx, he]

/-! The scale of 256 rows. -/

theorem finite_256 (x : FVec Ideal S256x32 .f32) (j : S_.Idx) (h : fn_finite_7 (F := Ideal) x j = 1#1)
    (i : S256x32.Idx) : ∃ r : ℝ, x i = (r : EReal) := by
  unfold fn_finite_7 at h
  exact real_of_abs (ofBool_one (Host.reduce_andi_all _ _ _ _ j h i))

theorem spread_256 {α : Type} (y : S256.Idx → α) (r : Fin 256) (v : Fin 4096) :
    broadcastInDim S256x4096 ![0, 1] bcast_S256x1_S256x4096_0_1 (broadcastInDim S256x1 ![0] bcast_S256_S256x1_0 y)
      (ix2 r v) = y (ix1 r) := by
  pointwise

theorem row_best_256 (s : FVec Ideal S256x4096 .f32) (r : Fin 256) :
    Host.reduce FloatOps.maximumf s (constant S_ .f32 0xFF800000#32 : FVec Ideal S_ .f32) reducesTo_S256x4096_S256_d1 h_S_ (ix1 r)
      = best fun w => s (ix2 r w) := by
  pointwise
  rw [neg_inf]

theorem alone_256 (s : FVec Ideal S256x4096 .f32) (idx : IVec S256 32) (j : S_.Idx)
    (h : fn_chosen_alone_10 (F := Ideal) s idx j = 1#1) (r : Fin 256) (v : Fin 4096) :
    idx (ix1 r) = BitVec.ofNat 32 v ∨ s (ix2 r v) < best fun w => s (ix2 r w) := by
  unfold fn_chosen_alone_10 at h
  have e := Host.reduce_andi_all _ _ _ _ j h (ix2 r v)
  rcases ori_one e with e | e
  · refine Or.inl ?_
    have e' := cmpi_one e
    rw [spread_256] at e'
    exact e'
  · refine Or.inr ?_
    have e' := olt_one _ _ _ e
    rw [spread_256] at e'
    exact e'.trans_eq (row_best_256 s r)

/-- The similarities are the cosines of the rows and the codes. -/
theorem sims_256 (x : FVec Ideal S256x32 .f32) (e : FVec Ideal S4096x32 .f32) (r : Fin 256) (v : Fin 4096) :
    fn_similarities_5 (F := Ideal) x e (ix2 r v) = cosine (fun k => x (ix2 r k)) (fun v k => e (ix2 v k)) v := by
  unfold fn_similarities_5 fn_normalized_6 fn_normalized_3
  pointwise
  rfl

/-- The codes chosen by the rows. -/
abbrev choice_256 (x : FVec Ideal S256x32 .f32) (e : FVec Ideal S4096x32 .f32) : IVec S256 32 :=
  fn_argmax_8 (F := Ideal) (fn_similarities_5 (F := Ideal) x e)

/-- The rows are real, and a row's choice agrees with its marks. -/
theorem scale_256 (x : FVec Ideal S256x32 .f32) (E : FVec Ideal S4096x32 .f32) (j : S_.Idx)
    (hf : fn_finite_7 (F := Ideal) x j = 1#1)
    (hc : fn_chosen_alone_10 (F := Ideal) (fn_similarities_5 (F := Ideal) x E) (choice_256 x E) j = 1#1)
    (e : Fin 4096 → Fin 32 → ℝ) (he : ∀ v k, E (ix2 v k) = (e v k : EReal)) :
    ∃ xs : ℕ → Fin 32 → ℝ, (∀ (r : Fin 256) k, x (ix2 r k) = (xs r k : EReal)) ∧
      ∀ (r : Fin 256) (v : Fin 4096), (if choice_256 x E (ix1 r) = BitVec.ofNat 32 v then (1 : EReal) else 0)
        = mark (fun k => (xs r k : EReal)) (fun v k => (e v k : EReal)) v := by
  obtain ⟨xs, hx⟩ : ∃ xs : ℕ → Fin 32 → ℝ, ∀ (r : Fin 256) k, x (ix2 r k) = (xs r k : EReal) := by
    choose x' hx' using finite_256 x j hf
    refine ⟨fun i k => if hi : i < 256 then x' (ix2 ⟨i, hi⟩ k) else 0, fun r k => ?_⟩
    beta_reduce
    rw [dif_pos r.2]
    exact hx' _
  refine ⟨xs, hx, fun r v => ?_⟩
  unfold mark
  refine if_congr ((chosen_of (alone_256 _ _ j hc r) v).trans ?_) rfl rfl
  rw [dot_best]
  simp only [sims_256, hx, he]

/-! The scale of 1024 rows. -/

theorem finite_1024 (x : FVec Ideal S1024x32 .f32) (j : S_.Idx) (h : fn_finite_13 (F := Ideal) x j = 1#1)
    (i : S1024x32.Idx) : ∃ r : ℝ, x i = (r : EReal) := by
  unfold fn_finite_13 at h
  exact real_of_abs (ofBool_one (Host.reduce_andi_all _ _ _ _ j h i))

theorem spread_1024 {α : Type} (y : S1024.Idx → α) (r : Fin 1024) (v : Fin 4096) :
    broadcastInDim S1024x4096 ![0, 1] bcast_S1024x1_S1024x4096_0_1 (broadcastInDim S1024x1 ![0] bcast_S1024_S1024x1_0 y)
      (ix2 r v) = y (ix1 r) := by
  pointwise

theorem row_best_1024 (s : FVec Ideal S1024x4096 .f32) (r : Fin 1024) :
    Host.reduce FloatOps.maximumf s (constant S_ .f32 0xFF800000#32 : FVec Ideal S_ .f32) reducesTo_S1024x4096_S1024_d1 h_S_ (ix1 r)
      = best fun w => s (ix2 r w) := by
  pointwise
  rw [neg_inf]

theorem alone_1024 (s : FVec Ideal S1024x4096 .f32) (idx : IVec S1024 32) (j : S_.Idx)
    (h : fn_chosen_alone_16 (F := Ideal) s idx j = 1#1) (r : Fin 1024) (v : Fin 4096) :
    idx (ix1 r) = BitVec.ofNat 32 v ∨ s (ix2 r v) < best fun w => s (ix2 r w) := by
  unfold fn_chosen_alone_16 at h
  have e := Host.reduce_andi_all _ _ _ _ j h (ix2 r v)
  rcases ori_one e with e | e
  · refine Or.inl ?_
    have e' := cmpi_one e
    rw [spread_1024] at e'
    exact e'
  · refine Or.inr ?_
    have e' := olt_one _ _ _ e
    rw [spread_1024] at e'
    exact e'.trans_eq (row_best_1024 s r)

/-- The similarities are the cosines of the rows and the codes. -/
theorem sims_1024 (x : FVec Ideal S1024x32 .f32) (e : FVec Ideal S4096x32 .f32) (r : Fin 1024) (v : Fin 4096) :
    fn_similarities_11 (F := Ideal) x e (ix2 r v) = cosine (fun k => x (ix2 r k)) (fun v k => e (ix2 v k)) v := by
  unfold fn_similarities_11 fn_normalized_12 fn_normalized_3
  pointwise
  rfl

/-- The codes chosen by the rows. -/
abbrev choice_1024 (x : FVec Ideal S1024x32 .f32) (e : FVec Ideal S4096x32 .f32) : IVec S1024 32 :=
  fn_argmax_14 (F := Ideal) (fn_similarities_11 (F := Ideal) x e)

/-- The rows are real, and a row's choice agrees with its marks. -/
theorem scale_1024 (x : FVec Ideal S1024x32 .f32) (E : FVec Ideal S4096x32 .f32) (j : S_.Idx)
    (hf : fn_finite_13 (F := Ideal) x j = 1#1)
    (hc : fn_chosen_alone_16 (F := Ideal) (fn_similarities_11 (F := Ideal) x E) (choice_1024 x E) j = 1#1)
    (e : Fin 4096 → Fin 32 → ℝ) (he : ∀ v k, E (ix2 v k) = (e v k : EReal)) :
    ∃ xs : ℕ → Fin 32 → ℝ, (∀ (r : Fin 1024) k, x (ix2 r k) = (xs r k : EReal)) ∧
      ∀ (r : Fin 1024) (v : Fin 4096), (if choice_1024 x E (ix1 r) = BitVec.ofNat 32 v then (1 : EReal) else 0)
        = mark (fun k => (xs r k : EReal)) (fun v k => (e v k : EReal)) v := by
  obtain ⟨xs, hx⟩ : ∃ xs : ℕ → Fin 32 → ℝ, ∀ (r : Fin 1024) k, x (ix2 r k) = (xs r k : EReal) := by
    choose x' hx' using finite_1024 x j hf
    refine ⟨fun i k => if hi : i < 1024 then x' (ix2 ⟨i, hi⟩ k) else 0, fun r k => ?_⟩
    beta_reduce
    rw [dif_pos r.2]
    exact hx' _
  refine ⟨xs, hx, fun r v => ?_⟩
  unfold mark
  refine if_congr ((chosen_of (alone_1024 _ _ j hc r) v).trans ?_) rfl rfl
  rw [dot_best]
  simp only [sims_1024, hx, he]

/-! The scale of 4096 rows. -/

theorem finite_4096 (x : FVec Ideal S4096x32 .f32) (j : S_.Idx) (h : fn_finite (F := Ideal) x j = 1#1)
    (i : S4096x32.Idx) : ∃ r : ℝ, x i = (r : EReal) := by
  unfold fn_finite at h
  exact real_of_abs (ofBool_one (Host.reduce_andi_all _ _ _ _ j h i))

theorem spread_4096 {α : Type} (y : S4096.Idx → α) (r : Fin 4096) (v : Fin 4096) :
    broadcastInDim S4096x4096 ![0, 1] bcast_S4096x1_S4096x4096_0_1 (broadcastInDim S4096x1 ![0] bcast_S4096_S4096x1_0 y)
      (ix2 r v) = y (ix1 r) := by
  pointwise

theorem row_best_4096 (s : FVec Ideal S4096x4096 .f32) (r : Fin 4096) :
    Host.reduce FloatOps.maximumf s (constant S_ .f32 0xFF800000#32 : FVec Ideal S_ .f32) reducesTo_S4096x4096_S4096_d1 h_S_ (ix1 r)
      = best fun w => s (ix2 r w) := by
  pointwise
  rw [neg_inf]

theorem alone_4096 (s : FVec Ideal S4096x4096 .f32) (idx : IVec S4096 32) (j : S_.Idx)
    (h : fn_chosen_alone_20 (F := Ideal) s idx j = 1#1) (r : Fin 4096) (v : Fin 4096) :
    idx (ix1 r) = BitVec.ofNat 32 v ∨ s (ix2 r v) < best fun w => s (ix2 r w) := by
  unfold fn_chosen_alone_20 at h
  have e := Host.reduce_andi_all _ _ _ _ j h (ix2 r v)
  rcases ori_one e with e | e
  · refine Or.inl ?_
    have e' := cmpi_one e
    rw [spread_4096] at e'
    exact e'
  · refine Or.inr ?_
    have e' := olt_one _ _ _ e
    rw [spread_4096] at e'
    exact e'.trans_eq (row_best_4096 s r)

/-- The similarities are the cosines of the rows and the codes. -/
theorem sims_4096 (x : FVec Ideal S4096x32 .f32) (e : FVec Ideal S4096x32 .f32) (r : Fin 4096) (v : Fin 4096) :
    fn_similarities_17 (F := Ideal) x e (ix2 r v) = cosine (fun k => x (ix2 r k)) (fun v k => e (ix2 v k)) v := by
  unfold fn_similarities_17 fn_normalized_3
  pointwise
  rfl

/-- The codes chosen by the rows. -/
abbrev choice_4096 (x : FVec Ideal S4096x32 .f32) (e : FVec Ideal S4096x32 .f32) : IVec S4096 32 :=
  fn_argmax_18 (F := Ideal) (fn_similarities_17 (F := Ideal) x e)

/-- The rows are real, and a row's choice agrees with its marks. -/
theorem scale_4096 (x : FVec Ideal S4096x32 .f32) (E : FVec Ideal S4096x32 .f32) (j : S_.Idx)
    (hf : fn_finite (F := Ideal) x j = 1#1)
    (hc : fn_chosen_alone_20 (F := Ideal) (fn_similarities_17 (F := Ideal) x E) (choice_4096 x E) j = 1#1)
    (e : Fin 4096 → Fin 32 → ℝ) (he : ∀ v k, E (ix2 v k) = (e v k : EReal)) :
    ∃ xs : ℕ → Fin 32 → ℝ, (∀ (r : Fin 4096) k, x (ix2 r k) = (xs r k : EReal)) ∧
      ∀ (r : Fin 4096) (v : Fin 4096), (if choice_4096 x E (ix1 r) = BitVec.ofNat 32 v then (1 : EReal) else 0)
        = mark (fun k => (xs r k : EReal)) (fun v k => (e v k : EReal)) v := by
  obtain ⟨xs, hx⟩ : ∃ xs : ℕ → Fin 32 → ℝ, ∀ (r : Fin 4096) k, x (ix2 r k) = (xs r k : EReal) := by
    choose x' hx' using finite_4096 x j hf
    refine ⟨fun i k => if hi : i < 4096 then x' (ix2 ⟨i, hi⟩ k) else 0, fun r k => ?_⟩
    beta_reduce
    rw [dif_pos r.2]
    exact hx' _
  refine ⟨xs, hx, fun r v => ?_⟩
  unfold mark
  refine if_congr ((chosen_of (alone_4096 _ _ j hc r) v).trans ?_) rfl rfl
  rw [dot_best]
  simp only [sims_4096, hx, he]

/-! The scale of 16384 rows. -/

theorem spread_16384 {α : Type} (y : S16384.Idx → α) (r : Fin 16384) (v : Fin 4096) :
    broadcastInDim S16384x4096 ![0, 1] bcast_S16384x1_S16384x4096_0_1 (broadcastInDim S16384x1 ![0] bcast_S16384_S16384x1_0 y)
      (ix2 r v) = y (ix1 r) := by
  pointwise

theorem row_best_16384 (s : FVec Ideal S16384x4096 .f32) (r : Fin 16384) :
    Host.reduce FloatOps.maximumf s (constant S_ .f32 0xFF800000#32 : FVec Ideal S_ .f32) reducesTo_S16384x4096_S16384_d1 h_S_ (ix1 r)
      = best fun w => s (ix2 r w) := by
  pointwise
  rw [neg_inf]

theorem alone_16384 (s : FVec Ideal S16384x4096 .f32) (idx : IVec S16384 32) (j : S_.Idx)
    (h : fn_chosen_alone_25 (F := Ideal) s idx j = 1#1) (r : Fin 16384) (v : Fin 4096) :
    idx (ix1 r) = BitVec.ofNat 32 v ∨ s (ix2 r v) < best fun w => s (ix2 r w) := by
  unfold fn_chosen_alone_25 at h
  have e := Host.reduce_andi_all _ _ _ _ j h (ix2 r v)
  rcases ori_one e with e | e
  · refine Or.inl ?_
    have e' := cmpi_one e
    rw [spread_16384] at e'
    exact e'
  · refine Or.inr ?_
    have e' := olt_one _ _ _ e
    rw [spread_16384] at e'
    exact e'.trans_eq (row_best_16384 s r)

/-- The similarities are the cosines of the rows and the codes. -/
theorem sims_16384 (x : FVec Ideal S16384x32 .f32) (e : FVec Ideal S4096x32 .f32) (r : Fin 16384) (v : Fin 4096) :
    fn_similarities_21 (F := Ideal) x e (ix2 r v) = cosine (fun k => x (ix2 r k)) (fun v k => e (ix2 v k)) v := by
  unfold fn_similarities_21 fn_normalized_22 fn_normalized_3
  pointwise
  rfl

/-- The codes chosen by the rows. -/
abbrev choice_16384 (x : FVec Ideal S16384x32 .f32) (e : FVec Ideal S4096x32 .f32) : IVec S16384 32 :=
  fn_argmax_23 (F := Ideal) (fn_similarities_21 (F := Ideal) x e)

/-- The choice of a real row agrees with its marks. -/
theorem scale_16384 (x : FVec Ideal S16384x32 .f32) (E : FVec Ideal S4096x32 .f32) (j : S_.Idx)
    (hc : fn_chosen_alone_25 (F := Ideal) (fn_similarities_21 (F := Ideal) x E) (choice_16384 x E) j = 1#1)
    (e : Fin 4096 → Fin 32 → ℝ) (he : ∀ v k, E (ix2 v k) = (e v k : EReal))
    (xs : ℕ → Fin 32 → ℝ) (hx : ∀ (r : Fin 16384) k, x (ix2 r k) = (xs r k : EReal)) (r : Fin 16384) (v : Fin 4096) :
    (if choice_16384 x E (ix1 r) = BitVec.ofNat 32 v then (1 : EReal) else 0)
        = mark (fun k => (xs r k : EReal)) (fun v k => (e v k : EReal)) v := by
  unfold mark
  refine if_congr ((chosen_of (alone_16384 _ _ j hc r) v).trans ?_) rfl rfl
  rw [dot_best]
  simp only [sims_16384, hx, he]

/-! The arguments of the residuals. -/

theorem finite_f (x : FVec Ideal S64x32x16x16 .f32) (j : S_.Idx) (h : fn_finite_0 (F := Ideal) x j = 1#1)
    (i : S64x32x16x16.Idx) : ∃ r : ℝ, x i = (r : EReal) := by
  unfold fn_finite_0 at h
  exact real_of_abs (ofBool_one (Host.reduce_andi_all _ _ _ _ j h i))

theorem finite_w (x : FVec Ideal S4x32x32x3x3 .f32) (j : S_.Idx) (h : fn_finite_1 (F := Ideal) x j = 1#1)
    (i : S4x32x32x3x3.Idx) : ∃ r : ℝ, x i = (r : EReal) := by
  unfold fn_finite_1 at h
  exact real_of_abs (ofBool_one (Host.reduce_andi_all _ _ _ _ j h i))

theorem finite_b (x : FVec Ideal S4x32 .f32) (j : S_.Idx) (h : fn_finite_2 (F := Ideal) x j = 1#1)
    (i : S4x32.Idx) : ∃ r : ℝ, x i = (r : EReal) := by
  unfold fn_finite_2 at h
  exact real_of_abs (ofBool_one (Host.reduce_andi_all _ _ _ _ j h i))

/-- What a scale leaves of the residual. -/
abbrev step (f up : FVec Ideal S64x32x16x16 .f32) (w : FVec Ideal S32x32x3x3 .f32) (b : FVec Ideal S32 .f32) : FVec Ideal S64x32x16x16 .f32 :=
  subf f (addf (mulf up (broadcastInDim S64x32x16x16 ![] bcast_S_S64x32x16x16 (constant S_ .f32 0x3F000000#32)))
    (mulf (fn_conv2d_same (F := Ideal) up w b) (broadcastInDim S64x32x16x16 ![] bcast_S_S64x32x16x16 (constant S_ .f32 0x3F000000#32))))

/-! The filters and biases of the scales. -/

abbrev filter0 (W : FVec Ideal S4x32x32x3x3 .f32) : FVec Ideal S32x32x3x3 .f32 :=
  shapeCast S32x32x3x3 (extractStridedSlice S1x32x32x3x3 ![0, 0, 0, 0, 0] W slices_S4x32x32x3x3_S1x32x32x3x3_0_0_0_0_0) shapeCasts_S1x32x32x3x3_S32x32x3x3
abbrev bias0 (B : FVec Ideal S4x32 .f32) : FVec Ideal S32 .f32 :=
  shapeCast S32 (extractStridedSlice S1x32 ![0, 0] B slices_S4x32_S1x32_0_0) shapeCasts_S1x32_S32
abbrev filter1 (W : FVec Ideal S4x32x32x3x3 .f32) : FVec Ideal S32x32x3x3 .f32 :=
  shapeCast S32x32x3x3 (extractStridedSlice S1x32x32x3x3 ![1, 0, 0, 0, 0] W slices_S4x32x32x3x3_S1x32x32x3x3_1_0_0_0_0) shapeCasts_S1x32x32x3x3_S32x32x3x3
abbrev bias1 (B : FVec Ideal S4x32 .f32) : FVec Ideal S32 .f32 :=
  shapeCast S32 (extractStridedSlice S1x32 ![1, 0] B slices_S4x32_S1x32_1_0) shapeCasts_S1x32_S32
abbrev filter2 (W : FVec Ideal S4x32x32x3x3 .f32) : FVec Ideal S32x32x3x3 .f32 :=
  shapeCast S32x32x3x3 (extractStridedSlice S1x32x32x3x3 ![2, 0, 0, 0, 0] W slices_S4x32x32x3x3_S1x32x32x3x3_2_0_0_0_0) shapeCasts_S1x32x32x3x3_S32x32x3x3
abbrev bias2 (B : FVec Ideal S4x32 .f32) : FVec Ideal S32 .f32 :=
  shapeCast S32 (extractStridedSlice S1x32 ![2, 0] B slices_S4x32_S1x32_2_0) shapeCasts_S1x32_S32
abbrev filter3 (W : FVec Ideal S4x32x32x3x3 .f32) : FVec Ideal S32x32x3x3 .f32 :=
  shapeCast S32x32x3x3 (extractStridedSlice S1x32x32x3x3 ![3, 0, 0, 0, 0] W slices_S4x32x32x3x3_S1x32x32x3x3_3_0_0_0_0) shapeCasts_S1x32x32x3x3_S32x32x3x3
abbrev bias3 (B : FVec Ideal S4x32 .f32) : FVec Ideal S32 .f32 :=
  shapeCast S32 (extractStridedSlice S1x32 ![3, 0] B slices_S4x32_S1x32_3_0) shapeCasts_S1x32_S32

/-- The last residual. -/
abbrev lastOf (f u1 u2 u3 u4 : FVec Ideal S64x32x16x16 .f32) (W : FVec Ideal S4x32x32x3x3 .f32) (B : FVec Ideal S4x32 .f32) : FVec Ideal S64x32x16x16 .f32 :=
  step (step (step (step f u1 (filter0 W) (bias0 B)) u2 (filter1 W) (bias1 B)) u3 (filter2 W) (bias2 B)) u4 (filter3 W) (bias3 B)

/-- The rows of the last residual. -/
abbrev lastRows (f : FVec Ideal S64x32x16x16 .f32) : FVec Ideal S16384x32 .f32 :=
  shapeCast S16384x32 (transpose S64x16x16x32 [0, 2, 3, 1] f transposes_S64x32x16x16_S64x16x16x32_0_2_3_1) shapeCasts_S64x16x16x32_S16384x32

/-- What the precondition gives. -/
theorem of_fn (x1 : FVec Ideal S64x32 .f32) (x2 : FVec Ideal S256x32 .f32) (x4 : FVec Ideal S1024x32 .f32)
    (x8 : FVec Ideal S4096x32 .f32) (u1 u2 u3 u4 f : FVec Ideal S64x32x16x16 .f32) (e : FVec Ideal S4096x32 .f32)
    (W : FVec Ideal S4x32x32x3x3 .f32) (B : FVec Ideal S4x32 .f32) (j : S_.Idx)
    (hp : fn (F := Ideal) x1 x2 x4 x8 u1 u2 u3 u4 f e W B j = 1#1) :
    (fn_finite (F := Ideal) e j = 1#1 ∧ fn_finite_0 (F := Ideal) f j = 1#1 ∧ fn_finite_1 (F := Ideal) W j = 1#1 ∧ fn_finite_2 (F := Ideal) B j = 1#1
      ∧ fn_finite_0 (F := Ideal) u1 j = 1#1 ∧ fn_finite_0 (F := Ideal) u2 j = 1#1 ∧ fn_finite_0 (F := Ideal) u3 j = 1#1 ∧ fn_finite_0 (F := Ideal) u4 j = 1#1)
    ∧ (fn_finite_4 (F := Ideal) x1 j = 1#1
      ∧ fn_chosen_alone (F := Ideal) (fn_similarities (F := Ideal) x1 e) (choice_64 x1 e) j = 1#1)
    ∧ (fn_finite_7 (F := Ideal) x2 j = 1#1
      ∧ fn_chosen_alone_10 (F := Ideal) (fn_similarities_5 (F := Ideal) x2 e) (choice_256 x2 e) j = 1#1)
    ∧ (fn_finite_13 (F := Ideal) x4 j = 1#1
      ∧ fn_chosen_alone_16 (F := Ideal) (fn_similarities_11 (F := Ideal) x4 e) (choice_1024 x4 e) j = 1#1)
    ∧ (fn_finite (F := Ideal) x8 j = 1#1
      ∧ fn_chosen_alone_20 (F := Ideal) (fn_similarities_17 (F := Ideal) x8 e) (choice_4096 x8 e) j = 1#1)
    ∧ fn_chosen_alone_25 (F := Ideal) (fn_similarities_21 (F := Ideal) (lastRows (lastOf f u1 u2 u3 u4 W B)) e)
        (choice_16384 (lastRows (lastOf f u1 u2 u3 u4 W B)) e) j = 1#1 := by
  unfold fn fn_part1 fn_part2 fn_part3 fn_part4 at hp
  obtain ⟨hp, h5⟩ := IntOp.andi_eq_one.mp hp
  obtain ⟨hp, h4⟩ := IntOp.andi_eq_one.mp hp
  obtain ⟨hp, h3⟩ := IntOp.andi_eq_one.mp hp
  obtain ⟨hp, h2⟩ := IntOp.andi_eq_one.mp hp
  obtain ⟨hp, h1⟩ := IntOp.andi_eq_one.mp hp
  obtain ⟨hp, g4⟩ := IntOp.andi_eq_one.mp hp
  obtain ⟨hp, g3⟩ := IntOp.andi_eq_one.mp hp
  obtain ⟨hp, g2⟩ := IntOp.andi_eq_one.mp hp
  obtain ⟨hp, g1⟩ := IntOp.andi_eq_one.mp hp
  obtain ⟨hp, gB⟩ := IntOp.andi_eq_one.mp hp
  obtain ⟨hp, gW⟩ := IntOp.andi_eq_one.mp hp
  obtain ⟨ge, gf⟩ := IntOp.andi_eq_one.mp hp
  exact ⟨⟨ge, gf, gW, gB, g1, g2, g3, g4⟩, IntOp.andi_eq_one.mp h1, IntOp.andi_eq_one.mp h2, IntOp.andi_eq_one.mp h3, IntOp.andi_eq_one.mp h4, h5⟩

end Cert.Pre_untied

end
-- ==== Proof.Searches.Residual.lean ====
module

public import proofs.«01_k».proof.Proof.Searches.Pre
public import proofs.«01_k».proof.Proof.Searches.Conv

@[expose] public section
noncomputable section

/-! The residuals of the reference, read: real rows leave what the kernel leaves of them. -/

namespace Cert.Pre_untied

open Idealize.ShloMosaic
open Cert.Search Facts Cert.SearchesIdeal

theorem ix4_ext {n n' : Fin 64} {h h' w w' : Fin 16} (c : Fin 32) (e1 : (n : ℕ) = n') (e2 : (h : ℕ) = h') (e3 : (w : ℕ) = w') :
    (ix4 n c h w : S64x32x16x16.Idx) = ix4 n' c h' w' := by
  obtain rfl := Fin.ext e1
  obtain rfl := Fin.ext e2
  obtain rfl := Fin.ext e3
  rfl

theorem ix5_ext {p p' : Fin 4} {c c' : Fin 32} {i i' k k' : Fin 3} (o : Fin 32) (e1 : (p : ℕ) = p') (e2 : (c : ℕ) = c') (e3 : (i : ℕ) = i')
    (e4 : (k : ℕ) = k') : (ix5 p o c i k : S4x32x32x3x3.Idx) = ix5 p' o c' i' k' := by
  obtain rfl := Fin.ext e1
  obtain rfl := Fin.ext e2
  obtain rfl := Fin.ext e3
  obtain rfl := Fin.ext e4
  rfl

/-- The images' pixels are the rows `u`. -/
def Pixels (A : FVec Ideal S64x32x16x16 .f32) (u : ℕ → Fin 32 → ℝ) : Prop :=
  ∀ (n : Fin 64) (c : Fin 32) (h w : Fin 16), A (ix4 n c h w) = (u (256 * n + 16 * h + w) c : EReal)

theorem pad_at (A : FVec Ideal S64x32x16x16 .f32) (n : Fin 64) (c : Fin 32) (h w : Fin 18) :
    fn_pad (F := Ideal) A (constantI S_ 32 0#32) (ix4 n c h w)
      = if g : (1 ≤ (h : ℕ) ∧ (h : ℕ) - 1 < 16) ∧ 1 ≤ (w : ℕ) ∧ (w : ℕ) - 1 < 16 then A (ix4 n c ⟨(h : ℕ) - 1, g.1.2⟩ ⟨(w : ℕ) - 1, g.2.2⟩)
        else FloatOps.sitofp (F := Ideal) .f32 0#32 := by
  unfold fn_pad
  pointwise

theorem pad_tap (A : FVec Ideal S64x32x16x16 .f32) (u : ℕ → Fin 32 → ℝ) (hu : Pixels A u) (n : Fin 64) (c : Fin 32) (h w : Fin 16) (a b : ℕ)
    (ha : (h : ℕ) + a < 18) (hb : (w : ℕ) + b < 18) :
    fn_pad (F := Ideal) A (constantI S_ 32 0#32) (ix4 n c ⟨(h : ℕ) + a, ha⟩ ⟨(w : ℕ) + b, hb⟩) = (tap u (256 * n + 16 * h + w) a b c : EReal) := by
  have e1 : (256 * (n : ℕ) + 16 * h + w) / 16 % 16 = h := by omega
  have e2 : (256 * (n : ℕ) + 16 * h + w) % 16 = w := by omega
  rw [pad_at]
  unfold tap
  rw [e1, e2]
  by_cases g : (1 ≤ (h : ℕ) + a ∧ (h : ℕ) + a - 1 < 16) ∧ 1 ≤ (w : ℕ) + b ∧ (w : ℕ) + b - 1 < 16
  · refine (dif_pos g).trans ?_
    rw [if_pos (by omega), hu]
    congr 2
    show 256 * (n : ℕ) + 16 * ((h : ℕ) + a - 1) + ((w : ℕ) + b - 1) = _
    omega
  · refine (dif_neg g).trans ?_
    rw [if_neg (by omega)]
    show ((((0#32 : BitVec 32).toInt : ℝ)) : EReal) = _
    simp

theorem row_at (X : FVec Ideal S64x32x16x18 .f32) (W : FVec Ideal S32x32x3 .f32) (n : Fin 64) (o : Fin 32) (h w : Fin 16) :
    fn_conv_row (F := Ideal) X W (ix4 n o h w) = ∑ x : Fin 32, W (ix3 o x 0) * X (ix4 n x h ⟨w, by omega⟩)
      + ∑ x : Fin 32, W (ix3 o x 1) * X (ix4 n x h ⟨1 + w, by omega⟩) + ∑ x : Fin 32, W (ix3 o x 2) * X (ix4 n x h ⟨2 + w, by omega⟩) := by
  unfold fn_conv_row
  pointwise

theorem rows0 (A : FVec Ideal S64x32x16x16 .f32) (u : ℕ → Fin 32 → ℝ) (hu : Pixels A u) (W : FVec Ideal S32x32x3x3 .f32)
    (ω : ℕ → Fin 32 → ℝ) (hω : ∀ (o c : Fin 32) (a b : Fin 3), W (ix4 o c a b) = (ω (32 * (3 * a + b) + c) o : EReal))
    (n : Fin 64) (o : Fin 32) (h w : Fin 16) :
    fn_conv_row (F := Ideal) (extractStridedSlice S64x32x16x18 ![0, 0, 0, 0] (fn_pad (F := Ideal) A (constantI S_ 32 0#32)) slices_S64x32x18x18_S64x32x16x18_0_0_0_0)
      (shapeCast S32x32x3 (extractStridedSlice S32x32x1x3 ![0, 0, 0, 0] W slices_S32x32x3x3_S32x32x1x3_0_0_0_0) shapeCasts_S32x32x1x3_S32x32x3) (ix4 n o h w)
      = ((term u ω (256 * n + 16 * h + w) o 0 + term u ω (256 * n + 16 * h + w) o 1 + term u ω (256 * n + 16 * h + w) o 2 : ℝ) : EReal) := by
  rw [row_at, EReal.coe_add, EReal.coe_add]
  refine congrArg₂ (· + ·) (congrArg₂ (· + ·) ?_ ?_) ?_
  · refine term_eq u ω _ o 0 _ fun c => ?_
    refine (mul_comm _ _).trans (congrArg₂ (· * ·) (Eq.trans ?_ (pad_tap A u hu n c h w 0 0 (by omega) (by omega))) (Eq.trans ?_ (hω o c 0 0)))
    · pointwise
      try (congr 2 <;> exact Fin.ext (by dsimp only; omega))
    · pointwise
  · refine term_eq u ω _ o 1 _ fun c => ?_
    refine (mul_comm _ _).trans (congrArg₂ (· * ·) (Eq.trans ?_ (pad_tap A u hu n c h w 0 1 (by omega) (by omega))) (Eq.trans ?_ (hω o c 0 1)))
    · pointwise
      try (congr 2 <;> exact Fin.ext (by dsimp only; omega))
    · pointwise
  · refine term_eq u ω _ o 2 _ fun c => ?_
    refine (mul_comm _ _).trans (congrArg₂ (· * ·) (Eq.trans ?_ (pad_tap A u hu n c h w 0 2 (by omega) (by omega))) (Eq.trans ?_ (hω o c 0 2)))
    · pointwise
      try (congr 2 <;> exact Fin.ext (by dsimp only; omega))
    · pointwise

theorem rows1 (A : FVec Ideal S64x32x16x16 .f32) (u : ℕ → Fin 32 → ℝ) (hu : Pixels A u) (W : FVec Ideal S32x32x3x3 .f32)
    (ω : ℕ → Fin 32 → ℝ) (hω : ∀ (o c : Fin 32) (a b : Fin 3), W (ix4 o c a b) = (ω (32 * (3 * a + b) + c) o : EReal))
    (n : Fin 64) (o : Fin 32) (h w : Fin 16) :
    fn_conv_row (F := Ideal) (extractStridedSlice S64x32x16x18 ![0, 0, 1, 0] (fn_pad (F := Ideal) A (constantI S_ 32 0#32)) slices_S64x32x18x18_S64x32x16x18_0_0_1_0)
      (shapeCast S32x32x3 (extractStridedSlice S32x32x1x3 ![0, 0, 1, 0] W slices_S32x32x3x3_S32x32x1x3_0_0_1_0) shapeCasts_S32x32x1x3_S32x32x3) (ix4 n o h w)
      = ((term u ω (256 * n + 16 * h + w) o 3 + term u ω (256 * n + 16 * h + w) o 4 + term u ω (256 * n + 16 * h + w) o 5 : ℝ) : EReal) := by
  rw [row_at, EReal.coe_add, EReal.coe_add]
  refine congrArg₂ (· + ·) (congrArg₂ (· + ·) ?_ ?_) ?_
  · refine term_eq u ω _ o 3 _ fun c => ?_
    refine (mul_comm _ _).trans (congrArg₂ (· * ·) (Eq.trans ?_ (pad_tap A u hu n c h w 1 0 (by omega) (by omega))) (Eq.trans ?_ (hω o c 1 0)))
    · pointwise
      try (congr 2 <;> exact Fin.ext (by dsimp only; omega))
    · pointwise
  · refine term_eq u ω _ o 4 _ fun c => ?_
    refine (mul_comm _ _).trans (congrArg₂ (· * ·) (Eq.trans ?_ (pad_tap A u hu n c h w 1 1 (by omega) (by omega))) (Eq.trans ?_ (hω o c 1 1)))
    · pointwise
      try (congr 2 <;> exact Fin.ext (by dsimp only; omega))
    · pointwise
  · refine term_eq u ω _ o 5 _ fun c => ?_
    refine (mul_comm _ _).trans (congrArg₂ (· * ·) (Eq.trans ?_ (pad_tap A u hu n c h w 1 2 (by omega) (by omega))) (Eq.trans ?_ (hω o c 1 2)))
    · pointwise
      try (congr 2 <;> exact Fin.ext (by dsimp only; omega))
    · pointwise

theorem rows2 (A : FVec Ideal S64x32x16x16 .f32) (u : ℕ → Fin 32 → ℝ) (hu : Pixels A u) (W : FVec Ideal S32x32x3x3 .f32)
    (ω : ℕ → Fin 32 → ℝ) (hω : ∀ (o c : Fin 32) (a b : Fin 3), W (ix4 o c a b) = (ω (32 * (3 * a + b) + c) o : EReal))
    (n : Fin 64) (o : Fin 32) (h w : Fin 16) :
    fn_conv_row (F := Ideal) (extractStridedSlice S64x32x16x18 ![0, 0, 2, 0] (fn_pad (F := Ideal) A (constantI S_ 32 0#32)) slices_S64x32x18x18_S64x32x16x18_0_0_2_0)
      (shapeCast S32x32x3 (extractStridedSlice S32x32x1x3 ![0, 0, 2, 0] W slices_S32x32x3x3_S32x32x1x3_0_0_2_0) shapeCasts_S32x32x1x3_S32x32x3) (ix4 n o h w)
      = ((term u ω (256 * n + 16 * h + w) o 6 + term u ω (256 * n + 16 * h + w) o 7 + term u ω (256 * n + 16 * h + w) o 8 : ℝ) : EReal) := by
  rw [row_at, EReal.coe_add, EReal.coe_add]
  refine congrArg₂ (· + ·) (congrArg₂ (· + ·) ?_ ?_) ?_
  · refine term_eq u ω _ o 6 _ fun c => ?_
    refine (mul_comm _ _).trans (congrArg₂ (· * ·) (Eq.trans ?_ (pad_tap A u hu n c h w 2 0 (by omega) (by omega))) (Eq.trans ?_ (hω o c 2 0)))
    · pointwise
      try (congr 2 <;> exact Fin.ext (by dsimp only; omega))
    · pointwise
  · refine term_eq u ω _ o 7 _ fun c => ?_
    refine (mul_comm _ _).trans (congrArg₂ (· * ·) (Eq.trans ?_ (pad_tap A u hu n c h w 2 1 (by omega) (by omega))) (Eq.trans ?_ (hω o c 2 1)))
    · pointwise
      try (congr 2 <;> exact Fin.ext (by dsimp only; omega))
    · pointwise
  · refine term_eq u ω _ o 8 _ fun c => ?_
    refine (mul_comm _ _).trans (congrArg₂ (· * ·) (Eq.trans ?_ (pad_tap A u hu n c h w 2 2 (by omega) (by omega))) (Eq.trans ?_ (hω o c 2 2)))
    · pointwise
      try (congr 2 <;> exact Fin.ext (by dsimp only; omega))
    · pointwise

theorem conv_at (A : FVec Ideal S64x32x16x16 .f32) (u : ℕ → Fin 32 → ℝ) (hu : Pixels A u) (W : FVec Ideal S32x32x3x3 .f32)
    (ω : ℕ → Fin 32 → ℝ) (hω : ∀ (o c : Fin 32) (a b : Fin 3), W (ix4 o c a b) = (ω (32 * (3 * a + b) + c) o : EReal))
    (B : FVec Ideal S32 .f32) (β : Fin 32 → ℝ) (hβ : ∀ o, B (ix1 o) = (β o : EReal))
    (n : Fin 64) (o : Fin 32) (h w : Fin 16) :
    fn_conv2d_same (F := Ideal) A W B (ix4 n o h w) = (conv u ω β (256 * n + 16 * h + w) o : EReal) := by
  unfold fn_conv2d_same
  pointwise
  refine (congrArg₂ (· + ·) (congrArg₂ (· + ·) (congrArg₂ (· + ·) (rows0 A u hu W ω hω n o h w) (rows1 A u hu W ω hω n o h w))
    (rows2 A u hu W ω hω n o h w)) (hβ o)).trans ?_
  rw [← EReal.coe_add, ← EReal.coe_add, ← EReal.coe_add]
  refine congrArg _ ?_
  unfold conv
  ring

/-- A scale's step leaves of real rows what the kernel leaves. -/
theorem step_at (f A : FVec Ideal S64x32x16x16 .f32) (y u : ℕ → Fin 32 → ℝ) (hy : Pixels f y) (hu : Pixels A u) (W : FVec Ideal S32x32x3x3 .f32)
    (ω : ℕ → Fin 32 → ℝ) (hω : ∀ (o c : Fin 32) (a b : Fin 3), W (ix4 o c a b) = (ω (32 * (3 * a + b) + c) o : EReal))
    (B : FVec Ideal S32 .f32) (β : Fin 32 → ℝ) (hβ : ∀ o, B (ix1 o) = (β o : EReal)) :
    Pixels (step f A W B) (left y u ω β) := by
  intro n o h w
  have e : step f A W B (ix4 n o h w) = f (ix4 n o h w) - (A (ix4 n o h w) * Ideal.ofBits .f32 0x3F000000#32
      + fn_conv2d_same (F := Ideal) A W B (ix4 n o h w) * Ideal.ofBits .f32 0x3F000000#32) := by
    pointwise
  rw [e, conv_at A u hu W ω hω B β hβ, hy, hu, half, ← EReal.coe_mul, ← EReal.coe_mul, ← EReal.coe_add, ← EReal.coe_sub]
  refine congrArg _ ?_
  unfold left
  ring

/-- The pixels of real images. -/
theorem pixels_of (A : FVec Ideal S64x32x16x16 .f32) (j : S_.Idx) (h : fn_finite_0 (F := Ideal) A j = 1#1) : ∃ u, Pixels A u := by
  choose R hR using finite_f A j h
  refine ⟨fun i c => if g : i < 16384 then R (ix4 ⟨i / 256, by omega⟩ c ⟨i / 16 % 16, by omega⟩ ⟨i % 16, by omega⟩) else 0, fun n c h w => ?_⟩
  refine (hR _).trans (congrArg _ ?_)
  refine Eq.trans ?_ (dif_pos (by omega)).symm
  refine congrArg R ?_
  exact ix4_ext c (by dsimp only; omega) (by dsimp only; omega) (by dsimp only; omega)

/-- The rows of real images. -/
theorem rows_at (f : FVec Ideal S64x32x16x16 .f32) (y : ℕ → Fin 32 → ℝ) (hy : Pixels f y) (r : Fin 16384) (k : Fin 32) :
    lastRows f (ix2 r k) = (y r k : EReal) := by
  have e : lastRows f (ix2 r k) = f (ix4 ⟨(r : ℕ) / 256, by omega⟩ k ⟨(r : ℕ) / 16 % 16, by omega⟩ ⟨(r : ℕ) % 16, by omega⟩) := by
    pointwise
    try (congr 2 <;> exact Fin.ext (by dsimp only; omega))
  rw [e, hy]
  congr 2
  show 256 * ((r : ℕ) / 256) + 16 * ((r : ℕ) / 16 % 16) + (r : ℕ) % 16 = r
  omega

theorem filter0_at (W : FVec Ideal S4x32x32x3x3 .f32) (o c : Fin 32) (a b : Fin 3) : filter0 W (ix4 o c a b) = W (ix5 0 o c a b) := by
  pointwise

theorem bias0_at (B : FVec Ideal S4x32 .f32) (o : Fin 32) : bias0 B (ix1 o) = B (ix2 0 o) := by
  pointwise

theorem filter1_at (W : FVec Ideal S4x32x32x3x3 .f32) (o c : Fin 32) (a b : Fin 3) : filter1 W (ix4 o c a b) = W (ix5 1 o c a b) := by
  pointwise

theorem bias1_at (B : FVec Ideal S4x32 .f32) (o : Fin 32) : bias1 B (ix1 o) = B (ix2 1 o) := by
  pointwise

theorem filter2_at (W : FVec Ideal S4x32x32x3x3 .f32) (o c : Fin 32) (a b : Fin 3) : filter2 W (ix4 o c a b) = W (ix5 2 o c a b) := by
  pointwise

theorem bias2_at (B : FVec Ideal S4x32 .f32) (o : Fin 32) : bias2 B (ix1 o) = B (ix2 2 o) := by
  pointwise

theorem filter3_at (W : FVec Ideal S4x32x32x3x3 .f32) (o c : Fin 32) (a b : Fin 3) : filter3 W (ix4 o c a b) = W (ix5 3 o c a b) := by
  pointwise

theorem bias3_at (B : FVec Ideal S4x32 .f32) (o : Fin 32) : bias3 B (ix1 o) = B (ix2 3 o) := by
  pointwise

/-- The last residual, of the rows of the filters and biases one under the other. -/
theorem last_at (f A1 A2 A3 A4 : FVec Ideal S64x32x16x16 .f32) (z u1 u2 u3 u4 : ℕ → Fin 32 → ℝ) (hz : Pixels f z) (h1 : Pixels A1 u1) (h2 : Pixels A2 u2)
    (h3 : Pixels A3 u3) (h4 : Pixels A4 u4) (W : FVec Ideal S4x32x32x3x3 .f32) (B : FVec Ideal S4x32 .f32)
    (w b : ℕ → Fin 32 → ℝ) (hw : ∀ (p : Fin 4) (o c : Fin 32) (i j : Fin 3), W (ix5 p o c i j) = (w (288 * p + 32 * (3 * i + j) + c) o : EReal))
    (hb : ∀ (p : Fin 4) o, B (ix2 p o) = (b (8 * p) o : EReal)) :
    Pixels (lastOf f A1 A2 A3 A4 W B) (left (left (left (left z u1 (fun q => w (0 + q)) (b 0)) u2 (fun q => w (288 + q)) (b 8))
      u3 (fun q => w (576 + q)) (b 16)) u4 (fun q => w (864 + q)) (b 24)) := by
  refine step_at _ _ _ _ (step_at _ _ _ _ (step_at _ _ _ _ (step_at _ _ _ _ hz h1 _ _ (fun o c i j => ?_) _ _ (fun o => ?_)) h2 _ _ (fun o c i j => ?_) _ _ (fun o => ?_))
    h3 _ _ (fun o c i j => ?_) _ _ (fun o => ?_)) h4 _ _ (fun o c i j => ?_) _ _ (fun o => ?_)
  · refine (filter0_at W o c i j).trans ((hw 0 o c i j).trans ?_)
    exact congrArg (fun q : ℕ => ((w q o : ℝ) : EReal)) (Nat.add_assoc _ _ _)
  · exact (bias0_at B o).trans (hb 0 o)
  · refine (filter1_at W o c i j).trans ((hw 1 o c i j).trans ?_)
    exact congrArg (fun q : ℕ => ((w q o : ℝ) : EReal)) (Nat.add_assoc _ _ _)
  · exact (bias1_at B o).trans (hb 1 o)
  · refine (filter2_at W o c i j).trans ((hw 2 o c i j).trans ?_)
    exact congrArg (fun q : ℕ => ((w q o : ℝ) : EReal)) (Nat.add_assoc _ _ _)
  · exact (bias2_at B o).trans (hb 2 o)
  · refine (filter3_at W o c i j).trans ((hw 3 o c i j).trans ?_)
    exact congrArg (fun q : ℕ => ((w q o : ℝ) : EReal)) (Nat.add_assoc _ _ _)
  · exact (bias3_at B o).trans (hb 3 o)

/-- The rows of real filters, one under the other. -/
theorem filters_of (W : FVec Ideal S4x32x32x3x3 .f32) (j : S_.Idx) (h : fn_finite_1 (F := Ideal) W j = 1#1) :
    ∃ w : ℕ → Fin 32 → ℝ, ∀ (p : Fin 4) (o c : Fin 32) (i k : Fin 3), W (ix5 p o c i k) = (w (288 * p + 32 * (3 * i + k) + c) o : EReal) := by
  choose R hR using finite_w W j h
  refine ⟨fun q o => if g : q < 1152 then R (ix5 ⟨q / 288, by omega⟩ o ⟨q % 32, by omega⟩ ⟨q / 96 % 3, by omega⟩ ⟨q / 32 % 3, by omega⟩) else 0, fun p o c i k => ?_⟩
  refine (hR _).trans (congrArg _ ?_)
  refine Eq.trans ?_ (dif_pos (by omega)).symm
  refine congrArg R ?_
  exact ix5_ext o (by dsimp only; omega) (by dsimp only; omega) (by dsimp only; omega) (by dsimp only; omega)

/-- The rows of real biases, eight for each scale. -/
theorem biases_of (B : FVec Ideal S4x32 .f32) (j : S_.Idx) (h : fn_finite_2 (F := Ideal) B j = 1#1) :
    ∃ b : ℕ → Fin 32 → ℝ, ∀ (p : Fin 4) (q : ℕ) o, q / 8 = p → B (ix2 p o) = (b q o : EReal) := by
  choose R hR using finite_b B j h
  refine ⟨fun q o => if g : q / 8 < 4 then R (ix2 ⟨q / 8, g⟩ o) else 0, fun p q o e => ?_⟩
  refine (hR _).trans (congrArg _ ?_)
  refine Eq.trans ?_ (dif_pos (by omega)).symm
  exact congrArg (fun p : Fin 4 => R (ix2 p o)) (Fin.ext e.symm)

end Cert.Pre_untied

end
-- ==== Proof.Searches.Host.lean ====
module

public import proofs.«01_k».proof.Proof.Gen.SearchesIdeal.Launch
public import proofs.«01_k».proof.Proof.Searches.Residual

@[expose] public section
noncomputable section

/-! The operands made before the kernel's call, read. -/

namespace Cert.SearchesIdeal.Own

open Idealize.ShloMosaic
open Cert.SearchesIdeal Cert.SearchesIdeal.Gen

/-- One tap of a filter, its inputs down the rows. -/
abbrev tapRows (off : Fin 5 → ℕ) (h : S4x32x32x3x3.Slices off S1x32x32x1x1) (W : FVec Ideal S4x32x32x3x3 .f32) : FVec Ideal S32x32 .f32 :=
  transpose S32x32 [1, 0] (shapeCast S32x32 (extractStridedSlice S1x32x32x1x1 off W h) shapeCasts_S1x32x32x1x1_S32x32) transposes_S32x32_S32x32_1_0

/-- The taps of filter 0, one under the other. -/
def filterRows0 (W : FVec Ideal S4x32x32x3x3 .f32) : FVec Ideal S288x32 .f32 :=
  concatenate S288x32 0 [⟨S32x32, tapRows ![0, 0, 0, 0, 0] slices_S4x32x32x3x3_S1x32x32x1x1_0_0_0_0_0 W⟩, ⟨S32x32, tapRows ![0, 0, 0, 0, 1] slices_S4x32x32x3x3_S1x32x32x1x1_0_0_0_0_1 W⟩, ⟨S32x32, tapRows ![0, 0, 0, 0, 2] slices_S4x32x32x3x3_S1x32x32x1x1_0_0_0_0_2 W⟩, ⟨S32x32, tapRows ![0, 0, 0, 1, 0] slices_S4x32x32x3x3_S1x32x32x1x1_0_0_0_1_0 W⟩, ⟨S32x32, tapRows ![0, 0, 0, 1, 1] slices_S4x32x32x3x3_S1x32x32x1x1_0_0_0_1_1 W⟩, ⟨S32x32, tapRows ![0, 0, 0, 1, 2] slices_S4x32x32x3x3_S1x32x32x1x1_0_0_0_1_2 W⟩, ⟨S32x32, tapRows ![0, 0, 0, 2, 0] slices_S4x32x32x3x3_S1x32x32x1x1_0_0_0_2_0 W⟩, ⟨S32x32, tapRows ![0, 0, 0, 2, 1] slices_S4x32x32x3x3_S1x32x32x1x1_0_0_0_2_1 W⟩, ⟨S32x32, tapRows ![0, 0, 0, 2, 2] slices_S4x32x32x3x3_S1x32x32x1x1_0_0_0_2_2 W⟩] concatenates_S32x32_S32x32_S32x32_S32x32_S32x32_S32x32_S32x32_S32x32_S32x32_S288x32_d0

theorem filterRows0_at (W : FVec Ideal S4x32x32x3x3 .f32) (q : Fin 288) (o : Fin 32) :
    filterRows0 W (ix2 q o) = W (ix5 0 o ⟨(q : ℕ) % 32, by omega⟩ ⟨(q : ℕ) / 96, by omega⟩ ⟨(q : ℕ) / 32 % 3, by omega⟩) := by
  unfold filterRows0
  pointwise
  split_ifs <;> first | exact absurd rfl ‹_› | exact congrArg W (Cert.Pre_untied.ix5_ext o (by first | omega | rfl | (simp only [Fin.isValue, Fin.coe_ofNat_eq_mod]; omega) | (dsimp only <;> omega)) (by first | omega | rfl | (simp only [Fin.isValue, Fin.coe_ofNat_eq_mod]; omega) | (dsimp only <;> omega)) (by first | omega | rfl | (simp only [Fin.isValue, Fin.coe_ofNat_eq_mod]; omega) | (dsimp only <;> omega)) (by first | omega | rfl | (simp only [Fin.isValue, Fin.coe_ofNat_eq_mod]; omega) | (dsimp only <;> omega)))

/-- Bias 0, eight rows of it. -/
abbrev biasRows0 (B : FVec Ideal S4x32 .f32) : FVec Ideal S8x32 .f32 :=
  broadcastInDim S8x32 ![0, 1] bcast_S1x32_S8x32_0_1 (broadcastInDim S1x32 ![1] bcast_S32_S1x32_1
    (shapeCast S32 (extractStridedSlice S1x32 ![0, 0] B slices_S4x32_S1x32_0_0) shapeCasts_S1x32_S32))

/-- The taps of filter 1, one under the other. -/
def filterRows1 (W : FVec Ideal S4x32x32x3x3 .f32) : FVec Ideal S288x32 .f32 :=
  concatenate S288x32 0 [⟨S32x32, tapRows ![1, 0, 0, 0, 0] slices_S4x32x32x3x3_S1x32x32x1x1_1_0_0_0_0 W⟩, ⟨S32x32, tapRows ![1, 0, 0, 0, 1] slices_S4x32x32x3x3_S1x32x32x1x1_1_0_0_0_1 W⟩, ⟨S32x32, tapRows ![1, 0, 0, 0, 2] slices_S4x32x32x3x3_S1x32x32x1x1_1_0_0_0_2 W⟩, ⟨S32x32, tapRows ![1, 0, 0, 1, 0] slices_S4x32x32x3x3_S1x32x32x1x1_1_0_0_1_0 W⟩, ⟨S32x32, tapRows ![1, 0, 0, 1, 1] slices_S4x32x32x3x3_S1x32x32x1x1_1_0_0_1_1 W⟩, ⟨S32x32, tapRows ![1, 0, 0, 1, 2] slices_S4x32x32x3x3_S1x32x32x1x1_1_0_0_1_2 W⟩, ⟨S32x32, tapRows ![1, 0, 0, 2, 0] slices_S4x32x32x3x3_S1x32x32x1x1_1_0_0_2_0 W⟩, ⟨S32x32, tapRows ![1, 0, 0, 2, 1] slices_S4x32x32x3x3_S1x32x32x1x1_1_0_0_2_1 W⟩, ⟨S32x32, tapRows ![1, 0, 0, 2, 2] slices_S4x32x32x3x3_S1x32x32x1x1_1_0_0_2_2 W⟩] concatenates_S32x32_S32x32_S32x32_S32x32_S32x32_S32x32_S32x32_S32x32_S32x32_S288x32_d0

theorem filterRows1_at (W : FVec Ideal S4x32x32x3x3 .f32) (q : Fin 288) (o : Fin 32) :
    filterRows1 W (ix2 q o) = W (ix5 1 o ⟨(q : ℕ) % 32, by omega⟩ ⟨(q : ℕ) / 96, by omega⟩ ⟨(q : ℕ) / 32 % 3, by omega⟩) := by
  unfold filterRows1
  pointwise
  split_ifs <;> first | exact absurd rfl ‹_› | exact congrArg W (Cert.Pre_untied.ix5_ext o (by first | omega | rfl | (simp only [Fin.isValue, Fin.coe_ofNat_eq_mod]; omega) | (dsimp only <;> omega)) (by first | omega | rfl | (simp only [Fin.isValue, Fin.coe_ofNat_eq_mod]; omega) | (dsimp only <;> omega)) (by first | omega | rfl | (simp only [Fin.isValue, Fin.coe_ofNat_eq_mod]; omega) | (dsimp only <;> omega)) (by first | omega | rfl | (simp only [Fin.isValue, Fin.coe_ofNat_eq_mod]; omega) | (dsimp only <;> omega)))

/-- Bias 1, eight rows of it. -/
abbrev biasRows1 (B : FVec Ideal S4x32 .f32) : FVec Ideal S8x32 .f32 :=
  broadcastInDim S8x32 ![0, 1] bcast_S1x32_S8x32_0_1 (broadcastInDim S1x32 ![1] bcast_S32_S1x32_1
    (shapeCast S32 (extractStridedSlice S1x32 ![1, 0] B slices_S4x32_S1x32_1_0) shapeCasts_S1x32_S32))

/-- The taps of filter 2, one under the other. -/
def filterRows2 (W : FVec Ideal S4x32x32x3x3 .f32) : FVec Ideal S288x32 .f32 :=
  concatenate S288x32 0 [⟨S32x32, tapRows ![2, 0, 0, 0, 0] slices_S4x32x32x3x3_S1x32x32x1x1_2_0_0_0_0 W⟩, ⟨S32x32, tapRows ![2, 0, 0, 0, 1] slices_S4x32x32x3x3_S1x32x32x1x1_2_0_0_0_1 W⟩, ⟨S32x32, tapRows ![2, 0, 0, 0, 2] slices_S4x32x32x3x3_S1x32x32x1x1_2_0_0_0_2 W⟩, ⟨S32x32, tapRows ![2, 0, 0, 1, 0] slices_S4x32x32x3x3_S1x32x32x1x1_2_0_0_1_0 W⟩, ⟨S32x32, tapRows ![2, 0, 0, 1, 1] slices_S4x32x32x3x3_S1x32x32x1x1_2_0_0_1_1 W⟩, ⟨S32x32, tapRows ![2, 0, 0, 1, 2] slices_S4x32x32x3x3_S1x32x32x1x1_2_0_0_1_2 W⟩, ⟨S32x32, tapRows ![2, 0, 0, 2, 0] slices_S4x32x32x3x3_S1x32x32x1x1_2_0_0_2_0 W⟩, ⟨S32x32, tapRows ![2, 0, 0, 2, 1] slices_S4x32x32x3x3_S1x32x32x1x1_2_0_0_2_1 W⟩, ⟨S32x32, tapRows ![2, 0, 0, 2, 2] slices_S4x32x32x3x3_S1x32x32x1x1_2_0_0_2_2 W⟩] concatenates_S32x32_S32x32_S32x32_S32x32_S32x32_S32x32_S32x32_S32x32_S32x32_S288x32_d0

theorem filterRows2_at (W : FVec Ideal S4x32x32x3x3 .f32) (q : Fin 288) (o : Fin 32) :
    filterRows2 W (ix2 q o) = W (ix5 2 o ⟨(q : ℕ) % 32, by omega⟩ ⟨(q : ℕ) / 96, by omega⟩ ⟨(q : ℕ) / 32 % 3, by omega⟩) := by
  unfold filterRows2
  pointwise
  split_ifs <;> first | exact absurd rfl ‹_› | exact congrArg W (Cert.Pre_untied.ix5_ext o (by first | omega | rfl | (simp only [Fin.isValue, Fin.coe_ofNat_eq_mod]; omega) | (dsimp only <;> omega)) (by first | omega | rfl | (simp only [Fin.isValue, Fin.coe_ofNat_eq_mod]; omega) | (dsimp only <;> omega)) (by first | omega | rfl | (simp only [Fin.isValue, Fin.coe_ofNat_eq_mod]; omega) | (dsimp only <;> omega)) (by first | omega | rfl | (simp only [Fin.isValue, Fin.coe_ofNat_eq_mod]; omega) | (dsimp only <;> omega)))

/-- Bias 2, eight rows of it. -/
abbrev biasRows2 (B : FVec Ideal S4x32 .f32) : FVec Ideal S8x32 .f32 :=
  broadcastInDim S8x32 ![0, 1] bcast_S1x32_S8x32_0_1 (broadcastInDim S1x32 ![1] bcast_S32_S1x32_1
    (shapeCast S32 (extractStridedSlice S1x32 ![2, 0] B slices_S4x32_S1x32_2_0) shapeCasts_S1x32_S32))

/-- The taps of filter 3, one under the other. -/
def filterRows3 (W : FVec Ideal S4x32x32x3x3 .f32) : FVec Ideal S288x32 .f32 :=
  concatenate S288x32 0 [⟨S32x32, tapRows ![3, 0, 0, 0, 0] slices_S4x32x32x3x3_S1x32x32x1x1_3_0_0_0_0 W⟩, ⟨S32x32, tapRows ![3, 0, 0, 0, 1] slices_S4x32x32x3x3_S1x32x32x1x1_3_0_0_0_1 W⟩, ⟨S32x32, tapRows ![3, 0, 0, 0, 2] slices_S4x32x32x3x3_S1x32x32x1x1_3_0_0_0_2 W⟩, ⟨S32x32, tapRows ![3, 0, 0, 1, 0] slices_S4x32x32x3x3_S1x32x32x1x1_3_0_0_1_0 W⟩, ⟨S32x32, tapRows ![3, 0, 0, 1, 1] slices_S4x32x32x3x3_S1x32x32x1x1_3_0_0_1_1 W⟩, ⟨S32x32, tapRows ![3, 0, 0, 1, 2] slices_S4x32x32x3x3_S1x32x32x1x1_3_0_0_1_2 W⟩, ⟨S32x32, tapRows ![3, 0, 0, 2, 0] slices_S4x32x32x3x3_S1x32x32x1x1_3_0_0_2_0 W⟩, ⟨S32x32, tapRows ![3, 0, 0, 2, 1] slices_S4x32x32x3x3_S1x32x32x1x1_3_0_0_2_1 W⟩, ⟨S32x32, tapRows ![3, 0, 0, 2, 2] slices_S4x32x32x3x3_S1x32x32x1x1_3_0_0_2_2 W⟩] concatenates_S32x32_S32x32_S32x32_S32x32_S32x32_S32x32_S32x32_S32x32_S32x32_S288x32_d0

theorem filterRows3_at (W : FVec Ideal S4x32x32x3x3 .f32) (q : Fin 288) (o : Fin 32) :
    filterRows3 W (ix2 q o) = W (ix5 3 o ⟨(q : ℕ) % 32, by omega⟩ ⟨(q : ℕ) / 96, by omega⟩ ⟨(q : ℕ) / 32 % 3, by omega⟩) := by
  unfold filterRows3
  pointwise
  split_ifs <;> first | exact absurd rfl ‹_› | exact congrArg W (Cert.Pre_untied.ix5_ext o (by first | omega | rfl | (simp only [Fin.isValue, Fin.coe_ofNat_eq_mod]; omega) | (dsimp only <;> omega)) (by first | omega | rfl | (simp only [Fin.isValue, Fin.coe_ofNat_eq_mod]; omega) | (dsimp only <;> omega)) (by first | omega | rfl | (simp only [Fin.isValue, Fin.coe_ofNat_eq_mod]; omega) | (dsimp only <;> omega)) (by first | omega | rfl | (simp only [Fin.isValue, Fin.coe_ofNat_eq_mod]; omega) | (dsimp only <;> omega)))

/-- Bias 3, eight rows of it. -/
abbrev biasRows3 (B : FVec Ideal S4x32 .f32) : FVec Ideal S8x32 .f32 :=
  broadcastInDim S8x32 ![0, 1] bcast_S1x32_S8x32_0_1 (broadcastInDim S1x32 ![1] bcast_S32_S1x32_1
    (shapeCast S32 (extractStridedSlice S1x32 ![3, 0] B slices_S4x32_S1x32_3_0) shapeCasts_S1x32_S32))

/-- All filters, one under the other. -/
def allRows (W : FVec Ideal S4x32x32x3x3 .f32) : FVec Ideal S1152x32 .f32 :=
  concatenate S1152x32 0 [⟨S288x32, filterRows0 W⟩, ⟨S288x32, filterRows1 W⟩, ⟨S288x32, filterRows2 W⟩, ⟨S288x32, filterRows3 W⟩] concatenates_S288x32_S288x32_S288x32_S288x32_S1152x32_d0

theorem allRows_at (W : FVec Ideal S4x32x32x3x3 .f32) (q : Fin 1152) (o : Fin 32) :
    allRows W (ix2 q o) = W (ix5 ⟨(q : ℕ) / 288, by omega⟩ o ⟨(q : ℕ) % 32, by omega⟩ ⟨(q : ℕ) / 96 % 3, by omega⟩ ⟨(q : ℕ) / 32 % 3, by omega⟩) := by
  unfold allRows
  pointwise
  simp only [filterRows0_at, filterRows1_at, filterRows2_at, filterRows3_at]
  split_ifs <;> first | exact absurd rfl ‹_› | exact congrArg W (Cert.Pre_untied.ix5_ext o (by first | omega | rfl | (simp only [Fin.isValue, Fin.coe_ofNat_eq_mod]; omega) | (dsimp only <;> omega)) (by first | omega | rfl | (simp only [Fin.isValue, Fin.coe_ofNat_eq_mod]; omega) | (dsimp only <;> omega)) (by first | omega | rfl | (simp only [Fin.isValue, Fin.coe_ofNat_eq_mod]; omega) | (dsimp only <;> omega)) (by first | omega | rfl | (simp only [Fin.isValue, Fin.coe_ofNat_eq_mod]; omega) | (dsimp only <;> omega)))

/-- All biases, one under the other. -/
def allBias (B : FVec Ideal S4x32 .f32) : FVec Ideal S32x32 .f32 :=
  concatenate S32x32 0 [⟨S8x32, biasRows0 B⟩, ⟨S8x32, biasRows1 B⟩, ⟨S8x32, biasRows2 B⟩, ⟨S8x32, biasRows3 B⟩] concatenates_S8x32_S8x32_S8x32_S8x32_S32x32_d0

theorem allBias_at (B : FVec Ideal S4x32 .f32) (q o : Fin 32) : allBias B (ix2 q o) = B (ix2 ⟨(q : ℕ) / 8, by omega⟩ o) := by
  unfold allBias
  pointwise
  split_ifs <;> first | exact absurd rfl ‹_› | exact congrArg (fun p : Fin 4 => B (ix2 p o)) (Fin.ext (by first | omega | rfl | (simp only [Fin.isValue, Fin.coe_ofNat_eq_mod]; omega) | (dsimp only <;> omega)))

/-- The images, a row for each channel of each. -/
abbrev channels (A : FVec Ideal S64x32x16x16 .f32) : FVec Ideal S2048x256 .f32 := shapeCast S2048x256 A shapeCasts_S64x32x16x16_S2048x256

theorem channels_at (A : FVec Ideal S64x32x16x16 .f32) (u : ℕ → Fin 32 → ℝ) (hu : Cert.Pre_untied.Pixels A u) (r : Fin 16384) (k : Fin 32) :
    channels A (ix2 ⟨32 * ((r : ℕ) / 256) + k, by omega⟩ ⟨(r : ℕ) % 256, by omega⟩) = (u r k : EReal) := by
  have e : channels A (ix2 ⟨32 * ((r : ℕ) / 256) + k, by omega⟩ ⟨(r : ℕ) % 256, by omega⟩)
      = A (ix4 ⟨(r : ℕ) / 256, by omega⟩ k ⟨(r : ℕ) / 16 % 16, by omega⟩ ⟨(r : ℕ) % 16, by omega⟩) := by
    pointwise
    refine congrArg A (Cert.Pre_untied.ix4_ext k ?_ ?_ ?_) <;> dsimp only <;> omega
  rw [e, hu]
  congr 2
  show 256 * ((r : ℕ) / 256) + 16 * ((r : ℕ) / 16 % 16) + (r : ℕ) % 16 = r
  omega

end Cert.SearchesIdeal.Own

end
-- ==== Proof.Searches.Operands.lean ====
module

public import proofs.«01_k».proof.Proof.Gen.SearchesIdeal.Run
public import proofs.«01_k».proof.Proof.Searches.Host
public import Idealize.ShloMosaic.Lib.StableHlo.Run
public import Idealize.ShloMosaic.Lib.Tactic
public import Idealize.ShloMosaic.Lib.Quiescent

@[expose] public section
noncomputable section

/-! The operands of the kernel of the searches. -/

open Idealize.ShloMosaic Idealize.ShloMosaic.TcCoe Idealize.SL.Sem

namespace Cert.SearchesIdeal.Own

open Cert.SearchesIdeal Cert.SearchesIdeal.Gen Cert.SearchesIdeal.Value

variable (m : (ℓ : Loc nD τ sig) → Buf (Elt Ideal) ℓ)

theorem idx0 : ∀ t : Fin cfg0.N, win0_0.index t = ![0, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![0, 0] := (by decide +kernel : ∀ t : Fin grid0.N, _)
theorem idx5 : ∀ t : Fin cfg0.N, win0_5.index t = ![0, 0] := (by decide +kernel : ∀ t : Fin grid0.N, _)
theorem idx6 : ∀ t : Fin cfg0.N, win0_6.index t = ![0, 0] := (by decide +kernel : ∀ t : Fin grid0.N, _)
theorem idx7 : ∀ t : Fin cfg0.N, win0_7.index t = ![0, 0] := (by decide +kernel : ∀ t : Fin grid0.N, _)
theorem idx8 : ∀ t : Fin cfg0.N, win0_8.index t = ![0, 0] := (by decide +kernel : ∀ t : Fin grid0.N, _)
theorem idx9 : ∀ t : Fin cfg0.N, win0_9.index t = ![0, 0] := (by decide +kernel : ∀ t : Fin grid0.N, _)
theorem idx10 : ∀ t : Fin cfg0.N, win0_10.index t = ![0, 0] := (by decide +kernel : ∀ t : Fin grid0.N, _)
theorem idx11 : ∀ t : Fin cfg0.N, win0_11.index t = ![0, 0] := (by decide +kernel : ∀ t : Fin grid0.N, _)
theorem idx12 : ∀ t : Fin cfg0.N, win0_12.index t = ![0, 0] := (by decide +kernel : ∀ t : Fin grid0.N, _)

/-- The blocks of the operands are the whole of them. -/
theorem blk0 (c : Dev nD) (X : Buf (Elt Ideal) ((c : Thread nD τ).loc main_arg0)) :
    (((cfg0.win 0).blk t0_0).view.read (Elt Ideal) X : S64x32.Idx → Elt Ideal .f32) = X := by
  blk_ext! [idx0 t0_0]
theorem blk1 (c : Dev nD) (X : Buf (Elt Ideal) ((c : Thread nD τ).loc main_arg1)) :
    (((cfg0.win 1).blk t0_0).view.read (Elt Ideal) X : S256x32.Idx → Elt Ideal .f32) = X := by
  blk_ext! [idx1 t0_0]
theorem blk2 (c : Dev nD) (X : Buf (Elt Ideal) ((c : Thread nD τ).loc main_arg2)) :
    (((cfg0.win 2).blk t0_0).view.read (Elt Ideal) X : S1024x32.Idx → Elt Ideal .f32) = X := by
  blk_ext! [idx2 t0_0]
theorem blk3 (c : Dev nD) (X : Buf (Elt Ideal) ((c : Thread nD τ).loc main_arg3)) :
    (((cfg0.win 3).blk t0_0).view.read (Elt Ideal) X : S4096x32.Idx → Elt Ideal .f32) = X := by
  blk_ext! [idx3 t0_0]
theorem blk4 (c : Dev nD) (X : Buf (Elt Ideal) ((c : Thread nD τ).loc main_v132)) :
    (((cfg0.win 4).blk t0_0).view.read (Elt Ideal) X : S2048x256.Idx → Elt Ideal .f32) = X := by
  blk_ext! [idx4 t0_0]
theorem blk5 (c : Dev nD) (X : Buf (Elt Ideal) ((c : Thread nD τ).loc main_v133)) :
    (((cfg0.win 5).blk t0_0).view.read (Elt Ideal) X : S2048x256.Idx → Elt Ideal .f32) = X := by
  blk_ext! [idx5 t0_0]
theorem blk6 (c : Dev nD) (X : Buf (Elt Ideal) ((c : Thread nD τ).loc main_v134)) :
    (((cfg0.win 6).blk t0_0).view.read (Elt Ideal) X : S2048x256.Idx → Elt Ideal .f32) = X := by
  blk_ext! [idx6 t0_0]
theorem blk7 (c : Dev nD) (X : Buf (Elt Ideal) ((c : Thread nD τ).loc main_v135)) :
    (((cfg0.win 7).blk t0_0).view.read (Elt Ideal) X : S2048x256.Idx → Elt Ideal .f32) = X := by
  blk_ext! [idx7 t0_0]
theorem blk8 (c : Dev nD) (X : Buf (Elt Ideal) ((c : Thread nD τ).loc main_v1)) :
    (((cfg0.win 8).blk t0_0).view.read (Elt Ideal) X : S16384x32.Idx → Elt Ideal .f32) = X := by
  blk_ext! [idx8 t0_0]
theorem blk9 (c : Dev nD) (X : Buf (Elt Ideal) ((c : Thread nD τ).loc main_arg9)) :
    (((cfg0.win 9).blk t0_0).view.read (Elt Ideal) X : S4096x32.Idx → Elt Ideal .f32) = X := by
  blk_ext! [idx9 t0_0]
theorem blk10 (c : Dev nD) (X : Buf (Elt Ideal) ((c : Thread nD τ).loc main_v114)) :
    (((cfg0.win 10).blk t0_0).view.read (Elt Ideal) X : S1152x32.Idx → Elt Ideal .f32) = X := by
  blk_ext! [idx10 t0_0]
theorem blk11 (c : Dev nD) (X : Buf (Elt Ideal) ((c : Thread nD τ).loc main_v131)) :
    (((cfg0.win 11).blk t0_0).view.read (Elt Ideal) X : S32x32.Idx → Elt Ideal .f32) = X := by
  blk_ext! [idx11 t0_0]

/-! The operands made before the call. -/

set_option maxRecDepth 20000 in
set_option maxHeartbeats 4000000 in
theorem V_main_v132 (c : Dev nD) : V m c main_v132 = channels (m ((c : Thread nD τ).loc main_arg4)) := by
  unfold V V0
  simp only [hostOps0, List.flatten_cons, List.flatten_nil, List.append_nil, List.cons_append, List.nil_append]
  after_results <;> rfl

set_option maxRecDepth 20000 in
set_option maxHeartbeats 4000000 in
theorem V_main_v133 (c : Dev nD) : V m c main_v133 = channels (m ((c : Thread nD τ).loc main_arg5)) := by
  unfold V V0
  simp only [hostOps0, List.flatten_cons, List.flatten_nil, List.append_nil, List.cons_append, List.nil_append]
  after_results <;> rfl

set_option maxRecDepth 20000 in
set_option maxHeartbeats 4000000 in
theorem V_main_v134 (c : Dev nD) : V m c main_v134 = channels (m ((c : Thread nD τ).loc main_arg6)) := by
  unfold V V0
  simp only [hostOps0, List.flatten_cons, List.flatten_nil, List.append_nil, List.cons_append, List.nil_append]
  after_results <;> rfl

set_option maxRecDepth 20000 in
set_option maxHeartbeats 4000000 in
theorem V_main_v135 (c : Dev nD) : V m c main_v135 = channels (m ((c : Thread nD τ).loc main_arg7)) := by
  unfold V V0
  simp only [hostOps0, List.flatten_cons, List.flatten_nil, List.append_nil, List.cons_append, List.nil_append]
  after_results <;> rfl

set_option maxRecDepth 20000 in
set_option maxHeartbeats 4000000 in
theorem V_main_v1 (c : Dev nD) : V m c main_v1 = Cert.Pre_untied.lastRows (m ((c : Thread nD τ).loc main_arg8)) := by
  unfold V V0
  simp only [hostOps0, List.flatten_cons, List.flatten_nil, List.append_nil, List.cons_append, List.nil_append]
  after_results <;> rfl

set_option maxRecDepth 20000 in
set_option maxHeartbeats 4000000 in
theorem V_main_v114 (c : Dev nD) : V m c main_v114 = allRows (m ((c : Thread nD τ).loc main_arg10)) := by
  unfold V V0
  simp only [hostOps0, List.flatten_cons, List.flatten_nil, List.append_nil, List.cons_append, List.nil_append]
  after_results <;> rfl

set_option maxRecDepth 20000 in
set_option maxHeartbeats 4000000 in
theorem V_main_v131 (c : Dev nD) : V m c main_v131 = allBias (m ((c : Thread nD τ).loc main_arg11)) := by
  unfold V V0
  simp only [hostOps0, List.flatten_cons, List.flatten_nil, List.append_nil, List.cons_append, List.nil_append]
  after_results <;> rfl

end Cert.SearchesIdeal.Own

end
-- ==== Proof.Searches.Ref.lean ====
module

public import proofs.«01_k».proof.Proof.Gen.SearchesReferenceIdeal.Run
public import proofs.«01_k».proof.Proof.Searches.Pre

@[expose] public section
noncomputable section

/-! The reference of the searches, read: the perplexity of the count of each code among the rows' choices. -/

namespace Cert.SearchesReferenceIdeal.Own

open Idealize.ShloMosaic Idealize.ShloMosaic.TcCoe
open Cert.SearchesReferenceIdeal Cert.SearchesReferenceIdeal.Gen

/-- No hits. -/
def zeros : FVec Ideal S4096 .f32 := broadcastInDim S4096 ![] bcast_S_S4096 (constant S_ .f32 0x00000000#32)

theorem zeros_at (v : Fin 4096) : zeros (ix1 v) = 0 := by
  unfold zeros
  pointwise

/-- The count of each code among the choices of 64 rows. -/
def count_64 (idx : IVec S64 32) : FVec Ideal S4096 .f32 :=
  Host.reduceAdd (id (select (cmpi .eq (broadcastInDim S64x4096 ![0, 1] bcast_S64x1_S64x4096_0_1
    (broadcastInDim S64x1 ![0] bcast_S64_S64x1_0 idx)) (iotaInDim S64x4096 32 1))
    (broadcastInDim S64x4096 ![] bcast_S_S64x4096 (constant S_ .f32 0x3F800000#32))
    (broadcastInDim S64x4096 ![] bcast_S_S64x4096 (constant S_ .f32 0x00000000#32))))
    (constant S_ .f32 0x00000000#32) reducesTo_S64x4096_S4096_d0 h_S_

theorem count_64_at (idx : IVec S64 32) (v : Fin 4096) :
    count_64 idx (ix1 v) = ∑ r : Fin 64, if idx (ix1 r) = BitVec.ofNat 32 v then (1 : EReal) else 0 := by
  unfold count_64
  simp only [id_eq]
  pointwise
  refine Finset.sum_congr rfl fun r _ => ?_
  by_cases e : idx (ix1 r) = BitVec.ofNat 32 v
  · rw [if_pos e, IntOp.cmpi_eq.mpr e]; rfl
  · rw [if_neg e]
    exact if_neg fun a => e (IntOp.cmpi_eq.mp a)

/-- The count of each code among the choices of 256 rows. -/
def count_256 (idx : IVec S256 32) : FVec Ideal S4096 .f32 :=
  Host.reduceAdd (id (select (cmpi .eq (broadcastInDim S256x4096 ![0, 1] bcast_S256x1_S256x4096_0_1
    (broadcastInDim S256x1 ![0] bcast_S256_S256x1_0 idx)) (iotaInDim S256x4096 32 1))
    (broadcastInDim S256x4096 ![] bcast_S_S256x4096 (constant S_ .f32 0x3F800000#32))
    (broadcastInDim S256x4096 ![] bcast_S_S256x4096 (constant S_ .f32 0x00000000#32))))
    (constant S_ .f32 0x00000000#32) reducesTo_S256x4096_S4096_d0 h_S_

theorem count_256_at (idx : IVec S256 32) (v : Fin 4096) :
    count_256 idx (ix1 v) = ∑ r : Fin 256, if idx (ix1 r) = BitVec.ofNat 32 v then (1 : EReal) else 0 := by
  unfold count_256
  simp only [id_eq]
  pointwise
  refine Finset.sum_congr rfl fun r _ => ?_
  by_cases e : idx (ix1 r) = BitVec.ofNat 32 v
  · rw [if_pos e, IntOp.cmpi_eq.mpr e]; rfl
  · rw [if_neg e]
    exact if_neg fun a => e (IntOp.cmpi_eq.mp a)

/-- The count of each code among the choices of 1024 rows. -/
def count_1024 (idx : IVec S1024 32) : FVec Ideal S4096 .f32 :=
  Host.reduceAdd (id (select (cmpi .eq (broadcastInDim S1024x4096 ![0, 1] bcast_S1024x1_S1024x4096_0_1
    (broadcastInDim S1024x1 ![0] bcast_S1024_S1024x1_0 idx)) (iotaInDim S1024x4096 32 1))
    (broadcastInDim S1024x4096 ![] bcast_S_S1024x4096 (constant S_ .f32 0x3F800000#32))
    (broadcastInDim S1024x4096 ![] bcast_S_S1024x4096 (constant S_ .f32 0x00000000#32))))
    (constant S_ .f32 0x00000000#32) reducesTo_S1024x4096_S4096_d0 h_S_

theorem count_1024_at (idx : IVec S1024 32) (v : Fin 4096) :
    count_1024 idx (ix1 v) = ∑ r : Fin 1024, if idx (ix1 r) = BitVec.ofNat 32 v then (1 : EReal) else 0 := by
  unfold count_1024
  simp only [id_eq]
  pointwise
  refine Finset.sum_congr rfl fun r _ => ?_
  by_cases e : idx (ix1 r) = BitVec.ofNat 32 v
  · rw [if_pos e, IntOp.cmpi_eq.mpr e]; rfl
  · rw [if_neg e]
    exact if_neg fun a => e (IntOp.cmpi_eq.mp a)

/-- The count of each code among the choices of 4096 rows. -/
def count_4096 (idx : IVec S4096 32) : FVec Ideal S4096 .f32 :=
  Host.reduceAdd (id (select (cmpi .eq (broadcastInDim S4096x4096 ![0, 1] bcast_S4096x1_S4096x4096_0_1
    (broadcastInDim S4096x1 ![0] bcast_S4096_S4096x1_0 idx)) (iotaInDim S4096x4096 32 1))
    (broadcastInDim S4096x4096 ![] bcast_S_S4096x4096 (constant S_ .f32 0x3F800000#32))
    (broadcastInDim S4096x4096 ![] bcast_S_S4096x4096 (constant S_ .f32 0x00000000#32))))
    (constant S_ .f32 0x00000000#32) reducesTo_S4096x4096_S4096_d0 h_S_

theorem count_4096_at (idx : IVec S4096 32) (v : Fin 4096) :
    count_4096 idx (ix1 v) = ∑ r : Fin 4096, if idx (ix1 r) = BitVec.ofNat 32 v then (1 : EReal) else 0 := by
  unfold count_4096
  simp only [id_eq]
  pointwise
  refine Finset.sum_congr rfl fun r _ => ?_
  by_cases e : idx (ix1 r) = BitVec.ofNat 32 v
  · rw [if_pos e, IntOp.cmpi_eq.mpr e]; rfl
  · rw [if_neg e]
    exact if_neg fun a => e (IntOp.cmpi_eq.mp a)

/-- The count of each code among the choices of 16384 rows. -/
def count_16384 (idx : IVec S16384 32) : FVec Ideal S4096 .f32 :=
  Host.reduceAdd (id (select (cmpi .eq (broadcastInDim S16384x4096 ![0, 1] bcast_S16384x1_S16384x4096_0_1
    (broadcastInDim S16384x1 ![0] bcast_S16384_S16384x1_0 idx)) (iotaInDim S16384x4096 32 1))
    (broadcastInDim S16384x4096 ![] bcast_S_S16384x4096 (constant S_ .f32 0x3F800000#32))
    (broadcastInDim S16384x4096 ![] bcast_S_S16384x4096 (constant S_ .f32 0x00000000#32))))
    (constant S_ .f32 0x00000000#32) reducesTo_S16384x4096_S4096_d0 h_S_

theorem count_16384_at (idx : IVec S16384 32) (v : Fin 4096) :
    count_16384 idx (ix1 v) = ∑ r : Fin 16384, if idx (ix1 r) = BitVec.ofNat 32 v then (1 : EReal) else 0 := by
  unfold count_16384
  simp only [id_eq]
  pointwise
  refine Finset.sum_congr rfl fun r _ => ?_
  by_cases e : idx (ix1 r) = BitVec.ofNat 32 v
  · rw [if_pos e, IntOp.cmpi_eq.mpr e]; rfl
  · rw [if_neg e]
    exact if_neg fun a => e (IntOp.cmpi_eq.mp a)

/-- The mean use of the codes. -/
def meanOf (h : FVec Ideal S4096 .f32) : FVec Ideal S4096 .f32 :=
  Host.divf h (broadcastInDim S4096 ![] bcast_S_S4096 (maximumf (Host.reduceAdd h (constant S_ .f32 0x00000000#32)
    reducesTo_S4096_S_d0 h_S_) (constant S_ .f32 0x3F800000#32)))

/-- The exponential of the entropy. -/
def entropyOf (p : FVec Ideal S4096 .f32) : FVec Ideal S_ .f32 :=
  Host.exp (Host.negf (Host.reduceAdd (mulf p (Host.log (addf p (broadcastInDim S4096 ![] bcast_S_S4096
    (constant S_ .f32 0x2EDBE6FF#32))))) (constant S_ .f32 0x00000000#32) reducesTo_S4096_S_d0 h_S_))

theorem mean_at (h : FVec Ideal S4096 .f32) (v : Fin 4096) :
    meanOf h (ix1 v) = Ideal.div (h (ix1 v)) (max (∑ w, h (ix1 w)) 1) := by
  unfold meanOf
  pointwise

theorem entropy_at (p : FVec Ideal S4096 .f32) (j : S_.Idx) :
    entropyOf p j = Ideal.exp (-∑ v, p (ix1 v) * Ideal.log (p (ix1 v) + Ideal.ofBits .f32 0x2EDBE6FF#32)) := by
  unfold entropyOf
  pointwise

/-- The hits of all scales, in order. -/
def hitsOf (x1 : FVec Ideal S64x32 .f32) (x2 : FVec Ideal S256x32 .f32) (x4 : FVec Ideal S1024x32 .f32)
    (x8 : FVec Ideal S4096x32 .f32) (x16 : FVec Ideal S16384x32 .f32) (e : FVec Ideal S4096x32 .f32) : FVec Ideal S4096 .f32 :=
  addf (addf (addf (addf (addf zeros (count_64 (Cert.Pre_untied.choice_64 x1 e))) (count_256 (Cert.Pre_untied.choice_256 x2 e)))
    (count_1024 (Cert.Pre_untied.choice_1024 x4 e))) (count_4096 (Cert.Pre_untied.choice_4096 x8 e)))
    (count_16384 (Cert.Pre_untied.choice_16384 x16 e))

theorem hits_at (x1 : FVec Ideal S64x32 .f32) (x2 : FVec Ideal S256x32 .f32) (x4 : FVec Ideal S1024x32 .f32)
    (x8 : FVec Ideal S4096x32 .f32) (x16 : FVec Ideal S16384x32 .f32) (e : FVec Ideal S4096x32 .f32) (v : Fin 4096) :
    hitsOf x1 x2 x4 x8 x16 e (ix1 v) = 0 + count_64 (Cert.Pre_untied.choice_64 x1 e) (ix1 v)
      + count_256 (Cert.Pre_untied.choice_256 x2 e) (ix1 v) + count_1024 (Cert.Pre_untied.choice_1024 x4 e) (ix1 v)
      + count_4096 (Cert.Pre_untied.choice_4096 x8 e) (ix1 v) + count_16384 (Cert.Pre_untied.choice_16384 x16 e) (ix1 v) := by
  rw [← zeros_at v]
  rfl

theorem res_v1 (V : Valuation τ sig (Elt Ideal)) : Value.res_main_v1 V = Cert.Pre_untied.fn_similarities (F := Ideal) (V (Proc.devRef .tc main_arg0)) (V (Proc.devRef .tc main_arg9)) := by
  unfold Value.res_main_v1
  rfl

theorem res_v16 (V : Valuation τ sig (Elt Ideal)) : Value.res_main_v16 V = Cert.Pre_untied.fn_similarities_5 (F := Ideal) (V (Proc.devRef .tc main_arg1)) (V (Proc.devRef .tc main_arg9)) := by
  unfold Value.res_main_v16
  rfl

theorem res_v31 (V : Valuation τ sig (Elt Ideal)) : Value.res_main_v31 V = Cert.Pre_untied.fn_similarities_11 (F := Ideal) (V (Proc.devRef .tc main_arg2)) (V (Proc.devRef .tc main_arg9)) := by
  unfold Value.res_main_v31
  rfl

theorem res_v46 (V : Valuation τ sig (Elt Ideal)) : Value.res_main_v46 V = Cert.Pre_untied.fn_similarities_17 (F := Ideal) (V (Proc.devRef .tc main_arg3)) (V (Proc.devRef .tc main_arg9)) := by
  unfold Value.res_main_v46
  rfl

set_option maxRecDepth 8192 in
set_option maxHeartbeats 1000000 in
theorem res_v12 (V : Valuation τ sig (Elt Ideal)) : Value.res_main_v12 V
    = mulf (Cert.Pre_untied.fn_conv2d_same (F := Ideal) (V (Proc.devRef .tc main_arg4)) (Cert.Pre_untied.filter0 (V (Proc.devRef .tc main_arg10))) (Cert.Pre_untied.bias0 (V (Proc.devRef .tc main_arg11)))) (broadcastInDim S64x32x16x16 ![] bcast_S_S64x32x16x16 (constant S_ .f32 0x3F000000#32)) := by
  unfold Value.res_main_v12
  rfl

set_option maxRecDepth 8192 in
set_option maxHeartbeats 1000000 in
theorem res_v27 (V : Valuation τ sig (Elt Ideal)) : Value.res_main_v27 V
    = mulf (Cert.Pre_untied.fn_conv2d_same (F := Ideal) (V (Proc.devRef .tc main_arg5)) (Cert.Pre_untied.filter1 (V (Proc.devRef .tc main_arg10))) (Cert.Pre_untied.bias1 (V (Proc.devRef .tc main_arg11)))) (broadcastInDim S64x32x16x16 ![] bcast_S_S64x32x16x16 (constant S_ .f32 0x3F000000#32)) := by
  unfold Value.res_main_v27
  rfl

set_option maxRecDepth 8192 in
set_option maxHeartbeats 1000000 in
theorem res_v40 (V : Valuation τ sig (Elt Ideal)) : Value.res_main_v40 V
    = (Cert.Pre_untied.fn_conv2d_same (F := Ideal) (V (Proc.devRef .tc main_arg6)) (Cert.Pre_untied.filter2 (V (Proc.devRef .tc main_arg10))) (Cert.Pre_untied.bias2 (V (Proc.devRef .tc main_arg11)))) := by
  unfold Value.res_main_v40
  rfl

set_option maxRecDepth 8192 in
set_option maxHeartbeats 1000000 in
theorem res_v55 (V : Valuation τ sig (Elt Ideal)) : Value.res_main_v55 V
    = (Cert.Pre_untied.fn_conv2d_same (F := Ideal) (V (Proc.devRef .tc main_arg7)) (Cert.Pre_untied.filter3 (V (Proc.devRef .tc main_arg10))) (Cert.Pre_untied.bias3 (V (Proc.devRef .tc main_arg11)))) := by
  unfold Value.res_main_v55
  rfl

theorem res_v62 (V : Valuation τ sig (Elt Ideal)) : Value.res_main_v62 V
    = (Cert.Pre_untied.lastRows (Cert.Pre_untied.lastOf (V (Proc.devRef .tc main_arg8)) (V (Proc.devRef .tc main_arg4)) (V (Proc.devRef .tc main_arg5)) (V (Proc.devRef .tc main_arg6)) (V (Proc.devRef .tc main_arg7)) (V (Proc.devRef .tc main_arg10)) (V (Proc.devRef .tc main_arg11)))) := by
  unfold Value.res_main_v62
  rw [res_v12, res_v27, res_v40, res_v55]
  rfl

theorem res_v63 (V : Valuation τ sig (Elt Ideal)) : Value.res_main_v63 V = Cert.Pre_untied.fn_similarities_21 (F := Ideal) (Value.res_main_v62 V) (V (Proc.devRef .tc main_arg9)) := by
  unfold Value.res_main_v63
  rfl

set_option maxRecDepth 8192 in
set_option maxHeartbeats 4000000 in
theorem res_v66 (V : Valuation τ sig (Elt Ideal)) : Value.res_main_v66 V = hitsOf (V (Proc.devRef .tc main_arg0)) (V (Proc.devRef .tc main_arg1))
    (V (Proc.devRef .tc main_arg2)) (V (Proc.devRef .tc main_arg3)) (Value.res_main_v62 V) (V (Proc.devRef .tc main_arg9)) := by
  unfold Value.res_main_v66
  rw [res_v1, res_v16, res_v31, res_v46, res_v63]
  rfl

/-- The reference's result, by its steps. -/
theorem res_eq (V : Valuation τ sig (Elt Ideal)) : Host.exp (Host.negf (Host.reduceAdd (mulf (Value.res_main_v70 V) (Host.log (addf (Value.res_main_v70 V)
      (broadcastInDim S4096 ![] bcast_S_S4096 (constant S_ .f32 0x2EDBE6FF#32))))) (constant S_ .f32 0x00000000#32) reducesTo_S4096_S_d0 h_S_))
    = entropyOf (meanOf (hitsOf (V (Proc.devRef .tc main_arg0)) (V (Proc.devRef .tc main_arg1))
      (V (Proc.devRef .tc main_arg2)) (V (Proc.devRef .tc main_arg3)) (Cert.Pre_untied.lastRows (Cert.Pre_untied.lastOf (V (Proc.devRef .tc main_arg8)) (V (Proc.devRef .tc main_arg4)) (V (Proc.devRef .tc main_arg5)) (V (Proc.devRef .tc main_arg6)) (V (Proc.devRef .tc main_arg7)) (V (Proc.devRef .tc main_arg10)) (V (Proc.devRef .tc main_arg11))))
      (V (Proc.devRef .tc main_arg9)))) := by
  rw [← res_v62, ← res_v66]
  rfl

end Cert.SearchesReferenceIdeal.Own

end
-- ==== Proof.Searches.Value.lean ====
module

public import proofs.«01_k».proof.Defs
public import proofs.«01_k».proof.Proof.Gen.SearchesIdeal.Run
public import proofs.«01_k».proof.Proof.Searches.Out
public import proofs.«01_k».proof.Proof.Searches.Operands
public import proofs.«01_k».proof.Proof.Searches.Pre
public import proofs.«01_k».proof.Proof.Searches.Ref
public import Idealize.ShloMosaic.Lib.StableHlo.Run
public import Idealize.ShloMosaic.Lib.Tactic
public import Idealize.ShloMosaic.Lib.Quiescent

@[expose] public section
noncomputable section

/-! The kernel of the searches and its reference end with the same perplexity. -/

open Idealize.ShloMosaic Idealize.ShloMosaic.TcCoe Idealize.SL.Sem

namespace Cert.SearchesIdeal.Own

open Cert.SearchesIdeal Cert.SearchesIdeal.Gen Cert.SearchesIdeal.Value Cert.Search

variable (m : (ℓ : Loc nD τ sig) → Buf (Elt Ideal) ℓ)

theorem iblk0 (c : Dev nD) : (iblk m c 0 t0_0 : Vec Ideal S64x32 .f32) = m ((c : Thread nD τ).loc main_arg0) :=
  (blk0 c (V m c main_arg0)).trans (V_main_arg0 m c)
theorem iblk1 (c : Dev nD) : (iblk m c 1 t0_0 : Vec Ideal S256x32 .f32) = m ((c : Thread nD τ).loc main_arg1) :=
  (blk1 c (V m c main_arg1)).trans (V_main_arg1 m c)
theorem iblk2 (c : Dev nD) : (iblk m c 2 t0_0 : Vec Ideal S1024x32 .f32) = m ((c : Thread nD τ).loc main_arg2) :=
  (blk2 c (V m c main_arg2)).trans (V_main_arg2 m c)
theorem iblk3 (c : Dev nD) : (iblk m c 3 t0_0 : Vec Ideal S4096x32 .f32) = m ((c : Thread nD τ).loc main_arg3) :=
  (blk3 c (V m c main_arg3)).trans (V_main_arg3 m c)
theorem iblk4 (c : Dev nD) : (iblk m c 4 t0_0 : Vec Ideal S2048x256 .f32) = channels (m ((c : Thread nD τ).loc main_arg4)) :=
  (blk4 c (V m c main_v132)).trans (V_main_v132 m c)
theorem iblk5 (c : Dev nD) : (iblk m c 5 t0_0 : Vec Ideal S2048x256 .f32) = channels (m ((c : Thread nD τ).loc main_arg5)) :=
  (blk5 c (V m c main_v133)).trans (V_main_v133 m c)
theorem iblk6 (c : Dev nD) : (iblk m c 6 t0_0 : Vec Ideal S2048x256 .f32) = channels (m ((c : Thread nD τ).loc main_arg6)) :=
  (blk6 c (V m c main_v134)).trans (V_main_v134 m c)
theorem iblk7 (c : Dev nD) : (iblk m c 7 t0_0 : Vec Ideal S2048x256 .f32) = channels (m ((c : Thread nD τ).loc main_arg7)) :=
  (blk7 c (V m c main_v135)).trans (V_main_v135 m c)
theorem iblk8 (c : Dev nD) : (iblk m c 8 t0_0 : Vec Ideal S16384x32 .f32) = Cert.Pre_untied.lastRows (m ((c : Thread nD τ).loc main_arg8)) :=
  (blk8 c (V m c main_v1)).trans (V_main_v1 m c)
theorem iblk9 (c : Dev nD) : (iblk m c 9 t0_0 : Vec Ideal S4096x32 .f32) = m ((c : Thread nD τ).loc main_arg9) :=
  (blk9 c (V m c main_arg9)).trans (V_main_arg9 m c)
theorem iblk10 (c : Dev nD) : (iblk m c 10 t0_0 : Vec Ideal S1152x32 .f32) = allRows (m ((c : Thread nD τ).loc main_arg10)) :=
  (blk10 c (V m c main_v114)).trans (V_main_v114 m c)
theorem iblk11 (c : Dev nD) : (iblk m c 11 t0_0 : Vec Ideal S32x32 .f32) = allBias (m ((c : Thread nD τ).loc main_arg11)) :=
  (blk11 c (V m c main_v131)).trans (V_main_v131 m c)

/-- The one result, read off the block. -/
theorem corner (X : FVec Ideal S8x128 .f32) (j : S_.Idx) : (shapeCast S_ (extractStridedSlice S1x1 ![0, 0] X
    slices_S8x128_S1x1_0_0) shapeCasts_S1x1_S_ : FVec Ideal S_ .f32) j = X (ix2 0 0) := by
  pointwise

/-- What the kernel leaves: the perplexity of the marks of all rows of all scales. -/
theorem final12 (c : Dev nD) (x1 : FVec Ideal S64x32 .f32) (x2 : FVec Ideal S256x32 .f32) (x4 : FVec Ideal S1024x32 .f32) (x8 : FVec Ideal S4096x32 .f32) (a1 : FVec Ideal S64x32x16x16 .f32) (a2 : FVec Ideal S64x32x16x16 .f32) (a3 : FVec Ideal S64x32x16x16 .f32) (a4 : FVec Ideal S64x32x16x16 .f32) (f : FVec Ideal S64x32x16x16 .f32) (E : FVec Ideal S4096x32 .f32) (W : FVec Ideal S4x32x32x3x3 .f32) (B : FVec Ideal S4x32 .f32)
    (g0 : m ((c : Thread nD τ).loc main_arg0) = x1) (g1 : m ((c : Thread nD τ).loc main_arg1) = x2) (g2 : m ((c : Thread nD τ).loc main_arg2) = x4) (g3 : m ((c : Thread nD τ).loc main_arg3) = x8) (g4 : m ((c : Thread nD τ).loc main_arg4) = a1) (g5 : m ((c : Thread nD τ).loc main_arg5) = a2) (g6 : m ((c : Thread nD τ).loc main_arg6) = a3) (g7 : m ((c : Thread nD τ).loc main_arg7) = a4) (g8 : m ((c : Thread nD τ).loc main_arg8) = f) (g9 : m ((c : Thread nD τ).loc main_arg9) = E) (g10 : m ((c : Thread nD τ).loc main_arg10) = W) (g11 : m ((c : Thread nD τ).loc main_arg11) = B)
    (e : Fin 4096 → Fin 32 → ℝ) (he : ∀ v k, E (ix2 v k) = (e v k : EReal)) (y0 y1 y2 y3 z u1 u2 u3 u4 w b : ℕ → Fin 32 → ℝ)
    (hx0 : ∀ (r : Fin 64) k, x1 (ix2 r k) = (y0 r k : EReal))
    (hx1 : ∀ (r : Fin 256) k, x2 (ix2 r k) = (y1 r k : EReal))
    (hx2 : ∀ (r : Fin 1024) k, x4 (ix2 r k) = (y2 r k : EReal))
    (hx3 : ∀ (r : Fin 4096) k, x8 (ix2 r k) = (y3 r k : EReal))
    (hz : Cert.Pre_untied.Pixels f z) (h1 : Cert.Pre_untied.Pixels a1 u1) (h2 : Cert.Pre_untied.Pixels a2 u2) (h3 : Cert.Pre_untied.Pixels a3 u3)
    (h4 : Cert.Pre_untied.Pixels a4 u4)
    (hw : ∀ (p : Fin 4) (o c : Fin 32) (i k : Fin 3), W (ix5 p o c i k) = (w (288 * p + 32 * (3 * i + k) + c) o : EReal))
    (hb : ∀ (p : Fin 4) (q : ℕ) o, q / 8 = p → B (ix2 p o) = (b q o : EReal)) (j : S8x128.Idx) :
    reg_main_v136 m c j = perplexity fun v => 0 + ∑ i ∈ Finset.range 64, markAt e y0 v i + ∑ i ∈ Finset.range 256, markAt e y1 v i
        + ∑ i ∈ Finset.range 1024, markAt e y2 v i + ∑ i ∈ Finset.range 4096, markAt e y3 v i
        + ∑ i ∈ Finset.range 16384, markAt e (left (left (left (left z u1 (fun q => w (0 + q)) (b 0)) u2 (fun q => w (288 + q)) (b 8)) u3 (fun q => w (576 + q)) (b 16)) u4 (fun q => w (864 + q)) (b 24)) v i := by
  unfold reg_main_v136
  refine congrFun ((dats m 0 c).arrAt_eq_of_after_last 12 t0_0 (by decide +kernel) (fun _ => _) fun j => ?_) j
  blk_simp
  rw [after0_12]
  unfold outsAt0
  refine out_eq (c := c) (e := e) (y0 := y0) (y1 := y1) (y2 := y2) (y3 := y3) (z := z) (u1 := u1) (u2 := u2) (u3 := u3) (u4 := u4) (w := w) (b := b)
    (he := ?_) (hx0 := ?_) (hx1 := ?_) (hx2 := ?_) (hx3 := ?_) (hx8 := ?_) (hu1 := ?_) (hu2 := ?_) (hu3 := ?_) (hu4 := ?_) (hx10 := ?_) (hx11 := ?_) ..
  · intro v k
    exact (congrFun ((iblk9 m c).trans g9) _).trans (he v k)
  · intro r k
    exact (congrFun ((iblk0 m c).trans g0) _).trans (hx0 r k)
  · intro r k
    exact (congrFun ((iblk1 m c).trans g1) _).trans (hx1 r k)
  · intro r k
    exact (congrFun ((iblk2 m c).trans g2) _).trans (hx2 r k)
  · intro r k
    exact (congrFun ((iblk3 m c).trans g3) _).trans (hx3 r k)
  · intro r k
    exact (congrFun ((iblk8 m c).trans (congrArg Cert.Pre_untied.lastRows g8)) _).trans (Cert.Pre_untied.rows_at f z hz r k)
  · intro r k
    exact (congrFun ((iblk4 m c).trans (congrArg channels g4)) _).trans (channels_at a1 u1 h1 r k)
  · intro r k
    exact (congrFun ((iblk5 m c).trans (congrArg channels g5)) _).trans (channels_at a2 u2 h2 r k)
  · intro r k
    exact (congrFun ((iblk6 m c).trans (congrArg channels g6)) _).trans (channels_at a3 u3 h3 r k)
  · intro r k
    exact (congrFun ((iblk7 m c).trans (congrArg channels g7)) _).trans (channels_at a4 u4 h4 r k)
  · intro q o
    refine (congrFun ((iblk10 m c).trans (congrArg allRows g10)) _).trans ((allRows_at W q o).trans ((hw _ _ _ _ _).trans ?_))
    refine congrArg (fun q : ℕ => ((w q o : ℝ) : EReal)) ?_
    dsimp only
    omega
  · intro q o
    exact (congrFun ((iblk11 m c).trans (congrArg allBias g11)) _).trans ((allBias_at B q o).trans (hb _ q o rfl))

end Cert.SearchesIdeal.Own

namespace Cert.Proof

open Cert.Search Cert.SearchesIdeal.Gen

/-- What the reference returns: the perplexity of the marks of all rows of all scales. -/
theorem reference_eq (x1 : FVec Ideal Cert.Pre_untied.S64x32 .f32) (x2 : FVec Ideal Cert.Pre_untied.S256x32 .f32)
    (x4 : FVec Ideal Cert.Pre_untied.S1024x32 .f32) (x8 : FVec Ideal Cert.Pre_untied.S4096x32 .f32)
    (x16 : FVec Ideal Cert.Pre_untied.S16384x32 .f32) (E : FVec Ideal Cert.Pre_untied.S4096x32 .f32) (j : Cert.SearchesReferenceIdeal.S_.Idx)
    (e : Fin 4096 → Fin 32 → ℝ) (y0 y1 y2 y3 y4 : ℕ → Fin 32 → ℝ)
    (k0 : ∀ (r : Fin 64) (v : Fin 4096), (if Cert.Pre_untied.choice_64 x1 E (ix1 r) = BitVec.ofNat 32 v then (1 : EReal) else 0)
      = mark (fun k => (y0 r k : EReal)) (fun v k => (e v k : EReal)) v)
    (k1 : ∀ (r : Fin 256) (v : Fin 4096), (if Cert.Pre_untied.choice_256 x2 E (ix1 r) = BitVec.ofNat 32 v then (1 : EReal) else 0)
      = mark (fun k => (y1 r k : EReal)) (fun v k => (e v k : EReal)) v)
    (k2 : ∀ (r : Fin 1024) (v : Fin 4096), (if Cert.Pre_untied.choice_1024 x4 E (ix1 r) = BitVec.ofNat 32 v then (1 : EReal) else 0)
      = mark (fun k => (y2 r k : EReal)) (fun v k => (e v k : EReal)) v)
    (k3 : ∀ (r : Fin 4096) (v : Fin 4096), (if Cert.Pre_untied.choice_4096 x8 E (ix1 r) = BitVec.ofNat 32 v then (1 : EReal) else 0)
      = mark (fun k => (y3 r k : EReal)) (fun v k => (e v k : EReal)) v)
    (k4 : ∀ (r : Fin 16384) (v : Fin 4096), (if Cert.Pre_untied.choice_16384 x16 E (ix1 r) = BitVec.ofNat 32 v then (1 : EReal) else 0)
      = mark (fun k => (y4 r k : EReal)) (fun v k => (e v k : EReal)) v) :
    Cert.SearchesReferenceIdeal.Own.entropyOf (Cert.SearchesReferenceIdeal.Own.meanOf
        (Cert.SearchesReferenceIdeal.Own.hitsOf x1 x2 x4 x8 x16 E)) j
      = Cert.SearchesIdeal.perplexity fun v => 0 + ∑ i ∈ Finset.range 64, Cert.SearchesIdeal.markAt e y0 v i + ∑ i ∈ Finset.range 256, Cert.SearchesIdeal.markAt e y1 v i
        + ∑ i ∈ Finset.range 1024, Cert.SearchesIdeal.markAt e y2 v i + ∑ i ∈ Finset.range 4096, Cert.SearchesIdeal.markAt e y3 v i
        + ∑ i ∈ Finset.range 16384, Cert.SearchesIdeal.markAt e y4 v i := by
  have hm : ∀ v, Cert.SearchesReferenceIdeal.Own.hitsOf x1 x2 x4 x8 x16 E (ix1 v) = 0 + ∑ i ∈ Finset.range 64, Cert.SearchesIdeal.markAt e y0 v i + ∑ i ∈ Finset.range 256, Cert.SearchesIdeal.markAt e y1 v i
        + ∑ i ∈ Finset.range 1024, Cert.SearchesIdeal.markAt e y2 v i + ∑ i ∈ Finset.range 4096, Cert.SearchesIdeal.markAt e y3 v i
        + ∑ i ∈ Finset.range 16384, Cert.SearchesIdeal.markAt e y4 v i := fun v => by
    rw [Cert.SearchesReferenceIdeal.Own.hits_at,
      Cert.SearchesReferenceIdeal.Own.count_64_at, ← Fin.sum_univ_eq_sum_range (Cert.SearchesIdeal.markAt e y0 v) 64,
      Cert.SearchesReferenceIdeal.Own.count_256_at, ← Fin.sum_univ_eq_sum_range (Cert.SearchesIdeal.markAt e y1 v) 256,
      Cert.SearchesReferenceIdeal.Own.count_1024_at, ← Fin.sum_univ_eq_sum_range (Cert.SearchesIdeal.markAt e y2 v) 1024,
      Cert.SearchesReferenceIdeal.Own.count_4096_at, ← Fin.sum_univ_eq_sum_range (Cert.SearchesIdeal.markAt e y3 v) 4096,
      Cert.SearchesReferenceIdeal.Own.count_16384_at, ← Fin.sum_univ_eq_sum_range (Cert.SearchesIdeal.markAt e y4 v) 16384]
    exact congrArg₂ (· + ·) (congrArg₂ (· + ·) (congrArg₂ (· + ·) (congrArg₂ (· + ·) (congrArg (0 + ·)
      (Finset.sum_congr rfl fun r _ => k0 r v)) (Finset.sum_congr rfl fun r _ => k1 r v)) (Finset.sum_congr rfl fun r _ => k2 r v))
      (Finset.sum_congr rfl fun r _ => k3 r v)) (Finset.sum_congr rfl fun r _ => k4 r v)
  rw [Cert.SearchesReferenceIdeal.Own.entropy_at]
  unfold Cert.SearchesIdeal.perplexity
  simp only [Cert.SearchesReferenceIdeal.Own.mean_at, hm]

/-- The kernel's result and the reference's, from the same arguments. -/
theorem searches_eq (m : (ℓ : Loc Cert.SearchesIdeal.nD Cert.SearchesIdeal.τ Cert.SearchesIdeal.sig) → Buf (Elt Ideal) ℓ) (c : Dev Cert.SearchesIdeal.nD)
    (x1 : FVec Ideal Cert.Pre_untied.S64x32 .f32) (x2 : FVec Ideal Cert.Pre_untied.S256x32 .f32) (x4 : FVec Ideal Cert.Pre_untied.S1024x32 .f32) (x8 : FVec Ideal Cert.Pre_untied.S4096x32 .f32) (a1 : FVec Ideal Cert.Pre_untied.S64x32x16x16 .f32) (a2 : FVec Ideal Cert.Pre_untied.S64x32x16x16 .f32) (a3 : FVec Ideal Cert.Pre_untied.S64x32x16x16 .f32) (a4 : FVec Ideal Cert.Pre_untied.S64x32x16x16 .f32) (f : FVec Ideal Cert.Pre_untied.S64x32x16x16 .f32) (E : FVec Ideal Cert.Pre_untied.S4096x32 .f32) (W : FVec Ideal Cert.Pre_untied.S4x32x32x3x3 .f32) (B : FVec Ideal Cert.Pre_untied.S4x32 .f32)
    (g0 : m ((c.tc : Thread Cert.SearchesIdeal.nD Cert.SearchesIdeal.τ).loc Cert.SearchesIdeal.main_arg0) = x1)
    (g1 : m ((c.tc : Thread Cert.SearchesIdeal.nD Cert.SearchesIdeal.τ).loc Cert.SearchesIdeal.main_arg1) = x2)
    (g2 : m ((c.tc : Thread Cert.SearchesIdeal.nD Cert.SearchesIdeal.τ).loc Cert.SearchesIdeal.main_arg2) = x4)
    (g3 : m ((c.tc : Thread Cert.SearchesIdeal.nD Cert.SearchesIdeal.τ).loc Cert.SearchesIdeal.main_arg3) = x8)
    (g4 : m ((c.tc : Thread Cert.SearchesIdeal.nD Cert.SearchesIdeal.τ).loc Cert.SearchesIdeal.main_arg4) = a1)
    (g5 : m ((c.tc : Thread Cert.SearchesIdeal.nD Cert.SearchesIdeal.τ).loc Cert.SearchesIdeal.main_arg5) = a2)
    (g6 : m ((c.tc : Thread Cert.SearchesIdeal.nD Cert.SearchesIdeal.τ).loc Cert.SearchesIdeal.main_arg6) = a3)
    (g7 : m ((c.tc : Thread Cert.SearchesIdeal.nD Cert.SearchesIdeal.τ).loc Cert.SearchesIdeal.main_arg7) = a4)
    (g8 : m ((c.tc : Thread Cert.SearchesIdeal.nD Cert.SearchesIdeal.τ).loc Cert.SearchesIdeal.main_arg8) = f)
    (g9 : m ((c.tc : Thread Cert.SearchesIdeal.nD Cert.SearchesIdeal.τ).loc Cert.SearchesIdeal.main_arg9) = E)
    (g10 : m ((c.tc : Thread Cert.SearchesIdeal.nD Cert.SearchesIdeal.τ).loc Cert.SearchesIdeal.main_arg10) = W)
    (g11 : m ((c.tc : Thread Cert.SearchesIdeal.nD Cert.SearchesIdeal.τ).loc Cert.SearchesIdeal.main_arg11) = B)
    (hp : Cert.Pre_untied.fn (F := Ideal) x1 x2 x4 x8 a1 a2 a3 a4 f E W B = fun _ => 1#1) (j : Cert.SearchesIdeal.S_.Idx) :
    Cert.SearchesReferenceIdeal.Own.entropyOf (Cert.SearchesReferenceIdeal.Own.meanOf
        (Cert.SearchesReferenceIdeal.Own.hitsOf x1 x2 x4 x8 (Cert.Pre_untied.lastRows (Cert.Pre_untied.lastOf f a1 a2 a3 a4 W B)) E)) j
      = (shapeCast Cert.SearchesIdeal.S_ (extractStridedSlice Cert.SearchesIdeal.S1x1 ![0, 0] (Cert.SearchesIdeal.Value.reg_main_v136 m c)
          slices_S8x128_S1x1_0_0) shapeCasts_S1x1_S_ : FVec Ideal Cert.SearchesIdeal.S_ .f32) j := by
  obtain ⟨⟨hE, hf, hW, hB, q1, q2, q3, q4⟩, s0, s1, s2, s3, s4⟩ := Cert.Pre_untied.of_fn x1 x2 x4 x8 a1 a2 a3 a4 f E W B j (congrFun hp j)
  obtain ⟨e, he⟩ : ∃ e : Fin 4096 → Fin 32 → ℝ, ∀ v k, E (ix2 v k) = (e v k : EReal) := by
    choose E' hE' using Cert.Pre_untied.finite_4096 E j hE
    exact ⟨fun v k => E' (ix2 v k), fun v k => hE' _⟩
  obtain ⟨z, hz⟩ := Cert.Pre_untied.pixels_of f j hf
  obtain ⟨u1, h1⟩ := Cert.Pre_untied.pixels_of a1 j q1
  obtain ⟨u2, h2⟩ := Cert.Pre_untied.pixels_of a2 j q2
  obtain ⟨u3, h3⟩ := Cert.Pre_untied.pixels_of a3 j q3
  obtain ⟨u4, h4⟩ := Cert.Pre_untied.pixels_of a4 j q4
  obtain ⟨w, hw⟩ := Cert.Pre_untied.filters_of W j hW
  obtain ⟨b, hb⟩ := Cert.Pre_untied.biases_of B j hB
  obtain ⟨y0, hx0, k0⟩ := Cert.Pre_untied.scale_64 x1 E j s0.1 s0.2 e he
  obtain ⟨y1, hx1, k1⟩ := Cert.Pre_untied.scale_256 x2 E j s1.1 s1.2 e he
  obtain ⟨y2, hx2, k2⟩ := Cert.Pre_untied.scale_1024 x4 E j s2.1 s2.2 e he
  obtain ⟨y3, hx3, k3⟩ := Cert.Pre_untied.scale_4096 x8 E j s3.1 s3.2 e he
  have hl := Cert.Pre_untied.last_at f a1 a2 a3 a4 z u1 u2 u3 u4 hz h1 h2 h3 h4 W B w b hw (fun p o => hb p (8 * p) o (by omega))
  have k4 := Cert.Pre_untied.scale_16384 (Cert.Pre_untied.lastRows (Cert.Pre_untied.lastOf f a1 a2 a3 a4 W B)) E j s4 e he _ (Cert.Pre_untied.rows_at _ _ hl)
  refine (reference_eq x1 x2 x4 x8 (Cert.Pre_untied.lastRows (Cert.Pre_untied.lastOf f a1 a2 a3 a4 W B)) E j e y0 y1 y2 y3 _ k0 k1 k2 k3 k4).trans ?_
  refine Eq.trans ?_ (Cert.SearchesIdeal.Own.corner _ j).symm
  exact (Cert.SearchesIdeal.Own.final12 m c x1 x2 x4 x8 a1 a2 a3 a4 f E W B g0 g1 g2 g3 g4 g5 g6 g7 g8 g9 g10 g11 e he y0 y1 y2 y3 z u1 u2 u3 u4 w b hx0 hx1 hx2 hx3 hz h1 h2 h3 h4 hw hb _).symm

theorem algebraic_searches : Cert.algebraic_SearchesIdeal_SearchesReferenceIdeal_pre_untied := by
  intro m g m' g' hpre hagree
  refine ⟨_, Cert.SearchesIdeal.Value.run m g, (θ_run Cert.SearchesReferenceIdeal.defs _ _).mono (fun r h c => ⟨(h c).1.trans ?_, (h c).2⟩)
    (Cert.SearchesReferenceIdeal.Value.run m' g')⟩
  obtain ⟨a0, a1, a2, a3, a4, a5, a6, a7, a8, a9, a10, a11⟩ := hagree c
  refine (Cert.SearchesReferenceIdeal.Own.res_eq _).trans (funext fun j => ?_)
  refine Eq.trans ?_ (searches_eq m c _ _ _ _ _ _ _ _ _ _ _ _ rfl rfl rfl rfl rfl rfl rfl rfl rfl rfl rfl rfl (hpre c) j)
  rw [← a0, ← a1, ← a2, ← a3, ← a4, ← a5, ← a6, ← a7, ← a8, ← a9, ← a10, ← a11]

end Cert.Proof

end
-- ==== Proof.lean ====
/- The claims of the certificate, put together from the modules under `Proof`. -/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.KernelFrame.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.KernelIdealFrame.Run
public import proofs.«01_k».proof.Proof.Gen.ReferenceIdeal
public import proofs.«01_k».proof.Proof.Gen.ReferenceIdeal.Run
public import proofs.«01_k».proof.Proof.Gen.ReferenceIdeal.Read
public import proofs.«01_k».proof.Proof.Value
public import proofs.«01_k».proof.Proof.Gen.Pre_untied
public import proofs.«01_k».proof.Proof.Gen.Searches.Frame
public import proofs.«01_k».proof.Proof.Gen.SearchesIdeal.Frame
public import proofs.«01_k».proof.Proof.Gen.SearchesIdeal.Run
public import proofs.«01_k».proof.Proof.Gen.SearchesReferenceIdeal.Run
public import proofs.«01_k».proof.Proof.Searches.Value
public import Idealize.ShloMosaic.Adequacy
public import Idealize.ShloMosaic.Init

@[expose] public section

noncomputable section

namespace Cert.Proof

open Idealize.ShloMosaic Idealize.SL.Sem

/-- The reference's run leaves the arguments as they were; it has no semaphore. -/
theorem frame_r : Cert.quiescent_ReferenceIdeal := by
  intro m ρ _
  exact (θ_run Cert.ReferenceIdeal.defs _ _).mono (fun r h => ⟨fun c => (h c).2.2,
      Idealize.ShloMosaic.sem_eq_zero_of_no_sems (by decide) r.2⟩)
    (Cert.ReferenceIdeal.Value.run (F := Ideal) m ρ)

/-- The same of the searches' reference. -/
theorem frame_searches_r : Cert.quiescent_SearchesReferenceIdeal := by
  intro m ρ _
  exact (θ_run Cert.SearchesReferenceIdeal.defs _ _).mono (fun r h => ⟨fun c => (h c).2,
      Idealize.ShloMosaic.sem_eq_zero_of_no_sems (by decide) r.2⟩)
    (Cert.SearchesReferenceIdeal.Value.run (F := Ideal) m ρ)

theorem claim : Cert.Claim := ⟨Cert.Kernel.Gen.facts, Cert.KernelIdeal.Gen.facts, Cert.ReferenceIdeal.Gen.facts,
  Cert.Searches.Gen.facts, Cert.SearchesIdeal.Gen.facts, Cert.SearchesReferenceIdeal.Gen.facts, Cert.Pre_untied.Gen.facts,
  fun m ρ _ => Cert.Kernel.Gen.frame m ρ, fun m ρ _ => Cert.KernelIdeal.Gen.frame m ρ, frame_r,
  fun m ρ _ => Cert.Searches.Gen.frame m ρ, fun m ρ _ => Cert.SearchesIdeal.Gen.frame m ρ, fun m ρ _ => Cert.SearchesIdeal.Gen.frame m ρ,
  frame_searches_r, fun m ρ _ => frame_searches_r m ρ trivial,
  trivial, algebraic, trivial, algebraic_searches⟩

end Cert.Proof

end
